-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_Reference30Ideal (m : (ℓ : Loc Cert.Reference30Ideal.nD Cert.Reference30Ideal.τ Cert.Reference30Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Reference31Ideal_attention_finite [hPre_attention_finite : Cert.Pre_attention_finite.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_attention_finite.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6)) (m ((c.tc : Thread Cert.Reference31Ideal.nD Cert.Reference31Ideal.τ).loc Cert.Reference31Ideal.main_arg7)) (m ((c.tc : Thread Cert.Reference31Ideal.nD Cert.Reference31Ideal.τ).loc Cert.Reference31Ideal.main_arg8))).1 = (fun _ => 1#1)
    ∧ (Cert.Pre_attention_finite.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6)) (m ((c.tc : Thread Cert.Reference31Ideal.nD Cert.Reference31Ideal.τ).loc Cert.Reference31Ideal.main_arg7)) (m ((c.tc : Thread Cert.Reference31Ideal.nD Cert.Reference31Ideal.τ).loc Cert.Reference31Ideal.main_arg8))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7)
      ∧ r.2.mem ((c.tc : Thread Cert.Reference30Ideal.nD Cert.Reference30Ideal.τ).loc Cert.Reference30Ideal.main_arg8) = m ((c.tc : Thread Cert.Reference30Ideal.nD Cert.Reference30Ideal.τ).loc Cert.Reference30Ideal.main_arg8))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7)
      ∧ r.2.mem ((c.tc : Thread Cert.Reference31Ideal.nD Cert.Reference31Ideal.τ).loc Cert.Reference31Ideal.main_arg8) = m ((c.tc : Thread Cert.Reference31Ideal.nD Cert.Reference31Ideal.τ).loc Cert.Reference31Ideal.main_arg8))
      ∧ r.2.sem = fun _ => 0)

def quiescent_Reference31Ideal_pre_attention_finite [hReference31Ideal : Cert.Reference31Ideal.Facts] [hPre_attention_finite : Cert.Pre_attention_finite.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_attention_finite m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6)
      ∧ r.2.mem ((c.tc : Thread Cert.Reference31Ideal.nD Cert.Reference31Ideal.τ).loc Cert.Reference31Ideal.main_arg7) = m ((c.tc : Thread Cert.Reference31Ideal.nD Cert.Reference31Ideal.τ).loc Cert.Reference31Ideal.main_arg7)
      ∧ r.2.mem ((c.tc : Thread Cert.Reference31Ideal.nD Cert.Reference31Ideal.τ).loc Cert.Reference31Ideal.main_arg8) = m ((c.tc : Thread Cert.Reference31Ideal.nD Cert.Reference31Ideal.τ).loc Cert.Reference31Ideal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7)
      ∧ r.2.mem ((c.tc : Thread Cert.Kernel20.nD Cert.Kernel20.τ).loc Cert.Kernel20.main_arg8) = m ((c.tc : Thread Cert.Kernel20.nD Cert.Kernel20.τ).loc Cert.Kernel20.main_arg8))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
      ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7)
      ∧ r.2.mem ((c.tc : Thread Cert.Reference20Ideal.nD Cert.Reference20Ideal.τ).loc Cert.Reference20Ideal.main_arg8) = m ((c.tc : Thread Cert.Reference20Ideal.nD Cert.Reference20Ideal.τ).loc Cert.Reference20Ideal.main_arg8))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7)
      ∧ r.2.mem ((c.tc : Thread Cert.Kernel21.nD Cert.Kernel21.τ).loc Cert.Kernel21.main_arg8) = m ((c.tc : Thread Cert.Kernel21.nD Cert.Kernel21.τ).loc Cert.Kernel21.main_arg8))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
      ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7)
      ∧ r.2.mem ((c.tc : Thread Cert.Reference21Ideal.nD Cert.Reference21Ideal.τ).loc Cert.Reference21Ideal.main_arg8) = m ((c.tc : Thread Cert.Reference21Ideal.nD Cert.Reference21Ideal.τ).loc Cert.Reference21Ideal.main_arg8))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7)
      ∧ r.2.mem ((c.tc : Thread Cert.Kernel26.nD Cert.Kernel26.τ).loc Cert.Kernel26.main_arg8) = m ((c.tc : Thread Cert.Kernel26.nD Cert.Kernel26.τ).loc Cert.Kernel26.main_arg8))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
      ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7)
      ∧ r.2.mem ((c.tc : Thread Cert.Reference26Ideal.nD Cert.Reference26Ideal.τ).loc Cert.Reference26Ideal.main_arg8) = m ((c.tc : Thread Cert.Reference26Ideal.nD Cert.Reference26Ideal.τ).loc Cert.Reference26Ideal.main_arg8))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7)
      ∧ r.2.mem ((c.tc : Thread Cert.Kernel27.nD Cert.Kernel27.τ).loc Cert.Kernel27.main_arg8) = m ((c.tc : Thread Cert.Kernel27.nD Cert.Kernel27.τ).loc Cert.Kernel27.main_arg8))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
      ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7)
      ∧ r.2.mem ((c.tc : Thread Cert.Reference27Ideal.nD Cert.Reference27Ideal.τ).loc Cert.Reference27Ideal.main_arg8) = m ((c.tc : Thread Cert.Reference27Ideal.nD Cert.Reference27Ideal.τ).loc Cert.Reference27Ideal.main_arg8))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def preserves_Kernel_KernelIdeal : Prop :=
  True

def algebraic_KernelIdeal_Reference30Ideal_on_short_conv_part [hKernelIdeal : Cert.KernelIdeal.Facts] [hReference30Ideal : Cert.Reference30Ideal.Facts] [hOn_short_conv_part : Cert.On_short_conv_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.Reference30Ideal.nD Cert.Reference30Ideal.τ Cert.Reference30Ideal.sig) → Buf (Elt Ideal) ℓ) (g' : Dev Cert.Reference30Ideal.nD → PrngReg), Pre_KernelIdeal m →
    (∀ c : Dev Cert.KernelIdeal.nD,
      m' ((c.tc : Thread Cert.Reference30Ideal.nD Cert.Reference30Ideal.τ).loc Cert.Reference30Ideal.main_arg0) = m ((c.tc : Thread Cert.KernelIdeal.nD Cert.KernelIdeal.τ).loc Cert.KernelIdeal.main_arg0)
      ∧ m' ((c.tc : Thread Cert.Reference30Ideal.nD Cert.Reference30Ideal.τ).loc Cert.Reference30Ideal.main_arg1) = m ((c.tc : Thread Cert.KernelIdeal.nD Cert.KernelIdeal.τ).loc Cert.KernelIdeal.main_arg1)
      ∧ m' ((c.tc : Thread Cert.Reference30Ideal.nD Cert.Reference30Ideal.τ).loc Cert.Reference30Ideal.main_arg2) = m ((c.tc : Thread Cert.KernelIdeal.nD Cert.KernelIdeal.τ).loc Cert.KernelIdeal.main_arg2)
      ∧ m' ((c.tc : Thread Cert.Reference30Ideal.nD Cert.Reference30Ideal.τ).loc Cert.Reference30Ideal.main_arg3) = m ((c.tc : Thread Cert.KernelIdeal.nD Cert.KernelIdeal.τ).loc Cert.KernelIdeal.main_arg3)
      ∧ m' ((c.tc : Thread Cert.Reference30Ideal.nD Cert.Reference30Ideal.τ).loc Cert.Reference30Ideal.main_arg4) = m ((c.tc : Thread Cert.KernelIdeal.nD Cert.KernelIdeal.τ).loc Cert.KernelIdeal.main_arg4)
      ∧ m' ((c.tc : Thread Cert.Reference30Ideal.nD Cert.Reference30Ideal.τ).loc Cert.Reference30Ideal.main_arg5) = m ((c.tc : Thread Cert.KernelIdeal.nD Cert.KernelIdeal.τ).loc Cert.KernelIdeal.main_arg5)
      ∧ m' ((c.tc : Thread Cert.Reference30Ideal.nD Cert.Reference30Ideal.τ).loc Cert.Reference30Ideal.main_arg6) = m ((c.tc : Thread Cert.KernelIdeal.nD Cert.KernelIdeal.τ).loc Cert.KernelIdeal.main_arg6)
      ∧ m' ((c.tc : Thread Cert.Reference30Ideal.nD Cert.Reference30Ideal.τ).loc Cert.Reference30Ideal.main_arg7) = m ((c.tc : Thread Cert.KernelIdeal.nD Cert.KernelIdeal.τ).loc Cert.KernelIdeal.main_arg7)
      ∧ m' ((c.tc : Thread Cert.Reference30Ideal.nD Cert.Reference30Ideal.τ).loc Cert.Reference30Ideal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 12288]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨2, ![256, 2048]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v0_1) i = v1 c i)
          ∧ (∀ i : (⟨2, ![256, 1024]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v0_2) i = v2 c i)
          ∧ (∀ i : (⟨2, ![8, 1024]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          (∀ i : (⟨2, ![8192, 12288]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.Reference30Ideal.nD Cert.Reference30Ideal.τ).loc Cert.Reference30Ideal.main_v70) i = v0 c i)
          ∧ (∀ i : (⟨2, ![256, 2048]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.Reference30Ideal.nD Cert.Reference30Ideal.τ).loc Cert.Reference30Ideal.main_v75) i = v1 c i)
          ∧ (∀ i : (⟨2, ![256, 1024]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.Reference30Ideal.nD Cert.Reference30Ideal.τ).loc Cert.Reference30Ideal.main_v76) i = v2 c i)
          ∧ (∀ i : (⟨2, ![8, 1024]⟩ : Shape).Idx, (Cert.On_short_conv_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.Reference30Ideal.nD Cert.Reference30Ideal.τ).loc Cert.Reference30Ideal.main_v74) i = v3 c i)
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7)
          ∧ r.2.mem ((c.tc : Thread Cert.Reference30Ideal.nD Cert.Reference30Ideal.τ).loc Cert.Reference30Ideal.main_arg8) = m' ((c.tc : Thread Cert.Reference30Ideal.nD Cert.Reference30Ideal.τ).loc Cert.Reference30Ideal.main_arg8))

def algebraic_KernelIdeal_Reference31Ideal_on_attention_part_pre_attention_finite [hKernelIdeal : Cert.KernelIdeal.Facts] [hReference31Ideal : Cert.Reference31Ideal.Facts] [hPre_attention_finite : Cert.Pre_attention_finite.Facts] [hOn_attention_part : Cert.On_attention_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.Reference31Ideal.nD Cert.Reference31Ideal.τ Cert.Reference31Ideal.sig) → Buf (Elt Ideal) ℓ) (g' : Dev Cert.Reference31Ideal.nD → PrngReg), Pre_KernelIdeal_attention_finite m →
    (∀ c : Dev Cert.KernelIdeal.nD,
      m' ((c.tc : Thread Cert.Reference31Ideal.nD Cert.Reference31Ideal.τ).loc Cert.Reference31Ideal.main_arg0) = m ((c.tc : Thread Cert.KernelIdeal.nD Cert.KernelIdeal.τ).loc Cert.KernelIdeal.main_arg0)
      ∧ m' ((c.tc : Thread Cert.Reference31Ideal.nD Cert.Reference31Ideal.τ).loc Cert.Reference31Ideal.main_arg1) = m ((c.tc : Thread Cert.KernelIdeal.nD Cert.KernelIdeal.τ).loc Cert.KernelIdeal.main_arg1)
      ∧ m' ((c.tc : Thread Cert.Reference31Ideal.nD Cert.Reference31Ideal.τ).loc Cert.Reference31Ideal.main_arg2) = m ((c.tc : Thread Cert.KernelIdeal.nD Cert.KernelIdeal.τ).loc Cert.KernelIdeal.main_arg2)
      ∧ m' ((c.tc : Thread Cert.Reference31Ideal.nD Cert.Reference31Ideal.τ).loc Cert.Reference31Ideal.main_arg3) = m ((c.tc : Thread Cert.KernelIdeal.nD Cert.KernelIdeal.τ).loc Cert.KernelIdeal.main_arg3)
      ∧ m' ((c.tc : Thread Cert.Reference31Ideal.nD Cert.Reference31Ideal.τ).loc Cert.Reference31Ideal.main_arg4) = m ((c.tc : Thread Cert.KernelIdeal.nD Cert.KernelIdeal.τ).loc Cert.KernelIdeal.main_arg4)
      ∧ m' ((c.tc : Thread Cert.Reference31Ideal.nD Cert.Reference31Ideal.τ).loc Cert.Reference31Ideal.main_arg5) = m ((c.tc : Thread Cert.KernelIdeal.nD Cert.KernelIdeal.τ).loc Cert.KernelIdeal.main_arg5)
      ∧ m' ((c.tc : Thread Cert.Reference31Ideal.nD Cert.Reference31Ideal.τ).loc Cert.Reference31Ideal.main_arg6) = m ((c.tc : Thread Cert.KernelIdeal.nD Cert.KernelIdeal.τ).loc Cert.KernelIdeal.main_arg6)
      ∧ m' ((c.tc : Thread Cert.Reference31Ideal.nD Cert.Reference31Ideal.τ).loc Cert.Reference31Ideal.main_arg7) = m ((c.tc : Thread Cert.KernelIdeal.nD Cert.KernelIdeal.τ).loc Cert.KernelIdeal.main_arg7)
      ∧ m' ((c.tc : Thread Cert.Reference31Ideal.nD Cert.Reference31Ideal.τ).loc Cert.Reference31Ideal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 12288]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v0_0) i = v0 c i)
          ∧ (∀ i : (⟨2, ![256, 2048]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v0_1) i = v1 c i)
          ∧ (∀ i : (⟨2, ![256, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v0_2) i = v2 c i)
          ∧ (∀ i : (⟨2, ![8, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          (∀ i : (⟨2, ![8192, 12288]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.Reference31Ideal.nD Cert.Reference31Ideal.τ).loc Cert.Reference31Ideal.main_v75) i = v0 c i)
          ∧ (∀ i : (⟨2, ![256, 2048]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.Reference31Ideal.nD Cert.Reference31Ideal.τ).loc Cert.Reference31Ideal.main_v70) i = v1 c i)
          ∧ (∀ i : (⟨2, ![256, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.Reference31Ideal.nD Cert.Reference31Ideal.τ).loc Cert.Reference31Ideal.main_v76) i = v2 c i)
          ∧ (∀ i : (⟨2, ![8, 1024]⟩ : Shape).Idx, (Cert.On_attention_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 i = 1#1 → r.2.mem ((c.tc : Thread Cert.Reference31Ideal.nD Cert.Reference31Ideal.τ).loc Cert.Reference31Ideal.main_v77) i = v3 c i)
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6)
          ∧ r.2.mem ((c.tc : Thread Cert.Reference31Ideal.nD Cert.Reference31Ideal.τ).loc Cert.Reference31Ideal.main_arg7) = m' ((c.tc : Thread Cert.Reference31Ideal.nD Cert.Reference31Ideal.τ).loc Cert.Reference31Ideal.main_arg7)
          ∧ r.2.mem ((c.tc : Thread Cert.Reference31Ideal.nD Cert.Reference31Ideal.τ).loc Cert.Reference31Ideal.main_arg8) = m' ((c.tc : Thread Cert.Reference31Ideal.nD Cert.Reference31Ideal.τ).loc Cert.Reference31Ideal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_on_gates_only [hKernel5Ideal : Cert.Kernel5Ideal.Facts] [hReference5Ideal : Cert.Reference5Ideal.Facts] [hOn_gates_only : Cert.On_gates_only.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨3, ![3, 8192, 2048]⟩ : Shape).Idx, (Cert.On_gates_only.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 i = 1#1 → r.2.mem ((c.tc : Thread Cert.Kernel5Ideal.nD Cert.Kernel5Ideal.τ).loc Cert.Kernel5Ideal.main_v0_0) i = v0 c i)
          ∧ (∀ i : (⟨2, ![8192, 12288]⟩ : Shape).Idx, (Cert.On_gates_only.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 i = 1#1 → r.2.mem ((c.tc : Thread Cert.Kernel5Ideal.nD Cert.Kernel5Ideal.τ).loc Cert.Kernel5Ideal.main_v0_1) i = v1 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨3, ![3, 8192, 2048]⟩ : Shape).Idx, (Cert.On_gates_only.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 i = 1#1 → r.2.mem ((c.tc : Thread Cert.Reference5Ideal.nD Cert.Reference5Ideal.τ).loc Cert.Reference5Ideal.main_v57) i = v0 c i)
          ∧ (∀ i : (⟨2, ![8192, 12288]⟩ : Shape).Idx, (Cert.On_gates_only.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 i = 1#1 → r.2.mem ((c.tc : Thread Cert.Reference5Ideal.nD Cert.Reference5Ideal.τ).loc Cert.Reference5Ideal.main_v59) i = v1 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v26) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v28) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v44) = v0 c
          ∧ r.2.mem ((c.tc : Thread Cert.Reference16Ideal.nD Cert.Reference16Ideal.τ).loc Cert.Reference16Ideal.main_v45) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)
      ∧ m' ((c.tc : Thread Cert.Reference20Ideal.nD Cert.Reference20Ideal.τ).loc Cert.Reference20Ideal.main_arg8) = m ((c.tc : Thread Cert.Kernel20Ideal.nD Cert.Kernel20Ideal.τ).loc Cert.Kernel20Ideal.main_arg8)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7)
          ∧ r.2.mem ((c.tc : Thread Cert.Kernel20Ideal.nD Cert.Kernel20Ideal.τ).loc Cert.Kernel20Ideal.main_arg8) = m ((c.tc : Thread Cert.Kernel20Ideal.nD Cert.Kernel20Ideal.τ).loc Cert.Kernel20Ideal.main_arg8))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7)
          ∧ r.2.mem ((c.tc : Thread Cert.Reference20Ideal.nD Cert.Reference20Ideal.τ).loc Cert.Reference20Ideal.main_arg8) = m' ((c.tc : Thread Cert.Reference20Ideal.nD Cert.Reference20Ideal.τ).loc Cert.Reference20Ideal.main_arg8))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)
      ∧ m' ((c.tc : Thread Cert.Reference21Ideal.nD Cert.Reference21Ideal.τ).loc Cert.Reference21Ideal.main_arg8) = m ((c.tc : Thread Cert.Kernel21Ideal.nD Cert.Kernel21Ideal.τ).loc Cert.Kernel21Ideal.main_arg8)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7)
          ∧ r.2.mem ((c.tc : Thread Cert.Kernel21Ideal.nD Cert.Kernel21Ideal.τ).loc Cert.Kernel21Ideal.main_arg8) = m ((c.tc : Thread Cert.Kernel21Ideal.nD Cert.Kernel21Ideal.τ).loc Cert.Kernel21Ideal.main_arg8))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg0) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7)
          ∧ r.2.mem ((c.tc : Thread Cert.Reference21Ideal.nD Cert.Reference21Ideal.τ).loc Cert.Reference21Ideal.main_arg8) = m' ((c.tc : Thread Cert.Reference21Ideal.nD Cert.Reference21Ideal.τ).loc Cert.Reference21Ideal.main_arg8))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg0) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_v40) = v2 c
          ∧ r.2.mem ((c.tc : Thread Cert.Reference23Ideal.nD Cert.Reference23Ideal.τ).loc Cert.Reference23Ideal.main_v43) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_v40) = v2 c
          ∧ r.2.mem ((c.tc : Thread Cert.Reference24Ideal.nD Cert.Reference24Ideal.τ).loc Cert.Reference24Ideal.main_v43) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v40) = v2 c
          ∧ r.2.mem ((c.tc : Thread Cert.Reference25Ideal.nD Cert.Reference25Ideal.τ).loc Cert.Reference25Ideal.main_v43) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)
      ∧ m' ((c.tc : Thread Cert.Reference26Ideal.nD Cert.Reference26Ideal.τ).loc Cert.Reference26Ideal.main_arg8) = m ((c.tc : Thread Cert.Kernel26Ideal.nD Cert.Kernel26Ideal.τ).loc Cert.Kernel26Ideal.main_arg8)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7)
          ∧ r.2.mem ((c.tc : Thread Cert.Kernel26Ideal.nD Cert.Kernel26Ideal.τ).loc Cert.Kernel26Ideal.main_arg8) = m ((c.tc : Thread Cert.Kernel26Ideal.nD Cert.Kernel26Ideal.τ).loc Cert.Kernel26Ideal.main_arg8))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v34) = v0 c
          ∧ r.2.mem ((c.tc : Thread Cert.Reference26Ideal.nD Cert.Reference26Ideal.τ).loc Cert.Reference26Ideal.main_v37) = v1 c
          ∧ r.2.mem ((c.tc : Thread Cert.Reference26Ideal.nD Cert.Reference26Ideal.τ).loc Cert.Reference26Ideal.main_v40) = v2 c
          ∧ r.2.mem ((c.tc : Thread Cert.Reference26Ideal.nD Cert.Reference26Ideal.τ).loc Cert.Reference26Ideal.main_v43) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7)
          ∧ r.2.mem ((c.tc : Thread Cert.Reference26Ideal.nD Cert.Reference26Ideal.τ).loc Cert.Reference26Ideal.main_arg8) = m' ((c.tc : Thread Cert.Reference26Ideal.nD Cert.Reference26Ideal.τ).loc Cert.Reference26Ideal.main_arg8))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)
      ∧ m' ((c.tc : Thread Cert.Reference27Ideal.nD Cert.Reference27Ideal.τ).loc Cert.Reference27Ideal.main_arg8) = m ((c.tc : Thread Cert.Kernel27Ideal.nD Cert.Kernel27Ideal.τ).loc Cert.Kernel27Ideal.main_arg8)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7)
          ∧ r.2.mem ((c.tc : Thread Cert.Kernel27Ideal.nD Cert.Kernel27Ideal.τ).loc Cert.Kernel27Ideal.main_arg8) = m ((c.tc : Thread Cert.Kernel27Ideal.nD Cert.Kernel27Ideal.τ).loc Cert.Kernel27Ideal.main_arg8))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v36) = v0 c
          ∧ r.2.mem ((c.tc : Thread Cert.Reference27Ideal.nD Cert.Reference27Ideal.τ).loc Cert.Reference27Ideal.main_v39) = v1 c
          ∧ r.2.mem ((c.tc : Thread Cert.Reference27Ideal.nD Cert.Reference27Ideal.τ).loc Cert.Reference27Ideal.main_v42) = v2 c
          ∧ r.2.mem ((c.tc : Thread Cert.Reference27Ideal.nD Cert.Reference27Ideal.τ).loc Cert.Reference27Ideal.main_v45) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7)
          ∧ r.2.mem ((c.tc : Thread Cert.Reference27Ideal.nD Cert.Reference27Ideal.τ).loc Cert.Reference27Ideal.main_arg8) = m' ((c.tc : Thread Cert.Reference27Ideal.nD Cert.Reference27Ideal.τ).loc Cert.Reference27Ideal.main_arg8))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v36) = v0 c
          ∧ r.2.mem ((c.tc : Thread Cert.Reference28Ideal.nD Cert.Reference28Ideal.τ).loc Cert.Reference28Ideal.main_v39) = v1 c
          ∧ r.2.mem ((c.tc : Thread Cert.Reference28Ideal.nD Cert.Reference28Ideal.τ).loc Cert.Reference28Ideal.main_v42) = v2 c
          ∧ r.2.mem ((c.tc : Thread Cert.Reference28Ideal.nD Cert.Reference28Ideal.τ).loc Cert.Reference28Ideal.main_v45) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v36) = v0 c
          ∧ r.2.mem ((c.tc : Thread Cert.Reference29Ideal.nD Cert.Reference29Ideal.τ).loc Cert.Reference29Ideal.main_v39) = v1 c
          ∧ r.2.mem ((c.tc : Thread Cert.Reference29Ideal.nD Cert.Reference29Ideal.τ).loc Cert.Reference29Ideal.main_v42) = v2 c
          ∧ r.2.mem ((c.tc : Thread Cert.Reference29Ideal.nD Cert.Reference29Ideal.τ).loc Cert.Reference29Ideal.main_v45) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v6) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v4) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v12) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v34) = v0 c
          ∧ r.2.mem ((c.tc : Thread Cert.Reference36Ideal.nD Cert.Reference36Ideal.τ).loc Cert.Reference36Ideal.main_v17) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0_1)) (v1 : (c : Dev Cert.Kernel37Ideal.nD) → Buf (Elt Ideal) ((c.tc : Thread Cert.Kernel37Ideal.nD Cert.Kernel37Ideal.τ).loc Cert.Kernel37Ideal.main_v0_0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_1) = v0 c
          ∧ r.2.mem ((c.tc : Thread Cert.Kernel37Ideal.nD Cert.Kernel37Ideal.τ).loc Cert.Kernel37Ideal.main_v0_0) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v15) = v0 c
          ∧ r.2.mem ((c.tc : Thread Cert.Reference37Ideal.nD Cert.Reference37Ideal.τ).loc Cert.Reference37Ideal.main_v14) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)) (v3 : (c : Dev Cert.Kernel38Ideal.nD) → Buf (Elt Ideal) ((c.tc : Thread Cert.Kernel38Ideal.nD Cert.Kernel38Ideal.τ).loc Cert.Kernel38Ideal.main_v0_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_v0_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v34) = v0 c
          ∧ r.2.mem ((c.tc : Thread Cert.Reference38Ideal.nD Cert.Reference38Ideal.τ).loc Cert.Reference38Ideal.main_v17) = v1 c
          ∧ r.2.mem ((c.tc : Thread Cert.Reference38Ideal.nD Cert.Reference38Ideal.τ).loc Cert.Reference38Ideal.main_v69) = v2 c
          ∧ r.2.mem ((c.tc : Thread Cert.Reference38Ideal.nD Cert.Reference38Ideal.τ).loc Cert.Reference38Ideal.main_v52) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v12) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v12) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v34) = v0 c
          ∧ r.2.mem ((c.tc : Thread Cert.Reference41Ideal.nD Cert.Reference41Ideal.τ).loc Cert.Reference41Ideal.main_v17) = v1 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)) →
    ∃ (v0 : (c : Dev Cert.Kernel42Ideal.nD) → Buf (Elt Ideal) ((c.tc : Thread Cert.Kernel42Ideal.nD Cert.Kernel42Ideal.τ).loc Cert.Kernel42Ideal.main_v0)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v12) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v34) = v0 c
          ∧ r.2.mem ((c.tc : Thread Cert.Reference43Ideal.nD Cert.Reference43Ideal.τ).loc Cert.Reference43Ideal.main_v17) = v1 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def Claim : Prop :=
  ∃ (hKernel : Cert.Kernel.Facts) (hKernelIdeal : Cert.KernelIdeal.Facts) (hReference30Ideal : Cert.Reference30Ideal.Facts) (hReference31Ideal : Cert.Reference31Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hPre_attention_finite : Cert.Pre_attention_finite.Facts) (hOn_short_conv_part : Cert.On_short_conv_part.Facts) (hOn_attention_part : Cert.On_attention_part.Facts) (hOn_gates_only : Cert.On_gates_only.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_Reference30Ideal (hReference30Ideal := hReference30Ideal)
    ∧ quiescent_Reference31Ideal (hReference31Ideal := hReference31Ideal)
    ∧ quiescent_Reference31Ideal_pre_attention_finite (hReference31Ideal := hReference31Ideal) (hPre_attention_finite := hPre_attention_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ preserves_Kernel_KernelIdeal
    ∧ algebraic_KernelIdeal_Reference30Ideal_on_short_conv_part (hKernelIdeal := hKernelIdeal) (hReference30Ideal := hReference30Ideal) (hOn_short_conv_part := hOn_short_conv_part)
    ∧ algebraic_KernelIdeal_Reference31Ideal_on_attention_part_pre_attention_finite (hKernelIdeal := hKernelIdeal) (hReference31Ideal := hReference31Ideal) (hPre_attention_finite := hPre_attention_finite) (hOn_attention_part := hOn_attention_part)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_gates_only (hKernel5Ideal := hKernel5Ideal) (hReference5Ideal := hReference5Ideal) (hOn_gates_only := hOn_gates_only)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
-- ==== On_attention_part.lean ====
abbrev S8192x12288 : Shape := ⟨2, ![8192, 12288]⟩
abbrev S8192x1024 : Shape := ⟨2, ![8192, 1024]⟩
abbrev S3x8192x1024 : Shape := ⟨3, ![3, 8192, 1024]⟩
abbrev S256x2048 : Shape := ⟨2, ![256, 2048]⟩
abbrev S32x1024 : Shape := ⟨2, ![32, 1024]⟩
abbrev S1x1024 : Shape := ⟨2, ![1, 1024]⟩
abbrev S8x1024 : Shape := ⟨2, ![8, 1024]⟩
abbrev S_ : Shape := ⟨0, ![]⟩
abbrev S256x1024 : Shape := ⟨2, ![256, 1024]⟩

class Facts : Prop where
  bcast_S_S8192x12288 : S_.BroadcastsInDim S8192x12288 (![] : Fin 0 → Fin S8192x12288.rank)
  bcast_S_S256x2048 : S_.BroadcastsInDim S256x2048 (![] : Fin 0 → Fin S256x2048.rank)
  bcast_S_S256x1024 : S_.BroadcastsInDim S256x1024 (![] : Fin 0 → Fin S256x1024.rank)
  bcast_S_S8x1024 : S_.BroadcastsInDim S8x1024 (![] : Fin 0 → Fin S8x1024.rank)

variable [Facts]

def fn {F : FTy → Type} [FloatOps F] (main_arg0 : FVec F S8192x12288 .f32) (main_arg1 : FVec F S8192x1024 .f32) (main_arg2 : FVec F S3x8192x1024 .f32) (main_arg3 : FVec F S256x2048 .bf16) (main_arg4 : FVec F S32x1024 .f32) (main_arg5 : FVec F S1x1024 .f32) (main_arg6 : FVec F S1x1024 .f32) (main_arg7 : FVec F S8x1024 .f32) (main_arg8 : FVec F S8192x12288 .bf16) : IVec S8192x12288 1 × IVec S256x2048 1 × IVec S256x1024 1 × IVec S8x1024 1 :=
  let main_v0 : IVec S8192x12288 32 := iotaInDim S8192x12288 32 1
  let main_c : IVec S_ 32 := constantI S_ 32 5120#32
  let main_v1 : IVec S8192x12288 32 := broadcastInDim S8192x12288 ![] bcast_S_S8192x12288 main_c
  let main_v2 : IVec S8192x12288 1 := cmpi .sge main_v0 main_v1
  let main_c_0 : IVec S_ 32 := constantI S_ 32 6144#32
  let main_v3 : IVec S8192x12288 32 := broadcastInDim S8192x12288 ![] bcast_S_S8192x12288 main_c_0
  let main_v4 : IVec S8192x12288 1 := cmpi .slt main_v0 main_v3
  let main_v5 : IVec S8192x12288 1 := andi main_v2 main_v4
  let main_c_1 : IVec S_ 1 := constantI S_ 1 1#1
  let main_v6 : IVec S256x2048 1 := broadcastInDim S256x2048 ![] bcast_S_S256x2048 main_c_1
  let main_c_2 : IVec S_ 1 := constantI S_ 1 0#1
  let main_v7 : IVec S256x1024 1 := broadcastInDim S256x1024 ![] bcast_S_S256x1024 main_c_2
  let main_c_3 : IVec S_ 1 := constantI S_ 1 0#1
  let main_v8 : IVec S8x1024 1 := broadcastInDim S8x1024 ![] bcast_S_S8x1024 main_c_3
  (main_v5, main_v6, main_v7, main_v8)
-- ==== On_gates_only.lean ====
abbrev S8192x2048 : Shape := ⟨2, ![8192, 2048]⟩
abbrev S2048x2048 : Shape := ⟨2, ![2048, 2048]⟩
abbrev S3x8192x2048 : Shape := ⟨3, ![3, 8192, 2048]⟩
abbrev S8192x12288 : Shape := ⟨2, ![8192, 12288]⟩
abbrev S_ : Shape := ⟨0, ![]⟩

class Facts : Prop where
  bcast_S_S3x8192x2048 : S_.BroadcastsInDim S3x8192x2048 (![] : Fin 0 → Fin S3x8192x2048.rank)
  bcast_S_S8192x12288 : S_.BroadcastsInDim S8192x12288 (![] : Fin 0 → Fin S8192x12288.rank)

variable [Facts]

def fn {F : FTy → Type} [FloatOps F] (main_arg0 : FVec F S8192x2048 .bf16) (main_arg1 : FVec F S2048x2048 .bf16) (main_arg2 : FVec F S3x8192x2048 .bf16) (main_arg3 : FVec F S8192x12288 .f32) : IVec S3x8192x2048 1 × IVec S8192x12288 1 :=
  let main_c : IVec S_ 1 := constantI S_ 1 1#1
  let main_v0 : IVec S3x8192x2048 1 := broadcastInDim S3x8192x2048 ![] bcast_S_S3x8192x2048 main_c
  let main_v1 : IVec S8192x12288 32 := iotaInDim S8192x12288 32 1
  let main_c_0 : IVec S_ 32 := constantI S_ 32 6144#32
  let main_v2 : IVec S8192x12288 32 := broadcastInDim S8192x12288 ![] bcast_S_S8192x12288 main_c_0
  let main_v3 : IVec S8192x12288 1 := cmpi .sge main_v1 main_v2
  (main_v0, main_v3)
-- ==== On_short_conv_part.lean ====
abbrev S8192x12288 : Shape := ⟨2, ![8192, 12288]⟩
abbrev S8192x1024 : Shape := ⟨2, ![8192, 1024]⟩
abbrev S3x8192x1024 : Shape := ⟨3, ![3, 8192, 1024]⟩
abbrev S256x2048 : Shape := ⟨2, ![256, 2048]⟩
abbrev S32x1024 : Shape := ⟨2, ![32, 1024]⟩
abbrev S1x1024 : Shape := ⟨2, ![1, 1024]⟩
abbrev S8x1024 : Shape := ⟨2, ![8, 1024]⟩
abbrev S_ : Shape := ⟨0, ![]⟩
abbrev S256x1024 : Shape := ⟨2, ![256, 1024]⟩

class Facts : Prop where
  bcast_S_S8192x12288 : S_.BroadcastsInDim S8192x12288 (![] : Fin 0 → Fin S8192x12288.rank)
  bcast_S_S256x2048 : S_.BroadcastsInDim S256x2048 (![] : Fin 0 → Fin S256x2048.rank)
  bcast_S_S256x1024 : S_.BroadcastsInDim S256x1024 (![] : Fin 0 → Fin S256x1024.rank)
  bcast_S_S8x1024 : S_.BroadcastsInDim S8x1024 (![] : Fin 0 → Fin S8x1024.rank)

variable [Facts]

def fn {F : FTy → Type} [FloatOps F] (main_arg0 : FVec F S8192x12288 .f32) (main_arg1 : FVec F S8192x1024 .f32) (main_arg2 : FVec F S3x8192x1024 .f32) (main_arg3 : FVec F S256x2048 .bf16) (main_arg4 : FVec F S32x1024 .f32) (main_arg5 : FVec F S1x1024 .f32) (main_arg6 : FVec F S1x1024 .f32) (main_arg7 : FVec F S8x1024 .f32) (main_arg8 : FVec F S8192x12288 .bf16) : IVec S8192x12288 1 × IVec S256x2048 1 × IVec S256x1024 1 × IVec S8x1024 1 :=
  let main_v0 : IVec S8192x12288 32 := iotaInDim S8192x12288 32 1
  let main_v1 : IVec S8x1024 32 := iotaInDim S8x1024 32 0
  let main_c : IVec S_ 32 := constantI S_ 32 2048#32
  let main_v2 : IVec S8192x12288 32 := broadcastInDim S8192x12288 ![] bcast_S_S8192x12288 main_c
  let main_v3 : IVec S8192x12288 1 := cmpi .sge main_v0 main_v2
  let main_c_0 : IVec S_ 32 := constantI S_ 32 5120#32
  let main_v4 : IVec S8192x12288 32 := broadcastInDim S8192x12288 ![] bcast_S_S8192x12288 main_c_0
  let main_v5 : IVec S8192x12288 1 := cmpi .slt main_v0 main_v4
  let main_v6 : IVec S8192x12288 1 := andi main_v3 main_v5
  let main_c_1 : IVec S_ 1 := constantI S_ 1 0#1
  let main_v7 : IVec S256x2048 1 := broadcastInDim S256x2048 ![] bcast_S_S256x2048 main_c_1
  let main_c_2 : IVec S_ 1 := constantI S_ 1 0#1
  let main_v8 : IVec S256x1024 1 := broadcastInDim S256x1024 ![] bcast_S_S256x1024 main_c_2
  let main_c_3 : IVec S_ 32 := constantI S_ 32 3#32
  let main_v9 : IVec S8x1024 32 := broadcastInDim S8x1024 ![] bcast_S_S8x1024 main_c_3
  let main_v10 : IVec S8x1024 1 := cmpi .sge main_v1 main_v9
  let main_c_4 : IVec S_ 32 := constantI S_ 32 6#32
  let main_v11 : IVec S8x1024 32 := broadcastInDim S8x1024 ![] bcast_S_S8x1024 main_c_4
  let main_v12 : IVec S8x1024 1 := cmpi .slt main_v1 main_v11
  let main_v13 : IVec S8x1024 1 := andi main_v10 main_v12
  (main_v6, main_v7, main_v8, main_v13)
-- ==== Pre_attention_finite.lean ====
abbrev S8192x12288 : Shape := ⟨2, ![8192, 12288]⟩
abbrev S8192x1024 : Shape := ⟨2, ![8192, 1024]⟩
abbrev S3x8192x1024 : Shape := ⟨3, ![3, 8192, 1024]⟩
abbrev S256x2048 : Shape := ⟨2, ![256, 2048]⟩
abbrev S32x1024 : Shape := ⟨2, ![32, 1024]⟩
abbrev S1x1024 : Shape := ⟨2, ![1, 1024]⟩
abbrev S8x1024 : Shape := ⟨2, ![8, 1024]⟩
abbrev S_ : Shape := ⟨0, ![]⟩
abbrev S256x1024 : Shape := ⟨2, ![256, 1024]⟩

class Facts : Prop where
  slices_S8192x12288_S8192x1024_0_5120 : S8192x12288.Slices ![0, 5120] S8192x1024
  bcast_S_S8192x1024 : S_.BroadcastsInDim S8192x1024 (![] : Fin 0 → Fin S8192x1024.rank)
  slices_S256x2048_S256x1024_0_0 : S256x2048.Slices ![0, 0] S256x1024
  bitsLt_bf16_f32 : FTy.bits .bf16 < FTy.bits .f32
  bcast_S_S256x1024 : S_.BroadcastsInDim S256x1024 (![] : Fin 0 → Fin S256x1024.rank)

variable [Facts]

def fn {F : FTy → Type} [FloatOps F] (main_arg0 : FVec F S8192x12288 .f32) (main_arg1 : FVec F S8192x1024 .f32) (main_arg2 : FVec F S3x8192x1024 .f32) (main_arg3 : FVec F S256x2048 .bf16) (main_arg4 : FVec F S32x1024 .f32) (main_arg5 : FVec F S1x1024 .f32) (main_arg6 : FVec F S1x1024 .f32) (main_arg7 : FVec F S8x1024 .f32) (main_arg8 : FVec F S8192x12288 .bf16) : IVec S8192x1024 1 × IVec S256x1024 1 :=
  let main_v0 : FVec F S8192x1024 .f32 := (extractStridedSlice S8192x1024 ![0, 5120] · slices_S8192x12288_S8192x1024_0_5120) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .bf16 := (extractStridedSlice S256x1024 ![0, 0] · slices_S256x2048_S256x1024_0_0) main_arg3
  let main_v5 : FVec F S256x1024 .f32 := (extf .f32 · bitsLt_bf16_f32) main_v4
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  (main_v3, main_v8)
-- ==== Kernel.lean ====
abbrev S8192x12288 : Shape := ⟨2, ![8192, 12288]⟩
abbrev S8192x1024 : Shape := ⟨2, ![8192, 1024]⟩
abbrev S3x8192x1024 : Shape := ⟨3, ![3, 8192, 1024]⟩
abbrev S256x2048 : Shape := ⟨2, ![256, 2048]⟩
abbrev S32x1024 : Shape := ⟨2, ![32, 1024]⟩
abbrev S1x1024 : Shape := ⟨2, ![1, 1024]⟩
abbrev S8x1024 : Shape := ⟨2, ![8, 1024]⟩
abbrev S256x1024 : Shape := ⟨2, ![256, 1024]⟩
abbrev S128x1024 : Shape := ⟨2, ![128, 1024]⟩
abbrev S3x128x1024 : Shape := ⟨3, ![3, 128, 1024]⟩
abbrev S1x32x1024 : Shape := ⟨3, ![1, 32, 1024]⟩
abbrev S1x8x1024 : Shape := ⟨3, ![1, 8, 1024]⟩
abbrev S128x6144 : Shape := ⟨2, ![128, 6144]⟩
abbrev S160x1024 : Shape := ⟨2, ![160, 1024]⟩
abbrev S136x1024 : Shape := ⟨2, ![136, 1024]⟩
abbrev S7x152x1024 : Shape := ⟨3, ![7, 152, 1024]⟩
abbrev S31x8x1024 : Shape := ⟨3, ![31, 8, 1024]⟩
abbrev S1x128x1024 : Shape := ⟨3, ![1, 128, 1024]⟩
abbrev S128 : Shape := ⟨1, ![128]⟩
abbrev S128x1 : Shape := ⟨2, ![128, 1]⟩
abbrev S1024 : Shape := ⟨1, ![1024]⟩
abbrev S32 : Shape := ⟨1, ![32]⟩
abbrev S32x1 : Shape := ⟨2, ![32, 1]⟩
abbrev S152x1024 : Shape := ⟨2, ![152, 1024]⟩
abbrev S1x152x1024 : Shape := ⟨3, ![1, 152, 1024]⟩
abbrev S4x8x1024 : Shape := ⟨3, ![4, 8, 1024]⟩
abbrev S128x256 : Shape := ⟨2, ![128, 256]⟩
abbrev S256x256 : Shape := ⟨2, ![256, 256]⟩
abbrev S1x128x256 : Shape := ⟨3, ![1, 128, 256]⟩

abbrev nBuf : Space → Nat
  | .hbm => 13
  | .vmem => 49
  | .smem => 0
  | _ => 0

abbrev bufTy : (tb : Table) → Fin (tcTables nBuf tb) → BufTy
  | .hbm, ⟨0, _⟩ => ⟨S8192x12288, .f32⟩
  | .hbm, ⟨1, _⟩ => ⟨S8192x1024, .f32⟩
  | .hbm, ⟨2, _⟩ => ⟨S3x8192x1024, .f32⟩
  | .hbm, ⟨3, _⟩ => ⟨S256x2048, .bf16⟩
  | .hbm, ⟨4, _⟩ => ⟨S32x1024, .f32⟩
  | .hbm, ⟨5, _⟩ => ⟨S1x1024, .f32⟩
  | .hbm, ⟨6, _⟩ => ⟨S1x1024, .f32⟩
  | .hbm, ⟨7, _⟩ => ⟨S8x1024, .f32⟩
  | .hbm, ⟨8, _⟩ => ⟨S8192x12288, .bf16⟩
  | .hbm, ⟨9, _⟩ => ⟨S8192x12288, .bf16⟩
  | .hbm, ⟨10, _⟩ => ⟨S256x2048, .f32⟩
  | .hbm, ⟨11, _⟩ => ⟨S256x1024, .f32⟩
  | .hbm, ⟨12, _⟩ => ⟨S8x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S128x1024, .f32⟩
  | .local _ .vmem, ⟨23, _⟩ => ⟨S128x1024, .f32⟩
  | .local _ .vmem, ⟨24, _⟩ => ⟨S32x1024, .f32⟩
  | .local _ .vmem, ⟨25, _⟩ => ⟨S32x1024, .f32⟩
  | .local _ .vmem, ⟨26, _⟩ => ⟨S3x128x1024, .f32⟩
  | .local _ .vmem, ⟨27, _⟩ => ⟨S3x128x1024, .f32⟩
  | .local _ .vmem, ⟨28, _⟩ => ⟨S1x32x1024, .f32⟩
  | .local _ .vmem, ⟨29, _⟩ => ⟨S1x32x1024, .f32⟩
  | .local _ .vmem, ⟨30, _⟩ => ⟨S1x8x1024, .f32⟩
  | .local _ .vmem, ⟨31, _⟩ => ⟨S1x8x1024, .f32⟩
  | .local _ .vmem, ⟨32, _⟩ => ⟨S256x2048, .bf16⟩
  | .local _ .vmem, ⟨33, _⟩ => ⟨S32x1024, .f32⟩
  | .local _ .vmem, ⟨34, _⟩ => ⟨S1x1024, .f32⟩
  | .local _ .vmem, ⟨35, _⟩ => ⟨S1x1024, .f32⟩
  | .local _ .vmem, ⟨36, _⟩ => ⟨S8x1024, .f32⟩
  | .local _ .vmem, ⟨37, _⟩ => ⟨S128x6144, .bf16⟩
  | .local _ .vmem, ⟨38, _⟩ => ⟨S128x6144, .bf16⟩
  | .local _ .vmem, ⟨39, _⟩ => ⟨S256x2048, .f32⟩
  | .local _ .vmem, ⟨40, _⟩ => ⟨S256x1024, .f32⟩
  | .local _ .vmem, ⟨41, _⟩ => ⟨S8x1024, .f32⟩
  | .local _ .vmem, ⟨42, _⟩ => ⟨S160x1024, .f32⟩
  | .local _ .vmem, ⟨43, _⟩ => ⟨S160x1024, .f32⟩
  | .local _ .vmem, ⟨44, _⟩ => ⟨S136x1024, .f32⟩
  | .local _ .vmem, ⟨45, _⟩ => ⟨S136x1024, .f32⟩
  | .local _ .vmem, ⟨46, _⟩ => ⟨S7x152x1024, .f32⟩
  | .local _ .vmem, ⟨47, _⟩ => ⟨S7x152x1024, .f32⟩
  | .local _ .vmem, ⟨48, _⟩ => ⟨S31x8x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg23_0 : Ref sig .tc := ⟨.vmem, 40, rfl⟩
abbrev cc0_stg24_0 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_scratch6 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem21_1 : DmaSem sig := 38
abbrev cc0_sem22_0 : DmaSem sig := 39
abbrev cc0_sem23_0 : DmaSem sig := 40
abbrev cc0_sem24_0 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c2_i32 : BitVec 32 := 2#32
  let c0_i32 : BitVec 32 := 0#32
  ![v2.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![c0_i32.toNat, v2.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c1_i32_0 : BitVec 32 := 1#32
  let c0_i32 : BitVec 32 := 0#32
  let c0_i32_1 : BitVec 32 := 0#32
  ![c1_i32_0.toNat, v2.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S256x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S128x6144 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S256x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference30Ideal.lean ====
abbrev S8192x12288 : Shape := ⟨2, ![8192, 12288]⟩
abbrev S8192x1024 : Shape := ⟨2, ![8192, 1024]⟩
abbrev S3x8192x1024 : Shape := ⟨3, ![3, 8192, 1024]⟩
abbrev S256x2048 : Shape := ⟨2, ![256, 2048]⟩
abbrev S32x1024 : Shape := ⟨2, ![32, 1024]⟩
abbrev S1x1024 : Shape := ⟨2, ![1, 1024]⟩
abbrev S8x1024 : Shape := ⟨2, ![8, 1024]⟩
abbrev S_ : Shape := ⟨0, ![]⟩
abbrev S2x1024 : Shape := ⟨2, ![2, 1024]⟩
abbrev S8194x1024 : Shape := ⟨2, ![8194, 1024]⟩
abbrev S1024 : Shape := ⟨1, ![1024]⟩
abbrev S1x8192x1024 : Shape := ⟨3, ![1, 8192, 1024]⟩
abbrev S8192x2048 : Shape := ⟨2, ![8192, 2048]⟩
abbrev S8192x7168 : Shape := ⟨2, ![8192, 7168]⟩
abbrev S3x1024 : Shape := ⟨2, ![3, 1024]⟩
abbrev S256x1024 : Shape := ⟨2, ![256, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x1024, .f32⟩
  | .hbm, ⟨2, _⟩ => ⟨S3x8192x1024, .f32⟩
  | .hbm, ⟨3, _⟩ => ⟨S256x2048, .bf16⟩
  | .hbm, ⟨4, _⟩ => ⟨S32x1024, .f32⟩
  | .hbm, ⟨5, _⟩ => ⟨S1x1024, .f32⟩
  | .hbm, ⟨6, _⟩ => ⟨S1x1024, .f32⟩
  | .hbm, ⟨7, _⟩ => ⟨S8x1024, .f32⟩
  | .hbm, ⟨8, _⟩ => ⟨S8192x12288, .bf16⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S2x1024, .f32⟩
  | .hbm, ⟨14, _⟩ => ⟨S8192x1024, .f32⟩
  | .hbm, ⟨15, _⟩ => ⟨S8194x1024, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S8194x1024, .f32⟩
  | .hbm, ⟨53, _⟩ => ⟨S1x1024, .f32⟩
  | .hbm, ⟨54, _⟩ => ⟨S_, .f32⟩
  | .hbm, ⟨55, _⟩ => ⟨S8x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S8194x1024, .f32⟩
  | .hbm, ⟨66, _⟩ => ⟨S8194x1024, .f32⟩
  | .hbm, ⟨67, _⟩ => ⟨S1x1024, .f32⟩
  | .hbm, ⟨68, _⟩ => ⟨S_, .f32⟩
  | .hbm, ⟨69, _⟩ => ⟨S8x1024, .f32⟩
  | .hbm, ⟨70, _⟩ => ⟨S8x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S8194x1024, .f32⟩
  | .hbm, ⟨81, _⟩ => ⟨S8194x1024, .f32⟩
  | .hbm, ⟨82, _⟩ => ⟨S1x1024, .f32⟩
  | .hbm, ⟨83, _⟩ => ⟨S_, .f32⟩
  | .hbm, ⟨84, _⟩ => ⟨S8x1024, .f32⟩
  | .hbm, ⟨85, _⟩ => ⟨S8x1024, .f32⟩
  | .hbm, ⟨86, _⟩ => ⟨S2x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S8192x2048, .f32⟩
  | .hbm, ⟨92, _⟩ => ⟨S_, .f32⟩
  | .hbm, ⟨93, _⟩ => ⟨S8192x7168, .f32⟩
  | .hbm, ⟨94, _⟩ => ⟨S8192x12288, .f32⟩
  | .hbm, ⟨95, _⟩ => ⟨S8192x12288, .bf16⟩
  | .hbm, ⟨96, _⟩ => ⟨S_, .f32⟩
  | .hbm, ⟨97, _⟩ => ⟨S3x1024, .f32⟩
  | .hbm, ⟨98, _⟩ => ⟨S3x1024, .f32⟩
  | .hbm, ⟨99, _⟩ => ⟨S_, .f32⟩
  | .hbm, ⟨100, _⟩ => ⟨S2x1024, .f32⟩
  | .hbm, ⟨101, _⟩ => ⟨S8x1024, .f32⟩
  | .hbm, ⟨102, _⟩ => ⟨S_, .f32⟩
  | .hbm, ⟨103, _⟩ => ⟨S256x2048, .f32⟩
  | .hbm, ⟨104, _⟩ => ⟨S_, .f32⟩
  | .hbm, ⟨105, _⟩ => ⟨S256x1024, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩

abbrev nD : Nat := 1
abbrev τ : Topo := Topo.v7x

variable {F : FTy → Type} [FloatOps F]
-- ==== Reference31Ideal.lean ====
abbrev S8192x12288 : Shape := ⟨2, ![8192, 12288]⟩
abbrev S8192x1024 : Shape := ⟨2, ![8192, 1024]⟩
abbrev S3x8192x1024 : Shape := ⟨3, ![3, 8192, 1024]⟩
abbrev S256x2048 : Shape := ⟨2, ![256, 2048]⟩
abbrev S32x1024 : Shape := ⟨2, ![32, 1024]⟩
abbrev S1x1024 : Shape := ⟨2, ![1, 1024]⟩
abbrev S8x1024 : Shape := ⟨2, ![8, 1024]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S1x8192x1024 : Shape := ⟨3, ![1, 8192, 1024]⟩
abbrev S4x256x256 : Shape := ⟨3, ![4, 256, 256]⟩
abbrev S8192x5120 : Shape := ⟨2, ![8192, 5120]⟩
abbrev S8192x6144 : Shape := ⟨2, ![8192, 6144]⟩

abbrev nBuf : Space → Nat
  | .hbm => 107
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x1024, .f32⟩
  | .hbm, ⟨2, _⟩ => ⟨S3x8192x1024, .f32⟩
  | .hbm, ⟨3, _⟩ => ⟨S256x2048, .bf16⟩
  | .hbm, ⟨4, _⟩ => ⟨S32x1024, .f32⟩
  | .hbm, ⟨5, _⟩ => ⟨S1x1024, .f32⟩
  | .hbm, ⟨6, _⟩ => ⟨S1x1024, .f32⟩
  | .hbm, ⟨7, _⟩ => ⟨S8x1024, .f32⟩
  | .hbm, ⟨8, _⟩ => ⟨S8192x12288, .bf16⟩
  | .hbm, ⟨9, _⟩ => ⟨S8192x1024, .f32⟩
  | .hbm, ⟨10, _⟩ => ⟨S256x2048, .f32⟩
  | .hbm, ⟨11, _⟩ => ⟨S8192x4x256, .f32⟩
  | .hbm, ⟨12, _⟩ => ⟨S256x1024, .f32⟩
  | .hbm, ⟨13, _⟩ => ⟨S256x4x256, .f32⟩
  | .hbm, ⟨14, _⟩ => ⟨S256x1024, .f32⟩
  | .hbm, ⟨15, _⟩ => ⟨S256x4x256, .f32⟩
  | .hbm, ⟨16, _⟩ => ⟨S4x8192x256, .f32⟩
  | .hbm, ⟨17, _⟩ => ⟨S_, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x256, .f32⟩
  | .hbm, ⟨24, _⟩ => ⟨S4x8192x256, .i1⟩
  | .hbm, ⟨25, _⟩ => ⟨S4x8192x256, .f32⟩
  | .hbm, ⟨26, _⟩ => ⟨S_, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S4x8192, .i1⟩
  | .hbm, ⟨37, _⟩ => ⟨S_, .f32⟩
  | .hbm, ⟨38, _⟩ => ⟨S4x8192, .f32⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S4x8192, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x256, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S4x8192x256, .f32⟩
  | .hbm, ⟨53, _⟩ => ⟨S4x8192x256, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x256x8192, .f32⟩
  | .hbm, ⟨59, _⟩ => ⟨S8192x4x256, .f32⟩
  | .hbm, ⟨60, _⟩ => ⟨S8192x1024, .f32⟩
  | .hbm, ⟨61, _⟩ => ⟨S1x8192x1024, .f32⟩
  | .hbm, ⟨62, _⟩ => ⟨S8192x1024, .f32⟩
  | .hbm, ⟨63, _⟩ => ⟨S8192x4x256, .f32⟩
  | .hbm, ⟨64, _⟩ => ⟨S4x256x8192, .f32⟩
  | .hbm, ⟨65, _⟩ => ⟨S4x8192x256, .f32⟩
  | .hbm, ⟨66, _⟩ => ⟨S4x256x256, .f32⟩
  | .hbm, ⟨67, _⟩ => ⟨S256x4x256, .f32⟩
  | .hbm, ⟨68, _⟩ => ⟨S4x8192x256, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S4x8192x1, .f32⟩
  | .hbm, ⟨75, _⟩ => ⟨S4x8192x256, .f32⟩
  | .hbm, ⟨76, _⟩ => ⟨S4x8192x256, .f32⟩
  | .hbm, ⟨77, _⟩ => ⟨S_, .f32⟩
  | .hbm, ⟨78, _⟩ => ⟨S4x8192, .f32⟩
  | .hbm, ⟨79, _⟩ => ⟨S4x8192x256, .f32⟩
  | .hbm, ⟨80, _⟩ => ⟨S4x8192x256, .f32⟩
  | .hbm, ⟨81, _⟩ => ⟨S4x8192x256, .f32⟩
  | .hbm, ⟨82, _⟩ => ⟨S_, .f32⟩
  | .hbm, ⟨83, _⟩ => ⟨S4x8192x256, .f32⟩
  | .hbm, ⟨84, _⟩ => ⟨S4x8192x256, .f32⟩
  | .hbm, ⟨85, _⟩ => ⟨S4x256x256, .f32⟩
  | .hbm, ⟨86, _⟩ => ⟨S256x4x256, .f32⟩
  | .hbm, ⟨87, _⟩ => ⟨S4x8192x256, .f32⟩
  | .hbm, ⟨88, _⟩ => ⟨S8192x4x256, .f32⟩
  | .hbm, ⟨89, _⟩ => ⟨S256x1024, .f32⟩
  | .hbm, ⟨90, _⟩ => ⟨S_, .f32⟩
  | .hbm, ⟨91, _⟩ => ⟨S256x2048, .f32⟩
  | .hbm, ⟨92, _⟩ => ⟨S256x1024, .f32⟩
  | .hbm, ⟨93, _⟩ => ⟨S_, .f32⟩
  | .hbm, ⟨94, _⟩ => ⟨S256x2048, .f32⟩
  | .hbm, ⟨95, _⟩ => ⟨S256x2048, .f32⟩
  | .hbm, ⟨96, _⟩ => ⟨S8192x1024, .f32⟩
  | .hbm, ⟨97, _⟩ => ⟨S_, .f32⟩
  | .hbm, ⟨98, _⟩ => ⟨S8192x5120, .f32⟩
  | .hbm, ⟨99, _⟩ => ⟨S_, .f32⟩
  | .hbm, ⟨100, _⟩ => ⟨S8192x6144, .f32⟩
  | .hbm, ⟨101, _⟩ => ⟨S8192x12288, .f32⟩
  | .hbm, ⟨102, _⟩ => ⟨S8192x12288, .bf16⟩
  | .hbm, ⟨103, _⟩ => ⟨S_, .f32⟩
  | .hbm, ⟨104, _⟩ => ⟨S256x1024, .f32⟩
  | .hbm, ⟨105, _⟩ => ⟨S_, .f32⟩
  | .hbm, ⟨106, _⟩ => ⟨S8x1024, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_13 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_17 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩

abbrev nD : Nat := 1
abbrev τ : Topo := Topo.v7x

variable {F : FTy → Type} [FloatOps F]
-- ==== Kernel2.lean ====
abbrev S8192x8192 : Shape := ⟨2, ![8192, 8192]⟩
abbrev S8192x2048 : Shape := ⟨2, ![8192, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x8192 : Shape := ⟨2, ![8192, 8192]⟩
abbrev S8192x2048 : Shape := ⟨2, ![8192, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S8192x2048, .bf16⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x2048 : Shape := ⟨2, ![8192, 2048]⟩
abbrev S8192x12288 : Shape := ⟨2, ![8192, 12288]⟩
abbrev S2048x12288 : Shape := ⟨2, ![2048, 12288]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x12288 : Shape := ⟨2, ![8192, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S_, .f32⟩
  | .hbm, ⟨3, _⟩ => ⟨S2048x12288, .f32⟩
  | .hbm, ⟨4, _⟩ => ⟨S8192x2048, .f32⟩
  | .hbm, ⟨5, _⟩ => ⟨S8192x12288, .f32⟩
  | .hbm, ⟨6, _⟩ => ⟨S8192x12288, .f32⟩
  | .hbm, ⟨7, _⟩ => ⟨S12288x2048, .f32⟩
  | .hbm, ⟨8, _⟩ => ⟨S2048x12288, .f32⟩
  | .hbm, ⟨9, _⟩ => ⟨S2048x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x12288 : Shape := ⟨2, ![8192, 12288]⟩
abbrev S2048x12288 : Shape := ⟨2, ![2048, 12288]⟩
abbrev S8x128 : Shape := ⟨2, ![8, 128]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S8x128, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x12288 : Shape := ⟨2, ![8192, 12288]⟩
abbrev S2048x12288 : Shape := ⟨2, ![2048, 12288]⟩
abbrev S8x128 : Shape := ⟨2, ![8, 128]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S8x128, .f32⟩
  | .hbm, ⟨3, _⟩ => ⟨S_, .f32⟩
  | .hbm, ⟨4, _⟩ => ⟨S8192x2048, .f32⟩
  | .hbm, ⟨5, _⟩ => ⟨S2048x12288, .f32⟩
  | .hbm, ⟨6, _⟩ => ⟨S8192x12288, .f32⟩
  | .hbm, ⟨7, _⟩ => ⟨S8192x12288, .f32⟩
  | .hbm, ⟨8, _⟩ => ⟨S8192x2048, .f32⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S2048x2048 : Shape := ⟨2, ![2048, 2048]⟩
abbrev S3x8192x2048 : Shape := ⟨3, ![3, 8192, 2048]⟩
abbrev S8192x12288 : Shape := ⟨2, ![8192, 12288]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S3x8192x2048, .bf16⟩
  | .hbm, ⟨3, _⟩ => ⟨S8192x12288, .f32⟩
  | .hbm, ⟨4, _⟩ => ⟨S3x8192x2048, .bf16⟩
  | .hbm, ⟨5, _⟩ => ⟨S8192x12288, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S8192x2048 : Shape := ⟨2, ![8192, 2048]⟩
abbrev S2048x2048 : Shape := ⟨2, ![2048, 2048]⟩
abbrev S3x8192x2048 : Shape := ⟨3, ![3, 8192, 2048]⟩
abbrev S8192x12288 : Shape := ⟨2, ![8192, 12288]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩
abbrev S1x8192x2048 : Shape := ⟨3, ![1, 8192, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S3x8192x2048, .bf16⟩
  | .hbm, ⟨3, _⟩ => ⟨S8192x12288, .f32⟩
  | .hbm, ⟨4, _⟩ => ⟨S3x8192x2048, .f32⟩
  | .hbm, ⟨5, _⟩ => ⟨S8192x6144, .f32⟩
  | .hbm, ⟨6, _⟩ => ⟨S8192x6144, .f32⟩
  | .hbm, ⟨7, _⟩ => ⟨S8192x6144, .f32⟩
  | .hbm, ⟨8, _⟩ => ⟨S_, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S8192x3x2048, .f32⟩
  | .hbm, ⟨19, _⟩ => ⟨S8192x1x2048, .f32⟩
  | .hbm, ⟨20, _⟩ => ⟨S8192x2048, .f32⟩
  | .hbm, ⟨21, _⟩ => ⟨S1x8192x2048, .f32⟩
  | .hbm, ⟨22, _⟩ => ⟨S8192x2048, .f32⟩
  | .hbm, ⟨23, _⟩ => ⟨S8192x2048, .f32⟩
  | .hbm, ⟨24, _⟩ => ⟨S8192x1x2048, .f32⟩
  | .hbm, ⟨25, _⟩ => ⟨S8192x2048, .f32⟩
  | .hbm, ⟨26, _⟩ => ⟨S1x8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x1x2048, .f32⟩
  | .hbm, ⟨31, _⟩ => ⟨S8192x2048, .f32⟩
  | .hbm, ⟨32, _⟩ => ⟨S1x8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S1x8192x2048, .f32⟩
  | .hbm, ⟨43, _⟩ => ⟨S_, .f32⟩
  | .hbm, ⟨44, _⟩ => ⟨S3x8192x2048, .f32⟩
  | .hbm, ⟨45, _⟩ => ⟨S8192x1x2048, .f32⟩
  | .hbm, ⟨46, _⟩ => ⟨S_, .f32⟩
  | .hbm, ⟨47, _⟩ => ⟨S8192x3x2048, .f32⟩
  | .hbm, ⟨48, _⟩ => ⟨S8192x2048, .f32⟩
  | .hbm, ⟨49, _⟩ => ⟨S8192x2048, .f32⟩
  | .hbm, ⟨50, _⟩ => ⟨S1x8192x2048, .f32⟩
  | .hbm, ⟨51, _⟩ => ⟨S_, .f32⟩
  | .hbm, ⟨52, _⟩ => ⟨S3x8192x2048, .f32⟩
  | .hbm, ⟨53, _⟩ => ⟨S3x8192x2048, .f32⟩
  | .hbm, ⟨54, _⟩ => ⟨S8192x1x2048, .f32⟩
  | .hbm, ⟨55, _⟩ => ⟨S_, .f32⟩
  | .hbm, ⟨56, _⟩ => ⟨S8192x3x2048, .f32⟩
  | .hbm, ⟨57, _⟩ => ⟨S8192x3x2048, .f32⟩
  | .hbm, ⟨58, _⟩ => ⟨S8192x2048, .f32⟩
  | .hbm, ⟨59, _⟩ => ⟨S8192x2048, .f32⟩
  | .hbm, ⟨60, _⟩ => ⟨S1x8192x2048, .f32⟩
  | .hbm, ⟨61, _⟩ => ⟨S_, .f32⟩
  | .hbm, ⟨62, _⟩ => ⟨S3x8192x2048, .f32⟩
  | .hbm, ⟨63, _⟩ => ⟨S3x8192x2048, .f32⟩
  | .hbm, ⟨64, _⟩ => ⟨S8192x1x2048, .f32⟩
  | .hbm, ⟨65, _⟩ => ⟨S_, .f32⟩
  | .hbm, ⟨66, _⟩ => ⟨S8192x3x2048, .f32⟩
  | .hbm, ⟨67, _⟩ => ⟨S8192x3x2048, .f32⟩
  | .hbm, ⟨68, _⟩ => ⟨S8192x6144, .f32⟩
  | .hbm, ⟨69, _⟩ => ⟨S8192x6144, .f32⟩
  | .hbm, ⟨70, _⟩ => ⟨S3x8192x2048, .bf16⟩
  | .hbm, ⟨71, _⟩ => ⟨S_, .i32⟩
  | .hbm, ⟨72, _⟩ => ⟨S_, .f32⟩
  | .hbm, ⟨73, _⟩ => ⟨S8192x12288, .f32⟩
  | .hbm, ⟨74, _⟩ => ⟨S8192x12288, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c : Ref sig .tc := ⟨.hbm, 71, rfl⟩
abbrev main_call0_v0 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x2048 : Shape := ⟨2, ![2048, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S8192x8192 : Shape := ⟨2, ![8192, 8192]⟩
abbrev S8192x2048 : Shape := ⟨2, ![8192, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x8192 : Shape := ⟨2, ![8192, 8192]⟩
abbrev S2048x8192 : Shape := ⟨2, ![2048, 8192]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S8192x8192 : Shape := ⟨2, ![8192, 8192]⟩
abbrev S2048x8192 : Shape := ⟨2, ![2048, 8192]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x2048, .f32⟩
  | .hbm, ⟨3, _⟩ => ⟨S2048x12288, .f32⟩
  | .hbm, ⟨4, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x8192 : Shape := ⟨2, ![8192, 8192]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x8192 : Shape := ⟨2, ![8192, 8192]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x8192, .f32⟩
  | .hbm, ⟨3, _⟩ => ⟨S8192x2048, .f32⟩
  | .hbm, ⟨4, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S3x8192x2048 : Shape := ⟨3, ![3, 8192, 2048]⟩
abbrev S3x1024x2048 : Shape := ⟨3, ![3, 1024, 2048]⟩
abbrev S3x8192x1024 : Shape := ⟨3, ![3, 8192, 1024]⟩
abbrev S1x1024x2048 : Shape := ⟨3, ![1, 1024, 2048]⟩
abbrev S1x1024x1024 : Shape := ⟨3, ![1, 1024, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S3x8192x2048, .bf16⟩
  | .hbm, ⟨1, _⟩ => ⟨S3x1024x2048, .bf16⟩
  | .hbm, ⟨2, _⟩ => ⟨S3x8192x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x1024, .f32⟩
  | .local _ .vmem, ⟨5, _⟩ => ⟨S1x1024x1024, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 8, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference13Ideal.lean ====
abbrev S3x8192x2048 : Shape := ⟨3, ![3, 8192, 2048]⟩
abbrev S3x1024x2048 : Shape := ⟨3, ![3, 1024, 2048]⟩
abbrev S_ : Shape := ⟨0, ![]⟩
abbrev S8192x1024 : Shape := ⟨2, ![8192, 1024]⟩
abbrev S1x1024x2048 : Shape := ⟨3, ![1, 1024, 2048]⟩
abbrev S1024x2048 : Shape := ⟨2, ![1024, 2048]⟩
abbrev S8192x2048 : Shape := ⟨2, ![8192, 2048]⟩
abbrev S1x8192x2048 : Shape := ⟨3, ![1, 8192, 2048]⟩
abbrev S1x8192x1024 : Shape := ⟨3, ![1, 8192, 1024]⟩
abbrev S3x8192x1024 : Shape := ⟨3, ![3, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S3x8192x2048, .bf16⟩
  | .hbm, ⟨1, _⟩ => ⟨S3x1024x2048, .bf16⟩
  | .hbm, ⟨2, _⟩ => ⟨S_, .f32⟩
  | .hbm, ⟨3, _⟩ => ⟨S8192x1024, .f32⟩
  | .hbm, ⟨4, _⟩ => ⟨S1x1024x2048, .bf16⟩
  | .hbm, ⟨5, _⟩ => ⟨S1024x2048, .bf16⟩
  | .hbm, ⟨6, _⟩ => ⟨S1024x2048, .f32⟩
  | .hbm, ⟨7, _⟩ => ⟨S8192x2048, .f32⟩
  | .hbm, ⟨8, _⟩ => ⟨S1x1024x2048, .bf16⟩
  | .hbm, ⟨9, _⟩ => ⟨S1024x2048, .bf16⟩
  | .hbm, ⟨10, _⟩ => ⟨S1024x2048, .f32⟩
  | .hbm, ⟨11, _⟩ => ⟨S8192x2048, .f32⟩
  | .hbm, ⟨12, _⟩ => ⟨S1x1024x2048, .bf16⟩
  | .hbm, ⟨13, _⟩ => ⟨S1024x2048, .bf16⟩
  | .hbm, ⟨14, _⟩ => ⟨S1024x2048, .f32⟩
  | .hbm, ⟨15, _⟩ => ⟨S8192x2048, .f32⟩
  | .hbm, ⟨16, _⟩ => ⟨S3x8192x2048, .f32⟩
  | .hbm, ⟨17, _⟩ => ⟨S1x8192x2048, .f32⟩
  | .hbm, ⟨18, _⟩ => ⟨S8192x2048, .f32⟩
  | .hbm, ⟨19, _⟩ => ⟨S1x8192x2048, .f32⟩
  | .hbm, ⟨20, _⟩ => ⟨S8192x2048, .f32⟩
  | .hbm, ⟨21, _⟩ => ⟨S1x8192x2048, .f32⟩
  | .hbm, ⟨22, _⟩ => ⟨S8192x2048, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S3x8192x1024, .f32⟩
  | _, _ => ⟨S3x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Kernel14.lean ====
abbrev S3x8192x1024 : Shape := ⟨3, ![3, 8192, 1024]⟩
abbrev S3x8192x2048 : Shape := ⟨3, ![3, 8192, 2048]⟩
abbrev S3x1024x2048 : Shape := ⟨3, ![3, 1024, 2048]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x8192x1024, .bf16⟩
  | .hbm, ⟨1, _⟩ => ⟨S3x8192x2048, .bf16⟩
  | .hbm, ⟨2, _⟩ => ⟨S3x1024x2048, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 1, 2, 2], ![false, false, false, false]⟩

def k0_cond3 (i : grid0.Coords) : BitVec 1 :=
  let arg3 : BitVec 32 := BitVec.ofNat 32 (i 3).val
  let c1_i32 : BitVec 32 := 1#32
  let v11 : BitVec 1 := Scalar.cmpi .eq arg3 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference14Ideal.lean ====
abbrev S3x8192x1024 : Shape := ⟨3, ![3, 8192, 1024]⟩
abbrev S3x8192x2048 : Shape := ⟨3, ![3, 8192, 2048]⟩
abbrev S_ : Shape := ⟨0, ![]⟩
abbrev S1024x2048 : Shape := ⟨2, ![1024, 2048]⟩
abbrev S1x8192x1024 : Shape := ⟨3, ![1, 8192, 1024]⟩
abbrev S8192x1024 : Shape := ⟨2, ![8192, 1024]⟩
abbrev S8192x2048 : Shape := ⟨2, ![8192, 2048]⟩
abbrev S1x8192x2048 : Shape := ⟨3, ![1, 8192, 2048]⟩
abbrev S2048x1024 : Shape := ⟨2, ![2048, 1024]⟩
abbrev S1x1024x2048 : Shape := ⟨3, ![1, 1024, 2048]⟩
abbrev S3x1024x2048 : Shape := ⟨3, ![3, 1024, 2048]⟩

abbrev nBuf : Space → Nat
  | .hbm => 32
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S3x8192x2048, .bf16⟩
  | .hbm, ⟨2, _⟩ => ⟨S3x8192x1024, .f32⟩
  | .hbm, ⟨3, _⟩ => ⟨S_, .f32⟩
  | .hbm, ⟨4, _⟩ => ⟨S1024x2048, .f32⟩
  | .hbm, ⟨5, _⟩ => ⟨S1x8192x1024, .f32⟩
  | .hbm, ⟨6, _⟩ => ⟨S8192x1024, .f32⟩
  | .hbm, ⟨7, _⟩ => ⟨S8192x2048, .f32⟩
  | .hbm, ⟨8, _⟩ => ⟨S1x8192x1024, .f32⟩
  | .hbm, ⟨9, _⟩ => ⟨S8192x1024, .f32⟩
  | .hbm, ⟨10, _⟩ => ⟨S8192x2048, .f32⟩
  | .hbm, ⟨11, _⟩ => ⟨S1x8192x1024, .f32⟩
  | .hbm, ⟨12, _⟩ => ⟨S8192x1024, .f32⟩
  | .hbm, ⟨13, _⟩ => ⟨S8192x2048, .f32⟩
  | .hbm, ⟨14, _⟩ => ⟨S3x8192x2048, .f32⟩
  | .hbm, ⟨15, _⟩ => ⟨S1x8192x2048, .f32⟩
  | .hbm, ⟨16, _⟩ => ⟨S8192x2048, .f32⟩
  | .hbm, ⟨17, _⟩ => ⟨S1x8192x2048, .f32⟩
  | .hbm, ⟨18, _⟩ => ⟨S8192x2048, .f32⟩
  | .hbm, ⟨19, _⟩ => ⟨S1x8192x2048, .f32⟩
  | .hbm, ⟨20, _⟩ => ⟨S8192x2048, .f32⟩
  | .hbm, ⟨21, _⟩ => ⟨S2048x1024, .f32⟩
  | .hbm, ⟨22, _⟩ => ⟨S1024x2048, .f32⟩
  | .hbm, ⟨23, _⟩ => ⟨S2048x1024, .f32⟩
  | .hbm, ⟨24, _⟩ => ⟨S1024x2048, .f32⟩
  | .hbm, ⟨25, _⟩ => ⟨S2048x1024, .f32⟩
  | .hbm, ⟨26, _⟩ => ⟨S1024x2048, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S3x1024x2048, .f32⟩
  | .hbm, ⟨31, _⟩ => ⟨S3x1024x2048, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S3x8192x1024 : Shape := ⟨3, ![3, 8192, 1024]⟩
abbrev S3x1024x2048 : Shape := ⟨3, ![3, 1024, 2048]⟩
abbrev S8192x12288 : Shape := ⟨2, ![8192, 12288]⟩
abbrev S2048x2048 : Shape := ⟨2, ![2048, 2048]⟩
abbrev S3x8192x2048 : Shape := ⟨3, ![3, 8192, 2048]⟩
abbrev S8192x2048 : Shape := ⟨2, ![8192, 2048]⟩
abbrev S1x1024x1024 : Shape := ⟨3, ![1, 1024, 1024]⟩
abbrev S1024x1024 : Shape := ⟨2, ![1024, 1024]⟩

abbrev nBuf : Space → Nat
  | .hbm => 6
  | .vmem => 11
  | .smem => 0
  | _ => 0

abbrev bufTy : (tb : Table) → Fin (tcTables nBuf tb) → BufTy
  | .hbm, ⟨0, _⟩ => ⟨S3x8192x1024, .bf16⟩
  | .hbm, ⟨1, _⟩ => ⟨S3x1024x2048, .bf16⟩
  | .hbm, ⟨2, _⟩ => ⟨S8192x12288, .f32⟩
  | .hbm, ⟨3, _⟩ => ⟨S2048x2048, .bf16⟩
  | .hbm, ⟨4, _⟩ => ⟨S3x8192x2048, .bf16⟩
  | .hbm, ⟨5, _⟩ => ⟨S8192x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v18 : BitVec 1 := Scalar.cmpi .eq arg2 c2_i32
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c6_i32 : BitVec 32 := 6#32
  let v1 : BitVec 32 := Scalar.addi c6_i32 v0
  let v2 : BitVec 32 := Scalar.addi v1 arg1
  let c0_i32 : BitVec 32 := 0#32
  ![arg0.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference16Ideal.lean ====
abbrev S3x8192x1024 : Shape := ⟨3, ![3, 8192, 1024]⟩
abbrev S3x1024x2048 : Shape := ⟨3, ![3, 1024, 2048]⟩
abbrev S8192x12288 : Shape := ⟨2, ![8192, 12288]⟩
abbrev S2048x2048 : Shape := ⟨2, ![2048, 2048]⟩
abbrev S1x8192x1024 : Shape := ⟨3, ![1, 8192, 1024]⟩
abbrev S8192x1024 : Shape := ⟨2, ![8192, 1024]⟩
abbrev S1x1024x2048 : Shape := ⟨3, ![1, 1024, 2048]⟩
abbrev S1024x2048 : Shape := ⟨2, ![1024, 2048]⟩
abbrev S8192x2048 : Shape := ⟨2, ![8192, 2048]⟩
abbrev S8192x6144 : Shape := ⟨2, ![8192, 6144]⟩
abbrev S_ : Shape := ⟨0, ![]⟩
abbrev S8192x3x2048 : Shape := ⟨3, ![8192, 3, 2048]⟩
abbrev S8192x1x2048 : Shape := ⟨3, ![8192, 1, 2048]⟩
abbrev S1x8192x2048 : Shape := ⟨3, ![1, 8192, 2048]⟩
abbrev S3x8192x2048 : Shape := ⟨3, ![3, 8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S3x1024x2048, .bf16⟩
  | .hbm, ⟨2, _⟩ => ⟨S8192x12288, .f32⟩
  | .hbm, ⟨3, _⟩ => ⟨S2048x2048, .bf16⟩
  | .hbm, ⟨4, _⟩ => ⟨S1x8192x1024, .bf16⟩
  | .hbm, ⟨5, _⟩ => ⟨S8192x1024, .bf16⟩
  | .hbm, ⟨6, _⟩ => ⟨S8192x1024, .f32⟩
  | .hbm, ⟨7, _⟩ => ⟨S1x1024x2048, .bf16⟩
  | .hbm, ⟨8, _⟩ => ⟨S1024x2048, .bf16⟩
  | .hbm, ⟨9, _⟩ => ⟨S1024x2048, .f32⟩
  | .hbm, ⟨10, _⟩ => ⟨S8192x2048, .f32⟩
  | .hbm, ⟨11, _⟩ => ⟨S1x8192x1024, .bf16⟩
  | .hbm, ⟨12, _⟩ => ⟨S8192x1024, .bf16⟩
  | .hbm, ⟨13, _⟩ => ⟨S8192x1024, .f32⟩
  | .hbm, ⟨14, _⟩ => ⟨S1x1024x2048, .bf16⟩
  | .hbm, ⟨15, _⟩ => ⟨S1024x2048, .bf16⟩
  | .hbm, ⟨16, _⟩ => ⟨S1024x2048, .f32⟩
  | .hbm, ⟨17, _⟩ => ⟨S8192x2048, .f32⟩
  | .hbm, ⟨18, _⟩ => ⟨S1x8192x1024, .bf16⟩
  | .hbm, ⟨19, _⟩ => ⟨S8192x1024, .bf16⟩
  | .hbm, ⟨20, _⟩ => ⟨S8192x1024, .f32⟩
  | .hbm, ⟨21, _⟩ => ⟨S1x1024x2048, .bf16⟩
  | .hbm, ⟨22, _⟩ => ⟨S1024x2048, .bf16⟩
  | .hbm, ⟨23, _⟩ => ⟨S1024x2048, .f32⟩
  | .hbm, ⟨24, _⟩ => ⟨S8192x2048, .f32⟩
  | .hbm, ⟨25, _⟩ => ⟨S8192x6144, .f32⟩
  | .hbm, ⟨26, _⟩ => ⟨S8192x6144, .f32⟩
  | .hbm, ⟨27, _⟩ => ⟨S8192x6144, .f32⟩
  | .hbm, ⟨28, _⟩ => ⟨S_, .f32⟩
  | .hbm, ⟨29, _⟩ => ⟨S8192x6144, .f32⟩
  | .hbm, ⟨30, _⟩ => ⟨S8192x6144, .f32⟩
  | .hbm, ⟨31, _⟩ => ⟨S_, .f32⟩
  | .hbm, ⟨32, _⟩ => ⟨S8192x6144, .f32⟩
  | .hbm, ⟨33, _⟩ => ⟨S8192x6144, .f32⟩
  | .hbm, ⟨34, _⟩ => ⟨S8192x3x2048, .f32⟩
  | .hbm, ⟨35, _⟩ => ⟨S8192x1x2048, .f32⟩
  | .hbm, ⟨36, _⟩ => ⟨S8192x2048, .f32⟩
  | .hbm, ⟨37, _⟩ => ⟨S8192x2048, .f32⟩
  | .hbm, ⟨38, _⟩ => ⟨S8192x1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x8192x2048, .f32⟩
  | .hbm, ⟨47, _⟩ => ⟨S1x8192x2048, .f32⟩
  | .hbm, ⟨48, _⟩ => ⟨S1x8192x2048, .f32⟩
  | .hbm, ⟨49, _⟩ => ⟨S3x8192x2048, .f32⟩
  | .hbm, ⟨50, _⟩ => ⟨S3x8192x2048, .bf16⟩
  | .hbm, ⟨51, _⟩ => ⟨S8192x2048, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Kernel20.lean ====
abbrev S1x64x1024 : Shape := ⟨3, ![1, 64, 1024]⟩
abbrev S8x128 : Shape := ⟨2, ![8, 128]⟩
abbrev S64x1024 : Shape := ⟨2, ![64, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x64x1024, .f32⟩
  | .hbm, ⟨1, _⟩ => ⟨S1x64x1024, .f32⟩
  | .hbm, ⟨2, _⟩ => ⟨S1x64x1024, .f32⟩
  | .hbm, ⟨3, _⟩ => ⟨S1x64x1024, .f32⟩
  | .hbm, ⟨4, _⟩ => ⟨S1x64x1024, .f32⟩
  | .hbm, ⟨5, _⟩ => ⟨S1x64x1024, .f32⟩
  | .hbm, ⟨6, _⟩ => ⟨S1x64x1024, .f32⟩
  | .hbm, ⟨7, _⟩ => ⟨S1x64x1024, .f32⟩
  | .hbm, ⟨8, _⟩ => ⟨S8x128, .f32⟩
  | .hbm, ⟨9, _⟩ => ⟨S1x64x1024, .f32⟩
  | .hbm, ⟨10, _⟩ => ⟨S1x64x1024, .f32⟩
  | .hbm, ⟨11, _⟩ => ⟨S1x64x1024, .f32⟩
  | .hbm, ⟨12, _⟩ => ⟨S1x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | _, _ => ⟨S1x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S1x64x1024 : Shape := ⟨3, ![1, 64, 1024]⟩
abbrev S8x128 : Shape := ⟨2, ![8, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x64x1024, .f32⟩
  | .hbm, ⟨1, _⟩ => ⟨S1x64x1024, .f32⟩
  | .hbm, ⟨2, _⟩ => ⟨S1x64x1024, .f32⟩
  | .hbm, ⟨3, _⟩ => ⟨S1x64x1024, .f32⟩
  | .hbm, ⟨4, _⟩ => ⟨S1x64x1024, .f32⟩
  | .hbm, ⟨5, _⟩ => ⟨S1x64x1024, .f32⟩
  | .hbm, ⟨6, _⟩ => ⟨S1x64x1024, .f32⟩
  | .hbm, ⟨7, _⟩ => ⟨S1x64x1024, .f32⟩
  | .hbm, ⟨8, _⟩ => ⟨S8x128, .f32⟩
  | .hbm, ⟨9, _⟩ => ⟨S_, .f32⟩
  | .hbm, ⟨10, _⟩ => ⟨S1x64x1024, .f32⟩
  | .hbm, ⟨11, _⟩ => ⟨S1x64x1024, .f32⟩
  | .hbm, ⟨12, _⟩ => ⟨S_, .f32⟩
  | .hbm, ⟨13, _⟩ => ⟨S1x64x1024, .f32⟩
  | .hbm, ⟨14, _⟩ => ⟨S1x64x1024, .f32⟩
  | .hbm, ⟨15, _⟩ => ⟨S1x64x1024, .f32⟩
  | .hbm, ⟨16, _⟩ => ⟨S_, .f32⟩
  | .hbm, ⟨17, _⟩ => ⟨S1x64x1024, .f32⟩
  | .hbm, ⟨18, _⟩ => ⟨S1x64x1024, .f32⟩
  | .hbm, ⟨19, _⟩ => ⟨S1x64x1024, .f32⟩
  | .hbm, ⟨20, _⟩ => ⟨S_, .f32⟩
  | .hbm, ⟨21, _⟩ => ⟨S1x64x1024, .f32⟩
  | .hbm, ⟨22, _⟩ => ⟨S1x64x1024, .f32⟩
  | .hbm, ⟨23, _⟩ => ⟨S1x64x1024, .f32⟩
  | .hbm, ⟨24, _⟩ => ⟨S_, .f32⟩
  | .hbm, ⟨25, _⟩ => ⟨S1x64x1024, .f32⟩
  | .hbm, ⟨26, _⟩ => ⟨S1x64x1024, .f32⟩
  | .hbm, ⟨27, _⟩ => ⟨S_, .f32⟩
  | .hbm, ⟨28, _⟩ => ⟨S1x64x1024, .f32⟩
  | .hbm, ⟨29, _⟩ => ⟨S1x64x1024, .f32⟩
  | .hbm, ⟨30, _⟩ => ⟨S1x64x1024, .f32⟩
  | .hbm, ⟨31, _⟩ => ⟨S_, .f32⟩
  | .hbm, ⟨32, _⟩ => ⟨S1x64x1024, .f32⟩
  | .hbm, ⟨33, _⟩ => ⟨S1x64x1024, .f32⟩
  | .hbm, ⟨34, _⟩ => ⟨S1x64x1024, .f32⟩
  | .hbm, ⟨35, _⟩ => ⟨S_, .f32⟩
  | .hbm, ⟨36, _⟩ => ⟨S1x64x1024, .f32⟩
  | .hbm, ⟨37, _⟩ => ⟨S1x64x1024, .f32⟩
  | .hbm, ⟨38, _⟩ => ⟨S1x64x1024, .f32⟩
  | .hbm, ⟨39, _⟩ => ⟨S_, .f32⟩
  | .hbm, ⟨40, _⟩ => ⟨S1x64x1024, .f32⟩
  | .hbm, ⟨41, _⟩ => ⟨S1x64x1024, .f32⟩
  | _, _ => ⟨S1x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel21.lean ====
abbrev S1x124x128 : Shape := ⟨3, ![1, 124, 128]⟩
abbrev S8x128 : Shape := ⟨2, ![8, 128]⟩
abbrev S124x128 : Shape := ⟨2, ![124, 128]⟩

abbrev nBuf : Space → Nat
  | .hbm => 13
  | .vmem => 8
  | .smem => 0
  | _ => 0

abbrev bufTy : (tb : Table) → Fin (tcTables nBuf tb) → BufTy
  | .hbm, ⟨0, _⟩ => ⟨S1x124x128, .f32⟩
  | .hbm, ⟨1, _⟩ => ⟨S1x124x128, .f32⟩
  | .hbm, ⟨2, _⟩ => ⟨S1x124x128, .f32⟩
  | .hbm, ⟨3, _⟩ => ⟨S1x124x128, .f32⟩
  | .hbm, ⟨4, _⟩ => ⟨S1x124x128, .f32⟩
  | .hbm, ⟨5, _⟩ => ⟨S1x124x128, .f32⟩
  | .hbm, ⟨6, _⟩ => ⟨S1x124x128, .f32⟩
  | .hbm, ⟨7, _⟩ => ⟨S1x124x128, .f32⟩
  | .hbm, ⟨8, _⟩ => ⟨S8x128, .f32⟩
  | .hbm, ⟨9, _⟩ => ⟨S1x124x128, .f32⟩
  | .hbm, ⟨10, _⟩ => ⟨S1x124x128, .f32⟩
  | .hbm, ⟨11, _⟩ => ⟨S1x124x128, .f32⟩
  | .hbm, ⟨12, _⟩ => ⟨S1x124x128, .f32⟩
  | .local _ .vmem, ⟨0, _⟩ => ⟨S1x124x128, .f32⟩
  | .local _ .vmem, ⟨1, _⟩ => ⟨S1x124x128, .f32⟩
  | .local _ .vmem, ⟨2, _⟩ => ⟨S1x124x128, .f32⟩
  | .local _ .vmem, ⟨3, _⟩ => ⟨S1x124x128, .f32⟩
  | .local _ .vmem, ⟨4, _⟩ => ⟨S1x124x128, .f32⟩
  | .local _ .vmem, ⟨5, _⟩ => ⟨S1x124x128, .f32⟩
  | .local _ .vmem, ⟨6, _⟩ => ⟨S1x124x128, .f32⟩
  | .local _ .vmem, ⟨7, _⟩ => ⟨S1x124x128, .f32⟩
  | _, _ => ⟨S1x124x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x124x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x124x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x124x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x124x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x124x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x124x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x124x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x124x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S1x124x128 : Shape := ⟨3, ![1, 124, 128]⟩
abbrev S8x128 : Shape := ⟨2, ![8, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x124x128, .f32⟩
  | .hbm, ⟨1, _⟩ => ⟨S1x124x128, .f32⟩
  | .hbm, ⟨2, _⟩ => ⟨S1x124x128, .f32⟩
  | .hbm, ⟨3, _⟩ => ⟨S1x124x128, .f32⟩
  | .hbm, ⟨4, _⟩ => ⟨S1x124x128, .f32⟩
  | .hbm, ⟨5, _⟩ => ⟨S1x124x128, .f32⟩
  | .hbm, ⟨6, _⟩ => ⟨S1x124x128, .f32⟩
  | .hbm, ⟨7, _⟩ => ⟨S1x124x128, .f32⟩
  | .hbm, ⟨8, _⟩ => ⟨S8x128, .f32⟩
  | .hbm, ⟨9, _⟩ => ⟨S_, .f32⟩
  | .hbm, ⟨10, _⟩ => ⟨S1x124x128, .f32⟩
  | .hbm, ⟨11, _⟩ => ⟨S1x124x128, .f32⟩
  | .hbm, ⟨12, _⟩ => ⟨S_, .f32⟩
  | .hbm, ⟨13, _⟩ => ⟨S1x124x128, .f32⟩
  | .hbm, ⟨14, _⟩ => ⟨S1x124x128, .f32⟩
  | .hbm, ⟨15, _⟩ => ⟨S1x124x128, .f32⟩
  | .hbm, ⟨16, _⟩ => ⟨S_, .f32⟩
  | .hbm, ⟨17, _⟩ => ⟨S1x124x128, .f32⟩
  | .hbm, ⟨18, _⟩ => ⟨S1x124x128, .f32⟩
  | .hbm, ⟨19, _⟩ => ⟨S1x124x128, .f32⟩
  | .hbm, ⟨20, _⟩ => ⟨S_, .f32⟩
  | .hbm, ⟨21, _⟩ => ⟨S1x124x128, .f32⟩
  | .hbm, ⟨22, _⟩ => ⟨S1x124x128, .f32⟩
  | .hbm, ⟨23, _⟩ => ⟨S1x124x128, .f32⟩
  | .hbm, ⟨24, _⟩ => ⟨S_, .f32⟩
  | .hbm, ⟨25, _⟩ => ⟨S1x124x128, .f32⟩
  | .hbm, ⟨26, _⟩ => ⟨S1x124x128, .f32⟩
  | .hbm, ⟨27, _⟩ => ⟨S_, .f32⟩
  | .hbm, ⟨28, _⟩ => ⟨S1x124x128, .f32⟩
  | .hbm, ⟨29, _⟩ => ⟨S1x124x128, .f32⟩
  | .hbm, ⟨30, _⟩ => ⟨S1x124x128, .f32⟩
  | .hbm, ⟨31, _⟩ => ⟨S_, .f32⟩
  | .hbm, ⟨32, _⟩ => ⟨S1x124x128, .f32⟩
  | .hbm, ⟨33, _⟩ => ⟨S1x124x128, .f32⟩
  | .hbm, ⟨34, _⟩ => ⟨S1x124x128, .f32⟩
  | .hbm, ⟨35, _⟩ => ⟨S_, .f32⟩
  | .hbm, ⟨36, _⟩ => ⟨S1x124x128, .f32⟩
  | .hbm, ⟨37, _⟩ => ⟨S1x124x128, .f32⟩
  | .hbm, ⟨38, _⟩ => ⟨S1x124x128, .f32⟩
  | .hbm, ⟨39, _⟩ => ⟨S_, .f32⟩
  | .hbm, ⟨40, _⟩ => ⟨S1x124x128, .f32⟩
  | .hbm, ⟨41, _⟩ => ⟨S1x124x128, .f32⟩
  | _, _ => ⟨S1x124x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel22.lean ====
abbrev S1x12x128 : Shape := ⟨3, ![1, 12, 128]⟩
abbrev S8x128 : Shape := ⟨2, ![8, 128]⟩
abbrev S12x128 : Shape := ⟨2, ![12, 128]⟩

abbrev nBuf : Space → Nat
  | .hbm => 13
  | .vmem => 8
  | .smem => 0
  | _ => 0

abbrev bufTy : (tb : Table) → Fin (tcTables nBuf tb) → BufTy
  | .hbm, ⟨0, _⟩ => ⟨S1x12x128, .f32⟩
  | .hbm, ⟨1, _⟩ => ⟨S1x12x128, .f32⟩
  | .hbm, ⟨2, _⟩ => ⟨S1x12x128, .f32⟩
  | .hbm, ⟨3, _⟩ => ⟨S1x12x128, .f32⟩
  | .hbm, ⟨4, _⟩ => ⟨S1x12x128, .f32⟩
  | .hbm, ⟨5, _⟩ => ⟨S1x12x128, .f32⟩
  | .hbm, ⟨6, _⟩ => ⟨S1x12x128, .f32⟩
  | .hbm, ⟨7, _⟩ => ⟨S1x12x128, .f32⟩
  | .hbm, ⟨8, _⟩ => ⟨S8x128, .f32⟩
  | .hbm, ⟨9, _⟩ => ⟨S1x12x128, .f32⟩
  | .hbm, ⟨10, _⟩ => ⟨S1x12x128, .f32⟩
  | .hbm, ⟨11, _⟩ => ⟨S1x12x128, .f32⟩
  | .hbm, ⟨12, _⟩ => ⟨S1x12x128, .f32⟩
  | .local _ .vmem, ⟨0, _⟩ => ⟨S1x12x128, .f32⟩
  | .local _ .vmem, ⟨1, _⟩ => ⟨S1x12x128, .f32⟩
  | .local _ .vmem, ⟨2, _⟩ => ⟨S1x12x128, .f32⟩
  | .local _ .vmem, ⟨3, _⟩ => ⟨S1x12x128, .f32⟩
  | .local _ .vmem, ⟨4, _⟩ => ⟨S1x12x128, .f32⟩
  | .local _ .vmem, ⟨5, _⟩ => ⟨S1x12x128, .f32⟩
  | .local _ .vmem, ⟨6, _⟩ => ⟨S1x12x128, .f32⟩
  | .local _ .vmem, ⟨7, _⟩ => ⟨S1x12x128, .f32⟩
  | _, _ => ⟨S1x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S1x12x128 : Shape := ⟨3, ![1, 12, 128]⟩
abbrev S8x128 : Shape := ⟨2, ![8, 128]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1x12x128, .f32⟩
  | .hbm, ⟨1, _⟩ => ⟨S1x12x128, .f32⟩
  | .hbm, ⟨2, _⟩ => ⟨S1x12x128, .f32⟩
  | .hbm, ⟨3, _⟩ => ⟨S1x12x128, .f32⟩
  | .hbm, ⟨4, _⟩ => ⟨S1x12x128, .f32⟩
  | .hbm, ⟨5, _⟩ => ⟨S1x12x128, .f32⟩
  | .hbm, ⟨6, _⟩ => ⟨S1x12x128, .f32⟩
  | .hbm, ⟨7, _⟩ => ⟨S1x12x128, .f32⟩
  | .hbm, ⟨8, _⟩ => ⟨S8x128, .f32⟩
  | .hbm, ⟨9, _⟩ => ⟨S_, .f32⟩
  | .hbm, ⟨10, _⟩ => ⟨S1x12x128, .f32⟩
  | .hbm, ⟨11, _⟩ => ⟨S1x12x128, .f32⟩
  | .hbm, ⟨12, _⟩ => ⟨S_, .f32⟩
  | .hbm, ⟨13, _⟩ => ⟨S1x12x128, .f32⟩
  | .hbm, ⟨14, _⟩ => ⟨S1x12x128, .f32⟩
  | .hbm, ⟨15, _⟩ => ⟨S1x12x128, .f32⟩
  | .hbm, ⟨16, _⟩ => ⟨S_, .f32⟩
  | .hbm, ⟨17, _⟩ => ⟨S1x12x128, .f32⟩
  | .hbm, ⟨18, _⟩ => ⟨S1x12x128, .f32⟩
  | .hbm, ⟨19, _⟩ => ⟨S1x12x128, .f32⟩
  | .hbm, ⟨20, _⟩ => ⟨S_, .f32⟩
  | .hbm, ⟨21, _⟩ => ⟨S1x12x128, .f32⟩
  | .hbm, ⟨22, _⟩ => ⟨S1x12x128, .f32⟩
  | .hbm, ⟨23, _⟩ => ⟨S1x12x128, .f32⟩
  | .hbm, ⟨24, _⟩ => ⟨S_, .f32⟩
  | .hbm, ⟨25, _⟩ => ⟨S1x12x128, .f32⟩
  | .hbm, ⟨26, _⟩ => ⟨S1x12x128, .f32⟩
  | .hbm, ⟨27, _⟩ => ⟨S_, .f32⟩
  | .hbm, ⟨28, _⟩ => ⟨S1x12x128, .f32⟩
  | .hbm, ⟨29, _⟩ => ⟨S1x12x128, .f32⟩
  | .hbm, ⟨30, _⟩ => ⟨S1x12x128, .f32⟩
  | .hbm, ⟨31, _⟩ => ⟨S_, .f32⟩
  | .hbm, ⟨32, _⟩ => ⟨S1x12x128, .f32⟩
  | .hbm, ⟨33, _⟩ => ⟨S1x12x128, .f32⟩
  | .hbm, ⟨34, _⟩ => ⟨S1x12x128, .f32⟩
  | .hbm, ⟨35, _⟩ => ⟨S_, .f32⟩
  | .hbm, ⟨36, _⟩ => ⟨S1x12x128, .f32⟩
  | .hbm, ⟨37, _⟩ => ⟨S1x12x128, .f32⟩
  | .hbm, ⟨38, _⟩ => ⟨S1x12x128, .f32⟩
  | .hbm, ⟨39, _⟩ => ⟨S_, .f32⟩
  | .hbm, ⟨40, _⟩ => ⟨S1x12x128, .f32⟩
  | .hbm, ⟨41, _⟩ => ⟨S1x12x128, .f32⟩
  | _, _ => ⟨S1x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Kernel23.lean ====
abbrev S8x2048x1536 : Shape := ⟨3, ![8, 2048, 1536]⟩
abbrev S4x2048x1536 : Shape := ⟨3, ![4, 2048, 1536]⟩
abbrev S8x128 : Shape := ⟨2, ![8, 128]⟩
abbrev S8x256x1536 : Shape := ⟨3, ![8, 256, 1536]⟩
abbrev S1x256x1536 : Shape := ⟨3, ![1, 256, 1536]⟩
abbrev S256x1536 : Shape := ⟨2, ![256, 1536]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x1536, .bf16⟩
  | .hbm, ⟨1, _⟩ => ⟨S4x2048x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .hbm, ⟨7, _⟩ => ⟨S4x2048x1536, .f32⟩
  | .hbm, ⟨8, _⟩ => ⟨S8x128, .f32⟩
  | .hbm, ⟨9, _⟩ => ⟨S4x2048x1536, .f32⟩
  | .hbm, ⟨10, _⟩ => ⟨S4x2048x1536, .f32⟩
  | .hbm, ⟨11, _⟩ => ⟨S4x2048x1536, .f32⟩
  | .hbm, ⟨12, _⟩ => ⟨S4x2048x1536, .f32⟩
  | .local _ .vmem, ⟨0, _⟩ => ⟨S8x256x1536, .bf16⟩
  | .local _ .vmem, ⟨1, _⟩ => ⟨S8x256x1536, .bf16⟩
  | .local _ .vmem, ⟨2, _⟩ => ⟨S1x256x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x2048x1536 : Shape := ⟨3, ![8, 2048, 1536]⟩
abbrev S4x2048x1536 : Shape := ⟨3, ![4, 2048, 1536]⟩
abbrev S8x128 : Shape := ⟨2, ![8, 128]⟩
abbrev S_ : Shape := ⟨0, ![]⟩
abbrev S2048x1536 : Shape := ⟨2, ![2048, 1536]⟩
abbrev S1x2048x1536 : Shape := ⟨3, ![1, 2048, 1536]⟩
abbrev S3x2048x1536 : Shape := ⟨3, ![3, 2048, 1536]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S4x2048x1536, .f32⟩
  | .hbm, ⟨2, _⟩ => ⟨S4x2048x1536, .f32⟩
  | .hbm, ⟨3, _⟩ => ⟨S4x2048x1536, .f32⟩
  | .hbm, ⟨4, _⟩ => ⟨S4x2048x1536, .f32⟩
  | .hbm, ⟨5, _⟩ => ⟨S4x2048x1536, .f32⟩
  | .hbm, ⟨6, _⟩ => ⟨S4x2048x1536, .f32⟩
  | .hbm, ⟨7, _⟩ => ⟨S4x2048x1536, .f32⟩
  | .hbm, ⟨8, _⟩ => ⟨S8x128, .f32⟩
  | .hbm, ⟨9, _⟩ => ⟨S8x2048x1536, .f32⟩
  | .hbm, ⟨10, _⟩ => ⟨S_, .f32⟩
  | .hbm, ⟨11, _⟩ => ⟨S2048x1536, .f32⟩
  | .hbm, ⟨12, _⟩ => ⟨S1x2048x1536, .f32⟩
  | .hbm, ⟨13, _⟩ => ⟨S2048x1536, .f32⟩
  | .hbm, ⟨14, _⟩ => ⟨S1x2048x1536, .f32⟩
  | .hbm, ⟨15, _⟩ => ⟨S2048x1536, .f32⟩
  | .hbm, ⟨16, _⟩ => ⟨S1x2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S_, .f32⟩
  | .hbm, ⟨22, _⟩ => ⟨S2048x1536, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S_, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S_, .f32⟩
  | .hbm, ⟨41, _⟩ => ⟨S2048x1536, .f32⟩
  | .hbm, ⟨42, _⟩ => ⟨S2048x1536, .f32⟩
  | .hbm, ⟨43, _⟩ => ⟨S2048x1536, .f32⟩
  | .hbm, ⟨44, _⟩ => ⟨S_, .f32⟩
  | .hbm, ⟨45, _⟩ => ⟨S2048x1536, .f32⟩
  | .hbm, ⟨46, _⟩ => ⟨S2048x1536, .f32⟩
  | .hbm, ⟨47, _⟩ => ⟨S2048x1536, .f32⟩
  | .hbm, ⟨48, _⟩ => ⟨S_, .f32⟩
  | .hbm, ⟨49, _⟩ => ⟨S2048x1536, .f32⟩
  | .hbm, ⟨50, _⟩ => ⟨S2048x1536, .f32⟩
  | .hbm, ⟨51, _⟩ => ⟨S1x2048x1536, .f32⟩
  | .hbm, ⟨52, _⟩ => ⟨S3x2048x1536, .f32⟩
  | .hbm, ⟨53, _⟩ => ⟨S4x2048x1536, .f32⟩
  | .hbm, ⟨54, _⟩ => ⟨S1x2048x1536, .f32⟩
  | .hbm, ⟨55, _⟩ => ⟨S3x2048x1536, .f32⟩
  | .hbm, ⟨56, _⟩ => ⟨S4x2048x1536, .f32⟩
  | .hbm, ⟨57, _⟩ => ⟨S1x2048x1536, .f32⟩
  | .hbm, ⟨58, _⟩ => ⟨S3x2048x1536, .f32⟩
  | .hbm, ⟨59, _⟩ => ⟨S4x2048x1536, .f32⟩
  | .hbm, ⟨60, _⟩ => ⟨S1x2048x1536, .f32⟩
  | .hbm, ⟨61, _⟩ => ⟨S3x2048x1536, .f32⟩
  | .hbm, ⟨62, _⟩ => ⟨S4x2048x1536, .f32⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel24.lean ====
abbrev S8x256x2048 : Shape := ⟨3, ![8, 256, 2048]⟩
abbrev S4x256x2048 : Shape := ⟨3, ![4, 256, 2048]⟩
abbrev S8x128 : Shape := ⟨2, ![8, 128]⟩
abbrev S1x256x2048 : Shape := ⟨3, ![1, 256, 2048]⟩
abbrev S256x2048 : Shape := ⟨2, ![256, 2048]⟩

abbrev nBuf : Space → Nat
  | .hbm => 13
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x128, .f32⟩
  | .hbm, ⟨9, _⟩ => ⟨S4x256x2048, .f32⟩
  | .hbm, ⟨10, _⟩ => ⟨S4x256x2048, .f32⟩
  | .hbm, ⟨11, _⟩ => ⟨S4x256x2048, .f32⟩
  | .hbm, ⟨12, _⟩ => ⟨S4x256x2048, .f32⟩
  | .local _ .vmem, ⟨0, _⟩ => ⟨S8x256x2048, .bf16⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x256x2048 : Shape := ⟨3, ![8, 256, 2048]⟩
abbrev S4x256x2048 : Shape := ⟨3, ![4, 256, 2048]⟩
abbrev S8x128 : Shape := ⟨2, ![8, 128]⟩
abbrev S_ : Shape := ⟨0, ![]⟩
abbrev S256x2048 : Shape := ⟨2, ![256, 2048]⟩
abbrev S1x256x2048 : Shape := ⟨3, ![1, 256, 2048]⟩
abbrev S3x256x2048 : Shape := ⟨3, ![3, 256, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .hbm, ⟨8, _⟩ => ⟨S8x128, .f32⟩
  | .hbm, ⟨9, _⟩ => ⟨S8x256x2048, .f32⟩
  | .hbm, ⟨10, _⟩ => ⟨S_, .f32⟩
  | .hbm, ⟨11, _⟩ => ⟨S256x2048, .f32⟩
  | .hbm, ⟨12, _⟩ => ⟨S1x256x2048, .f32⟩
  | .hbm, ⟨13, _⟩ => ⟨S256x2048, .f32⟩
  | .hbm, ⟨14, _⟩ => ⟨S1x256x2048, .f32⟩
  | .hbm, ⟨15, _⟩ => ⟨S256x2048, .f32⟩
  | .hbm, ⟨16, _⟩ => ⟨S1x256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256x2048, .f32⟩
  | .hbm, ⟨38, _⟩ => ⟨S256x2048, .f32⟩
  | .hbm, ⟨39, _⟩ => ⟨S256x2048, .f32⟩
  | .hbm, ⟨40, _⟩ => ⟨S_, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S_, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256x2048, .f32⟩
  | .hbm, ⟨50, _⟩ => ⟨S256x2048, .f32⟩
  | .hbm, ⟨51, _⟩ => ⟨S1x256x2048, .f32⟩
  | .hbm, ⟨52, _⟩ => ⟨S3x256x2048, .f32⟩
  | .hbm, ⟨53, _⟩ => ⟨S4x256x2048, .f32⟩
  | .hbm, ⟨54, _⟩ => ⟨S1x256x2048, .f32⟩
  | .hbm, ⟨55, _⟩ => ⟨S3x256x2048, .f32⟩
  | .hbm, ⟨56, _⟩ => ⟨S4x256x2048, .f32⟩
  | .hbm, ⟨57, _⟩ => ⟨S1x256x2048, .f32⟩
  | .hbm, ⟨58, _⟩ => ⟨S3x256x2048, .f32⟩
  | .hbm, ⟨59, _⟩ => ⟨S4x256x2048, .f32⟩
  | .hbm, ⟨60, _⟩ => ⟨S1x256x2048, .f32⟩
  | .hbm, ⟨61, _⟩ => ⟨S3x256x2048, .f32⟩
  | .hbm, ⟨62, _⟩ => ⟨S4x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel25.lean ====
abbrev S8x2048x1024 : Shape := ⟨3, ![8, 2048, 1024]⟩
abbrev S4x2048x1024 : Shape := ⟨3, ![4, 2048, 1024]⟩
abbrev S8x128 : Shape := ⟨2, ![8, 128]⟩
abbrev S8x512x1024 : Shape := ⟨3, ![8, 512, 1024]⟩
abbrev S1x512x1024 : Shape := ⟨3, ![1, 512, 1024]⟩
abbrev S512x1024 : Shape := ⟨2, ![512, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S8x128, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .local _ .vmem, ⟨0, _⟩ => ⟨S8x512x1024, .bf16⟩
  | .local _ .vmem, ⟨1, _⟩ => ⟨S8x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S8x2048x1024 : Shape := ⟨3, ![8, 2048, 1024]⟩
abbrev S4x2048x1024 : Shape := ⟨3, ![4, 2048, 1024]⟩
abbrev S8x128 : Shape := ⟨2, ![8, 128]⟩
abbrev S_ : Shape := ⟨0, ![]⟩
abbrev S2048x1024 : Shape := ⟨2, ![2048, 1024]⟩
abbrev S1x2048x1024 : Shape := ⟨3, ![1, 2048, 1024]⟩
abbrev S3x2048x1024 : Shape := ⟨3, ![3, 2048, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S8x128, .f32⟩
  | .hbm, ⟨9, _⟩ => ⟨S8x2048x1024, .f32⟩
  | .hbm, ⟨10, _⟩ => ⟨S_, .f32⟩
  | .hbm, ⟨11, _⟩ => ⟨S2048x1024, .f32⟩
  | .hbm, ⟨12, _⟩ => ⟨S1x2048x1024, .f32⟩
  | .hbm, ⟨13, _⟩ => ⟨S2048x1024, .f32⟩
  | .hbm, ⟨14, _⟩ => ⟨S1x2048x1024, .f32⟩
  | .hbm, ⟨15, _⟩ => ⟨S2048x1024, .f32⟩
  | .hbm, ⟨16, _⟩ => ⟨S1x2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S1x2048x1024, .f32⟩
  | .hbm, ⟨52, _⟩ => ⟨S3x2048x1024, .f32⟩
  | .hbm, ⟨53, _⟩ => ⟨S4x2048x1024, .f32⟩
  | .hbm, ⟨54, _⟩ => ⟨S1x2048x1024, .f32⟩
  | .hbm, ⟨55, _⟩ => ⟨S3x2048x1024, .f32⟩
  | .hbm, ⟨56, _⟩ => ⟨S4x2048x1024, .f32⟩
  | .hbm, ⟨57, _⟩ => ⟨S1x2048x1024, .f32⟩
  | .hbm, ⟨58, _⟩ => ⟨S3x2048x1024, .f32⟩
  | .hbm, ⟨59, _⟩ => ⟨S4x2048x1024, .f32⟩
  | .hbm, ⟨60, _⟩ => ⟨S1x2048x1024, .f32⟩
  | .hbm, ⟨61, _⟩ => ⟨S3x2048x1024, .f32⟩
  | .hbm, ⟨62, _⟩ => ⟨S4x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel26.lean ====
abbrev S8x1024x2048 : Shape := ⟨3, ![8, 1024, 2048]⟩
abbrev S4x1024x2048 : Shape := ⟨3, ![4, 1024, 2048]⟩
abbrev S8x128 : Shape := ⟨2, ![8, 128]⟩
abbrev S8x256x2048 : Shape := ⟨3, ![8, 256, 2048]⟩
abbrev S1x256x2048 : Shape := ⟨3, ![1, 256, 2048]⟩
abbrev S256x2048 : Shape := ⟨2, ![256, 2048]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x2048, .bf16⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S8x128, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | .hbm, ⟨12, _⟩ => ⟨S4x1024x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x1024x2048 : Shape := ⟨3, ![8, 1024, 2048]⟩
abbrev S4x1024x2048 : Shape := ⟨3, ![4, 1024, 2048]⟩
abbrev S8x128 : Shape := ⟨2, ![8, 128]⟩
abbrev S_ : Shape := ⟨0, ![]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S8x128, .f32⟩
  | .hbm, ⟨9, _⟩ => ⟨S8x1024x2048, .f32⟩
  | .hbm, ⟨10, _⟩ => ⟨S_, .f32⟩
  | .hbm, ⟨11, _⟩ => ⟨S1024x2048, .f32⟩
  | .hbm, ⟨12, _⟩ => ⟨S1x1024x2048, .f32⟩
  | .hbm, ⟨13, _⟩ => ⟨S1024x2048, .f32⟩
  | .hbm, ⟨14, _⟩ => ⟨S1x1024x2048, .f32⟩
  | .hbm, ⟨15, _⟩ => ⟨S1024x2048, .f32⟩
  | .hbm, ⟨16, _⟩ => ⟨S1x1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S1x1024x2048, .f32⟩
  | .hbm, ⟨52, _⟩ => ⟨S3x1024x2048, .f32⟩
  | .hbm, ⟨53, _⟩ => ⟨S4x1024x2048, .f32⟩
  | .hbm, ⟨54, _⟩ => ⟨S1x1024x2048, .f32⟩
  | .hbm, ⟨55, _⟩ => ⟨S3x1024x2048, .f32⟩
  | .hbm, ⟨56, _⟩ => ⟨S4x1024x2048, .f32⟩
  | .hbm, ⟨57, _⟩ => ⟨S1x1024x2048, .f32⟩
  | .hbm, ⟨58, _⟩ => ⟨S3x1024x2048, .f32⟩
  | .hbm, ⟨59, _⟩ => ⟨S4x1024x2048, .f32⟩
  | .hbm, ⟨60, _⟩ => ⟨S1x1024x2048, .f32⟩
  | .hbm, ⟨61, _⟩ => ⟨S3x1024x2048, .f32⟩
  | .hbm, ⟨62, _⟩ => ⟨S4x1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel27.lean ====
abbrev S8x3x1024x256 : Shape := ⟨4, ![8, 3, 1024, 256]⟩
abbrev S4x1024x256 : Shape := ⟨3, ![4, 1024, 256]⟩
abbrev S8x128 : Shape := ⟨2, ![8, 128]⟩
abbrev S8x1x512x256 : Shape := ⟨4, ![8, 1, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x3x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x128, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S8x1x512x256, .bf16⟩
  | .local _ .vmem, ⟨1, _⟩ => ⟨S8x1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S8x3x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8x3x1024x256 : Shape := ⟨4, ![8, 3, 1024, 256]⟩
abbrev S4x1024x256 : Shape := ⟨3, ![4, 1024, 256]⟩
abbrev S8x128 : Shape := ⟨2, ![8, 128]⟩
abbrev S8x1x1024x256 : Shape := ⟨4, ![8, 1, 1024, 256]⟩
abbrev S8x1024x256 : Shape := ⟨3, ![8, 1024, 256]⟩
abbrev S_ : Shape := ⟨0, ![]⟩
abbrev S1024x256 : Shape := ⟨2, ![1024, 256]⟩
abbrev S1x1024x256 : Shape := ⟨3, ![1, 1024, 256]⟩
abbrev S3x1024x256 : Shape := ⟨3, ![3, 1024, 256]⟩

abbrev nBuf : Space → Nat
  | .hbm => 65
  | .vmem => 0
  | .smem => 0
  | _ => 0

abbrev bufTy : (tb : Table) → Fin (tcTables nBuf tb) → BufTy
  | .hbm, ⟨0, _⟩ => ⟨S8x3x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x128, .f32⟩
  | .hbm, ⟨9, _⟩ => ⟨S8x1x1024x256, .bf16⟩
  | .hbm, ⟨10, _⟩ => ⟨S8x1024x256, .bf16⟩
  | .hbm, ⟨11, _⟩ => ⟨S8x1024x256, .f32⟩
  | .hbm, ⟨12, _⟩ => ⟨S_, .f32⟩
  | .hbm, ⟨13, _⟩ => ⟨S1024x256, .f32⟩
  | .hbm, ⟨14, _⟩ => ⟨S1x1024x256, .f32⟩
  | .hbm, ⟨15, _⟩ => ⟨S1024x256, .f32⟩
  | .hbm, ⟨16, _⟩ => ⟨S1x1024x256, .f32⟩
  | .hbm, ⟨17, _⟩ => ⟨S1024x256, .f32⟩
  | .hbm, ⟨18, _⟩ => ⟨S1x1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S_, .f32⟩
  | .hbm, ⟨51, _⟩ => ⟨S1024x256, .f32⟩
  | .hbm, ⟨52, _⟩ => ⟨S1024x256, .f32⟩
  | .hbm, ⟨53, _⟩ => ⟨S1x1024x256, .f32⟩
  | .hbm, ⟨54, _⟩ => ⟨S3x1024x256, .f32⟩
  | .hbm, ⟨55, _⟩ => ⟨S4x1024x256, .f32⟩
  | .hbm, ⟨56, _⟩ => ⟨S1x1024x256, .f32⟩
  | .hbm, ⟨57, _⟩ => ⟨S3x1024x256, .f32⟩
  | .hbm, ⟨58, _⟩ => ⟨S4x1024x256, .f32⟩
  | .hbm, ⟨59, _⟩ => ⟨S1x1024x256, .f32⟩
  | .hbm, ⟨60, _⟩ => ⟨S3x1024x256, .f32⟩
  | .hbm, ⟨61, _⟩ => ⟨S4x1024x256, .f32⟩
  | .hbm, ⟨62, _⟩ => ⟨S1x1024x256, .f32⟩
  | .hbm, ⟨63, _⟩ => ⟨S3x1024x256, .f32⟩
  | .hbm, ⟨64, _⟩ => ⟨S4x1024x256, .f32⟩
  | _, _ => ⟨S8x3x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel28.lean ====
abbrev S8x3x1024x256 : Shape := ⟨4, ![8, 3, 1024, 256]⟩
abbrev S4x1024x256 : Shape := ⟨3, ![4, 1024, 256]⟩
abbrev S8x128 : Shape := ⟨2, ![8, 128]⟩
abbrev S8x1x512x256 : Shape := ⟨4, ![8, 1, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x3x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x128, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S8x1x512x256, .bf16⟩
  | .local _ .vmem, ⟨1, _⟩ => ⟨S8x1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S8x3x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S8x3x1024x256 : Shape := ⟨4, ![8, 3, 1024, 256]⟩
abbrev S4x1024x256 : Shape := ⟨3, ![4, 1024, 256]⟩
abbrev S8x128 : Shape := ⟨2, ![8, 128]⟩
abbrev S8x1x1024x256 : Shape := ⟨4, ![8, 1, 1024, 256]⟩
abbrev S8x1024x256 : Shape := ⟨3, ![8, 1024, 256]⟩
abbrev S_ : Shape := ⟨0, ![]⟩
abbrev S1024x256 : Shape := ⟨2, ![1024, 256]⟩
abbrev S1x1024x256 : Shape := ⟨3, ![1, 1024, 256]⟩
abbrev S3x1024x256 : Shape := ⟨3, ![3, 1024, 256]⟩

abbrev nBuf : Space → Nat
  | .hbm => 65
  | .vmem => 0
  | .smem => 0
  | _ => 0

abbrev bufTy : (tb : Table) → Fin (tcTables nBuf tb) → BufTy
  | .hbm, ⟨0, _⟩ => ⟨S8x3x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x128, .f32⟩
  | .hbm, ⟨9, _⟩ => ⟨S8x1x1024x256, .bf16⟩
  | .hbm, ⟨10, _⟩ => ⟨S8x1024x256, .bf16⟩
  | .hbm, ⟨11, _⟩ => ⟨S8x1024x256, .f32⟩
  | .hbm, ⟨12, _⟩ => ⟨S_, .f32⟩
  | .hbm, ⟨13, _⟩ => ⟨S1024x256, .f32⟩
  | .hbm, ⟨14, _⟩ => ⟨S1x1024x256, .f32⟩
  | .hbm, ⟨15, _⟩ => ⟨S1024x256, .f32⟩
  | .hbm, ⟨16, _⟩ => ⟨S1x1024x256, .f32⟩
  | .hbm, ⟨17, _⟩ => ⟨S1024x256, .f32⟩
  | .hbm, ⟨18, _⟩ => ⟨S1x1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S_, .f32⟩
  | .hbm, ⟨51, _⟩ => ⟨S1024x256, .f32⟩
  | .hbm, ⟨52, _⟩ => ⟨S1024x256, .f32⟩
  | .hbm, ⟨53, _⟩ => ⟨S1x1024x256, .f32⟩
  | .hbm, ⟨54, _⟩ => ⟨S3x1024x256, .f32⟩
  | .hbm, ⟨55, _⟩ => ⟨S4x1024x256, .f32⟩
  | .hbm, ⟨56, _⟩ => ⟨S1x1024x256, .f32⟩
  | .hbm, ⟨57, _⟩ => ⟨S3x1024x256, .f32⟩
  | .hbm, ⟨58, _⟩ => ⟨S4x1024x256, .f32⟩
  | .hbm, ⟨59, _⟩ => ⟨S1x1024x256, .f32⟩
  | .hbm, ⟨60, _⟩ => ⟨S3x1024x256, .f32⟩
  | .hbm, ⟨61, _⟩ => ⟨S4x1024x256, .f32⟩
  | .hbm, ⟨62, _⟩ => ⟨S1x1024x256, .f32⟩
  | .hbm, ⟨63, _⟩ => ⟨S3x1024x256, .f32⟩
  | .hbm, ⟨64, _⟩ => ⟨S4x1024x256, .f32⟩
  | _, _ => ⟨S8x3x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel29.lean ====
abbrev S8x3x1024x256 : Shape := ⟨4, ![8, 3, 1024, 256]⟩
abbrev S4x1024x256 : Shape := ⟨3, ![4, 1024, 256]⟩
abbrev S8x128 : Shape := ⟨2, ![8, 128]⟩
abbrev S8x1x512x256 : Shape := ⟨4, ![8, 1, 512, 256]⟩
abbrev S1x512x256 : Shape := ⟨3, ![1, 512, 256]⟩
abbrev S1x1x512x256 : Shape := ⟨4, ![1, 1, 512, 256]⟩
abbrev S512x256 : Shape := ⟨2, ![512, 256]⟩

abbrev nBuf : Space → Nat
  | .hbm => 13
  | .vmem => 16
  | .smem => 0
  | _ => 0

abbrev bufTy : (tb : Table) → Fin (tcTables nBuf tb) → BufTy
  | .hbm, ⟨0, _⟩ => ⟨S8x3x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x128, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .hbm, ⟨12, _⟩ => ⟨S4x1024x256, .f32⟩
  | .local _ .vmem, ⟨0, _⟩ => ⟨S8x1x512x256, .bf16⟩
  | .local _ .vmem, ⟨1, _⟩ => ⟨S8x1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | _, _ => ⟨S8x3x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S8x3x1024x256 : Shape := ⟨4, ![8, 3, 1024, 256]⟩
abbrev S4x1024x256 : Shape := ⟨3, ![4, 1024, 256]⟩
abbrev S8x128 : Shape := ⟨2, ![8, 128]⟩
abbrev S8x1x1024x256 : Shape := ⟨4, ![8, 1, 1024, 256]⟩
abbrev S8x1024x256 : Shape := ⟨3, ![8, 1024, 256]⟩
abbrev S_ : Shape := ⟨0, ![]⟩
abbrev S1024x256 : Shape := ⟨2, ![1024, 256]⟩
abbrev S1x1024x256 : Shape := ⟨3, ![1, 1024, 256]⟩
abbrev S3x1024x256 : Shape := ⟨3, ![3, 1024, 256]⟩

abbrev nBuf : Space → Nat
  | .hbm => 65
  | .vmem => 0
  | .smem => 0
  | _ => 0

abbrev bufTy : (tb : Table) → Fin (tcTables nBuf tb) → BufTy
  | .hbm, ⟨0, _⟩ => ⟨S8x3x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x128, .f32⟩
  | .hbm, ⟨9, _⟩ => ⟨S8x1x1024x256, .bf16⟩
  | .hbm, ⟨10, _⟩ => ⟨S8x1024x256, .bf16⟩
  | .hbm, ⟨11, _⟩ => ⟨S8x1024x256, .f32⟩
  | .hbm, ⟨12, _⟩ => ⟨S_, .f32⟩
  | .hbm, ⟨13, _⟩ => ⟨S1024x256, .f32⟩
  | .hbm, ⟨14, _⟩ => ⟨S1x1024x256, .f32⟩
  | .hbm, ⟨15, _⟩ => ⟨S1024x256, .f32⟩
  | .hbm, ⟨16, _⟩ => ⟨S1x1024x256, .f32⟩
  | .hbm, ⟨17, _⟩ => ⟨S1024x256, .f32⟩
  | .hbm, ⟨18, _⟩ => ⟨S1x1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S_, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S_, .f32⟩
  | .hbm, ⟨51, _⟩ => ⟨S1024x256, .f32⟩
  | .hbm, ⟨52, _⟩ => ⟨S1024x256, .f32⟩
  | .hbm, ⟨53, _⟩ => ⟨S1x1024x256, .f32⟩
  | .hbm, ⟨54, _⟩ => ⟨S3x1024x256, .f32⟩
  | .hbm, ⟨55, _⟩ => ⟨S4x1024x256, .f32⟩
  | .hbm, ⟨56, _⟩ => ⟨S1x1024x256, .f32⟩
  | .hbm, ⟨57, _⟩ => ⟨S3x1024x256, .f32⟩
  | .hbm, ⟨58, _⟩ => ⟨S4x1024x256, .f32⟩
  | .hbm, ⟨59, _⟩ => ⟨S1x1024x256, .f32⟩
  | .hbm, ⟨60, _⟩ => ⟨S3x1024x256, .f32⟩
  | .hbm, ⟨61, _⟩ => ⟨S4x1024x256, .f32⟩
  | .hbm, ⟨62, _⟩ => ⟨S1x1024x256, .f32⟩
  | .hbm, ⟨63, _⟩ => ⟨S3x1024x256, .f32⟩
  | .hbm, ⟨64, _⟩ => ⟨S4x1024x256, .f32⟩
  | _, _ => ⟨S8x3x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel32.lean ====
abbrev S256x2048 : Shape := ⟨2, ![256, 2048]⟩
abbrev S2048x2048 : Shape := ⟨2, ![2048, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x2048, .bf16⟩
  | .local _ .vmem, ⟨2, _⟩ => ⟨S256x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel33.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel34.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel35.lean ====
abbrev S8192x2048 : Shape := ⟨2, ![8192, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x128, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference35Ideal.lean ====
abbrev S8192x2048 : Shape := ⟨2, ![8192, 2048]⟩
abbrev S1x2048 : Shape := ⟨2, ![1, 2048]⟩
abbrev S8x128 : Shape := ⟨2, ![8, 128]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8x128, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel36.lean ====
abbrev S8192x2048 : Shape := ⟨2, ![8192, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x128, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S8192x2048 : Shape := ⟨2, ![8192, 2048]⟩
abbrev S1x2048 : Shape := ⟨2, ![1, 2048]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x128, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel37.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference37Ideal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel38.lean ====
abbrev S8192x2048 : Shape := ⟨2, ![8192, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x128, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S1x2048, .f32⟩
  | .hbm, ⟨9, _⟩ => ⟨S8192x2048, .bf16⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference38Ideal.lean ====
abbrev S8192x2048 : Shape := ⟨2, ![8192, 2048]⟩
abbrev S1x2048 : Shape := ⟨2, ![1, 2048]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 93
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x128, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x2048, .f32⟩
  | .hbm, ⟨80, _⟩ => ⟨S8192x2048, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩

abbrev nD : Nat := 1
abbrev τ : Topo := Topo.v7x

variable {F : FTy → Type} [FloatOps F]
-- ==== Kernel39.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference39Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel40.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference40Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel41.lean ====
abbrev S8192x2048 : Shape := ⟨2, ![8192, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x128, .f32⟩
  | .hbm, ⟨4, _⟩ => ⟨S8192x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference41Ideal.lean ====
abbrev S8192x2048 : Shape := ⟨2, ![8192, 2048]⟩
abbrev S1x2048 : Shape := ⟨2, ![1, 2048]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8x128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel42.lean ====
abbrev S256x2048 : Shape := ⟨2, ![256, 2048]⟩
abbrev S1x2048 : Shape := ⟨2, ![1, 2048]⟩
abbrev S8x128 : Shape := ⟨2, ![8, 128]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S8x128, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference42Ideal.lean ====
abbrev S256x2048 : Shape := ⟨2, ![256, 2048]⟩
abbrev S1x2048 : Shape := ⟨2, ![1, 2048]⟩
abbrev S8x128 : Shape := ⟨2, ![8, 128]⟩
abbrev S_ : Shape := ⟨0, ![]⟩
abbrev S256 : Shape := ⟨1, ![256]⟩
abbrev S256x1 : Shape := ⟨2, ![256, 1]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S8x128, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel43.lean ====
abbrev S256x2048 : Shape := ⟨2, ![256, 2048]⟩
abbrev S1x2048 : Shape := ⟨2, ![1, 2048]⟩
abbrev S8x128 : Shape := ⟨2, ![8, 128]⟩
abbrev S256 : Shape := ⟨1, ![256]⟩
abbrev S256x1 : Shape := ⟨2, ![256, 1]⟩
abbrev S2048 : Shape := ⟨1, ![2048]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S8x128, .f32⟩
  | .hbm, ⟨4, _⟩ => ⟨S256x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference43Ideal.lean ====
abbrev S256x2048 : Shape := ⟨2, ![256, 2048]⟩
abbrev S1x2048 : Shape := ⟨2, ![1, 2048]⟩
abbrev S8x128 : Shape := ⟨2, ![8, 128]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S8x128, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S256x2048, .f32⟩
  | .hbm, ⟨34, _⟩ => ⟨S256x2048, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Pieces.lean ====
module

public import Idealize.ShloMosaic.Lib.Pipeline.ReadBack
public import Idealize.ShloMosaic.Lib.Pipeline.ValueKit.Tiles
public import Idealize.ShloMosaic.Lib.WritesUnit

/-!
# A buffer written in pieces, read at an index
-/

@[expose] public section

namespace Cert.Pieces

open Idealize.ShloMosaic

variable {S : Shape} {e : EltTy} {Val : EltTy → Type} [∀ e, Nonempty (Val e)]

/-- A last piece that ends before the index, or begins behind it, along one axis doesn't count. -/
theorem canon_skip {off size : Fin S.rank → Nat} (inb : ∀ a, off a + size a ≤ S.size a) (w : (Rect.unit off size inb).shape.Idx → Val e)
    (L : List (View.Piece Val S e)) (y : S.Idx) (a : Fin S.rank) (h : (y a).val < off a ∨ off a + size a ≤ (y a).val) :
    View.canon ((⟨Rect.unit off size inb, w⟩ : View.Piece Val S e) :: L) y = View.canon L y := by
  refine View.canon_cons_of_not_mem _ _ fun hm => ?_
  obtain ⟨i, hi, he⟩ := (Rect.unit off size inb).mem_set.mp hm a
  have e1 : (Rect.unit off size inb).off a = off a := rfl
  have e2 : (Rect.unit off size inb).size a = size a := rfl
  have e3 : (Rect.unit off size inb).stride a = 1 := rfl
  rw [e1, e3] at he
  rw [e2] at hi
  omega

/-- A last piece that holds the index gives the value. -/
theorem canon_hit {off size : Fin S.rank → Nat} (inb : ∀ a, off a + size a ≤ S.size a) (w : (Rect.unit off size inb).shape.Idx → Val e)
    (L : List (View.Piece Val S e)) (y : S.Idx) (x : (Rect.unit off size inb).shape.Idx) (h : ∀ a, (y a).val = off a + (x a).val) :
    View.canon ((⟨Rect.unit off size inb, w⟩ : View.Piece Val S e) :: L) y = w x := by
  have : y = (Rect.unit off size inb).emb x := by
    funext a
    apply Fin.ext
    rw [h a]
    show _ = off a + 1 * (x a).val
    omega
  rw [this, View.canon_cons_emb]

variable {sig : RefSig} {κ : Kind} {sp : Space} (v : View sig κ sp S e) (f : v.ty.Contents Val)

/-- The same for a buffer that held something before: a last piece beside the index, -/
theorem read_skip {off size : Fin S.rank → Nat} (inb : ∀ a, off a + size a ≤ S.size a) (w : (Rect.unit off size inb).shape.Idx → Val e)
    (L : List (View.Piece Val S e)) (y : S.Idx) (a : Fin S.rank) (h : (y a).val < off a ∨ off a + size a ≤ (y a).val) :
    v.read Val (v.writes Val f ((⟨Rect.unit off size inb, w⟩ : View.Piece Val S e) :: L)) y = v.read Val (v.writes Val f L) y :=
  View.read_writes_cons_unit_of_not_mem v f inb w L y rfl a h

/-- and one that holds it. -/
theorem read_hit {off size : Fin S.rank → Nat} (inb : ∀ a, off a + size a ≤ S.size a) (w : (Rect.unit off size inb).shape.Idx → Val e)
    (L : List (View.Piece Val S e)) (y : S.Idx) (x : (Rect.unit off size inb).shape.Idx) (h : ∀ a, (y a).val = off a + (x a).val) :
    v.read Val (v.writes Val f ((⟨Rect.unit off size inb, w⟩ : View.Piece Val S e) :: L)) y = w x :=
  View.read_writes_cons_unit_of_mem v f inb w L y x rfl h

end Cert.Pieces

end
-- ==== Proof.BranchPieces.lean ====
module

public import proofs.«01_k».proof.Proof.Pieces
public import proofs.«01_k».proof.Proof.Gen.KernelIdeal.Skeleton
public import Idealize.ShloMosaic.Lib.Pointwise
public import Idealize.ShloMosaic.Lib.Pipeline.ReadBack
public import Idealize.ShloMosaic.Lib.Pipeline.ValueKit.Acc
public import Idealize.ShloMosaic.Lib.Pipeline.ValueKit.Geometry

/-!
# The branches' gradient: the values a grid point stores
-/

@[expose] public section

noncomputable section

open scoped BigOperators
open Idealize.ShloMosaic Idealize.ShloMosaic.TcCoe Idealize.SL.Sem

namespace Cert.BranchBwd

open Cert.KernelIdeal Cert.KernelIdeal.Gen

/-- The rows before the first block count as zero. -/
theorem first_at (i : grid0.Coords) : k0_pay35 (F := Ideal) i = if (i 0).val = 0 then (0 : EReal) else 1 := by
  have h : ∀ n : Fin 64, (Scalar.extui (Scalar.cmpi .sgt (BitVec.ofNat 32 n.val) 0#32) : BitVec 32) = if n.val = 0 then 0#32 else 1#32 := by
    decide
  have e : k0_pay35 (F := Ideal) i = Scalar.sitofp (F := Ideal) .f32 (Scalar.extui (Scalar.cmpi .sgt (BitVec.ofNat 32 (i 0).val) 0#32) : BitVec 32) := rfl
  rw [e, h (i 0)]
  split <;> (rw [Ideal.scalar_sitofp_def]; simp)

/-- The rows behind the last block count as zero. -/
theorem last_at (i : grid0.Coords) : k0_pay36 (F := Ideal) i = if (i 0).val < 63 then (1 : EReal) else 0 := by
  have h : ∀ n : Fin 64, (Scalar.extui (Scalar.cmpi .slt (BitVec.ofNat 32 n.val) 63#32) : BitVec 32) = if n.val < 63 then 1#32 else 0#32 := by
    decide
  have e : k0_pay36 (F := Ideal) i = Scalar.sitofp (F := Ideal) .f32 (Scalar.extui (Scalar.cmpi .slt (BitVec.ofNat 32 (i 0).val) 63#32) : BitVec 32) := rfl
  rw [e, h (i 0)]
  split <;> (rw [Ideal.scalar_sitofp_def]; simp)

theorem before_at (f : EReal) (a b : Vec Ideal S8x1024 .f32) (r : Fin 8) (s : Fin 1024) :
    k0_pay333 (F := Ideal) f a b (ix2 r s) = a (ix2 r s) * b (ix2 r s) * f := by
  pointwise [k0_pay333]

theorem product_at (a b : Vec Ideal S128x1024 .f32) (r : Fin 128) (s : Fin 1024) :
    k0_pay334 (F := Ideal) a b (ix2 r s) = a (ix2 r s) * b (ix2 r s) := by
  pointwise [k0_pay334]

theorem ct_at (d : Vec Ideal S1x128x1024 .f32) (r : Fin 128) (s : Fin 1024) :
    k0_pay335 (F := Ideal) d (ix2 r s) = d (ix3 0 r s) := by
  pointwise [k0_pay335]

theorem du_at (a b : Vec Ideal S128x1024 .f32) (r : Fin 128) (s : Fin 1024) :
    k0_pay336 (F := Ideal) a b (ix2 r s) = a (ix2 r s) * b (ix2 r s) := by
  pointwise [k0_pay336]

theorem du_kept_at (a b : Vec Ideal S128x1024 .f32) (r : Fin 128) (s : Fin 1024) :
    k0_pay337 (F := Ideal) a b (ix2 r s) = a (ix2 r s) * b (ix2 r s) := by
  pointwise [k0_pay337, k0_pay336]

theorem behind_at (f : EReal) (a : Vec Ideal S1x8x1024 .f32) (b : Vec Ideal S8x1024 .f32) (r : Fin 8) (s : Fin 1024) :
    k0_pay338 (F := Ideal) f a b (ix2 r s) = a (ix3 0 r s) * b (ix2 r s) * f := by
  pointwise [k0_pay338]

theorem dsb_at (d : Vec Ideal S128x1024 .f32) (x0 x1 x2 : Vec Ideal S128x1024 .f32) (w0 w1 w2 : Vec Ideal S1x1024 .f32) (r : Fin 128)
    (s : Fin 1024) : k0_pay348 (F := Ideal) d (k0_pay345 (k0_pay340 x0 w0) x1 w1 x2 w2) (ix2 r s)
      = d (ix2 r s) * (w0 (ix2 0 s) * x0 (ix2 r s) + w1 (ix2 0 s) * x1 (ix2 r s) + w2 (ix2 0 s) * x2 (ix2 r s)) := by
  pointwise [k0_pay348, k0_pay345, k0_pay340]

theorem dsc_at (x0 x1 x2 y : Vec Ideal S128x1024 .f32) (w0 w1 w2 : Vec Ideal S1x1024 .f32) (r : Fin 128) (s : Fin 1024) :
    k0_pay349 (F := Ideal) (k0_pay344 (k0_pay339) (k0_pay342 w2 x0) w1 x1) w0 x2 y (ix2 r s)
      = (w2 (ix2 0 s) * x0 (ix2 r s) + w1 (ix2 0 s) * x1 (ix2 r s) + w0 (ix2 0 s) * x2 (ix2 r s)) * y (ix2 r s) := by
  pointwise [k0_pay349, k0_pay347, k0_pay344, k0_pay342, k0_pay339]

theorem dsx_at (x0 x1 x2 y : Vec Ideal S128x1024 .f32) (w0 w1 w2 : Vec Ideal S1x1024 .f32) (r : Fin 128) (s : Fin 1024) :
    k0_pay350 (F := Ideal) (k0_pay344 (k0_pay339) (k0_pay342 w2 x0) w1 x1) w0 x2 y (ix2 r s)
      = (w2 (ix2 0 s) * x0 (ix2 r s) + w1 (ix2 0 s) * x1 (ix2 r s) + w0 (ix2 0 s) * x2 (ix2 r s)) * y (ix2 r s) := by
  pointwise [k0_pay350, k0_pay347, k0_pay344, k0_pay342, k0_pay339]

theorem tap_0_at (a b x : Vec Ideal S128x1024 .f32) (o : Vec Ideal S1x1024 .f32) (u : Fin 1) (s : Fin 1024) :
    k0_pay341 (F := Ideal) a b x o (ix2 u s) = o (ix2 u s) + ∑ r : Fin 128, k0_pay336 (F := Ideal) a b (ix2 r s) * x (ix2 r s) := by
  pointwise [k0_pay341]

theorem tap_1_at (g x : Vec Ideal S128x1024 .f32) (o : Vec Ideal S1x1024 .f32) (u : Fin 1) (s : Fin 1024) :
    k0_pay343 (F := Ideal) g x o (ix2 u s) = o (ix2 u s) + ∑ r : Fin 128, g (ix2 r s) * x (ix2 r s) := by
  pointwise [k0_pay343]

theorem tap_2_at (g x : Vec Ideal S128x1024 .f32) (o : Vec Ideal S1x1024 .f32) (u : Fin 1) (s : Fin 1024) :
    k0_pay346 (F := Ideal) g x o (ix2 u s) = o (ix2 u s) + ∑ r : Fin 128, g (ix2 r s) * x (ix2 r s) := by
  pointwise [k0_pay346]

/-! ## Reading rows across the border of two pieces -/

/-- `n` rows of a buffer of 136 rows, from row `o` on. -/
abbrev rows (o n : ℕ) (h : ∀ a, (![o, 0] : Fin 2 → ℕ) a + (![n, 1024] : Fin 2 → ℕ) a ≤ S136x1024.size a) : Rect S136x1024 :=
  Rect.unit ![o, 0] ![n, 1024] h

/-- A piece of rows that begins behind the row doesn't count. -/
theorem rows_skip (o n : ℕ) (h) (w : (rows o n h).shape.Idx → EReal) (L : List (View.Piece (Elt Ideal) S136x1024 .f32)) (y : S136x1024.Idx)
    (hy : (y 0).val < o) : View.canon (Val := Elt Ideal) ((⟨rows o n h, w⟩ : View.Piece (Elt Ideal) S136x1024 .f32) :: L) y = View.canon L y :=
  Cert.Pieces.canon_skip (Val := Elt Ideal) h w L y 0 (Or.inl hy)

/-- A piece of rows that holds the row. -/
theorem rows_hit (o n : ℕ) (h) (w : (⟨2, ![n, 1024]⟩ : Shape).Idx → EReal) (L : List (View.Piece (Elt Ideal) S136x1024 .f32)) (y : S136x1024.Idx)
    (q : Fin n) (s : Fin 1024) (h0 : (y 0).val = o + q.val) (h1 : (y 1).val = s.val) :
    View.canon (Val := Elt Ideal) ((⟨rows o n h, w⟩ : View.Piece (Elt Ideal) S136x1024 .f32) :: L) y = w (ix2 q s) :=
  Cert.Pieces.canon_hit (Val := Elt Ideal) (S := S136x1024) (off := ![o, 0]) (size := ![n, 1024]) h w L y (ix2 q s) fun a => match a with
    | ⟨0, _⟩ => h0
    | ⟨1, _⟩ => h1.trans (Nat.zero_add _).symm

/-- Eight rows, then 128: a read of 128 rows from row `6 + k` on. -/
theorem rows_before (A : Vec Ideal S128x1024 .f32) (B : Vec Ideal S8x1024 .f32) (k : ℕ) (hk : k ≤ 2) (h1 h2 h3)
    {sig : RefSig} {κ : Kind} {sp : Space} (v : View sig κ sp S136x1024 .f32) (r : Fin 128) (s : Fin 1024) :
    v.readCov (Val := Elt Ideal) [⟨rows 8 128 h1, A⟩, ⟨rows 0 8 h2, B⟩] (rows (6 + k) 128 h3).toLoadRect (ix2 r s)
      = if h : k + r.val < 2 then B (ix2 ⟨6 + k + r.val, by omega⟩ s) else A (ix2 ⟨k + r.val - 2, by omega⟩ s) := by
  rw [View.readCov_eq_canon']
  have e0 : (((rows (6 + k) 128 h3).toLoadRect.idx (ix2 r s) : S136x1024.Idx) 0).val = 6 + k + r.val := by
    show 6 + k + 1 * r.val = _
    omega
  have e1 : (((rows (6 + k) 128 h3).toLoadRect.idx (ix2 r s) : S136x1024.Idx) 1).val = s.val := by
    show 0 + 1 * s.val = _
    omega
  show View.canon _ ((rows (6 + k) 128 h3).toLoadRect.idx (ix2 r s) : S136x1024.Idx) = _
  generalize ((rows (6 + k) 128 h3).toLoadRect.idx (ix2 r s) : S136x1024.Idx) = y at e0 e1
  split
  · refine (rows_skip 8 128 h1 A _ y (by omega)).trans ?_
    exact rows_hit 0 8 h2 B [] y ⟨6 + k + r.val, by omega⟩ s (by rw [e0]; show 6 + k + r.val = 0 + (6 + k + r.val); omega) e1
  · exact rows_hit 8 128 h1 A _ y ⟨k + r.val - 2, by omega⟩ s (by rw [e0]; show 6 + k + r.val = 8 + (k + r.val - 2); omega) e1

/-- 128 rows, then eight: a read of 128 rows from row `k` on. -/
theorem rows_behind (A : Vec Ideal S128x1024 .f32) (B : Vec Ideal S8x1024 .f32) (k : ℕ) (hk : k ≤ 2) (h1 h2 h3)
    {sig : RefSig} {κ : Kind} {sp : Space} (v : View sig κ sp S136x1024 .f32) (r : Fin 128) (s : Fin 1024) :
    v.readCov (Val := Elt Ideal) [⟨rows 128 8 h1, B⟩, ⟨rows 0 128 h2, A⟩] (rows k 128 h3).toLoadRect (ix2 r s)
      = if h : k + r.val < 128 then A (ix2 ⟨k + r.val, h⟩ s) else B (ix2 ⟨k + r.val - 128, by omega⟩ s) := by
  rw [View.readCov_eq_canon']
  have e0 : (((rows k 128 h3).toLoadRect.idx (ix2 r s) : S136x1024.Idx) 0).val = k + r.val := by
    show k + 1 * r.val = _
    omega
  have e1 : (((rows k 128 h3).toLoadRect.idx (ix2 r s) : S136x1024.Idx) 1).val = s.val := by
    show 0 + 1 * s.val = _
    omega
  show View.canon _ ((rows k 128 h3).toLoadRect.idx (ix2 r s) : S136x1024.Idx) = _
  generalize ((rows k 128 h3).toLoadRect.idx (ix2 r s) : S136x1024.Idx) = y at e0 e1
  split
  · refine (rows_skip 128 8 h1 B _ y (by omega)).trans ?_
    exact rows_hit 0 128 h2 A [] y ⟨k + r.val, by omega⟩ s (by rw [e0]; show k + r.val = 0 + (k + r.val); omega) e1
  · exact rows_hit 128 8 h1 B _ y ⟨k + r.val - 128, by omega⟩ s (by rw [e0]; show k + r.val = 128 + (k + r.val - 128); omega) e1

end Cert.BranchBwd

end
-- ==== Proof.ShortConv.lean ====
module

public import proofs.«01_k».proof.Proof.Gen.Reference30Ideal.Read
public import Idealize.ShloMosaic.Lib.Pointwise
public import Idealize.ShloMosaic.Lib.Pipeline.ValueKit.Geometry
public import Idealize.ShloMosaic.Lib.Pipeline.ValueKit.Acc

/-!
# The gradient of the short convolution, index by index

The gated short convolution multiplies its two inputs, puts two rows of zeros in front of the product, convolves it with
three taps per channel and multiplies the result by the gate. Row `n` of the padded product is `padded p n`, and row `n` of
the gradient that reaches the convolution is `grad p d n`, with zeros behind the last row.
-/

@[expose] public section

noncomputable section

open scoped BigOperators
open Idealize.ShloMosaic Idealize.ShloMosaic.TcCoe Idealize.SL.Sem

namespace Cert.ShortConv

abbrev Proj := Vec Ideal (⟨2, ![8192, 12288]⟩ : Shape) .f32
abbrev Ct := Vec Ideal (⟨3, ![3, 8192, 1024]⟩ : Shape) .f32
abbrev Taps := Vec Ideal (⟨2, ![8, 1024]⟩ : Shape) .f32

/-- Row `n` of the product of the two inputs, behind two rows of zeros. -/
def padded (p : Proj) (n : ℕ) (s : Fin 1024) : EReal :=
  if h : 2 ≤ n ∧ n < 8194 then p (ix2 ⟨n - 2, by omega⟩ ⟨3072 + s.val, by omega⟩) * p (ix2 ⟨n - 2, by omega⟩ ⟨4096 + s.val, by omega⟩) else 0

/-- Row `n` of the gradient of the convolution's result, followed by zeros. -/
def grad (p : Proj) (d : Ct) (n : ℕ) (s : Fin 1024) : EReal :=
  if h : n < 8192 then d (ix3 1 ⟨n, h⟩ s) * p (ix2 ⟨n, h⟩ ⟨2048 + s.val, by omega⟩) else 0

/-- The gradient of the gate. -/
def gate (p : Proj) (d : Ct) (w : Taps) (n : Fin 8192) (s : Fin 1024) : EReal :=
  d (ix3 1 n s) * (w (ix2 0 s) * padded p n.val s + w (ix2 1 s) * padded p (n.val + 1) s + w (ix2 2 s) * padded p (n.val + 2) s)

/-- The gradient of the product of the two inputs. -/
def back (p : Proj) (d : Ct) (w : Taps) (n : Fin 8192) (s : Fin 1024) : EReal :=
  w (ix2 2 s) * grad p d n.val s + w (ix2 1 s) * grad p d (n.val + 1) s + w (ix2 0 s) * grad p d (n.val + 2) s

/-- The gradient of tap `k`. -/
def tap (p : Proj) (d : Ct) (k : ℕ) (s : Fin 1024) : EReal := ∑ n : Fin 8192, grad p d n.val s * padded p (n.val + k) s

/-! ## The reference -/

open Cert.Reference30Ideal Cert.Reference30Ideal.Gen Cert.Reference30Ideal.Read

theorem ref_padded (p : Proj) (n : Fin 8194) (s : Fin 1024) : val_main_v5 (F := Ideal) p (ix2 n s) = padded p n.val s := by
  unfold val_main_v5 padded
  by_cases h : n.val < 2
  · rw [dif_neg (by omega)]
    pointwise [val_main_v3, val_main_cst]
    exact dif_pos h
  · rw [dif_pos (by omega)]
    pointwise [val_main_v4, val_main_v1, val_main_v2]
    exact dif_neg h

theorem ref_grad (p : Proj) (d : Ct) (n : Fin 8192) (s : Fin 1024) : val_main_v30 (F := Ideal) p d (ix2 n s) = grad p d n.val s := by
  unfold grad
  rw [dif_pos n.isLt]
  pointwise [val_main_v30, val_main_v0, val_main_v29, val_main_v28]
  exact mul_comm _ _

theorem ref_gate (p : Proj) (d : Ct) (w : Taps) (n : Fin 8192) (s : Fin 1024) :
    val_main_v31 (F := Ideal) p d w (ix2 n s) = gate p d w n s := by
  unfold gate
  have e0 := ref_padded p ⟨n.val, by omega⟩ s
  have e1 := ref_padded p ⟨n.val + 1, by omega⟩ s
  have e2 := ref_padded p ⟨n.val + 2, by omega⟩ s
  rw [← e0, ← e1, ← e2]
  unfold val_main_v31 val_main_v26 val_main_v25 val_main_v22 val_main_v19 val_main_v18 val_main_v15 val_main_v12 val_main_v9
  generalize val_main_v5 (F := Ideal) p = v
  pointwise [val_main_v29, val_main_v28, val_main_v24, val_main_v23, val_main_v21, val_main_v20, val_main_v17, val_main_v16, val_main_v14,
    val_main_v13, val_main_v11, val_main_v10, val_main_v8, val_main_v7]
  have a1 : (⟨1 + n.val, by omega⟩ : Fin 8194) = ⟨n.val + 1, by omega⟩ := Fin.ext (by show 1 + n.val = n.val + 1; omega)
  have a2 : (⟨2 + n.val, by omega⟩ : Fin 8194) = ⟨n.val + 2, by omega⟩ := Fin.ext (by show 2 + n.val = n.val + 2; omega)
  rw [a1, a2]

theorem ref_back (p : Proj) (d : Ct) (w : Taps) (n : Fin 8192) (s : Fin 1024) :
    val_main_v64 (F := Ideal) p d w (ix2 n s) = back p d w n s := by
  have hg : ∀ (i : ℕ) (hi : i < 8192), val_main_v30 (F := Ideal) p d (ix2 ⟨i, hi⟩ s) = grad p d i s := fun i hi => ref_grad p d ⟨i, hi⟩ s
  unfold val_main_v64 val_main_v59 val_main_v58 val_main_v53 val_main_v48 val_main_v47 val_main_v42 val_main_v38 val_main_v33
  generalize val_main_v30 (F := Ideal) p d = v at hg
  pointwise [val_main_v32, val_main_v41, val_main_v52, val_main_v24, val_main_v23, val_main_v21, val_main_v20, val_main_v17, val_main_v16, val_main_v14,
    val_main_v13, val_main_v11, val_main_v10, val_main_v8, val_main_v7, val_main_cst_3, val_main_cst_7, val_main_cst_11]
  unfold back
  have h0 : v (ix2 n s) = grad p d n.val s := hg n.val n.isLt
  rw [h0]
  refine congrArg₂ (· + ·) (congrArg₂ (· + ·) rfl ?_) ?_
  · by_cases h : n.val + 1 < 8192
    · rw [dif_pos (by omega), hg]
      rw [show 2 + n.val - 1 = n.val + 1 by omega]
    · rw [dif_neg (by omega)]
      unfold grad
      rw [dif_neg h, mul_zero]
  · by_cases h : n.val + 2 < 8192
    · rw [dif_pos (by omega), hg]
      rw [show 2 + n.val = n.val + 2 by omega]
    · rw [dif_neg (by omega)]
      unfold grad
      rw [dif_neg h, mul_zero]

theorem ref_dsc (p : Proj) (d : Ct) (w : Taps) (n : Fin 8192) (s : Fin 1024) :
    val_main_v66 (F := Ideal) p d w (ix2 n s) = back p d w n s * p (ix2 n ⟨4096 + s.val, by omega⟩) := by
  rw [← ref_back]
  unfold val_main_v66
  generalize val_main_v64 (F := Ideal) p d w = v
  pointwise [val_main_v2]

theorem ref_dsx (p : Proj) (d : Ct) (w : Taps) (n : Fin 8192) (s : Fin 1024) :
    val_main_v65 (F := Ideal) p d w (ix2 n s) = back p d w n s * p (ix2 n ⟨3072 + s.val, by omega⟩) := by
  rw [← ref_back]
  unfold val_main_v65
  generalize val_main_v64 (F := Ideal) p d w = v
  pointwise [val_main_v1]
  exact mul_comm _ _

theorem ref_tap_0 (p : Proj) (d : Ct) (s : Fin 1024) : val_main_v57 (F := Ideal) p d (ix1 s) = tap p d 0 s := by
  unfold tap val_main_v57 val_main_v56 val_main_v55 val_main_v54 val_main_v9
  have hp : ∀ (i : ℕ) (hi : i < 8194), val_main_v5 (F := Ideal) p (ix2 ⟨i, hi⟩ s) = padded p i s := fun i hi => ref_padded p ⟨i, hi⟩ s
  have hg : ∀ n : Fin 8192, val_main_v30 (F := Ideal) p d (ix2 n s) = grad p d n.val s := fun n => ref_grad p d n s
  generalize val_main_v30 (F := Ideal) p d = v at hg
  generalize val_main_v5 (F := Ideal) p = u at hp
  pointwise [val_main_cst_9, val_main_cst_10]
  refine (Fin.sum_univ_one _).trans (Finset.sum_congr rfl fun n _ => ?_)
  rw [hg, hp]

theorem ref_tap_1 (p : Proj) (d : Ct) (s : Fin 1024) : val_main_v46 (F := Ideal) p d (ix1 s) = tap p d 1 s := by
  unfold tap val_main_v46 val_main_v45 val_main_v44 val_main_v43 val_main_v15
  have hp : ∀ (i : ℕ) (hi : i < 8194), val_main_v5 (F := Ideal) p (ix2 ⟨i, hi⟩ s) = padded p i s := fun i hi => ref_padded p ⟨i, hi⟩ s
  have hg : ∀ n : Fin 8192, val_main_v30 (F := Ideal) p d (ix2 n s) = grad p d n.val s := fun n => ref_grad p d n s
  generalize val_main_v30 (F := Ideal) p d = v at hg
  generalize val_main_v5 (F := Ideal) p = u at hp
  pointwise [val_main_cst_5, val_main_cst_6]
  refine (Fin.sum_univ_one _).trans (Finset.sum_congr rfl fun n _ => ?_)
  rw [hg, hp]
  rw [show 1 + n.val = n.val + 1 by omega]

theorem ref_tap_2 (p : Proj) (d : Ct) (s : Fin 1024) : val_main_v37 (F := Ideal) p d (ix1 s) = tap p d 2 s := by
  unfold tap val_main_v37 val_main_v36 val_main_v35 val_main_v34 val_main_v22
  have hp : ∀ (i : ℕ) (hi : i < 8194), val_main_v5 (F := Ideal) p (ix2 ⟨i, hi⟩ s) = padded p i s := fun i hi => ref_padded p ⟨i, hi⟩ s
  have hg : ∀ n : Fin 8192, val_main_v30 (F := Ideal) p d (ix2 n s) = grad p d n.val s := fun n => ref_grad p d n s
  generalize val_main_v30 (F := Ideal) p d = v at hg
  generalize val_main_v5 (F := Ideal) p = u at hp
  pointwise [val_main_cst_1, val_main_cst_2]
  refine (Fin.sum_univ_one _).trans (Finset.sum_congr rfl fun n _ => ?_)
  rw [hg, hp]
  rw [show 2 + n.val = n.val + 2 by omega]

theorem ref_misc (p : Proj) (d : Ct) (k : Fin 3) (s : Fin 1024) :
    val_main_v74 (F := Ideal) p d (ix2 ⟨3 + k.val, by omega⟩ s) = tap p d k.val s := by
  unfold val_main_v74 val_main_v72 val_main_v62 val_main_v61 val_main_v60 val_main_v51 val_main_v50 val_main_v49 val_main_v40 val_main_v39
  have h0 := ref_tap_0 p d s
  have h1 := ref_tap_1 p d s
  have h2 := ref_tap_2 p d s
  generalize val_main_v57 (F := Ideal) p d = v0 at h0
  generalize val_main_v46 (F := Ideal) p d = v1 at h1
  generalize val_main_v37 (F := Ideal) p d = v2 at h2
  fin_cases k
  all_goals pointwise [val_main_cst_4, val_main_cst_8, val_main_cst_12]
  · exact h0
  · exact h1
  · exact h2

theorem ref_dp_dsb (p : Proj) (d : Ct) (w : Taps) (n : Fin 8192) (s : Fin 1024) :
    val_main_v70 (F := Ideal) p d w (ix2 n ⟨2048 + s.val, by omega⟩) = gate p d w n s := by
  rw [← ref_gate]
  show val_main_v69 (F := Ideal) p d w (ix2 n ⟨2048 + s.val, by omega⟩) = _
  unfold val_main_v69
  generalize val_main_v31 (F := Ideal) p d w = v0
  generalize val_main_v65 (F := Ideal) p d w = v1
  generalize val_main_v66 (F := Ideal) p d w = v2
  pointwise

theorem ref_dp_dsc (p : Proj) (d : Ct) (w : Taps) (n : Fin 8192) (s : Fin 1024) :
    val_main_v70 (F := Ideal) p d w (ix2 n ⟨3072 + s.val, by omega⟩) = back p d w n s * p (ix2 n ⟨4096 + s.val, by omega⟩) := by
  rw [← ref_dsc]
  show val_main_v69 (F := Ideal) p d w (ix2 n ⟨3072 + s.val, by omega⟩) = _
  unfold val_main_v69
  generalize val_main_v31 (F := Ideal) p d w = v0
  generalize val_main_v65 (F := Ideal) p d w = v1
  generalize val_main_v66 (F := Ideal) p d w = v2
  pointwise
  rw [dif_neg (by omega), dif_neg (by omega), dif_pos (by omega)]
  exact congrArg (fun k => v2 (ix2 n k)) (Fin.ext (by show 3072 + s.val - 2048 - 1024 = s.val; omega))

theorem ref_dp_dsx (p : Proj) (d : Ct) (w : Taps) (n : Fin 8192) (s : Fin 1024) :
    val_main_v70 (F := Ideal) p d w (ix2 n ⟨4096 + s.val, by omega⟩) = back p d w n s * p (ix2 n ⟨3072 + s.val, by omega⟩) := by
  rw [← ref_dsx]
  show val_main_v69 (F := Ideal) p d w (ix2 n ⟨4096 + s.val, by omega⟩) = _
  unfold val_main_v69
  generalize val_main_v31 (F := Ideal) p d w = v0
  generalize val_main_v65 (F := Ideal) p d w = v1
  generalize val_main_v66 (F := Ideal) p d w = v2
  pointwise
  rw [dif_neg (by omega), dif_neg (by omega), dif_neg (by omega), dif_pos (by omega)]
  exact congrArg (fun k => v1 (ix2 n k)) (Fin.ext (by show 4096 + s.val - 2048 - 1024 - 1024 = s.val; omega))

end Cert.ShortConv

end
-- ==== Proof.BranchBwd.lean ====
module

public import proofs.«01_k».proof.Proof.BranchPieces
public import proofs.«01_k».proof.Proof.ShortConv
public import proofs.«01_k».proof.Proof.Gen.KernelIdeal.Value
public import Idealize.ShloMosaic.Lib.Pipeline.ValueKit.Tiles
public import Idealize.ShloMosaic.Lib.Pipeline.ValueKit.Partial

/-!
# The branches' gradient: the blocks

Grid point `t` handles rows `128 t` to `128 t + 127`. Its short convolution needs the two rows before them and its gradient the
two rows behind them. The point gets the eight rows before and behind, and multiplies them by zero at the two ends.
-/

@[expose] public section

noncomputable section

open scoped BigOperators
open Idealize.ShloMosaic Idealize.ShloMosaic.TcCoe Idealize.SL.Sem

namespace Cert.BranchBwd

open Cert.KernelIdeal Cert.KernelIdeal.Gen Cert.ShortConv

variable (m : (ℓ : Loc nD τ sig) → Buf (Elt Ideal) ℓ)

/-! ## Where the blocks lie -/

theorem index_2 : ∀ t : Fin cfg0.N, win0_2.index t = ![t.val, 2] := (by decide +kernel : ∀ t : Fin grid0.N, _)
theorem index_3 : ∀ t : Fin cfg0.N, win0_3.index t = ![t.val, 3] := (by decide +kernel : ∀ t : Fin grid0.N, _)
theorem index_4 : ∀ t : Fin cfg0.N, win0_4.index t = ![t.val, 4] := (by decide +kernel : ∀ t : Fin grid0.N, _)
theorem index_8 : ∀ t : Fin cfg0.N, win0_8.index t = ![t.val * 16 - 1, 3] := (by decide +kernel : ∀ t : Fin grid0.N, _)
theorem index_9 : ∀ t : Fin cfg0.N, win0_9.index t = ![t.val * 16 - 1, 4] := (by decide +kernel : ∀ t : Fin grid0.N, _)
theorem index_10 : ∀ t : Fin cfg0.N, win0_10.index t = ![min (t.val * 16 + 16) 1023, 2] := (by decide +kernel : ∀ t : Fin grid0.N, _)
theorem index_13 : ∀ t : Fin cfg0.N, win0_13.index t = ![0, t.val, 0] := (by decide +kernel : ∀ t : Fin grid0.N, _)
theorem index_15 : ∀ t : Fin cfg0.N, win0_15.index t = ![1, min (t.val * 16 + 16) 1023, 0] := (by decide +kernel : ∀ t : Fin grid0.N, _)
theorem index_20 : ∀ t : Fin cfg0.N, win0_20.index t = ![0, 0] := (by decide +kernel : ∀ t : Fin grid0.N, _)
theorem index_21 : ∀ t : Fin cfg0.N, win0_21.index t = ![t.val, 0] := (by decide +kernel : ∀ t : Fin grid0.N, _)
theorem index_24 : ∀ t : Fin cfg0.N, win0_24.index t = ![0, 0] := (by decide +kernel : ∀ t : Fin grid0.N, _)
theorem coord : ∀ t : Fin cfg0.N, (grid0.coords t 0).val = t.val := (by decide +kernel : ∀ t : Fin grid0.N, _)

/-- The input projection. -/
abbrev P (c : Dev nD) : Proj := m ((c : Thread nD τ).loc main_arg0)
/-- The gradients of the branches' outputs. -/
abbrev D (c : Dev nD) : Ct := m ((c : Thread nD τ).loc main_arg2)
/-- The taps. -/
abbrev W (c : Dev nD) : Taps := m ((c : Thread nD τ).loc main_arg7)

theorem sb_at (c : Dev nD) (t : Fin cfg0.N) (r : Fin 128) (s : Fin 1024) (n : Fin 8192) (k : Fin 12288) (hn : n.val = 128 * t.val + r.val)
    (hk : k.val = 2048 + s.val) : iblk m c 2 t (ix2 r s) = P m c (ix2 n k) := by
  blk_simp [iblk, index_2]
  show m ((c : Thread nD τ).loc main_arg0) _ = _
  congr 1
  blk_ext [index_2]

theorem sc_at (c : Dev nD) (t : Fin cfg0.N) (r : Fin 128) (s : Fin 1024) (n : Fin 8192) (k : Fin 12288) (hn : n.val = 128 * t.val + r.val)
    (hk : k.val = 3072 + s.val) : iblk m c 3 t (ix2 r s) = P m c (ix2 n k) := by
  blk_simp [iblk, index_3]
  show m ((c : Thread nD τ).loc main_arg0) _ = _
  congr 1
  blk_ext [index_3]

theorem sx_at (c : Dev nD) (t : Fin cfg0.N) (r : Fin 128) (s : Fin 1024) (n : Fin 8192) (k : Fin 12288) (hn : n.val = 128 * t.val + r.val)
    (hk : k.val = 4096 + s.val) : iblk m c 4 t (ix2 r s) = P m c (ix2 n k) := by
  blk_simp [iblk, index_4]
  show m ((c : Thread nD τ).loc main_arg0) _ = _
  congr 1
  blk_ext [index_4]

theorem hsc_at (c : Dev nD) (t : Fin cfg0.N) (r : Fin 8) (s : Fin 1024) (n : Fin 8192) (k : Fin 12288) (hn : n.val + 8 = 128 * t.val + r.val)
    (hk : k.val = 3072 + s.val) : iblk m c 8 t (ix2 r s) = P m c (ix2 n k) := by
  blk_simp [iblk, index_8]
  show m ((c : Thread nD τ).loc main_arg0) _ = _
  congr 1
  blk_ext [index_8]

theorem hsx_at (c : Dev nD) (t : Fin cfg0.N) (r : Fin 8) (s : Fin 1024) (n : Fin 8192) (k : Fin 12288) (hn : n.val + 8 = 128 * t.val + r.val)
    (hk : k.val = 4096 + s.val) : iblk m c 9 t (ix2 r s) = P m c (ix2 n k) := by
  blk_simp [iblk, index_9]
  show m ((c : Thread nD τ).loc main_arg0) _ = _
  congr 1
  blk_ext [index_9]

theorem nsb_at (c : Dev nD) (t : Fin cfg0.N) (r : Fin 8) (s : Fin 1024) (n : Fin 8192) (k : Fin 12288) (hn : n.val = 128 * t.val + 128 + r.val)
    (hk : k.val = 2048 + s.val) : iblk m c 10 t (ix2 r s) = P m c (ix2 n k) := by
  blk_simp [iblk, index_10]
  show m ((c : Thread nD τ).loc main_arg0) _ = _
  congr 1
  blk_ext [index_10]

theorem d_at (c : Dev nD) (t : Fin cfg0.N) (b : Fin 3) (r : Fin 128) (s : Fin 1024) (n : Fin 8192) (hn : n.val = 128 * t.val + r.val) :
    iblk m c 13 t (ix3 b r s) = D m c (ix3 b n s) := by
  blk_simp [iblk, index_13]
  show m ((c : Thread nD τ).loc main_arg2) _ = _
  congr 1
  blk_ext [index_13]

theorem nd_at (c : Dev nD) (t : Fin cfg0.N) (u : Fin 1) (r : Fin 8) (s : Fin 1024) (n : Fin 8192) (hn : n.val = 128 * t.val + 128 + r.val) :
    iblk m c 15 t (ix3 u r s) = D m c (ix3 1 n s) := by
  blk_simp [iblk, index_15]
  show m ((c : Thread nD τ).loc main_arg2) _ = _
  congr 1
  blk_ext [index_15]

theorem w_at (c : Dev nD) (t : Fin cfg0.N) (k : Fin 8) (s : Fin 1024) : iblk m c 20 t (ix2 k s) = W m c (ix2 k s) := by
  blk_simp [iblk, index_20]
  show m ((c : Thread nD τ).loc main_arg7) _ = _
  congr 1
  blk_ext [index_20]

/-! ## The rows a point works with -/

/-- Rows `6 + k` to `133 + k` of the buffer with the products: the padded product from row `128 t + k` on. -/
theorem padded_at (c : Dev nD) (t : Fin cfg0.N) (k : ℕ) (hk : k ≤ 2) (h1 h2 h3) {sig : RefSig} {κ : Kind} {sp : Space}
    (v : View sig κ sp S136x1024 .f32) (r : Fin 128) (s : Fin 1024) :
    v.readCov (Val := Elt Ideal) [⟨rows 8 128 h1, k0_pay334 (F := Ideal) (iblk m c 3 t) (iblk m c 4 t)⟩,
      ⟨rows 0 8 h2, k0_pay333 (F := Ideal) (k0_pay35 (grid0.coords t)) (iblk m c 8 t) (iblk m c 9 t)⟩] (rows (6 + k) 128 h3).toLoadRect (ix2 r s)
      = padded (P m c) (128 * t.val + r.val + k) s := by
  have hN : cfg0.N = 64 := N_0
  have ht := t.isLt
  rw [rows_before _ _ k hk]
  unfold padded
  split
  · rw [before_at, first_at, coord]
    by_cases h0 : t.val = 0
    · rw [if_pos h0, mul_zero, dif_neg (by omega)]
    · rw [if_neg h0, mul_one, dif_pos (by omega)]
      exact congrArg₂ (· * ·) (hsc_at m c t _ _ _ _ (by show 128 * t.val + r.val + k - 2 + 8 = 128 * t.val + (6 + k + r.val); omega) rfl)
        (hsx_at m c t _ _ _ _ (by show 128 * t.val + r.val + k - 2 + 8 = 128 * t.val + (6 + k + r.val); omega) rfl)
  · rw [product_at, dif_pos (by omega)]
    exact congrArg₂ (· * ·) (sc_at m c t _ _ _ _ (by show 128 * t.val + r.val + k - 2 = 128 * t.val + (k + r.val - 2); omega) rfl)
        (sx_at m c t _ _ _ _ (by show 128 * t.val + r.val + k - 2 = 128 * t.val + (k + r.val - 2); omega) rfl)

theorem ct_ld (c : Dev nD) (t : Fin cfg0.N) (h) (r : Fin 128) (s : Fin 1024) (n : Fin 8192) (hn : n.val = 128 * t.val + r.val) :
    View.ld (Val := Elt Ideal) (iblk m c 13 t) (Rect.unit ![1, 0, 0] ![1, 128, 1024] h) (ix3 0 r s) = D m c (ix3 1 n s) := by
  refine Eq.trans ?_ (d_at m c t 1 r s _ hn)
  show iblk m c 13 t _ = _
  congr 1
  funext a
  apply Fin.ext
  match a with
  | ⟨0, _⟩ => rfl
  | ⟨1, _⟩ => show 0 + 1 * r.val = r.val; omega
  | ⟨2, _⟩ => show 0 + 1 * s.val = s.val; omega

/-- The gradient of the convolution's result, in the rows of the point. -/
theorem du_block (c : Dev nD) (t : Fin cfg0.N) (h) (r : Fin 128) (s : Fin 1024) :
    k0_pay336 (F := Ideal) (k0_pay335 (View.ld (iblk m c 13 t) (Rect.unit ![1, 0, 0] ![1, 128, 1024] h))) (iblk m c 2 t) (ix2 r s)
      = grad (P m c) (D m c) (128 * t.val + r.val) s := by
  have hN : cfg0.N = 64 := N_0
  have ht := t.isLt
  rw [du_at, ct_at]
  unfold grad
  rw [dif_pos (by omega)]
  exact congrArg₂ (· * ·) (ct_ld m c t h r s _ rfl) (sb_at m c t _ _ _ _ rfl rfl)

theorem du_kept_block (c : Dev nD) (t : Fin cfg0.N) (h) (r : Fin 128) (s : Fin 1024) :
    k0_pay337 (F := Ideal) (k0_pay335 (View.ld (iblk m c 13 t) (Rect.unit ![1, 0, 0] ![1, 128, 1024] h))) (iblk m c 2 t) (ix2 r s)
      = grad (P m c) (D m c) (128 * t.val + r.val) s :=
  (du_kept_at _ _ r s).trans ((du_at _ _ r s).symm.trans (du_block m c t h r s))

/-- Rows `k` to `127 + k` of the buffer with the gradients: the gradient from row `128 t + k` on. -/
theorem grad_at (c : Dev nD) (t : Fin cfg0.N) (k : ℕ) (hk : k ≤ 2) (h h1 h2 h3) {sig : RefSig} {κ : Kind} {sp : Space}
    (v : View sig κ sp S136x1024 .f32) (r : Fin 128) (s : Fin 1024) :
    v.readCov (Val := Elt Ideal) [⟨rows 128 8 h1, k0_pay338 (F := Ideal) (k0_pay36 (grid0.coords t)) (iblk m c 15 t) (iblk m c 10 t)⟩,
      ⟨rows 0 128 h2, k0_pay337 (F := Ideal) (k0_pay335 (View.ld (iblk m c 13 t) (Rect.unit ![1, 0, 0] ![1, 128, 1024] h))) (iblk m c 2 t)⟩]
        (rows k 128 h3).toLoadRect (ix2 r s)
      = grad (P m c) (D m c) (128 * t.val + r.val + k) s := by
  have hN : cfg0.N = 64 := N_0
  have ht := t.isLt
  rw [rows_behind _ _ k hk]
  split
  · rw [du_kept_block]
    congr 1
    show 128 * t.val + (k + r.val) = _
    omega
  · rw [behind_at, last_at, coord]
    unfold grad
    by_cases h0 : t.val < 63
    · rw [if_pos h0, mul_one, dif_pos (by omega)]
      exact congrArg₂ (· * ·) (nd_at m c t _ _ _ _ (by show 128 * t.val + r.val + k = 128 * t.val + 128 + (k + r.val - 128); omega))
        (nsb_at m c t _ _ _ _ (by show 128 * t.val + r.val + k = 128 * t.val + 128 + (k + r.val - 128); omega) rfl)
    · rw [if_neg h0, mul_zero, dif_neg (by omega)]

theorem product_block (c : Dev nD) (t : Fin cfg0.N) (r : Fin 128) (s : Fin 1024) :
    k0_pay334 (F := Ideal) (iblk m c 3 t) (iblk m c 4 t) (ix2 r s) = padded (P m c) (128 * t.val + r.val + 2) s := by
  have hN : cfg0.N = 64 := N_0
  have ht := t.isLt
  rw [product_at]
  unfold padded
  rw [dif_pos (by omega)]
  exact congrArg₂ (· * ·) (sc_at m c t _ _ _ _ rfl rfl) (sx_at m c t _ _ _ _ rfl rfl)

/-- One row of the taps. -/
abbrev row (k : ℕ) (h : ∀ a, (![k, 0] : Fin 2 → ℕ) a + (![1, 1024] : Fin 2 → ℕ) a ≤ S8x1024.size a) : Rect S8x1024 :=
  Rect.unit ![k, 0] ![1, 1024] h

theorem ld_row {e : EltTy} (x : S8x1024.Idx → Elt Ideal e) (k : ℕ) (hk : k < 8) (h) (u : Fin 1) (s : Fin 1024) :
    View.ld (Val := Elt Ideal) x (row k h) (ix2 u s) = x (ix2 ⟨k, hk⟩ s) := by
  show x _ = x _
  congr 1
  funext a
  apply Fin.ext
  match a with
  | ⟨0, _⟩ => show k + 1 * u.val = k; omega
  | ⟨1, _⟩ => show 0 + 1 * s.val = s.val; omega

theorem tap_row (c : Dev nD) (t : Fin cfg0.N) (k : ℕ) (hk : k < 8) (h) (u : Fin 1) (s : Fin 1024) :
    View.ld (Val := Elt Ideal) (iblk m c 20 t) (row k h) (ix2 u s) = W m c (ix2 ⟨k, hk⟩ s) :=
  (ld_row _ k hk h u s).trans (w_at m c t _ s)

/-- The buffer with the products, and the one with the gradients, after their two pieces. -/
abbrev products (c : Dev nD) (t : Fin cfg0.N) (h1 : ∀ a, (![8, 0] : Fin 2 → ℕ) a + (![128, 1024] : Fin 2 → ℕ) a ≤ S136x1024.size a)
    (h2 : ∀ a, (![0, 0] : Fin 2 → ℕ) a + (![8, 1024] : Fin 2 → ℕ) a ≤ S136x1024.size a) : List (View.Piece (Elt Ideal) S136x1024 .f32) :=
  [⟨rows 8 128 h1, k0_pay334 (F := Ideal) (iblk m c 3 t) (iblk m c 4 t)⟩,
    ⟨rows 0 8 h2, k0_pay333 (F := Ideal) (k0_pay35 (grid0.coords t)) (iblk m c 8 t) (iblk m c 9 t)⟩]

abbrev ct (c : Dev nD) (t : Fin cfg0.N) (h : ∀ a, (![1, 0, 0] : Fin 3 → ℕ) a + (![1, 128, 1024] : Fin 3 → ℕ) a ≤ S3x128x1024.size a) : FVec Ideal S128x1024 .f32 :=
  k0_pay335 (F := Ideal) (View.ld (iblk m c 13 t) (Rect.unit ![1, 0, 0] ![1, 128, 1024] h))

abbrev grads (c : Dev nD) (t : Fin cfg0.N) (h : ∀ a, (![1, 0, 0] : Fin 3 → ℕ) a + (![1, 128, 1024] : Fin 3 → ℕ) a ≤ S3x128x1024.size a)
    (h1 : ∀ a, (![128, 0] : Fin 2 → ℕ) a + (![8, 1024] : Fin 2 → ℕ) a ≤ S136x1024.size a)
    (h2 : ∀ a, (![0, 0] : Fin 2 → ℕ) a + (![128, 1024] : Fin 2 → ℕ) a ≤ S136x1024.size a) : List (View.Piece (Elt Ideal) S136x1024 .f32) :=
  [⟨rows 128 8 h1, k0_pay338 (F := Ideal) (k0_pay36 (grid0.coords t)) (iblk m c 15 t) (iblk m c 10 t)⟩,
    ⟨rows 0 128 h2, k0_pay337 (F := Ideal) (ct m c t h) (iblk m c 2 t)⟩]

section
variable {sig : RefSig} {κ : Kind} {sp : Space} (v : View sig κ sp S136x1024 .f32)

theorem gate_block (c : Dev nD) (t : Fin cfg0.N) (h h1 h2 h3 h4 h5 h6 h7) (r : Fin 128) (s : Fin 1024) (n : Fin 8192)
    (hn : n.val = 128 * t.val + r.val) :
    k0_pay348 (F := Ideal) (ct m c t h)
      (k0_pay345 (k0_pay340 (v.readCov (Val := Elt Ideal) (products m c t h1 h2) (rows 6 128 h3).toLoadRect) (View.ld (iblk m c 20 t) (row 0 h5)))
        (v.readCov (Val := Elt Ideal) (products m c t h1 h2) (rows 7 128 h4).toLoadRect) (View.ld (iblk m c 20 t) (row 1 h6))
        (k0_pay334 (iblk m c 3 t) (iblk m c 4 t)) (View.ld (iblk m c 20 t) (row 2 h7))) (ix2 r s)
      = gate (P m c) (D m c) (W m c) n s := by
  obtain ⟨n, hlt⟩ := n
  subst hn
  refine (dsb_at _ _ _ _ _ _ _ r s).trans ?_
  unfold gate
  refine congrArg₂ (· * ·) ?_ (congrArg₂ (· + ·) (congrArg₂ (· + ·) (congrArg₂ (· * ·) ?_ ?_) (congrArg₂ (· * ·) ?_ ?_)) (congrArg₂ (· * ·) ?_ ?_))
  · exact (ct_at _ r s).trans <| ct_ld m c t h r s _ rfl
  · exact tap_row m c t 0 (by omega) _ 0 s
  · exact padded_at m c t 0 (by omega) _ _ _ v r s
  · exact tap_row m c t 1 (by omega) _ 0 s
  · exact padded_at m c t 1 (by omega) _ _ _ v r s
  · exact tap_row m c t 2 (by omega) _ 0 s
  · exact product_block m c t r s

abbrev tapAt (c : Dev nD) (t : Fin cfg0.N) (k : ℕ) (h : ∀ a, (![k, 0] : Fin 2 → ℕ) a + (![1, 1024] : Fin 2 → ℕ) a ≤ S8x1024.size a)
    (s : Fin 1024) : EReal := View.ld (Val := Elt Ideal) (iblk m c 20 t) (row k h) (ix2 0 s)

theorem back_block (c : Dev nD) (t : Fin cfg0.N) (h h1 h2 h3 h4 h5 h6 h7) (y : Vec Ideal S128x1024 .f32) (z : EReal) (r : Fin 128) (s : Fin 1024)
    (n : Fin 8192) (hn : n.val = 128 * t.val + r.val) (hy : y (ix2 r s) = z) :
    (tapAt m c t 2 h5 s * k0_pay337 (F := Ideal) (ct m c t h) (iblk m c 2 t) (ix2 r s)
        + tapAt m c t 1 h6 s
          * (v.readCov (Val := Elt Ideal) (grads m c t h h1 h2) (rows 1 128 h3).toLoadRect (ix2 r s) : EReal)
        + tapAt m c t 0 h7 s
          * (v.readCov (Val := Elt Ideal) (grads m c t h h1 h2) (rows 2 128 h4).toLoadRect (ix2 r s) : EReal)) * (y (ix2 r s) : EReal)
      = back (P m c) (D m c) (W m c) n s * z := by
  obtain ⟨n, hlt⟩ := n
  subst hn
  unfold back
  refine congrArg₂ (· * ·) (congrArg₂ (· + ·) (congrArg₂ (· + ·) (congrArg₂ (· * ·) ?_ ?_) (congrArg₂ (· * ·) ?_ ?_)) (congrArg₂ (· * ·) ?_ ?_)) hy
  · exact tap_row m c t 2 (by omega) _ 0 s
  · exact du_kept_block m c t h r s
  · exact tap_row m c t 1 (by omega) _ 0 s
  · exact grad_at m c t 1 (by omega) _ _ _ _ v r s
  · exact tap_row m c t 0 (by omega) _ 0 s
  · exact grad_at m c t 2 (by omega) _ _ _ _ v r s

end

end Cert.BranchBwd

end
-- ==== Proof.BranchDp.lean ====
module

public import proofs.«01_k».proof.Proof.BranchBwd

/-!
# The branches' gradient: what a point writes into its rows
-/

@[expose] public section

noncomputable section

open scoped BigOperators
open Idealize.ShloMosaic Idealize.ShloMosaic.TcCoe Idealize.SL.Sem

namespace Cert.BranchBwd

open Cert.KernelIdeal Cert.KernelIdeal.Gen Cert.ShortConv

variable (m : (ℓ : Loc nD τ sig) → Buf (Elt Ideal) ℓ)

set_option maxHeartbeats 4000000 in
theorem dsb_B (c : Dev nD) (t : Fin cfg0.N) (h0 : ¬t.val % 64 = 0) (r : Fin 128) (s : Fin 1024) (n : Fin 8192) (hn : n.val = 128 * t.val + r.val) :
    (outsAt0 m c t.val t.isLt).1 (ix2 r ⟨2048 + s.val, by omega⟩) = gate (P m c) (D m c) (W m c) n s := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 2048 + s.val < 5888 by omega))).trans ?_
  refine (Cert.Pieces.canon_skip _ _ _ _ 1 (Or.inl (show 2048 + s.val < 5632 by omega))).trans ?_
  refine (Cert.Pieces.canon_skip _ _ _ _ 1 (Or.inl (show 2048 + s.val < 5376 by omega))).trans ?_
  refine (Cert.Pieces.canon_skip _ _ _ _ 1 (Or.inl (show 2048 + s.val < 5120 by omega))).trans ?_
  refine (Cert.Pieces.canon_skip _ _ _ _ 1 (Or.inl (show 2048 + s.val < 4096 by omega))).trans ?_
  refine (Cert.Pieces.canon_skip _ _ _ _ 1 (Or.inl (show 2048 + s.val < 3072 by omega))).trans ?_
  refine (Cert.Pieces.canon_hit _ _ _ _ (ix2 r s) fun a => match a with
    | ⟨0, _⟩ => (Nat.zero_add _).symm
    | ⟨1, _⟩ => rfl).trans ?_
  frame_out
  exact gate_block m _ c t _ _ _ _ _ _ _ _ r s n hn

set_option maxHeartbeats 4000000 in
theorem dsb_A (c : Dev nD) (t : Fin cfg0.N) (h0 : t.val % 64 = 0) (r : Fin 128) (s : Fin 1024) (n : Fin 8192) (hn : n.val = 128 * t.val + r.val) :
    (outsAt0 m c t.val t.isLt).1 (ix2 r ⟨2048 + s.val, by omega⟩) = gate (P m c) (D m c) (W m c) n s := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 2048 + s.val < 5888 by omega))).trans ?_
  refine (Cert.Pieces.canon_skip _ _ _ _ 1 (Or.inl (show 2048 + s.val < 5632 by omega))).trans ?_
  refine (Cert.Pieces.canon_skip _ _ _ _ 1 (Or.inl (show 2048 + s.val < 5376 by omega))).trans ?_
  refine (Cert.Pieces.canon_skip _ _ _ _ 1 (Or.inl (show 2048 + s.val < 5120 by omega))).trans ?_
  refine (Cert.Pieces.canon_skip _ _ _ _ 1 (Or.inl (show 2048 + s.val < 4096 by omega))).trans ?_
  refine (Cert.Pieces.canon_skip _ _ _ _ 1 (Or.inl (show 2048 + s.val < 3072 by omega))).trans ?_
  refine (Cert.Pieces.canon_hit _ _ _ _ (ix2 r s) fun a => match a with
    | ⟨0, _⟩ => (Nat.zero_add _).symm
    | ⟨1, _⟩ => rfl).trans ?_
  frame_out
  exact gate_block m _ c t _ _ _ _ _ _ _ _ r s n hn

/-- The gradient of the gate. -/
theorem dsb_out (c : Dev nD) (t : Fin cfg0.N) (r : Fin 128) (s : Fin 1024) (n : Fin 8192) (hn : n.val = 128 * t.val + r.val) :
    (outsAt0 m c t.val t.isLt).1 (ix2 r ⟨2048 + s.val, by omega⟩) = gate (P m c) (D m c) (W m c) n s := by
  by_cases h0 : t.val % 64 = 0
  · exact dsb_A m c t h0 r s n hn
  · exact dsb_B m c t h0 r s n hn

set_option maxHeartbeats 4000000 in
theorem dsc_B (c : Dev nD) (t : Fin cfg0.N) (h0 : ¬t.val % 64 = 0) (r : Fin 128) (s : Fin 1024) (n : Fin 8192) (hn : n.val = 128 * t.val + r.val) :
    (outsAt0 m c t.val t.isLt).1 (ix2 r ⟨3072 + s.val, by omega⟩) = back (P m c) (D m c) (W m c) n s * P m c (ix2 n ⟨4096 + s.val, by omega⟩) := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 3072 + s.val < 5888 by omega))).trans ?_
  refine (Cert.Pieces.canon_skip _ _ _ _ 1 (Or.inl (show 3072 + s.val < 5632 by omega))).trans ?_
  refine (Cert.Pieces.canon_skip _ _ _ _ 1 (Or.inl (show 3072 + s.val < 5376 by omega))).trans ?_
  refine (Cert.Pieces.canon_skip _ _ _ _ 1 (Or.inl (show 3072 + s.val < 5120 by omega))).trans ?_
  refine (Cert.Pieces.canon_skip _ _ _ _ 1 (Or.inl (show 3072 + s.val < 4096 by omega))).trans ?_
  refine (Cert.Pieces.canon_hit _ _ _ _ (ix2 r s) fun a => match a with
    | ⟨0, _⟩ => (Nat.zero_add _).symm
    | ⟨1, _⟩ => rfl).trans ?_
  frame_out
  exact (dsc_at _ _ _ _ _ _ _ r s).trans (back_block m _ c t _ _ _ _ _ _ _ _ _ _ r s n hn (sx_at m c t r s n _ hn rfl))

set_option maxHeartbeats 4000000 in
theorem dsc_A (c : Dev nD) (t : Fin cfg0.N) (h0 : t.val % 64 = 0) (r : Fin 128) (s : Fin 1024) (n : Fin 8192) (hn : n.val = 128 * t.val + r.val) :
    (outsAt0 m c t.val t.isLt).1 (ix2 r ⟨3072 + s.val, by omega⟩) = back (P m c) (D m c) (W m c) n s * P m c (ix2 n ⟨4096 + s.val, by omega⟩) := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 3072 + s.val < 5888 by omega))).trans ?_
  refine (Cert.Pieces.canon_skip _ _ _ _ 1 (Or.inl (show 3072 + s.val < 5632 by omega))).trans ?_
  refine (Cert.Pieces.canon_skip _ _ _ _ 1 (Or.inl (show 3072 + s.val < 5376 by omega))).trans ?_
  refine (Cert.Pieces.canon_skip _ _ _ _ 1 (Or.inl (show 3072 + s.val < 5120 by omega))).trans ?_
  refine (Cert.Pieces.canon_skip _ _ _ _ 1 (Or.inl (show 3072 + s.val < 4096 by omega))).trans ?_
  refine (Cert.Pieces.canon_hit _ _ _ _ (ix2 r s) fun a => match a with
    | ⟨0, _⟩ => (Nat.zero_add _).symm
    | ⟨1, _⟩ => rfl).trans ?_
  frame_out
  exact (dsc_at _ _ _ _ _ _ _ r s).trans (back_block m _ c t _ _ _ _ _ _ _ _ _ _ r s n hn (sx_at m c t r s n _ hn rfl))

/-- The gradient of the first factor. -/
theorem dsc_out (c : Dev nD) (t : Fin cfg0.N) (r : Fin 128) (s : Fin 1024) (n : Fin 8192) (hn : n.val = 128 * t.val + r.val) :
    (outsAt0 m c t.val t.isLt).1 (ix2 r ⟨3072 + s.val, by omega⟩) = back (P m c) (D m c) (W m c) n s * P m c (ix2 n ⟨4096 + s.val, by omega⟩) := by
  by_cases h0 : t.val % 64 = 0
  · exact dsc_A m c t h0 r s n hn
  · exact dsc_B m c t h0 r s n hn

set_option maxHeartbeats 4000000 in
theorem dsx_B (c : Dev nD) (t : Fin cfg0.N) (h0 : ¬t.val % 64 = 0) (r : Fin 128) (s : Fin 1024) (n : Fin 8192) (hn : n.val = 128 * t.val + r.val) :
    (outsAt0 m c t.val t.isLt).1 (ix2 r ⟨4096 + s.val, by omega⟩) = back (P m c) (D m c) (W m c) n s * P m c (ix2 n ⟨3072 + s.val, by omega⟩) := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 4096 + s.val < 5888 by omega))).trans ?_
  refine (Cert.Pieces.canon_skip _ _ _ _ 1 (Or.inl (show 4096 + s.val < 5632 by omega))).trans ?_
  refine (Cert.Pieces.canon_skip _ _ _ _ 1 (Or.inl (show 4096 + s.val < 5376 by omega))).trans ?_
  refine (Cert.Pieces.canon_skip _ _ _ _ 1 (Or.inl (show 4096 + s.val < 5120 by omega))).trans ?_
  refine (Cert.Pieces.canon_hit _ _ _ _ (ix2 r s) fun a => match a with
    | ⟨0, _⟩ => (Nat.zero_add _).symm
    | ⟨1, _⟩ => rfl).trans ?_
  frame_out
  exact (dsx_at _ _ _ _ _ _ _ r s).trans (back_block m _ c t _ _ _ _ _ _ _ _ _ _ r s n hn (sc_at m c t r s n _ hn rfl))

set_option maxHeartbeats 4000000 in
theorem dsx_A (c : Dev nD) (t : Fin cfg0.N) (h0 : t.val % 64 = 0) (r : Fin 128) (s : Fin 1024) (n : Fin 8192) (hn : n.val = 128 * t.val + r.val) :
    (outsAt0 m c t.val t.isLt).1 (ix2 r ⟨4096 + s.val, by omega⟩) = back (P m c) (D m c) (W m c) n s * P m c (ix2 n ⟨3072 + s.val, by omega⟩) := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 4096 + s.val < 5888 by omega))).trans ?_
  refine (Cert.Pieces.canon_skip _ _ _ _ 1 (Or.inl (show 4096 + s.val < 5632 by omega))).trans ?_
  refine (Cert.Pieces.canon_skip _ _ _ _ 1 (Or.inl (show 4096 + s.val < 5376 by omega))).trans ?_
  refine (Cert.Pieces.canon_skip _ _ _ _ 1 (Or.inl (show 4096 + s.val < 5120 by omega))).trans ?_
  refine (Cert.Pieces.canon_hit _ _ _ _ (ix2 r s) fun a => match a with
    | ⟨0, _⟩ => (Nat.zero_add _).symm
    | ⟨1, _⟩ => rfl).trans ?_
  frame_out
  exact (dsx_at _ _ _ _ _ _ _ r s).trans (back_block m _ c t _ _ _ _ _ _ _ _ _ _ r s n hn (sc_at m c t r s n _ hn rfl))

/-- The gradient of the second factor. -/
theorem dsx_out (c : Dev nD) (t : Fin cfg0.N) (r : Fin 128) (s : Fin 1024) (n : Fin 8192) (hn : n.val = 128 * t.val + r.val) :
    (outsAt0 m c t.val t.isLt).1 (ix2 r ⟨4096 + s.val, by omega⟩) = back (P m c) (D m c) (W m c) n s * P m c (ix2 n ⟨3072 + s.val, by omega⟩) := by
  by_cases h0 : t.val % 64 = 0
  · exact dsx_A m c t h0 r s n hn
  · exact dsx_B m c t h0 r s n hn

end Cert.BranchBwd

end
-- ==== Proof.BranchMisc.lean ====
module

public import proofs.«01_k».proof.Proof.BranchBwd

/-!
# The branches' gradient: the gradients of the taps
-/

@[expose] public section

noncomputable section

open scoped BigOperators
open Idealize.ShloMosaic Idealize.ShloMosaic.TcCoe Idealize.SL.Sem

namespace Cert.BranchBwd

open Cert.KernelIdeal Cert.KernelIdeal.Gen Cert.ShortConv

variable (m : (ℓ : Loc nD τ sig) → Buf (Elt Ideal) ℓ)

/-- What the rows of a point add to tap `k`. -/
def part (p : Proj) (d : Ct) (t k : ℕ) (s : Fin 1024) : EReal :=
  ∑ r : Fin 128, grad p d (128 * t + r.val) s * padded p (128 * t + r.val + k) s

theorem zero_row (k : ℕ) (hk : k < 8) (h) (s : Fin 1024) :
    View.ld (Val := Elt Ideal) (e' := .f32) (k0_pay39 (F := Ideal)) (row k h) (ix2 (0 : Fin 1) s) = (0 : EReal) := by
  rw [ld_row _ k hk]
  pointwise [k0_pay39]

set_option maxHeartbeats 4000000 in
theorem tap_0_B (c : Dev nD) (t : Fin cfg0.N) (h0 : ¬t.val % 64 = 0) (s : Fin 1024) :
    (outsAt0 m c t.val t.isLt).2.2.2.1 (ix2 3 s)
      = (outsAt0 m c (t.val - 1) (Nat.lt_of_le_of_lt (Nat.sub_le _ _) t.isLt)).2.2.2.1 (ix2 3 s) + part (P m c) (D m c) t.val 0 s := by
  rw [outsAt0_B m c t h0 h0]
  frame_open
  simp (disch := decide) only [↓ View.readCov_skip, ↓ View.readCov_cons_toLoadRect, ↓ View.readCov_fill]
  refine (Cert.Pieces.read_skip _ _ _ _ _ _ 0 (Or.inl (show 3 < 5 by omega))).trans ?_
  refine (Cert.Pieces.read_skip _ _ _ _ _ _ 0 (Or.inl (show 3 < 4 by omega))).trans ?_
  refine (Cert.Pieces.read_hit _ _ _ _ _ _ (ix2 0 s) fun a => match a with
    | ⟨0, _⟩ => rfl
    | ⟨1, _⟩ => (Nat.zero_add _).symm).trans ?_
  frame_out
  refine (tap_0_at _ _ _ _ 0 s).trans ?_
  unfold part
  refine congrArg₂ (· + ·) ?_ (Finset.sum_congr rfl fun r _ => congrArg₂ (· * ·) ?_ ?_)
  · exact ld_row _ 3 (by omega) _ 0 s
  · exact du_block m c t _ r s
  · exact padded_at m c t 0 (by omega) _ _ _ _ r s

set_option maxHeartbeats 4000000 in
theorem tap_0_A (c : Dev nD) (t : Fin cfg0.N) (h0 : t.val % 64 = 0) (s : Fin 1024) :
    (outsAt0 m c t.val t.isLt).2.2.2.1 (ix2 3 s)
      = (0 : EReal) + part (P m c) (D m c) t.val 0 s := by
  rw [outsAt0_A m c t h0 h0]
  frame_open
  simp (disch := decide) only [↓ View.readCov_skip, ↓ View.readCov_cons_toLoadRect, ↓ View.readCov_fill]
  refine (Cert.Pieces.read_skip _ _ _ _ _ _ 0 (Or.inl (show 3 < 5 by omega))).trans ?_
  refine (Cert.Pieces.read_skip _ _ _ _ _ _ 0 (Or.inl (show 3 < 4 by omega))).trans ?_
  refine (Cert.Pieces.read_hit _ _ _ _ _ _ (ix2 0 s) fun a => match a with
    | ⟨0, _⟩ => rfl
    | ⟨1, _⟩ => (Nat.zero_add _).symm).trans ?_
  frame_out
  refine (tap_0_at _ _ _ _ 0 s).trans ?_
  unfold part
  refine congrArg₂ (· + ·) ?_ (Finset.sum_congr rfl fun r _ => congrArg₂ (· * ·) ?_ ?_)
  · exact zero_row 3 (by omega) _ s
  · exact du_block m c t _ r s
  · exact padded_at m c t 0 (by omega) _ _ _ _ r s

set_option maxHeartbeats 4000000 in
theorem tap_1_B (c : Dev nD) (t : Fin cfg0.N) (h0 : ¬t.val % 64 = 0) (s : Fin 1024) :
    (outsAt0 m c t.val t.isLt).2.2.2.1 (ix2 4 s)
      = (outsAt0 m c (t.val - 1) (Nat.lt_of_le_of_lt (Nat.sub_le _ _) t.isLt)).2.2.2.1 (ix2 4 s) + part (P m c) (D m c) t.val 1 s := by
  rw [outsAt0_B m c t h0 h0]
  frame_open
  simp (disch := decide) only [↓ View.readCov_skip, ↓ View.readCov_cons_toLoadRect, ↓ View.readCov_fill]
  refine (Cert.Pieces.read_skip _ _ _ _ _ _ 0 (Or.inl (show 4 < 5 by omega))).trans ?_
  refine (Cert.Pieces.read_hit _ _ _ _ _ _ (ix2 0 s) fun a => match a with
    | ⟨0, _⟩ => rfl
    | ⟨1, _⟩ => (Nat.zero_add _).symm).trans ?_
  frame_out
  refine (tap_1_at _ _ _ 0 s).trans ?_
  unfold part
  refine congrArg₂ (· + ·) ?_ (Finset.sum_congr rfl fun r _ => congrArg₂ (· * ·) ?_ ?_)
  · exact ld_row _ 4 (by omega) _ 0 s
  · exact du_block m c t _ r s
  · exact padded_at m c t 1 (by omega) _ _ _ _ r s

set_option maxHeartbeats 4000000 in
theorem tap_1_A (c : Dev nD) (t : Fin cfg0.N) (h0 : t.val % 64 = 0) (s : Fin 1024) :
    (outsAt0 m c t.val t.isLt).2.2.2.1 (ix2 4 s)
      = (0 : EReal) + part (P m c) (D m c) t.val 1 s := by
  rw [outsAt0_A m c t h0 h0]
  frame_open
  simp (disch := decide) only [↓ View.readCov_skip, ↓ View.readCov_cons_toLoadRect, ↓ View.readCov_fill]
  refine (Cert.Pieces.read_skip _ _ _ _ _ _ 0 (Or.inl (show 4 < 5 by omega))).trans ?_
  refine (Cert.Pieces.read_hit _ _ _ _ _ _ (ix2 0 s) fun a => match a with
    | ⟨0, _⟩ => rfl
    | ⟨1, _⟩ => (Nat.zero_add _).symm).trans ?_
  frame_out
  refine (tap_1_at _ _ _ 0 s).trans ?_
  unfold part
  refine congrArg₂ (· + ·) ?_ (Finset.sum_congr rfl fun r _ => congrArg₂ (· * ·) ?_ ?_)
  · exact zero_row 4 (by omega) _ s
  · exact du_block m c t _ r s
  · exact padded_at m c t 1 (by omega) _ _ _ _ r s

set_option maxHeartbeats 4000000 in
theorem tap_2_B (c : Dev nD) (t : Fin cfg0.N) (h0 : ¬t.val % 64 = 0) (s : Fin 1024) :
    (outsAt0 m c t.val t.isLt).2.2.2.1 (ix2 5 s)
      = (outsAt0 m c (t.val - 1) (Nat.lt_of_le_of_lt (Nat.sub_le _ _) t.isLt)).2.2.2.1 (ix2 5 s) + part (P m c) (D m c) t.val 2 s := by
  rw [outsAt0_B m c t h0 h0]
  frame_open
  simp (disch := decide) only [↓ View.readCov_skip, ↓ View.readCov_cons_toLoadRect, ↓ View.readCov_fill]
  refine (Cert.Pieces.read_hit _ _ _ _ _ _ (ix2 0 s) fun a => match a with
    | ⟨0, _⟩ => rfl
    | ⟨1, _⟩ => (Nat.zero_add _).symm).trans ?_
  frame_out
  refine (tap_2_at _ _ _ 0 s).trans ?_
  unfold part
  refine congrArg₂ (· + ·) ?_ (Finset.sum_congr rfl fun r _ => congrArg₂ (· * ·) ?_ ?_)
  · exact ld_row _ 5 (by omega) _ 0 s
  · exact du_block m c t _ r s
  · exact product_block m c t r s

set_option maxHeartbeats 4000000 in
theorem tap_2_A (c : Dev nD) (t : Fin cfg0.N) (h0 : t.val % 64 = 0) (s : Fin 1024) :
    (outsAt0 m c t.val t.isLt).2.2.2.1 (ix2 5 s)
      = (0 : EReal) + part (P m c) (D m c) t.val 2 s := by
  rw [outsAt0_A m c t h0 h0]
  frame_open
  simp (disch := decide) only [↓ View.readCov_skip, ↓ View.readCov_cons_toLoadRect, ↓ View.readCov_fill]
  refine (Cert.Pieces.read_hit _ _ _ _ _ _ (ix2 0 s) fun a => match a with
    | ⟨0, _⟩ => rfl
    | ⟨1, _⟩ => (Nat.zero_add _).symm).trans ?_
  frame_out
  refine (tap_2_at _ _ _ 0 s).trans ?_
  unfold part
  refine congrArg₂ (· + ·) ?_ (Finset.sum_congr rfl fun r _ => congrArg₂ (· * ·) ?_ ?_)
  · exact zero_row 5 (by omega) _ s
  · exact du_block m c t _ r s
  · exact product_block m c t r s

/-- The rows of all the points. -/
theorem sum_part (p : Proj) (d : Ct) (k : ℕ) (s : Fin 1024) : ∑ t : Fin cfg0.N, part p d t.val k s = tap p d k s := by
  have e : ∀ N : ℕ, N = 64 → ∑ t : Fin N, part p d t.val k s = tap p d k s := by
    rintro N rfl
    unfold part tap
    refine Fin.sum_mul_add_congr fun t r h => ?_
    show _ = grad p d (t.val * 128 + r.val) s * padded p (t.val * 128 + r.val + k) s
    rw [mul_comm 128 t.val]
  exact e _ N_0

theorem tap_0_last (c : Dev nD) (t : Fin cfg0.N) (ht : t.val + 1 = cfg0.N) (s : Fin 1024) :
    (outsAt0 m c t.val t.isLt).2.2.2.1 (ix2 3 s) = tap (P m c) (D m c) 0 s := by
  rw [Pipeline.eq_sum_fin_of_reset_step_apply_last (fun n h => fun s : Fin 1024 => ((outsAt0 m c n h).2.2.2.1 (ix2 3 s) : EReal)) 64 (fun _ => 0)
    (fun t s => part (P m c) (D m c) t.val 0 s) (fun t h s => tap_0_A m c t h s) (fun t h s => tap_0_B m c t h s) (le_of_eq N_0) t ht s, zero_add]
  exact sum_part _ _ _ _

theorem tap_1_last (c : Dev nD) (t : Fin cfg0.N) (ht : t.val + 1 = cfg0.N) (s : Fin 1024) :
    (outsAt0 m c t.val t.isLt).2.2.2.1 (ix2 4 s) = tap (P m c) (D m c) 1 s := by
  rw [Pipeline.eq_sum_fin_of_reset_step_apply_last (fun n h => fun s : Fin 1024 => ((outsAt0 m c n h).2.2.2.1 (ix2 4 s) : EReal)) 64 (fun _ => 0)
    (fun t s => part (P m c) (D m c) t.val 1 s) (fun t h s => tap_1_A m c t h s) (fun t h s => tap_1_B m c t h s) (le_of_eq N_0) t ht s, zero_add]
  exact sum_part _ _ _ _

theorem tap_2_last (c : Dev nD) (t : Fin cfg0.N) (ht : t.val + 1 = cfg0.N) (s : Fin 1024) :
    (outsAt0 m c t.val t.isLt).2.2.2.1 (ix2 5 s) = tap (P m c) (D m c) 2 s := by
  rw [Pipeline.eq_sum_fin_of_reset_step_apply_last (fun n h => fun s : Fin 1024 => ((outsAt0 m c n h).2.2.2.1 (ix2 5 s) : EReal)) 64 (fun _ => 0)
    (fun t s => part (P m c) (D m c) t.val 2 s) (fun t h s => tap_2_A m c t h s) (fun t h s => tap_2_B m c t h s) (le_of_eq N_0) t ht s, zero_add]
  exact sum_part _ _ _ _

end Cert.BranchBwd

end
-- ==== Proof.BranchConv.lean ====
module

public import proofs.«01_k».proof.Proof.BranchDp
public import proofs.«01_k».proof.Proof.BranchMisc
public import proofs.«01_k».proof.Defs
public import proofs.«01_k».proof.Proof.Gen.On_short_conv_part
public import proofs.«01_k».proof.Proof.Gen.Reference30Ideal.Run

/-!
# The branches' gradient: the claim about the short convolution
-/

@[expose] public section

noncomputable section

open scoped BigOperators
open Idealize.ShloMosaic Idealize.ShloMosaic.TcCoe Idealize.SL.Sem

namespace Cert.BranchBwd

open Cert.KernelIdeal Cert.KernelIdeal.Gen Cert.ShortConv

variable (m : (ℓ : Loc nD τ sig) → Buf (Elt Ideal) ℓ)

theorem outs_congr (c : Dev nD) (n n' : ℕ) (h : n < cfg0.N) (h' : n' < cfg0.N) (e : n = n') : outsAt0 m c n h = outsAt0 m c n' h' := by
  subst e
  rfl

theorem point_lt (n : Fin 8192) : n.val / 128 < cfg0.N := by
  rw [show cfg0.N = 64 from N_0]
  omega

/-- The written columns of the gradient of the projection, 128 rows from each point. -/
def dpArr (c : Dev nD) : Vec Ideal S8192x12288 .bf16 := fun i =>
  if h : (i 1).val < 6144 then
    (outsAt0 m c ((i 0).val / 128) (point_lt (i 0))).1 (ix2 ⟨(i 0).val % 128, Nat.mod_lt _ (by decide)⟩ ⟨(i 1).val, h⟩)
  else (0 : EReal)

theorem dp_arr (c : Dev nD) : (dats m 0 c).arrAt 21 cfg0.N = fun i : S8192x12288.Idx => if (i 1).val / 6144 = 0 then dpArr m c i else (dats m 0 c).A 21 i := by
  refine (dats m 0 c).arrAt_eq_of_coversWhere 21 _ (fun β => β 1 = 0) (by decide +kernel) (fun t hf y => ?_) (fun j => Iff.rfl)
  blk_simp
  rw [after0_21]
  obtain ⟨r, q, rfl⟩ : ∃ (r : Fin 128) (q : Fin 6144), y = ix2 r q := ⟨y 0, y 1, by
    funext a
    match a with
    | ⟨0, _⟩ => rfl
    | ⟨1, _⟩ => rfl⟩
  have e0 : ((((cfg0.win 21).blk t).view.emb (ix2 r q) : S8192x12288.Idx) 0).val = t.val * 128 + r.val := by
    blk_simp [index_21] <;> omega
  have e1 : ((((cfg0.win 21).blk t).view.emb (ix2 r q) : S8192x12288.Idx) 1).val = q.val := by
    blk_simp [index_21] <;> omega
  generalize (((cfg0.win 21).blk t).view.emb (ix2 r q) : S8192x12288.Idx) = j at e0 e1
  unfold dpArr
  rw [dif_pos (by omega), outs_congr m c ((j 0).val / 128) t.val _ t.isLt (by omega)]
  refine congrArg (outsAt0 m c t.val t.isLt).1 ?_
  funext a
  apply Fin.ext
  match a with
  | ⟨0, _⟩ => show r.val = (j 0).val % 128; omega
  | ⟨1, _⟩ => exact e1.symm

theorem final_dp (c : Dev nD) (i : S8192x12288.Idx) (h1 : 2048 ≤ (i 1).val) (h2 : (i 1).val < 5120) :
    (dats m 0 c).arrAt 21 cfg0.N i = Cert.Reference30Ideal.Read.val_main_v70 (F := Ideal) (P m c) (D m c) (W m c) i := by
  have hb : ∀ (a : ℕ) (s : Fin 1024), a ≤ 4096 → a + s.val < 12288 := fun a s h => by omega
  obtain ⟨n, k, rfl⟩ : ∃ (n : Fin 8192) (k : Fin 12288), i = ix2 n k := ⟨i 0, i 1, by
    funext a
    match a with
    | ⟨0, _⟩ => rfl
    | ⟨1, _⟩ => rfl⟩
  replace h1 : 2048 ≤ k.val := h1
  replace h2 : k.val < 5120 := h2
  have er : n.val = 128 * (n.val / 128) + n.val % 128 := by omega
  refine (congrFun (dp_arr m c) (ix2 n k)).trans ((if_pos (show k.val / 6144 = 0 by omega)).trans ?_)
  unfold dpArr
  refine (dif_pos (show k.val < 6144 by omega)).trans ?_
  rcases Nat.lt_or_ge k.val 3072 with h3 | h3
  · obtain ⟨s, hs⟩ : ∃ s : Fin 1024, k.val = 2048 + s.val := ⟨⟨k.val - 2048, by omega⟩, by show k.val = 2048 + (k.val - 2048); omega⟩
    obtain rfl : k = ⟨2048 + s.val, hb 2048 s (by decide)⟩ := Fin.ext hs
    rw [ref_dp_dsb]
    exact dsb_out m c ⟨n.val / 128, point_lt n⟩ ⟨n.val % 128, Nat.mod_lt _ (by decide)⟩ s n er
  · rcases Nat.lt_or_ge k.val 4096 with h4 | h4
    · obtain ⟨s, hs⟩ : ∃ s : Fin 1024, k.val = 3072 + s.val := ⟨⟨k.val - 3072, by omega⟩, by show k.val = 3072 + (k.val - 3072); omega⟩
      obtain rfl : k = ⟨3072 + s.val, hb 3072 s (by decide)⟩ := Fin.ext hs
      rw [ref_dp_dsc]
      exact dsc_out m c ⟨n.val / 128, point_lt n⟩ ⟨n.val % 128, Nat.mod_lt _ (by decide)⟩ s n er
    · obtain ⟨s, hs⟩ : ∃ s : Fin 1024, k.val = 4096 + s.val := ⟨⟨k.val - 4096, by omega⟩, by show k.val = 4096 + (k.val - 4096); omega⟩
      obtain rfl : k = ⟨4096 + s.val, hb 4096 s (by decide)⟩ := Fin.ext hs
      rw [ref_dp_dsx]
      exact dsx_out m c ⟨n.val / 128, point_lt n⟩ ⟨n.val % 128, Nat.mod_lt _ (by decide)⟩ s n er

theorem last_lt : 63 < cfg0.N := by
  rw [show cfg0.N = 64 from N_0]
  omega

/-- The block with the taps, as point `n` leaves it, -/
def miscAt (c : Dev nD) (n : ℕ) (h : n < cfg0.N) : Vec Ideal S8x1024 .f32 := (outsAt0 m c n h).2.2.2.1

/-- and as the last one does. -/
def miscArr (c : Dev nD) : Vec Ideal S8x1024 .f32 := miscAt m c 63 last_lt

theorem misc_arr (c : Dev nD) : (dats m 0 c).arrAt 24 cfg0.N = miscArr m c := by
  refine (dats m 0 c).arrAt_eq_of_covers 24 (miscArr m c) (by decide +kernel) fun t hf y => ?_
  have ht : t.val = 63 := (by decide +kernel : ∀ t : Fin cfg0.N, (cfg0.win 24).flush t = true → t.val = 63) t hf
  blk_simp
  rw [after0_24]
  obtain ⟨u, s, rfl⟩ : ∃ (u : Fin 8) (s : Fin 1024), y = ix2 u s := ⟨y 0, y 1, by
    funext a
    match a with
    | ⟨0, _⟩ => rfl
    | ⟨1, _⟩ => rfl⟩
  have e : (((cfg0.win 24).blk t).view.emb (ix2 u s) : S8x1024.Idx) = ix2 u s := by
    blk_ext [index_24]
  rw [e, outs_congr m c t.val 63 t.isLt last_lt ht]
  rfl

theorem misc_at_3 (c : Dev nD) (n : ℕ) (h : n < cfg0.N) (hn : n + 1 = cfg0.N) (s : Fin 1024) :
    miscAt m c n h (ix2 3 s) = tap (P m c) (D m c) 0 s :=
  tap_0_last m c ⟨n, h⟩ hn s

theorem misc_at_4 (c : Dev nD) (n : ℕ) (h : n < cfg0.N) (hn : n + 1 = cfg0.N) (s : Fin 1024) :
    miscAt m c n h (ix2 4 s) = tap (P m c) (D m c) 1 s :=
  tap_1_last m c ⟨n, h⟩ hn s

theorem misc_at_5 (c : Dev nD) (n : ℕ) (h : n < cfg0.N) (hn : n + 1 = cfg0.N) (s : Fin 1024) :
    miscAt m c n h (ix2 5 s) = tap (P m c) (D m c) 2 s :=
  tap_2_last m c ⟨n, h⟩ hn s

theorem final_misc (c : Dev nD) (i : S8x1024.Idx) (h1 : 3 ≤ (i 0).val) (h2 : (i 0).val < 6) :
    (dats m 0 c).arrAt 24 cfg0.N i = Cert.Reference30Ideal.Read.val_main_v74 (F := Ideal) (P m c) (D m c) i := by
  refine (congrFun (misc_arr m c) i).trans ?_
  obtain ⟨n, s, rfl⟩ : ∃ (n : Fin 8) (s : Fin 1024), i = ix2 n s := ⟨i 0, i 1, by
    funext a
    match a with
    | ⟨0, _⟩ => rfl
    | ⟨1, _⟩ => rfl⟩
  replace h1 : 3 ≤ n.val := h1
  replace h2 : n.val < 6 := h2
  have hb : ∀ k : Fin 3, 3 + k.val < 8 := fun k => by omega
  obtain ⟨k, hk⟩ : ∃ k : Fin 3, n.val = 3 + k.val := ⟨⟨n.val - 3, by omega⟩, by show n.val = 3 + (n.val - 3); omega⟩
  obtain rfl : n = ⟨3 + k.val, hb k⟩ := Fin.ext hk
  rw [ref_misc]
  match k with
  | ⟨0, _⟩ => exact misc_at_3 m c 63 last_lt N_0.symm s
  | ⟨1, _⟩ => exact misc_at_4 m c 63 last_lt N_0.symm s
  | ⟨2, _⟩ => exact misc_at_5 m c 63 last_lt N_0.symm s

/-! ## The masks -/

theorem and_one (a b : BitVec 1) (h : a &&& b = 1#1) : a = 1#1 ∧ b = 1#1 := by
  revert a b
  decide

section
variable (x0 : Vec Ideal S8192x12288 .f32) (x1 : Vec Ideal S8192x1024 .f32) (x2 : Vec Ideal S3x8192x1024 .f32) (x3 : Vec Ideal S256x2048 .bf16)
  (x4 : Vec Ideal S32x1024 .f32) (x5 x6 : Vec Ideal S1x1024 .f32) (x7 : Vec Ideal S8x1024 .f32) (x8 : Vec Ideal S8192x12288 .bf16)

theorem mask_dp (i : S8192x12288.Idx) (h : (Cert.On_short_conv_part.fn (F := Ideal) x0 x1 x2 x3 x4 x5 x6 x7 x8).1 i = 1#1) :
    2048 ≤ (i 1).val ∧ (i 1).val < 5120 := by
  have hi : (i 1).val < 12288 := (i 1).isLt
  obtain ⟨h1, h2⟩ := and_one (Scalar.cmpi .sge (BitVec.ofNat 32 (i 1).val) 2048#32) (Scalar.cmpi .slt (BitVec.ofNat 32 (i 1).val) 5120#32) h
  exact ⟨(WordCmp.cmpi_sge_ofNat_eq_one_iff (by omega) (by omega)).mp h1, (WordCmp.cmpi_slt_ofNat_eq_one_iff (by omega) (by omega)).mp h2⟩

theorem mask_misc (i : S8x1024.Idx) (h : (Cert.On_short_conv_part.fn (F := Ideal) x0 x1 x2 x3 x4 x5 x6 x7 x8).2.2.2 i = 1#1) :
    3 ≤ (i 0).val ∧ (i 0).val < 6 := by
  have hi : (i 0).val < 8 := (i 0).isLt
  obtain ⟨h1, h2⟩ := and_one (Scalar.cmpi .sge (BitVec.ofNat 32 (i 0).val) 3#32) (Scalar.cmpi .slt (BitVec.ofNat 32 (i 0).val) 6#32) h
  exact ⟨(WordCmp.cmpi_sge_ofNat_eq_one_iff (by omega) (by omega)).mp h1, (WordCmp.cmpi_slt_ofNat_eq_one_iff (by omega) (by omega)).mp h2⟩

theorem no_dkv (i : S256x2048.Idx) (h : (Cert.On_short_conv_part.fn (F := Ideal) x0 x1 x2 x3 x4 x5 x6 x7 x8).2.1 i = 1#1) : False :=
  absurd (show (0#1 : BitVec 1) = 1#1 from h) (by decide)

theorem no_dwa (i : S256x1024.Idx) (h : (Cert.On_short_conv_part.fn (F := Ideal) x0 x1 x2 x3 x4 x5 x6 x7 x8).2.2.1 i = 1#1) : False :=
  absurd (show (0#1 : BitVec 1) = 1#1 from h) (by decide)

end

theorem algebraic : Cert.algebraic_KernelIdeal_Reference30Ideal_on_short_conv_part := by
  intro m g m' g' _ hargs
  refine ⟨fun c => Cert.Reference30Ideal.Read.val_main_v70 (F := Ideal) (P m c) (D m c) (W m c), fun _ _ => (0 : EReal), fun _ _ => (0 : EReal),
    fun c => Cert.Reference30Ideal.Read.val_main_v74 (F := Ideal) (P m c) (D m c), ?_, ?_⟩
  · refine (θ_run defs _ _).mono (fun r h c => ⟨fun i hi => ?_, fun i hi => (no_dkv _ _ _ _ _ _ _ _ _ i hi).elim,
      fun i hi => (no_dwa _ _ _ _ _ _ _ _ _ i hi).elim, fun i hi => ?_, (h c).2.2.2.2⟩) (Value.run_blocks m g)
    · obtain ⟨h1, h2⟩ := mask_dp _ _ _ _ _ _ _ _ _ i hi
      exact (congrFun (h c).1 i).trans (final_dp m c i h1 h2)
    · obtain ⟨h1, h2⟩ := mask_misc _ _ _ _ _ _ _ _ _ i hi
      exact (congrFun (h c).2.2.2.1 i).trans (final_misc m c i h1 h2)
  · refine (θ_run Cert.Reference30Ideal.defs _ _).mono (fun r h c => ⟨fun i _ => ?_, fun i hi => (no_dkv _ _ _ _ _ _ _ _ _ i hi).elim,
      fun i hi => (no_dwa _ _ _ _ _ _ _ _ _ i hi).elim, fun i _ => ?_, (h c).2.2.2.2⟩) (Cert.Reference30Ideal.Value.run m' g')
    · obtain ⟨e0, e1, e2, e3, e4, e5, e6, e7, e8⟩ := hargs c
      rw [(h c).1, Cert.Reference30Ideal.Read.val_main_v70_eq, e0, e2, e7]
    · obtain ⟨e0, e1, e2, e3, e4, e5, e6, e7, e8⟩ := hargs c
      rw [(h c).2.2.2.1, Cert.Reference30Ideal.Read.val_main_v74_eq, e0, e2]

end Cert.BranchBwd

end
-- ==== Proof.Attention.lean ====
module

public import proofs.«01_k».proof.Proof.Gen.Reference31Ideal.Read
public import Idealize.ShloMosaic.Lib.Pointwise
public import Idealize.ShloMosaic.Lib.Pipeline.ValueKit.Geometry
public import Idealize.ShloMosaic.Lib.Pipeline.ValueKit.Acc

/-!
# The gradient of the attention, row by row
-/

@[expose] public section

noncomputable section

open scoped BigOperators
open Idealize.ShloMosaic Idealize.ShloMosaic.TcCoe Idealize.SL.Sem

namespace Cert.Attention

/-! ## One row of scores -/

/-- The largest score. -/
def top (S : Fin 256 → EReal) : EReal := Finset.univ.sup S

/-- A row's exponentials. -/
def expo (S : Fin 256 → EReal) (j : Fin 256) : EReal := Ideal.exp (S j - top S)

/-- Their sum. -/
def total (S : Fin 256 → EReal) : EReal := ∑ j, expo S j

/-- The softmax. -/
def soft (S : Fin 256 → EReal) (j : Fin 256) : EReal := Ideal.div (expo S j) (total S)

/-- The gradient of the scores, from that of the softmax. -/
def back (S ct : Fin 256 → EReal) (j : Fin 256) : EReal := soft S j * (ct j - ∑ l, ct l * soft S l)

theorem mul_sum_real (r : ℝ) (hr : 0 ≤ r) (f : Fin 256 → EReal) : (r : EReal) * ∑ l, f l = ∑ l, (r : EReal) * f l := by
  refine Finset.induction_on (motive := fun s => (r : EReal) * ∑ l ∈ s, f l = ∑ l ∈ s, (r : EReal) * f l) Finset.univ ?_ fun a s ha ih => ?_
  · simp
  · rw [Finset.sum_insert ha, Finset.sum_insert ha, ← ih,
      EReal.left_distrib_of_nonneg_of_ne_top (EReal.coe_nonneg.mpr hr) (EReal.coe_ne_top r)]

theorem exp_real (x : ℝ) : Ideal.exp (x : EReal) = (Real.exp x : EReal) := rfl

theorem sum_real (f : Fin 256 → ℝ) : ∑ l, ((f l : ℝ) : EReal) = ((∑ l, f l : ℝ) : EReal) := by
  refine Finset.induction_on (motive := fun s => ∑ l ∈ s, ((f l : ℝ) : EReal) = ((∑ l ∈ s, f l : ℝ) : EReal)) Finset.univ ?_ fun a s ha ih => ?_
  · simp
  · rw [Finset.sum_insert ha, Finset.sum_insert ha, ih, EReal.coe_add]

/-- The largest of finite scores is finite. -/
theorem top_real (f : Fin 256 → ℝ) : ∃ x : ℝ, top (fun j => ((f j : ℝ) : EReal)) = x := by
  obtain ⟨j, _, hj⟩ := Finset.exists_mem_eq_sup (Finset.univ : Finset (Fin 256)) ⟨0, Finset.mem_univ _⟩ (fun j => ((f j : ℝ) : EReal))
  exact ⟨f j, hj⟩

/-- The form in which the derivative of the quotient `e / ∑ e` comes out, for finite scores. -/
theorem back_eq (f : Fin 256 → ℝ) (S ct : Fin 256 → EReal) (hS : S = fun j => ((f j : ℝ) : EReal)) (j : Fin 256) :
    (Ideal.div (ct j) (total S) + -∑ l, ct l * Ideal.div 1 (total S * total S) * expo S l) * expo S j = back S ct j := by
  obtain ⟨x, hx⟩ := top_real f
  have he : ∀ l, expo S l = (Real.exp (f l - x) : EReal) := fun l => by
    unfold expo
    rw [hS, hx, ← EReal.coe_sub, exp_real]
  have hz : total S = ((∑ l, Real.exp (f l - x) : ℝ) : EReal) := by
    unfold total
    rw [← sum_real]
    exact Finset.sum_congr rfl fun l _ => he l
  have hpos : (0 : ℝ) < ∑ l, Real.exp (f l - x) := Finset.sum_pos (fun l _ => Real.exp_pos _) ⟨0, Finset.mem_univ _⟩
  generalize (∑ l, Real.exp (f l - x) : ℝ) = z at hz hpos
  unfold back soft
  simp only [hz, ← EReal.coe_mul, Ideal.div_coe hpos.ne', Ideal.div_coe (mul_pos hpos hpos).ne', he]
  have hr : (0 : ℝ) ≤ 1 / z := by positivity
  have e2 : ((1 / (z * z) : ℝ) : EReal) = ((1 / z : ℝ) : EReal) * ((1 / z : ℝ) : EReal) := by
    rw [← EReal.coe_mul]
    congr 1
    field_simp
  rw [e2]
  generalize (1 / z : ℝ) = r at hr
  have h1 : ∑ l, ct l * (1 * (((r : ℝ) : EReal) * (r : EReal))) * (Real.exp (f l - x) : EReal)
      = (r : EReal) * ∑ l, ct l * ((Real.exp (f l - x) : EReal) * (r : EReal)) := by
    rw [mul_sum_real r hr]
    refine Finset.sum_congr rfl fun l _ => ?_
    rw [one_mul]
    ac_rfl
  rw [h1, ← mul_neg, mul_comm (ct j), ← EReal.left_distrib_of_nonneg_of_ne_top (EReal.coe_nonneg.mpr hr) (EReal.coe_ne_top r),
    sub_eq_add_neg]
  simp only [EReal.coe_mul]
  ac_rfl

end Cert.Attention

end
-- ==== Proof.AttentionRef.lean ====
module

public import proofs.«01_k».proof.Proof.Attention
public import Idealize.ShloMosaic.Lib.Pointwise

/-!
# The gradient of the attention: what the reference's stages are at one element
-/

@[expose] public section

noncomputable section

open scoped BigOperators
open Idealize.ShloMosaic Idealize.ShloMosaic.TcCoe Idealize.SL.Sem

namespace Cert.Attention

open Cert.Reference31Ideal Cert.Reference31Ideal.Read

variable (P : Vec Ideal S8192x12288 .f32) (D : Vec Ideal S3x8192x1024 .f32) (K : Vec Ideal S256x2048 .bf16)

/-- Column `d` of head `h`, from column `a` on. -/
def col {N : ℕ} (a : ℕ) (h : Fin 4) (d : Fin 256) (hN : a + 1024 ≤ N) : Fin N := ⟨a + (256 * h.val + d.val), by omega⟩

/-- A score: a row of the queries by a row of the keys, scaled. -/
def score (h : Fin 4) (n : Fin 8192) (j : Fin 256) : EReal :=
  (∑ d : Fin 256, P (ix2 n (col 5120 h d (by decide))) * K (ix2 j (col 0 h d (by decide)))) * Ideal.ofBits .f32 0x3D800000#32

/-- The gradient of the softmax. -/
def cot (h : Fin 4) (n : Fin 8192) (j : Fin 256) : EReal :=
  ∑ d : Fin 256, D (ix3 2 n (col 0 h d (by decide))) * K (ix2 j (col 1024 h d (by decide)))

theorem q_at (n : Fin 8192) (h : Fin 4) (d : Fin 256) : val_main_v2 (F := Ideal) P (ix3 n h d) = P (ix2 n (col 5120 h d (by decide))) := by
  pointwise [val_main_v2, val_main_v0]
  exact congrArg (fun c => P (ix2 n c)) (Fin.ext (show 5120 + (h.val * 256 + d.val) = 5120 + (256 * h.val + d.val) by omega))

theorem k_at (j : Fin 256) (h : Fin 4) (d : Fin 256) : val_main_v4 (F := Ideal) K (ix3 j h d) = K (ix2 j (col 0 h d (by decide))) := by
  pointwise [val_main_v4, val_main_v3, val_main_v1]
  exact congrArg (fun c => K (ix2 j c)) (Fin.ext (show h.val * 256 + d.val = 0 + (256 * h.val + d.val) by omega))

theorem v_at (j : Fin 256) (h : Fin 4) (d : Fin 256) : val_main_v6 (F := Ideal) K (ix3 j h d) = K (ix2 j (col 1024 h d (by decide))) := by
  pointwise [val_main_v6, val_main_v5, val_main_v1]
  exact congrArg (fun c => K (ix2 j c)) (Fin.ext (show 1024 + (h.val * 256 + d.val) = 1024 + (256 * h.val + d.val) by omega))

theorem do_at (n : Fin 8192) (h : Fin 4) (d : Fin 256) : val_main_v43 (F := Ideal) D (ix3 n h d) = D (ix3 2 n (col 0 h d (by decide))) := by
  pointwise [val_main_v43, val_main_v42, val_main_v41]
  exact congrArg (fun c => D (ix3 2 n c)) (Fin.ext (show h.val * 256 + d.val = 0 + (256 * h.val + d.val) by omega))

theorem score_at (h : Fin 4) (n : Fin 8192) (j : Fin 256) : val_main_v9 (F := Ideal) P K (ix3 h n j) = score P K h n j := by
  pointwise [val_main_v9, val_main_v8, val_main_cst, val_main_v7]
  simp only [q_at, k_at]
  rfl

theorem cot_at (h : Fin 4) (n : Fin 8192) (j : Fin 256) : val_main_v45 (F := Ideal) D K (ix3 h n j) = cot D K h n j := by
  pointwise [val_main_v45, val_main_v44]
  simp only [do_at, v_at]
  rfl

theorem bot_eq : Ideal.ofBits .f32 0xFF800000#32 = (⊥ : EReal) := by
  simp [Ideal.ofBits, Ideal.ieee]

/-- The largest of a row, begun at -∞. -/
theorem fold_top (S : Fin 256 → EReal) : Finset.fold max (Ideal.ofBits .f32 0xFF800000#32) S Finset.univ = top S := by
  rw [bot_eq]
  refine le_antisymm ?_ ?_
  · exact (Finset.fold_max_le _).mpr ⟨bot_le, fun j _ => Finset.le_sup (f := S) (Finset.mem_univ j)⟩
  · exact Finset.sup_le fun j hj => (Finset.le_fold_max _).mpr (Or.inr ⟨j, hj, le_rfl⟩)

theorem max_at (h : Fin 4) (n : Fin 8192) : val_main_v10 (F := Ideal) P K (ix2 h n) = top (score P K h n) := by
  have e := fun j => score_at P K h n j
  unfold val_main_v10
  generalize val_main_v9 (F := Ideal) P K = V at e
  have e' : ∀ i, val_main_cst_0 (F := Ideal) i = Ideal.ofBits .f32 0xFF800000#32 := fun _ => rfl
  generalize val_main_cst_0 (F := Ideal) = c at e'
  simp only [pointwise]
  rw [e']
  simp only [e]
  exact fold_top (score P K h n)

theorem top_at (h : Fin 4) (n : Fin 8192) : val_main_v17 (F := Ideal) P K (ix2 h n) = top (score P K h n) := by
  have e : val_main_v16 (F := Ideal) (ix2 h n) = Ideal.ofBits .f32 0xFF800000#32 := by
    pointwise [val_main_v16, val_main_cst_2]
  rw [val_main_v17_apply, max_at, e, bot_eq, Ideal.maximumf_def]
  exact max_eq_right bot_le

theorem expo_at (h : Fin 4) (n : Fin 8192) (j : Fin 256) : val_main_v30 (F := Ideal) P K (ix3 h n j) = expo (score P K h n) j := by
  have e := top_at P K h n
  have e' := score_at P K h n j
  unfold val_main_v30 val_main_v29 val_main_v28 val_main_v27
  generalize val_main_v17 (F := Ideal) P K = V at e
  generalize val_main_v9 (F := Ideal) P K = W at e'
  pointwise
  rw [e, e']
  rfl

theorem total_at (h : Fin 4) (n : Fin 8192) : val_main_v31 (F := Ideal) P K (ix2 h n) = total (score P K h n) := by
  have e := fun j => expo_at P K h n j
  unfold val_main_v31
  generalize val_main_v30 (F := Ideal) P K = V at e
  pointwise [val_main_cst_8]
  simp only [e]
  rfl

theorem soft_at (h : Fin 4) (n : Fin 8192) (j : Fin 256) : val_main_v34 (F := Ideal) P K (ix3 h n j) = soft (score P K h n) j := by
  have e := total_at P K h n
  have e' := expo_at P K h n j
  unfold val_main_v34 val_main_v33 val_main_v32
  generalize val_main_v31 (F := Ideal) P K = V at e
  generalize val_main_v30 (F := Ideal) P K = W at e'
  pointwise
  rw [e, e']
  rfl

theorem one_eq : Ideal.ofBits .f32 0x3F800000#32 = (1 : EReal) := by
  simp [Ideal.ofBits, Ideal.ieee, -EReal.coe_mul]; norm_num

theorem inv_at (h : Fin 4) (n : Fin 8192) (j : Fin 256) : val_main_v48 (F := Ideal) P K (ix3 h n j) = Ideal.div 1 (total (score P K h n) * total (score P K h n)) := by
  have e := total_at P K h n
  unfold val_main_v48 val_main_v37 val_main_v35 val_main_v32
  generalize val_main_v31 (F := Ideal) P K = V at e
  have e' : ∀ i, val_main_v36 (F := Ideal) i = 1 := fun _ => one_eq
  generalize val_main_v36 (F := Ideal) = c at e'
  pointwise
  rw [e, e']

theorem corr_at (h : Fin 4) (n : Fin 8192) : val_main_v51 (F := Ideal) P D K (ix2 h n)
    = ∑ l, cot D K h n l * Ideal.div 1 (total (score P K h n) * total (score P K h n)) * expo (score P K h n) l := by
  have e := fun j => expo_at P K h n j
  have e' := fun j => inv_at P K h n j
  have e'' := fun j => cot_at D K h n j
  unfold val_main_v51 val_main_v50 val_main_v49
  generalize val_main_v30 (F := Ideal) P K = V at e
  generalize val_main_v48 (F := Ideal) P K = W at e'
  generalize val_main_v45 (F := Ideal) D K = U at e''
  pointwise [val_main_cst_10]
  simp only [e, e', e'']

theorem quot_at (h : Fin 4) (n : Fin 8192) (j : Fin 256) : val_main_v55 (F := Ideal) P D K (ix3 h n j) = Ideal.div (cot D K h n j) (total (score P K h n)) := by
  have e := total_at P K h n
  have e' := cot_at D K h n j
  unfold val_main_v55 val_main_v54 val_main_v32
  generalize val_main_v31 (F := Ideal) P K = V at e
  generalize val_main_v45 (F := Ideal) D K = W at e'
  pointwise
  rw [e, e']

theorem neg_at (h : Fin 4) (n : Fin 8192) : val_main_v56 (F := Ideal) P D K (ix2 h n)
    = -∑ l, cot D K h n l * Ideal.div 1 (total (score P K h n) * total (score P K h n)) * expo (score P K h n) l := by
  have e := corr_at P D K h n
  unfold val_main_v56 val_main_v53 val_main_v52
  generalize val_main_v51 (F := Ideal) P D K = V at e
  pointwise [val_main_cst_11]
  rw [e]
  exact Fin.sum_univ_one _

theorem ds_at (h : Fin 4) (n : Fin 8192) (f : Fin 256 → ℝ) (hS : score P K h n = fun j => ((f j : ℝ) : EReal)) (j : Fin 256) :
    val_main_v61 (F := Ideal) P D K (ix3 h n j) = back (score P K h n) (cot D K h n) j * Ideal.ofBits .f32 0x3D800000#32 := by
  have e := expo_at P K h n j
  have e' := quot_at P D K h n j
  have e'' := neg_at P D K h n
  unfold val_main_v61 val_main_v59 val_main_v58 val_main_v57
  generalize val_main_v30 (F := Ideal) P K = V at e
  generalize val_main_v55 (F := Ideal) P D K = W at e'
  generalize val_main_v56 (F := Ideal) P D K = U at e''
  pointwise [val_main_v60, val_main_cst_12]
  rw [e, e', e'', ← back_eq f _ _ hS]

theorem dq_at (h : Fin 4) (n : Fin 8192) (f : Fin 256 → ℝ) (hS : score P K h n = fun j => ((f j : ℝ) : EReal)) (d : Fin 256) (hc : 5120 + (256 * h.val + d.val) < 12288) :
    val_main_v75 (F := Ideal) P D K (ix2 n ⟨5120 + (256 * h.val + d.val), hc⟩)
      = ∑ j, back (score P K h n) (cot D K h n) j * Ideal.ofBits .f32 0x3D800000#32 * K (ix2 j (col 0 h d (by decide))) := by
  have e := fun j => ds_at P D K h n f hS j
  have e' := fun j => k_at K j h d
  unfold val_main_v75 val_main_v74 val_main_v71 val_main_v65 val_main_v64
  generalize val_main_v61 (F := Ideal) P D K = V at e
  generalize val_main_v4 (F := Ideal) K = W at e'
  pointwise
  rw [dif_pos (show 256 * h.val + d.val < 1024 by omega)]
  simp only [e, e']

end Cert.Attention

end
-- ==== Proof.AttentionBlock.lean ====
module

public import proofs.«01_k».proof.Proof.AttentionRef
public import proofs.«01_k».proof.Proof.BranchBwd

/-!
# The gradient of the attention: 128 rows of one head
-/

@[expose] public section

noncomputable section

open scoped BigOperators
open Idealize.ShloMosaic Idealize.ShloMosaic.TcCoe Idealize.SL.Sem

namespace Cert.Attention

open Cert.KernelIdeal Cert.KernelIdeal.Gen Cert.BranchBwd

/-! ## The block's operations, from its queries, keys, values and the gradient of its result -/

section

variable (Q : Vec Ideal S128x256 .f32) (X V : Vec Ideal S256x256 .bf16) (O : Vec Ideal S1x128x256 .f32)

def bscore (r : Fin 128) (j : Fin 256) : EReal := (∑ d : Fin 256, Q (ix2 r d) * X (ix2 j d)) * Ideal.ofBits .f32 0x3D800000#32

def bcot (r : Fin 128) (j : Fin 256) : EReal := ∑ d : Fin 256, O (ix3 0 r d) * V (ix2 j d)

theorem soft_block (r : Fin 128) (s : Fin 256) : k0_pay352 (F := Ideal) Q X (ix2 r s) = soft (bscore Q X r) s := by
  pointwise [k0_pay352, k0_pay351]
  unfold soft total expo
  rw [← fold_top]
  rfl

theorem ds_block (p : FVec Ideal S128x256 .f32) (r : Fin 128) (S : Fin 256 → EReal) (hp : ∀ j, p (ix2 r j) = soft S j) (s : Fin 256) :
    k0_pay355 (F := Ideal) V p (k0_pay354 O) (ix2 r s) = back S (bcot V O r) s * Ideal.ofBits .f32 0x3D800000#32 := by
  pointwise [k0_pay355, k0_pay354]
  simp only [hp]
  rfl

theorem dq_block (r : Fin 128) (s : Fin 256) :
    k0_pay356 (F := Ideal) X V (k0_pay352 Q X) (k0_pay354 O) (ix2 r s)
      = ∑ j, back (bscore Q X r) (bcot V O r) j * Ideal.ofBits .f32 0x3D800000#32 * X (ix2 j s) := by
  have e := fun j => ds_block V O (k0_pay352 Q X) r _ (soft_block Q X r) j
  unfold k0_pay356
  generalize k0_pay355 (F := Ideal) V (k0_pay352 Q X) (k0_pay354 O) = d at e
  pointwise
  simp only [e]

theorem head_1 : k0_pay365 (F := Ideal) X V (k0_pay360 Q X) (k0_pay361 Q X) O = k0_pay356 X V (k0_pay352 Q X) (k0_pay354 O) := rfl

theorem head_2 : k0_pay373 (F := Ideal) Q X V O = k0_pay356 X V (k0_pay352 Q X) (k0_pay354 O) := rfl

theorem head_3 : k0_pay1 (F := Ideal) (k0_pay381 Q X V O) = k0_pay356 X V (k0_pay352 Q X) (k0_pay354 O) := rfl

end

end Cert.Attention

end
-- ==== Proof.AttentionDq.lean ====
module

public import proofs.«01_k».proof.Proof.AttentionBlock

/-!
# The gradient of the queries, as a point writes it
-/

@[expose] public section

noncomputable section

open scoped BigOperators
open Idealize.ShloMosaic Idealize.ShloMosaic.TcCoe Idealize.SL.Sem

namespace Cert.Attention

open Cert.KernelIdeal Cert.KernelIdeal.Gen Cert.BranchBwd

variable (m : (ℓ : Loc nD τ sig) → Buf (Elt Ideal) ℓ)

/-- The keys and values, an argument. -/
abbrev KV (c : Dev nD) : Vec Ideal S256x2048 .bf16 := m ((c : Thread nD τ).loc main_arg3)

theorem index_5 : ∀ t : Fin cfg0.N, win0_5.index t = ![t.val, 5] := (by decide +kernel : ∀ t : Fin grid0.N, _)
theorem index_16 : ∀ t : Fin cfg0.N, win0_16.index t = ![0, 0] := (by decide +kernel : ∀ t : Fin grid0.N, _)

theorem q_at_block (c : Dev nD) (t : Fin cfg0.N) (r : Fin 128) (s : Fin 1024) (n : Fin 8192) (k : Fin 12288) (hn : n.val = 128 * t.val + r.val)
    (hk : k.val = 5120 + s.val) : iblk m c 5 t (ix2 r s) = P m c (ix2 n k) := by
  blk_simp [iblk, index_5]
  show m ((c : Thread nD τ).loc main_arg0) _ = _
  congr 1
  blk_ext [index_5]

theorem kv_at_block (c : Dev nD) (t : Fin cfg0.N) (j : Fin 256) (k : Fin 2048) : iblk m c 16 t (ix2 j k) = KV m c (ix2 j k) := by
  blk_simp [iblk, index_16]
  show m ((c : Thread nD τ).loc main_arg3) _ = _
  congr 1
  blk_ext [index_16]

theorem q_ld (c : Dev nD) (t : Fin cfg0.N) (h : Fin 4) (a : ℕ) (ha : a = 256 * h.val) (hr) (r : Fin 128) (d : Fin 256) (n : Fin 8192)
    (hn : n.val = 128 * t.val + r.val) :
    View.ld (Val := Elt Ideal) (iblk m c 5 t) (Rect.unit ![0, a] ![128, 256] hr) (ix2 r d) = P m c (ix2 n (col 5120 h d (by decide))) := by
  refine Eq.trans ?_ (q_at_block m c t r ⟨a + d.val, by omega⟩ n _ hn (show 5120 + (256 * h.val + d.val) = 5120 + (a + d.val) by omega))
  show iblk m c 5 t _ = _
  congr 1
  funext b
  apply Fin.ext
  match b with
  | ⟨0, _⟩ => show 0 + 1 * r.val = r.val; omega
  | ⟨1, _⟩ => show a + 1 * d.val = a + d.val; omega

theorem kv_ld (c : Dev nD) (t : Fin cfg0.N) (a : ℕ) (hr) (j d : Fin 256) (k : Fin 2048) (hk : k.val = a + d.val) :
    View.ld (Val := Elt Ideal) (iblk m c 16 t) (Rect.unit ![0, a] ![256, 256] hr) (ix2 j d) = KV m c (ix2 j k) := by
  refine Eq.trans ?_ (kv_at_block m c t j k)
  show iblk m c 16 t _ = _
  congr 1
  funext b
  apply Fin.ext
  match b with
  | ⟨0, _⟩ => show 0 + 1 * j.val = j.val; omega
  | ⟨1, _⟩ => show a + 1 * d.val = k.val; omega

theorem o_ld (c : Dev nD) (t : Fin cfg0.N) (h : Fin 4) (a : ℕ) (ha : a = 256 * h.val) (hr) (r : Fin 128) (d : Fin 256) (n : Fin 8192)
    (hn : n.val = 128 * t.val + r.val) :
    View.ld (Val := Elt Ideal) (iblk m c 13 t) (Rect.unit ![2, 0, a] ![1, 128, 256] hr) (ix3 0 r d) = D m c (ix3 2 n (col 0 h d (by decide))) := by
  refine Eq.trans ?_ (d_at m c t 2 r (col 0 h d (by decide)) n hn)
  show iblk m c 13 t _ = _
  congr 1
  funext b
  apply Fin.ext
  match b with
  | ⟨0, _⟩ => rfl
  | ⟨1, _⟩ => show 0 + 1 * r.val = r.val; omega
  | ⟨2, _⟩ => show a + 1 * d.val = 0 + (256 * h.val + d.val); omega

section

variable (c : Dev nD) (t : Fin cfg0.N) (h : Fin 4) (a b : ℕ) (ha : a = 256 * h.val) (hb : b = 1024 + a)
  (h1 : ∀ i, (![0, a] : Fin 2 → ℕ) i + (![128, 256] : Fin 2 → ℕ) i ≤ S128x1024.size i)
  (h2 : ∀ i, (![0, a] : Fin 2 → ℕ) i + (![256, 256] : Fin 2 → ℕ) i ≤ S256x2048.size i)
  (h3 : ∀ i, (![0, b] : Fin 2 → ℕ) i + (![256, 256] : Fin 2 → ℕ) i ≤ S256x2048.size i)
  (h4 : ∀ i, (![2, 0, a] : Fin 3 → ℕ) i + (![1, 128, 256] : Fin 3 → ℕ) i ≤ S3x128x1024.size i)
  (r : Fin 128) (n : Fin 8192) (hn : n.val = 128 * t.val + r.val)

/-- A point's queries, keys, values and gradients of one head. -/
abbrev ldQ : Vec Ideal S128x256 .f32 := View.ld (Val := Elt Ideal) (iblk m c 5 t) (Rect.unit ![0, a] ![128, 256] h1)
abbrev ldK : Vec Ideal S256x256 .bf16 := View.ld (Val := Elt Ideal) (iblk m c 16 t) (Rect.unit ![0, a] ![256, 256] h2)
abbrev ldO : Vec Ideal S1x128x256 .f32 := View.ld (Val := Elt Ideal) (iblk m c 13 t) (Rect.unit ![2, 0, a] ![1, 128, 256] h4)

include ha hn in
theorem bscore_eq : bscore (ldQ m c t a h1) (ldK m c t a h2) r = score (P m c) (KV m c) h n := by
  funext j
  unfold bscore score
  refine congrArg (· * _) (Finset.sum_congr rfl fun d _ => congrArg₂ (· * ·) (q_ld m c t h a ha h1 r d n hn) (kv_ld m c t a h2 j d _ ?_))
  show 0 + (256 * h.val + d.val) = a + d.val
  omega

include ha hb hn in
theorem bcot_eq : bcot (ldK m c t b h3) (ldO m c t a h4) r = cot (D m c) (KV m c) h n := by
  funext j
  unfold bcot cot
  refine Finset.sum_congr rfl fun d _ => congrArg₂ (· * ·) (o_ld m c t h a ha h4 r d n hn) (kv_ld m c t b h3 j d _ ?_)
  show 1024 + (256 * h.val + d.val) = b + d.val
  omega

include ha hb hn in
theorem dq_piece (s : Fin 256) :
    k0_pay356 (F := Ideal) (ldK m c t a h2) (ldK m c t b h3) (k0_pay352 (ldQ m c t a h1) (ldK m c t a h2)) (k0_pay354 (ldO m c t a h4)) (ix2 r s)
      = ∑ j, back (score (P m c) (KV m c) h n) (cot (D m c) (KV m c) h n) j * Ideal.ofBits .f32 0x3D800000#32 * KV m c (ix2 j (col 0 h s (by decide))) := by
  rw [dq_block, bscore_eq m c t h a ha h1 h2 r n hn, bcot_eq m c t h a b ha hb h3 h4 r n hn]
  refine Finset.sum_congr rfl fun j _ => congrArg (_ * ·) (kv_ld m c t a h2 j s _ ?_)
  show 0 + (256 * h.val + s.val) = a + s.val
  omega

end

/-- The gradient of a query. -/
def dquery (P : Vec Ideal S8192x12288 .f32) (D : Vec Ideal S3x8192x1024 .f32) (K : Vec Ideal S256x2048 .bf16) (h : Fin 4) (n : Fin 8192) (s : Fin 256) : EReal :=
  ∑ j, back (score P K h n) (cot D K h n) j * Ideal.ofBits .f32 0x3D800000#32 * K (ix2 j (col 0 h s (by decide)))

set_option maxHeartbeats 4000000 in
theorem dq0_B (c : Dev nD) (t : Fin cfg0.N) (h0 : ¬t.val % 64 = 0) (r : Fin 128) (s : Fin 256) (n : Fin 8192) (hn : n.val = 128 * t.val + r.val) :
    (outsAt0 m c t.val t.isLt).1 (ix2 r ⟨5120 + s.val, by omega⟩) = dquery (P m c) (D m c) (KV m c) 0 n s := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 5120 + s.val < 5888 by omega))).trans ?_
  refine (Cert.Pieces.canon_skip _ _ _ _ 1 (Or.inl (show 5120 + s.val < 5632 by omega))).trans ?_
  refine (Cert.Pieces.canon_skip _ _ _ _ 1 (Or.inl (show 5120 + s.val < 5376 by omega))).trans ?_
  refine (Cert.Pieces.canon_hit _ _ _ _ (ix2 r s) fun a => match a with
    | ⟨0, _⟩ => (Nat.zero_add _).symm
    | ⟨1, _⟩ => rfl).trans ?_
  frame_out
  exact dq_piece m c t 0 0 1024 rfl rfl _ _ _ _ r n hn s

set_option maxHeartbeats 4000000 in
theorem dq0_A (c : Dev nD) (t : Fin cfg0.N) (h0 : t.val % 64 = 0) (r : Fin 128) (s : Fin 256) (n : Fin 8192) (hn : n.val = 128 * t.val + r.val) :
    (outsAt0 m c t.val t.isLt).1 (ix2 r ⟨5120 + s.val, by omega⟩) = dquery (P m c) (D m c) (KV m c) 0 n s := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 5120 + s.val < 5888 by omega))).trans ?_
  refine (Cert.Pieces.canon_skip _ _ _ _ 1 (Or.inl (show 5120 + s.val < 5632 by omega))).trans ?_
  refine (Cert.Pieces.canon_skip _ _ _ _ 1 (Or.inl (show 5120 + s.val < 5376 by omega))).trans ?_
  refine (Cert.Pieces.canon_hit _ _ _ _ (ix2 r s) fun a => match a with
    | ⟨0, _⟩ => (Nat.zero_add _).symm
    | ⟨1, _⟩ => rfl).trans ?_
  frame_out
  exact dq_piece m c t 0 0 1024 rfl rfl _ _ _ _ r n hn s

set_option maxHeartbeats 4000000 in
theorem dq1_B (c : Dev nD) (t : Fin cfg0.N) (h0 : ¬t.val % 64 = 0) (r : Fin 128) (s : Fin 256) (n : Fin 8192) (hn : n.val = 128 * t.val + r.val) :
    (outsAt0 m c t.val t.isLt).1 (ix2 r ⟨5376 + s.val, by omega⟩) = dquery (P m c) (D m c) (KV m c) 1 n s := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 5376 + s.val < 5888 by omega))).trans ?_
  refine (Cert.Pieces.canon_skip _ _ _ _ 1 (Or.inl (show 5376 + s.val < 5632 by omega))).trans ?_
  refine (Cert.Pieces.canon_hit _ _ _ _ (ix2 r s) fun a => match a with
    | ⟨0, _⟩ => (Nat.zero_add _).symm
    | ⟨1, _⟩ => rfl).trans ?_
  frame_out
  exact (congrFun (head_1 _ _ _ _) (ix2 r s)).trans (dq_piece m c t 1 256 1280 rfl rfl _ _ _ _ r n hn s)

set_option maxHeartbeats 4000000 in
theorem dq1_A (c : Dev nD) (t : Fin cfg0.N) (h0 : t.val % 64 = 0) (r : Fin 128) (s : Fin 256) (n : Fin 8192) (hn : n.val = 128 * t.val + r.val) :
    (outsAt0 m c t.val t.isLt).1 (ix2 r ⟨5376 + s.val, by omega⟩) = dquery (P m c) (D m c) (KV m c) 1 n s := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 5376 + s.val < 5888 by omega))).trans ?_
  refine (Cert.Pieces.canon_skip _ _ _ _ 1 (Or.inl (show 5376 + s.val < 5632 by omega))).trans ?_
  refine (Cert.Pieces.canon_hit _ _ _ _ (ix2 r s) fun a => match a with
    | ⟨0, _⟩ => (Nat.zero_add _).symm
    | ⟨1, _⟩ => rfl).trans ?_
  frame_out
  exact (congrFun (head_1 _ _ _ _) (ix2 r s)).trans (dq_piece m c t 1 256 1280 rfl rfl _ _ _ _ r n hn s)

set_option maxHeartbeats 4000000 in
theorem dq2_B (c : Dev nD) (t : Fin cfg0.N) (h0 : ¬t.val % 64 = 0) (r : Fin 128) (s : Fin 256) (n : Fin 8192) (hn : n.val = 128 * t.val + r.val) :
    (outsAt0 m c t.val t.isLt).1 (ix2 r ⟨5632 + s.val, by omega⟩) = dquery (P m c) (D m c) (KV m c) 2 n s := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 5632 + s.val < 5888 by omega))).trans ?_
  refine (Cert.Pieces.canon_hit _ _ _ _ (ix2 r s) fun a => match a with
    | ⟨0, _⟩ => (Nat.zero_add _).symm
    | ⟨1, _⟩ => rfl).trans ?_
  frame_out
  exact (congrFun (head_2 _ _ _ _) (ix2 r s)).trans (dq_piece m c t 2 512 1536 rfl rfl _ _ _ _ r n hn s)

set_option maxHeartbeats 4000000 in
theorem dq2_A (c : Dev nD) (t : Fin cfg0.N) (h0 : t.val % 64 = 0) (r : Fin 128) (s : Fin 256) (n : Fin 8192) (hn : n.val = 128 * t.val + r.val) :
    (outsAt0 m c t.val t.isLt).1 (ix2 r ⟨5632 + s.val, by omega⟩) = dquery (P m c) (D m c) (KV m c) 2 n s := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_skip _ _ _ _ 1 (Or.inl (show 5632 + s.val < 5888 by omega))).trans ?_
  refine (Cert.Pieces.canon_hit _ _ _ _ (ix2 r s) fun a => match a with
    | ⟨0, _⟩ => (Nat.zero_add _).symm
    | ⟨1, _⟩ => rfl).trans ?_
  frame_out
  exact (congrFun (head_2 _ _ _ _) (ix2 r s)).trans (dq_piece m c t 2 512 1536 rfl rfl _ _ _ _ r n hn s)

set_option maxHeartbeats 4000000 in
theorem dq3_B (c : Dev nD) (t : Fin cfg0.N) (h0 : ¬t.val % 64 = 0) (r : Fin 128) (s : Fin 256) (n : Fin 8192) (hn : n.val = 128 * t.val + r.val) :
    (outsAt0 m c t.val t.isLt).1 (ix2 r ⟨5888 + s.val, by omega⟩) = dquery (P m c) (D m c) (KV m c) 3 n s := by
  rw [outsAt0_B m c t h0 h0]
  frame_open
  simp (disch := decide) only [↓ View.readCov_skip, ↓ View.readCov_cons_toLoadRect, ↓ View.readCov_fill]
  rw [View.read_writes_junk_eq_canon]
  refine (Cert.Pieces.canon_hit _ _ _ _ (ix2 r s) fun a => match a with
    | ⟨0, _⟩ => (Nat.zero_add _).symm
    | ⟨1, _⟩ => rfl).trans ?_
  frame_out
  exact (congrFun (head_3 _ _ _ _) (ix2 r s)).trans (dq_piece m c t 3 768 1792 rfl rfl _ _ _ _ r n hn s)

set_option maxHeartbeats 4000000 in
theorem dq3_A (c : Dev nD) (t : Fin cfg0.N) (h0 : t.val % 64 = 0) (r : Fin 128) (s : Fin 256) (n : Fin 8192) (hn : n.val = 128 * t.val + r.val) :
    (outsAt0 m c t.val t.isLt).1 (ix2 r ⟨5888 + s.val, by omega⟩) = dquery (P m c) (D m c) (KV m c) 3 n s := by
  rw [outsAt0_A m c t h0 h0]
  frame_open
  simp (disch := decide) only [↓ View.readCov_skip, ↓ View.readCov_cons_toLoadRect, ↓ View.readCov_fill]
  rw [View.read_writes_junk_eq_canon]
  refine (Cert.Pieces.canon_hit _ _ _ _ (ix2 r s) fun a => match a with
    | ⟨0, _⟩ => (Nat.zero_add _).symm
    | ⟨1, _⟩ => rfl).trans ?_
  frame_out
  exact (congrFun (head_3 _ _ _ _) (ix2 r s)).trans (dq_piece m c t 3 768 1792 rfl rfl _ _ _ _ r n hn s)

theorem dq_out (c : Dev nD) (t : Fin cfg0.N) (h : Fin 4) (r : Fin 128) (s : Fin 256) (n : Fin 8192) (hn : n.val = 128 * t.val + r.val) (hc : 5120 + (256 * h.val + s.val) < 6144) :
    (outsAt0 m c t.val t.isLt).1 (ix2 r ⟨5120 + (256 * h.val + s.val), hc⟩) = dquery (P m c) (D m c) (KV m c) h n s := by
  have e : ∀ (k : Fin 6144) (b : ℕ) (hb : b + s.val < 6144), k.val = b + s.val → k = ⟨b + s.val, hb⟩ := fun k b hb hk => Fin.ext hk
  match h with
  | ⟨0, _⟩ =>
    rw [e ⟨5120 + (256 * 0 + s.val), hc⟩ 5120 (by omega) (show 5120 + (256 * 0 + s.val) = 5120 + s.val by omega)]
    by_cases h0 : t.val % 64 = 0
    · exact dq0_A m c t h0 r s n hn
    · exact dq0_B m c t h0 r s n hn
  | ⟨1, _⟩ =>
    rw [e ⟨5120 + (256 * 1 + s.val), hc⟩ 5376 (by omega) (show 5120 + (256 * 1 + s.val) = 5376 + s.val by omega)]
    by_cases h0 : t.val % 64 = 0
    · exact dq1_A m c t h0 r s n hn
    · exact dq1_B m c t h0 r s n hn
  | ⟨2, _⟩ =>
    rw [e ⟨5120 + (256 * 2 + s.val), hc⟩ 5632 (by omega) (show 5120 + (256 * 2 + s.val) = 5632 + s.val by omega)]
    by_cases h0 : t.val % 64 = 0
    · exact dq2_A m c t h0 r s n hn
    · exact dq2_B m c t h0 r s n hn
  | ⟨3, _⟩ =>
    rw [e ⟨5120 + (256 * 3 + s.val), hc⟩ 5888 (by omega) (show 5120 + (256 * 3 + s.val) = 5888 + s.val by omega)]
    by_cases h0 : t.val % 64 = 0
    · exact dq3_A m c t h0 r s n hn
    · exact dq3_B m c t h0 r s n hn

end Cert.Attention

end
-- ==== Proof.AttentionDkv.lean ====
module

public import proofs.«01_k».proof.Proof.AttentionDq

/-!
# The gradients of the keys and values, from point to point
-/

@[expose] public section

noncomputable section

open scoped BigOperators
open Idealize.ShloMosaic Idealize.ShloMosaic.TcCoe Idealize.SL.Sem

namespace Cert.Attention

open Cert.KernelIdeal Cert.KernelIdeal.Gen Cert.BranchBwd

section

variable (P : Vec Ideal S8192x12288 .f32) (D : Vec Ideal S3x8192x1024 .f32) (K : Vec Ideal S256x2048 .bf16)

/-- What row `n` adds to the gradient of a key, -/
def keyTerm (h : Fin 4) (j s : Fin 256) (n : Fin 8192) : EReal :=
  back (score P K h n) (cot D K h n) j * Ideal.ofBits .f32 0x3D800000#32 * P (ix2 n (col 5120 h s (by decide)))

/-- and to that of a value. -/
def valTerm (h : Fin 4) (j s : Fin 256) (n : Fin 8192) : EReal :=
  soft (score P K h n) j * D (ix3 2 n (col 0 h s (by decide)))

/-- Row `r` of point `t`. -/
def rowOf (t : ℕ) (r : Fin 128) : Fin 8192 := ⟨(128 * t + r.val) % 8192, Nat.mod_lt _ (by decide)⟩

theorem rowOf_val (t : Fin cfg0.N) (r : Fin 128) : (rowOf t.val r).val = 128 * t.val + r.val := by
  have hN : cfg0.N = 64 := N_0
  have ht := t.isLt
  show (128 * t.val + r.val) % 8192 = _
  omega

/-- The rows of all the points. -/
theorem sum_rows (f : Fin 8192 → EReal) : ∑ t : Fin cfg0.N, ∑ r : Fin 128, f (rowOf t.val r) = ∑ n, f n := by
  have e : ∀ N : ℕ, N = 64 → ∑ t : Fin N, ∑ r : Fin 128, f (rowOf t.val r) = ∑ n, f n := by
    rintro N rfl
    refine Fin.sum_mul_add_congr fun t r h => congrArg f (Fin.ext ?_)
    show (128 * t.val + r.val) % 8192 = t.val * 128 + r.val
    have := t.isLt
    omega
  exact e _ N_0

end

section

variable (Q : Vec Ideal S128x256 .f32) (X V : Vec Ideal S256x256 .bf16) (O : Vec Ideal S1x128x256 .f32) (A : Vec Ideal S256x256 .f32)

theorem dk_block (j s : Fin 256) :
    k0_pay357 (F := Ideal) (k0_pay351 Q) V (k0_pay352 Q X) (k0_pay354 O) A (ix2 j s)
      = A (ix2 j s) + ∑ r, back (bscore Q X r) (bcot V O r) j * Ideal.ofBits .f32 0x3D800000#32 * Q (ix2 r s) := by
  have e := fun r => ds_block V O (k0_pay352 Q X) r _ (soft_block Q X r) j
  unfold k0_pay357
  generalize k0_pay355 (F := Ideal) V (k0_pay352 Q X) (k0_pay354 O) = d at e
  pointwise [k0_pay351]
  simp only [e]

theorem dv_block (j s : Fin 256) :
    k0_pay358 (F := Ideal) (k0_pay353 Q X) (k0_pay354 O) A (ix2 j s) = A (ix2 j s) + ∑ r, soft (bscore Q X r) j * O (ix3 0 r s) := by
  have e := fun r => soft_block Q X r j
  unfold k0_pay358 k0_pay353
  generalize k0_pay352 (F := Ideal) Q X = d at e
  pointwise [k0_pay354]
  simp only [e]

end

variable (m : (ℓ : Loc nD τ sig) → Buf (Elt Ideal) ℓ)

section

variable (c : Dev nD) (t : Fin cfg0.N) (h : Fin 4) (a b : ℕ) (ha : a = 256 * h.val) (hb : b = 1024 + a)
  (h1 : ∀ i, (![0, a] : Fin 2 → ℕ) i + (![128, 256] : Fin 2 → ℕ) i ≤ S128x1024.size i)
  (h2 : ∀ i, (![0, a] : Fin 2 → ℕ) i + (![256, 256] : Fin 2 → ℕ) i ≤ S256x2048.size i)
  (h3 : ∀ i, (![0, b] : Fin 2 → ℕ) i + (![256, 256] : Fin 2 → ℕ) i ≤ S256x2048.size i)
  (h4 : ∀ i, (![2, 0, a] : Fin 3 → ℕ) i + (![1, 128, 256] : Fin 3 → ℕ) i ≤ S3x128x1024.size i)
  (A : Vec Ideal S256x256 .f32) (z : EReal)

include ha hb in
theorem dk_piece (j s : Fin 256) (hz : A (ix2 j s) = z) :
    k0_pay357 (F := Ideal) (k0_pay351 (ldQ m c t a h1)) (ldK m c t b h3) (k0_pay352 (ldQ m c t a h1) (ldK m c t a h2)) (k0_pay354 (ldO m c t a h4)) A (ix2 j s)
      = z + ∑ r, keyTerm (P m c) (D m c) (KV m c) h j s (rowOf t.val r) := by
  rw [dk_block, hz]
  refine congrArg (_ + ·) (Finset.sum_congr rfl fun r _ => ?_)
  have hn := rowOf_val t r
  rw [bscore_eq m c t h a ha h1 h2 r _ hn, bcot_eq m c t h a b ha hb h3 h4 r _ hn]
  exact congrArg (_ * ·) (q_ld m c t h a ha h1 r s _ hn)

include ha in
theorem dv_piece (j s : Fin 256) (hz : A (ix2 j s) = z) :
    k0_pay358 (F := Ideal) (k0_pay353 (ldQ m c t a h1) (ldK m c t a h2)) (k0_pay354 (ldO m c t a h4)) A (ix2 j s)
      = z + ∑ r, valTerm (P m c) (D m c) (KV m c) h j s (rowOf t.val r) := by
  rw [dv_block, hz]
  refine congrArg (_ + ·) (Finset.sum_congr rfl fun r _ => ?_)
  have hn := rowOf_val t r
  rw [bscore_eq m c t h a ha h1 h2 r _ hn]
  exact congrArg (_ * ·) (o_ld m c t h a ha h4 r s _ hn)

end

theorem ld_at (A : Vec Ideal S256x2048 .f32) (a : ℕ) (hr) (j s : Fin 256) (hk : a + s.val < 2048) :
    View.ld (Val := Elt Ideal) (e' := .f32) A (Rect.unit ![0, a] ![256, 256] hr) (ix2 j s) = A (ix2 j ⟨a + s.val, hk⟩) := by
  show A _ = _
  congr 1
  funext b
  apply Fin.ext
  match b with
  | ⟨0, _⟩ => show 0 + 1 * j.val = j.val; omega
  | ⟨1, _⟩ => show a + 1 * s.val = a + s.val; omega

theorem zero_at (a : ℕ) (hr) (j s : Fin 256) (hk : a + s.val < 2048) :
    View.ld (Val := Elt Ideal) (e' := .f32) (k0_pay37 (F := Ideal)) (Rect.unit ![0, a] ![256, 256] hr) (ix2 j s) = (0 : EReal) := by
  rw [ld_at _ a hr j s hk]
  pointwise [k0_pay37]

set_option maxHeartbeats 4000000 in
theorem dk0_B (c : Dev nD) (t : Fin cfg0.N) (h0 : ¬t.val % 64 = 0) (j s : Fin 256) :
    (outsAt0 m c t.val t.isLt).2.1 (ix2 j ⟨0 + s.val, by omega⟩)
      = (outsAt0 m c (t.val - 1) (Nat.lt_of_le_of_lt (Nat.sub_le _ _) t.isLt)).2.1 (ix2 j ⟨0 + s.val, by omega⟩)
        + ∑ r, keyTerm (P m c) (D m c) (KV m c) 0 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 0 + s.val < 1792 by omega))).trans ?_
  refine (Cert.Pieces.read_skip _ _ _ _ _ _ 1 (Or.inl (show 0 + s.val < 768 by omega))).trans ?_
  refine (Cert.Pieces.read_skip _ _ _ _ _ _ 1 (Or.inl (show 0 + s.val < 1536 by omega))).trans ?_
  refine (Cert.Pieces.read_skip _ _ _ _ _ _ 1 (Or.inl (show 0 + s.val < 512 by omega))).trans ?_
  refine (Cert.Pieces.read_skip _ _ _ _ _ _ 1 (Or.inl (show 0 + s.val < 1280 by omega))).trans ?_
  refine (Cert.Pieces.read_skip _ _ _ _ _ _ 1 (Or.inl (show 0 + s.val < 256 by omega))).trans ?_
  refine (Cert.Pieces.read_skip _ _ _ _ _ _ 1 (Or.inl (show 0 + s.val < 1024 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 0 0 1024 rfl rfl _ _ _ _ _ _ j s (ld_at _ 0 _ j s (by omega))

set_option maxHeartbeats 4000000 in
theorem dk0_A (c : Dev nD) (t : Fin cfg0.N) (h0 : t.val % 64 = 0) (j s : Fin 256) :
    (outsAt0 m c t.val t.isLt).2.1 (ix2 j ⟨0 + s.val, by omega⟩)
      = (0 : EReal)
        + ∑ r, keyTerm (P m c) (D m c) (KV m c) 0 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 0 + s.val < 1792 by omega))).trans ?_
  refine (Cert.Pieces.read_skip _ _ _ _ _ _ 1 (Or.inl (show 0 + s.val < 768 by omega))).trans ?_
  refine (Cert.Pieces.read_skip _ _ _ _ _ _ 1 (Or.inl (show 0 + s.val < 1536 by omega))).trans ?_
  refine (Cert.Pieces.read_skip _ _ _ _ _ _ 1 (Or.inl (show 0 + s.val < 512 by omega))).trans ?_
  refine (Cert.Pieces.read_skip _ _ _ _ _ _ 1 (Or.inl (show 0 + s.val < 1280 by omega))).trans ?_
  refine (Cert.Pieces.read_skip _ _ _ _ _ _ 1 (Or.inl (show 0 + s.val < 256 by omega))).trans ?_
  refine (Cert.Pieces.read_skip _ _ _ _ _ _ 1 (Or.inl (show 0 + s.val < 1024 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 0 0 1024 rfl rfl _ _ _ _ _ _ j s (zero_at 0 _ j s (by omega))

theorem dk0_last (c : Dev nD) (t : Fin cfg0.N) (ht : t.val + 1 = cfg0.N) (j s : Fin 256) :
    (outsAt0 m c t.val t.isLt).2.1 (ix2 j ⟨0 + s.val, by omega⟩) = ∑ n, keyTerm (P m c) (D m c) (KV m c) 0 j s n := by
  rw [Pipeline.eq_sum_fin_of_reset_step_apply_last (fun n h => fun s : Fin 256 => ((outsAt0 m c n h).2.1 (ix2 j ⟨0 + s.val, by omega⟩) : EReal)) 64 (fun _ => 0)
    (fun t s => ∑ r, keyTerm (P m c) (D m c) (KV m c) 0 j s (rowOf t.val r)) (fun t h s => dk0_A m c t h j s) (fun t h s => dk0_B m c t h j s)
    (le_of_eq N_0) t ht s, zero_add]
  exact sum_rows _

set_option maxHeartbeats 4000000 in
theorem dv0_B (c : Dev nD) (t : Fin cfg0.N) (h0 : ¬t.val % 64 = 0) (j s : Fin 256) :
    (outsAt0 m c t.val t.isLt).2.1 (ix2 j ⟨1024 + s.val, by omega⟩)
      = (outsAt0 m c (t.val - 1) (Nat.lt_of_le_of_lt (Nat.sub_le _ _) t.isLt)).2.1 (ix2 j ⟨1024 + s.val, by omega⟩)
        + ∑ r, valTerm (P m c) (D m c) (KV m c) 0 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 1024 + s.val < 1792 by omega))).trans ?_
  refine (Cert.Pieces.read_skip _ _ _ _ _ _ 1 (Or.inr (show 768 + 256 ≤ 1024 + s.val by omega))).trans ?_
  refine (Cert.Pieces.read_skip _ _ _ _ _ _ 1 (Or.inl (show 1024 + s.val < 1536 by omega))).trans ?_
  refine (Cert.Pieces.read_skip _ _ _ _ _ _ 1 (Or.inr (show 512 + 256 ≤ 1024 + s.val by omega))).trans ?_
  refine (Cert.Pieces.read_skip _ _ _ _ _ _ 1 (Or.inl (show 1024 + s.val < 1280 by omega))).trans ?_
  refine (Cert.Pieces.read_skip _ _ _ _ _ _ 1 (Or.inr (show 256 + 256 ≤ 1024 + s.val by omega))).trans ?_
  refine (Cert.Pieces.read_hit _ _ _ _ _ _ (ix2 j s) fun a => match a with
    | ⟨0, _⟩ => (Nat.zero_add _).symm
    | ⟨1, _⟩ => rfl).trans ?_
  frame_out
  exact dv_piece m c t 0 0 rfl _ _ _ _ _ j s (ld_at _ 1024 _ j s (by omega))

set_option maxHeartbeats 4000000 in
theorem dv0_A (c : Dev nD) (t : Fin cfg0.N) (h0 : t.val % 64 = 0) (j s : Fin 256) :
    (outsAt0 m c t.val t.isLt).2.1 (ix2 j ⟨1024 + s.val, by omega⟩)
      = (0 : EReal)
        + ∑ r, valTerm (P m c) (D m c) (KV m c) 0 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 1024 + s.val < 1792 by omega))).trans ?_
  refine (Cert.Pieces.read_skip _ _ _ _ _ _ 1 (Or.inr (show 768 + 256 ≤ 1024 + s.val by omega))).trans ?_
  refine (Cert.Pieces.read_skip _ _ _ _ _ _ 1 (Or.inl (show 1024 + s.val < 1536 by omega))).trans ?_
  refine (Cert.Pieces.read_skip _ _ _ _ _ _ 1 (Or.inr (show 512 + 256 ≤ 1024 + s.val by omega))).trans ?_
  refine (Cert.Pieces.read_skip _ _ _ _ _ _ 1 (Or.inl (show 1024 + s.val < 1280 by omega))).trans ?_
  refine (Cert.Pieces.read_skip _ _ _ _ _ _ 1 (Or.inr (show 256 + 256 ≤ 1024 + s.val by omega))).trans ?_
  refine (Cert.Pieces.read_hit _ _ _ _ _ _ (ix2 j s) fun a => match a with
    | ⟨0, _⟩ => (Nat.zero_add _).symm
    | ⟨1, _⟩ => rfl).trans ?_
  frame_out
  exact dv_piece m c t 0 0 rfl _ _ _ _ _ j s (zero_at 1024 _ j s (by omega))

theorem dv0_last (c : Dev nD) (t : Fin cfg0.N) (ht : t.val + 1 = cfg0.N) (j s : Fin 256) :
    (outsAt0 m c t.val t.isLt).2.1 (ix2 j ⟨1024 + s.val, by omega⟩) = ∑ n, valTerm (P m c) (D m c) (KV m c) 0 j s n := by
  rw [Pipeline.eq_sum_fin_of_reset_step_apply_last (fun n h => fun s : Fin 256 => ((outsAt0 m c n h).2.1 (ix2 j ⟨1024 + s.val, by omega⟩) : EReal)) 64 (fun _ => 0)
    (fun t s => ∑ r, valTerm (P m c) (D m c) (KV m c) 0 j s (rowOf t.val r)) (fun t h s => dv0_A m c t h j s) (fun t h s => dv0_B m c t h j s)
    (le_of_eq N_0) t ht s, zero_add]
  exact sum_rows _

set_option maxHeartbeats 4000000 in
theorem dk1_B (c : Dev nD) (t : Fin cfg0.N) (h0 : ¬t.val % 64 = 0) (j s : Fin 256) :
    (outsAt0 m c t.val t.isLt).2.1 (ix2 j ⟨256 + s.val, by omega⟩)
      = (outsAt0 m c (t.val - 1) (Nat.lt_of_le_of_lt (Nat.sub_le _ _) t.isLt)).2.1 (ix2 j ⟨256 + s.val, by omega⟩)
        + ∑ r, keyTerm (P m c) (D m c) (KV m c) 1 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 256 + s.val < 1792 by omega))).trans ?_
  refine (Cert.Pieces.read_skip _ _ _ _ _ _ 1 (Or.inl (show 256 + s.val < 768 by omega))).trans ?_
  refine (Cert.Pieces.read_skip _ _ _ _ _ _ 1 (Or.inl (show 256 + s.val < 1536 by omega))).trans ?_
  refine (Cert.Pieces.read_skip _ _ _ _ _ _ 1 (Or.inl (show 256 + s.val < 512 by omega))).trans ?_
  refine (Cert.Pieces.read_skip _ _ _ _ _ _ 1 (Or.inl (show 256 + s.val < 1280 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 1 256 1280 rfl rfl _ _ _ _ _ _ j s (ld_at _ 256 _ j s (by omega))

set_option maxHeartbeats 4000000 in
theorem dk1_A (c : Dev nD) (t : Fin cfg0.N) (h0 : t.val % 64 = 0) (j s : Fin 256) :
    (outsAt0 m c t.val t.isLt).2.1 (ix2 j ⟨256 + s.val, by omega⟩)
      = (0 : EReal)
        + ∑ r, keyTerm (P m c) (D m c) (KV m c) 1 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 256 + s.val < 1792 by omega))).trans ?_
  refine (Cert.Pieces.read_skip _ _ _ _ _ _ 1 (Or.inl (show 256 + s.val < 768 by omega))).trans ?_
  refine (Cert.Pieces.read_skip _ _ _ _ _ _ 1 (Or.inl (show 256 + s.val < 1536 by omega))).trans ?_
  refine (Cert.Pieces.read_skip _ _ _ _ _ _ 1 (Or.inl (show 256 + s.val < 512 by omega))).trans ?_
  refine (Cert.Pieces.read_skip _ _ _ _ _ _ 1 (Or.inl (show 256 + s.val < 1280 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 1 256 1280 rfl rfl _ _ _ _ _ _ j s (zero_at 256 _ j s (by omega))

theorem dk1_last (c : Dev nD) (t : Fin cfg0.N) (ht : t.val + 1 = cfg0.N) (j s : Fin 256) :
    (outsAt0 m c t.val t.isLt).2.1 (ix2 j ⟨256 + s.val, by omega⟩) = ∑ n, keyTerm (P m c) (D m c) (KV m c) 1 j s n := by
  rw [Pipeline.eq_sum_fin_of_reset_step_apply_last (fun n h => fun s : Fin 256 => ((outsAt0 m c n h).2.1 (ix2 j ⟨256 + s.val, by omega⟩) : EReal)) 64 (fun _ => 0)
    (fun t s => ∑ r, keyTerm (P m c) (D m c) (KV m c) 1 j s (rowOf t.val r)) (fun t h s => dk1_A m c t h j s) (fun t h s => dk1_B m c t h j s)
    (le_of_eq N_0) t ht s, zero_add]
  exact sum_rows _

set_option maxHeartbeats 4000000 in
theorem dv1_B (c : Dev nD) (t : Fin cfg0.N) (h0 : ¬t.val % 64 = 0) (j s : Fin 256) :
    (outsAt0 m c t.val t.isLt).2.1 (ix2 j ⟨1280 + s.val, by omega⟩)
      = (outsAt0 m c (t.val - 1) (Nat.lt_of_le_of_lt (Nat.sub_le _ _) t.isLt)).2.1 (ix2 j ⟨1280 + s.val, by omega⟩)
        + ∑ r, valTerm (P m c) (D m c) (KV m c) 1 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 1280 + s.val < 1792 by omega))).trans ?_
  refine (Cert.Pieces.read_skip _ _ _ _ _ _ 1 (Or.inr (show 768 + 256 ≤ 1280 + s.val by omega))).trans ?_
  refine (Cert.Pieces.read_skip _ _ _ _ _ _ 1 (Or.inl (show 1280 + s.val < 1536 by omega))).trans ?_
  refine (Cert.Pieces.read_skip _ _ _ _ _ _ 1 (Or.inr (show 512 + 256 ≤ 1280 + s.val by omega))).trans ?_
  refine (Cert.Pieces.read_hit _ _ _ _ _ _ (ix2 j s) fun a => match a with
    | ⟨0, _⟩ => (Nat.zero_add _).symm
    | ⟨1, _⟩ => rfl).trans ?_
  frame_out
  exact dv_piece m c t 1 256 rfl _ _ _ _ _ j s (ld_at _ 1280 _ j s (by omega))

set_option maxHeartbeats 4000000 in
theorem dv1_A (c : Dev nD) (t : Fin cfg0.N) (h0 : t.val % 64 = 0) (j s : Fin 256) :
    (outsAt0 m c t.val t.isLt).2.1 (ix2 j ⟨1280 + s.val, by omega⟩)
      = (0 : EReal)
        + ∑ r, valTerm (P m c) (D m c) (KV m c) 1 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 1280 + s.val < 1792 by omega))).trans ?_
  refine (Cert.Pieces.read_skip _ _ _ _ _ _ 1 (Or.inr (show 768 + 256 ≤ 1280 + s.val by omega))).trans ?_
  refine (Cert.Pieces.read_skip _ _ _ _ _ _ 1 (Or.inl (show 1280 + s.val < 1536 by omega))).trans ?_
  refine (Cert.Pieces.read_skip _ _ _ _ _ _ 1 (Or.inr (show 512 + 256 ≤ 1280 + s.val by omega))).trans ?_
  refine (Cert.Pieces.read_hit _ _ _ _ _ _ (ix2 j s) fun a => match a with
    | ⟨0, _⟩ => (Nat.zero_add _).symm
    | ⟨1, _⟩ => rfl).trans ?_
  frame_out
  exact dv_piece m c t 1 256 rfl _ _ _ _ _ j s (zero_at 1280 _ j s (by omega))

theorem dv1_last (c : Dev nD) (t : Fin cfg0.N) (ht : t.val + 1 = cfg0.N) (j s : Fin 256) :
    (outsAt0 m c t.val t.isLt).2.1 (ix2 j ⟨1280 + s.val, by omega⟩) = ∑ n, valTerm (P m c) (D m c) (KV m c) 1 j s n := by
  rw [Pipeline.eq_sum_fin_of_reset_step_apply_last (fun n h => fun s : Fin 256 => ((outsAt0 m c n h).2.1 (ix2 j ⟨1280 + s.val, by omega⟩) : EReal)) 64 (fun _ => 0)
    (fun t s => ∑ r, valTerm (P m c) (D m c) (KV m c) 1 j s (rowOf t.val r)) (fun t h s => dv1_A m c t h j s) (fun t h s => dv1_B m c t h j s)
    (le_of_eq N_0) t ht s, zero_add]
  exact sum_rows _

set_option maxHeartbeats 4000000 in
theorem dk2_B (c : Dev nD) (t : Fin cfg0.N) (h0 : ¬t.val % 64 = 0) (j s : Fin 256) :
    (outsAt0 m c t.val t.isLt).2.1 (ix2 j ⟨512 + s.val, by omega⟩)
      = (outsAt0 m c (t.val - 1) (Nat.lt_of_le_of_lt (Nat.sub_le _ _) t.isLt)).2.1 (ix2 j ⟨512 + s.val, by omega⟩)
        + ∑ r, keyTerm (P m c) (D m c) (KV m c) 2 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 512 + s.val < 1792 by omega))).trans ?_
  refine (Cert.Pieces.read_skip _ _ _ _ _ _ 1 (Or.inl (show 512 + s.val < 768 by omega))).trans ?_
  refine (Cert.Pieces.read_skip _ _ _ _ _ _ 1 (Or.inl (show 512 + s.val < 1536 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 2 512 1536 rfl rfl _ _ _ _ _ _ j s (ld_at _ 512 _ j s (by omega))

set_option maxHeartbeats 4000000 in
theorem dk2_A (c : Dev nD) (t : Fin cfg0.N) (h0 : t.val % 64 = 0) (j s : Fin 256) :
    (outsAt0 m c t.val t.isLt).2.1 (ix2 j ⟨512 + s.val, by omega⟩)
      = (0 : EReal)
        + ∑ r, keyTerm (P m c) (D m c) (KV m c) 2 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 512 + s.val < 1792 by omega))).trans ?_
  refine (Cert.Pieces.read_skip _ _ _ _ _ _ 1 (Or.inl (show 512 + s.val < 768 by omega))).trans ?_
  refine (Cert.Pieces.read_skip _ _ _ _ _ _ 1 (Or.inl (show 512 + s.val < 1536 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 2 512 1536 rfl rfl _ _ _ _ _ _ j s (zero_at 512 _ j s (by omega))

theorem dk2_last (c : Dev nD) (t : Fin cfg0.N) (ht : t.val + 1 = cfg0.N) (j s : Fin 256) :
    (outsAt0 m c t.val t.isLt).2.1 (ix2 j ⟨512 + s.val, by omega⟩) = ∑ n, keyTerm (P m c) (D m c) (KV m c) 2 j s n := by
  rw [Pipeline.eq_sum_fin_of_reset_step_apply_last (fun n h => fun s : Fin 256 => ((outsAt0 m c n h).2.1 (ix2 j ⟨512 + s.val, by omega⟩) : EReal)) 64 (fun _ => 0)
    (fun t s => ∑ r, keyTerm (P m c) (D m c) (KV m c) 2 j s (rowOf t.val r)) (fun t h s => dk2_A m c t h j s) (fun t h s => dk2_B m c t h j s)
    (le_of_eq N_0) t ht s, zero_add]
  exact sum_rows _

set_option maxHeartbeats 4000000 in
theorem dv2_B (c : Dev nD) (t : Fin cfg0.N) (h0 : ¬t.val % 64 = 0) (j s : Fin 256) :
    (outsAt0 m c t.val t.isLt).2.1 (ix2 j ⟨1536 + s.val, by omega⟩)
      = (outsAt0 m c (t.val - 1) (Nat.lt_of_le_of_lt (Nat.sub_le _ _) t.isLt)).2.1 (ix2 j ⟨1536 + s.val, by omega⟩)
        + ∑ r, valTerm (P m c) (D m c) (KV m c) 2 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 1536 + s.val < 1792 by omega))).trans ?_
  refine (Cert.Pieces.read_skip _ _ _ _ _ _ 1 (Or.inr (show 768 + 256 ≤ 1536 + s.val by omega))).trans ?_
  refine (Cert.Pieces.read_hit _ _ _ _ _ _ (ix2 j s) fun a => match a with
    | ⟨0, _⟩ => (Nat.zero_add _).symm
    | ⟨1, _⟩ => rfl).trans ?_
  frame_out
  exact dv_piece m c t 2 512 rfl _ _ _ _ _ j s (ld_at _ 1536 _ j s (by omega))

set_option maxHeartbeats 4000000 in
theorem dv2_A (c : Dev nD) (t : Fin cfg0.N) (h0 : t.val % 64 = 0) (j s : Fin 256) :
    (outsAt0 m c t.val t.isLt).2.1 (ix2 j ⟨1536 + s.val, by omega⟩)
      = (0 : EReal)
        + ∑ r, valTerm (P m c) (D m c) (KV m c) 2 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 1536 + s.val < 1792 by omega))).trans ?_
  refine (Cert.Pieces.read_skip _ _ _ _ _ _ 1 (Or.inr (show 768 + 256 ≤ 1536 + s.val by omega))).trans ?_
  refine (Cert.Pieces.read_hit _ _ _ _ _ _ (ix2 j s) fun a => match a with
    | ⟨0, _⟩ => (Nat.zero_add _).symm
    | ⟨1, _⟩ => rfl).trans ?_
  frame_out
  exact dv_piece m c t 2 512 rfl _ _ _ _ _ j s (zero_at 1536 _ j s (by omega))

theorem dv2_last (c : Dev nD) (t : Fin cfg0.N) (ht : t.val + 1 = cfg0.N) (j s : Fin 256) :
    (outsAt0 m c t.val t.isLt).2.1 (ix2 j ⟨1536 + s.val, by omega⟩) = ∑ n, valTerm (P m c) (D m c) (KV m c) 2 j s n := by
  rw [Pipeline.eq_sum_fin_of_reset_step_apply_last (fun n h => fun s : Fin 256 => ((outsAt0 m c n h).2.1 (ix2 j ⟨1536 + s.val, by omega⟩) : EReal)) 64 (fun _ => 0)
    (fun t s => ∑ r, valTerm (P m c) (D m c) (KV m c) 2 j s (rowOf t.val r)) (fun t h s => dv2_A m c t h j s) (fun t h s => dv2_B m c t h j s)
    (le_of_eq N_0) t ht s, zero_add]
  exact sum_rows _

set_option maxHeartbeats 4000000 in
theorem dk3_B (c : Dev nD) (t : Fin cfg0.N) (h0 : ¬t.val % 64 = 0) (j s : Fin 256) :
    (outsAt0 m c t.val t.isLt).2.1 (ix2 j ⟨768 + s.val, by omega⟩)
      = (outsAt0 m c (t.val - 1) (Nat.lt_of_le_of_lt (Nat.sub_le _ _) t.isLt)).2.1 (ix2 j ⟨768 + s.val, by omega⟩)
        + ∑ r, keyTerm (P m c) (D m c) (KV m c) 3 j s (rowOf t.val r) := by
  rw [outsAt0_B m c t h0 h0]
  frame_open
  simp (disch := decide) only [↓ View.readCov_skip, ↓ View.readCov_cons_toLoadRect, ↓ View.readCov_fill]
  refine (Cert.Pieces.read_skip _ _ _ _ _ _ 1 (Or.inl (show 768 + s.val < 1792 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 3 768 1792 rfl rfl _ _ _ _ _ _ j s (ld_at _ 768 _ j s (by omega))

set_option maxHeartbeats 4000000 in
theorem dk3_A (c : Dev nD) (t : Fin cfg0.N) (h0 : t.val % 64 = 0) (j s : Fin 256) :
    (outsAt0 m c t.val t.isLt).2.1 (ix2 j ⟨768 + s.val, by omega⟩)
      = (0 : EReal)
        + ∑ r, keyTerm (P m c) (D m c) (KV m c) 3 j s (rowOf t.val r) := by
  rw [outsAt0_A m c t h0 h0]
  frame_open
  simp (disch := decide) only [↓ View.readCov_skip, ↓ View.readCov_cons_toLoadRect, ↓ View.readCov_fill]
  refine (Cert.Pieces.read_skip _ _ _ _ _ _ 1 (Or.inl (show 768 + s.val < 1792 by omega))).trans ?_
  refine (Cert.Pieces.read_hit _ _ _ _ _ _ (ix2 j s) fun a => match a with
    | ⟨0, _⟩ => (Nat.zero_add _).symm
    | ⟨1, _⟩ => rfl).trans ?_
  frame_out
  exact dk_piece m c t 3 768 1792 rfl rfl _ _ _ _ _ _ j s (zero_at 768 _ j s (by omega))

theorem dk3_last (c : Dev nD) (t : Fin cfg0.N) (ht : t.val + 1 = cfg0.N) (j s : Fin 256) :
    (outsAt0 m c t.val t.isLt).2.1 (ix2 j ⟨768 + s.val, by omega⟩) = ∑ n, keyTerm (P m c) (D m c) (KV m c) 3 j s n := by
  rw [Pipeline.eq_sum_fin_of_reset_step_apply_last (fun n h => fun s : Fin 256 => ((outsAt0 m c n h).2.1 (ix2 j ⟨768 + s.val, by omega⟩) : EReal)) 64 (fun _ => 0)
    (fun t s => ∑ r, keyTerm (P m c) (D m c) (KV m c) 3 j s (rowOf t.val r)) (fun t h s => dk3_A m c t h j s) (fun t h s => dk3_B m c t h j s)
    (le_of_eq N_0) t ht s, zero_add]
  exact sum_rows _

set_option maxHeartbeats 4000000 in
theorem dv3_B (c : Dev nD) (t : Fin cfg0.N) (h0 : ¬t.val % 64 = 0) (j s : Fin 256) :
    (outsAt0 m c t.val t.isLt).2.1 (ix2 j ⟨1792 + s.val, by omega⟩)
      = (outsAt0 m c (t.val - 1) (Nat.lt_of_le_of_lt (Nat.sub_le _ _) t.isLt)).2.1 (ix2 j ⟨1792 + s.val, by omega⟩)
        + ∑ r, valTerm (P m c) (D m c) (KV m c) 3 j s (rowOf t.val r) := by
  rw [outsAt0_B m c t h0 h0]
  frame_open
  simp (disch := decide) only [↓ View.readCov_skip, ↓ View.readCov_cons_toLoadRect, ↓ View.readCov_fill]
  refine (Cert.Pieces.read_hit _ _ _ _ _ _ (ix2 j s) fun a => match a with
    | ⟨0, _⟩ => (Nat.zero_add _).symm
    | ⟨1, _⟩ => rfl).trans ?_
  frame_out
  exact dv_piece m c t 3 768 rfl _ _ _ _ _ j s (ld_at _ 1792 _ j s (by omega))

set_option maxHeartbeats 4000000 in
theorem dv3_A (c : Dev nD) (t : Fin cfg0.N) (h0 : t.val % 64 = 0) (j s : Fin 256) :
    (outsAt0 m c t.val t.isLt).2.1 (ix2 j ⟨1792 + s.val, by omega⟩)
      = (0 : EReal)
        + ∑ r, valTerm (P m c) (D m c) (KV m c) 3 j s (rowOf t.val r) := by
  rw [outsAt0_A m c t h0 h0]
  frame_open
  simp (disch := decide) only [↓ View.readCov_skip, ↓ View.readCov_cons_toLoadRect, ↓ View.readCov_fill]
  refine (Cert.Pieces.read_hit _ _ _ _ _ _ (ix2 j s) fun a => match a with
    | ⟨0, _⟩ => (Nat.zero_add _).symm
    | ⟨1, _⟩ => rfl).trans ?_
  frame_out
  exact dv_piece m c t 3 768 rfl _ _ _ _ _ j s (zero_at 1792 _ j s (by omega))

theorem dv3_last (c : Dev nD) (t : Fin cfg0.N) (ht : t.val + 1 = cfg0.N) (j s : Fin 256) :
    (outsAt0 m c t.val t.isLt).2.1 (ix2 j ⟨1792 + s.val, by omega⟩) = ∑ n, valTerm (P m c) (D m c) (KV m c) 3 j s n := by
  rw [Pipeline.eq_sum_fin_of_reset_step_apply_last (fun n h => fun s : Fin 256 => ((outsAt0 m c n h).2.1 (ix2 j ⟨1792 + s.val, by omega⟩) : EReal)) 64 (fun _ => 0)
    (fun t s => ∑ r, valTerm (P m c) (D m c) (KV m c) 3 j s (rowOf t.val r)) (fun t h s => dv3_A m c t h j s) (fun t h s => dv3_B m c t h j s)
    (le_of_eq N_0) t ht s, zero_add]
  exact sum_rows _

/-- The gradient of the keys, as the last point leaves it. -/
theorem dk_out (c : Dev nD) (t : Fin cfg0.N) (ht : t.val + 1 = cfg0.N) (h : Fin 4) (j s : Fin 256) (hc : 0 + (256 * h.val + s.val) < 2048) :
    (outsAt0 m c t.val t.isLt).2.1 (ix2 j ⟨0 + (256 * h.val + s.val), hc⟩) = ∑ n, keyTerm (P m c) (D m c) (KV m c) h j s n := by
  have e : ∀ (k : Fin 2048) (b : ℕ) (hb : b + s.val < 2048), k.val = b + s.val → k = ⟨b + s.val, hb⟩ := fun k b hb hk => Fin.ext hk
  match h with
  | ⟨0, _⟩ =>
    rw [e ⟨0 + (256 * 0 + s.val), hc⟩ 0 (by omega) (show 0 + (256 * 0 + s.val) = 0 + s.val by omega)]
    exact dk0_last m c t ht j s
  | ⟨1, _⟩ =>
    rw [e ⟨0 + (256 * 1 + s.val), hc⟩ 256 (by omega) (show 0 + (256 * 1 + s.val) = 256 + s.val by omega)]
    exact dk1_last m c t ht j s
  | ⟨2, _⟩ =>
    rw [e ⟨0 + (256 * 2 + s.val), hc⟩ 512 (by omega) (show 0 + (256 * 2 + s.val) = 512 + s.val by omega)]
    exact dk2_last m c t ht j s
  | ⟨3, _⟩ =>
    rw [e ⟨0 + (256 * 3 + s.val), hc⟩ 768 (by omega) (show 0 + (256 * 3 + s.val) = 768 + s.val by omega)]
    exact dk3_last m c t ht j s

/-- The gradient of the values, as the last point leaves it. -/
theorem dv_out (c : Dev nD) (t : Fin cfg0.N) (ht : t.val + 1 = cfg0.N) (h : Fin 4) (j s : Fin 256) (hc : 1024 + (256 * h.val + s.val) < 2048) :
    (outsAt0 m c t.val t.isLt).2.1 (ix2 j ⟨1024 + (256 * h.val + s.val), hc⟩) = ∑ n, valTerm (P m c) (D m c) (KV m c) h j s n := by
  have e : ∀ (k : Fin 2048) (b : ℕ) (hb : b + s.val < 2048), k.val = b + s.val → k = ⟨b + s.val, hb⟩ := fun k b hb hk => Fin.ext hk
  match h with
  | ⟨0, _⟩ =>
    rw [e ⟨1024 + (256 * 0 + s.val), hc⟩ 1024 (by omega) (show 1024 + (256 * 0 + s.val) = 1024 + s.val by omega)]
    exact dv0_last m c t ht j s
  | ⟨1, _⟩ =>
    rw [e ⟨1024 + (256 * 1 + s.val), hc⟩ 1280 (by omega) (show 1024 + (256 * 1 + s.val) = 1280 + s.val by omega)]
    exact dv1_last m c t ht j s
  | ⟨2, _⟩ =>
    rw [e ⟨1024 + (256 * 2 + s.val), hc⟩ 1536 (by omega) (show 1024 + (256 * 2 + s.val) = 1536 + s.val by omega)]
    exact dv2_last m c t ht j s
  | ⟨3, _⟩ =>
    rw [e ⟨1024 + (256 * 3 + s.val), hc⟩ 1792 (by omega) (show 1024 + (256 * 3 + s.val) = 1792 + s.val by omega)]
    exact dv3_last m c t ht j s

end Cert.Attention

end
-- ==== Proof.AttentionRefKv.lean ====
module

public import proofs.«01_k».proof.Proof.AttentionRef
public import Idealize.ShloMosaic.Lib.Pointwise

/-!
# The gradient of the attention: the keys' and values' in the reference
-/

@[expose] public section

noncomputable section

open scoped BigOperators
open Idealize.ShloMosaic Idealize.ShloMosaic.TcCoe Idealize.SL.Sem

namespace Cert.Attention

open Cert.Reference31Ideal Cert.Reference31Ideal.Read

variable (P : Vec Ideal S8192x12288 .f32) (D : Vec Ideal S3x8192x1024 .f32) (K : Vec Ideal S256x2048 .bf16)

theorem dkey_at (h : Fin 4) (j s : Fin 256) (f : Fin 8192 → Fin 256 → ℝ) (hS : ∀ n, score P K h n = fun j => ((f n j : ℝ) : EReal))
    (hc : 0 + (256 * h.val + s.val) < 2048) :
    val_main_v70 (F := Ideal) P D K (ix2 j ⟨0 + (256 * h.val + s.val), hc⟩)
      = ∑ n, back (score P K h n) (cot D K h n) j * Ideal.ofBits .f32 0x3D800000#32 * P (ix2 n (col 5120 h s (by decide))) := by
  have e := fun n => ds_at P D K h n (f n) (hS n) j
  have e' := fun n => q_at P n h s
  unfold val_main_v70 val_main_v69 val_main_v68 val_main_v67 val_main_v63 val_main_v62
  generalize val_main_v61 (F := Ideal) P D K = V at e
  generalize val_main_v2 (F := Ideal) P = W at e'
  generalize val_main_v66 (F := Ideal) P D K = U
  pointwise [val_main_cst_13, val_main_cst_14]
  rw [dif_neg (by omega), dif_pos (by omega), zero_add]
  simp only [e, e']

theorem dval_at (h : Fin 4) (j s : Fin 256) (hc : 1024 + (256 * h.val + s.val) < 2048) :
    val_main_v70 (F := Ideal) P D K (ix2 j ⟨1024 + (256 * h.val + s.val), hc⟩)
      = ∑ n, soft (score P K h n) j * D (ix3 2 n (col 0 h s (by decide))) := by
  have e := fun n => soft_at P K h n j
  have e' := fun n => do_at D n h s
  unfold val_main_v70 val_main_v69 val_main_v67 val_main_v66 val_main_v47 val_main_v46 val_main_v44
  generalize val_main_v34 (F := Ideal) P K = V at e
  generalize val_main_v43 (F := Ideal) D = W at e'
  generalize val_main_v68 (F := Ideal) P D K = U
  pointwise [val_main_cst_13, val_main_cst_14]
  rw [dif_pos (by omega)]
  simp only [e, e']
  exact Finset.sum_congr rfl fun n _ => mul_comm _ _

end Cert.Attention

end
-- ==== Proof.AttentionConv.lean ====
module

public import proofs.«01_k».proof.Proof.BranchConv
public import proofs.«01_k».proof.Proof.AttentionDkv
public import proofs.«01_k».proof.Proof.AttentionRefKv
public import proofs.«01_k».proof.Proof.Gen.On_attention_part
public import proofs.«01_k».proof.Proof.Gen.Reference31Ideal.Run

/-!
# The branches' gradient: the claim about the attention
-/

@[expose] public section

noncomputable section

open scoped BigOperators
open Idealize.ShloMosaic Idealize.ShloMosaic.TcCoe Idealize.SL.Sem

namespace Cert.Attention

open Cert.KernelIdeal Cert.KernelIdeal.Gen Cert.BranchBwd

/-- The shapes of the precondition fit. -/
instance facts : Cert.Pre_attention_finite.Facts where
  slices_S8192x12288_S8192x1024_0_5120 := by decide
  bcast_S_S8192x1024 := by decide
  slices_S256x2048_S256x1024_0_0 := by decide
  bitsLt_bf16_f32 := by decide
  bcast_S_S256x1024 := by decide

/-! ## Finite queries and keys give finite scores -/

theorem finite_of_abs (x : EReal) (h : Ideal.cmp .olt (max x (-x)) (Ideal.ofBits .f32 0x7F800000#32) = 1#1) : ∃ r : ℝ, x = (r : EReal) := by
  have ht : Ideal.ofBits .f32 0x7F800000#32 = (⊤ : EReal) := by
    simp [Ideal.ofBits, Ideal.ieee]
  rw [ht] at h
  match x with
  | ⊤ => exact absurd h (by simp [Ideal.cmp])
  | ⊥ => exact absurd h (by simp [Ideal.cmp])
  | (r : ℝ) => exact ⟨r, rfl⟩

theorem scale_real : Ideal.ofBits .f32 0x3D800000#32 = ((1 / 16 : ℝ) : EReal) := by
  simp [Ideal.ofBits, Ideal.ieee, -EReal.coe_mul]
  norm_num

theorem score_real (P : Vec Ideal S8192x12288 .f32) (K : Vec Ideal S256x2048 .bf16) (h : Fin 4) (n : Fin 8192)
    (hP : ∀ d, ∃ r : ℝ, P (ix2 n (col 5120 h d (by decide))) = (r : EReal))
    (hK : ∀ j d, ∃ r : ℝ, K (ix2 j (col 0 h d (by decide))) = (r : EReal)) :
    ∃ f : Fin 256 → ℝ, score P K h n = fun j => ((f j : ℝ) : EReal) := by
  choose p hp using hP
  choose k hk using hK
  refine ⟨fun j => (∑ d, p d * k j d) * (1 / 16), funext fun j => ?_⟩
  unfold score
  rw [scale_real, EReal.coe_mul, ← sum_real]
  refine congrArg (· * ((1 / 16 : ℝ) : EReal)) (Finset.sum_congr rfl fun d _ => ?_)
  rw [hp, hk, EReal.coe_mul]

section
variable (x0 : Vec Ideal S8192x12288 .f32) (x1 : Vec Ideal S8192x1024 .f32) (x2 : Vec Ideal S3x8192x1024 .f32) (x3 : Vec Ideal S256x2048 .bf16)
  (x4 : Vec Ideal S32x1024 .f32) (x5 x6 : Vec Ideal S1x1024 .f32) (x7 : Vec Ideal S8x1024 .f32) (x8 : Vec Ideal S8192x12288 .bf16)

theorem scores_real (h1 : (Cert.Pre_attention_finite.fn (F := Ideal) x0 x1 x2 x3 x4 x5 x6 x7 x8).1 = (fun _ => 1#1))
    (h2 : (Cert.Pre_attention_finite.fn (F := Ideal) x0 x1 x2 x3 x4 x5 x6 x7 x8).2 = (fun _ => 1#1)) (h : Fin 4) (n : Fin 8192) :
    ∃ f : Fin 256 → ℝ, score x0 x3 h n = fun j => ((f j : ℝ) : EReal) := by
  refine score_real x0 x3 h n (fun d => ?_) fun j d => ?_
  · have e := congrFun h1 (ix2 n (col 0 h d (by decide)))
    unfold Cert.Pre_attention_finite.fn at e
    pointwise at e
    obtain ⟨r, hr⟩ := finite_of_abs _ e
    refine ⟨r, Eq.trans (congrArg (fun c => x0 (ix2 n c)) (Fin.ext ?_)) hr⟩
    show 5120 + (256 * h.val + d.val) = 5120 + (0 + (256 * h.val + d.val))
    omega
  · have e := congrFun h2 (ix2 j (col 0 h d (by decide)))
    unfold Cert.Pre_attention_finite.fn at e
    pointwise at e
    obtain ⟨r, hr⟩ := finite_of_abs _ e
    exact ⟨r, hr⟩

/-! ## The masks -/

theorem mask_dp (i : S8192x12288.Idx) (h : (Cert.On_attention_part.fn (F := Ideal) x0 x1 x2 x3 x4 x5 x6 x7 x8).1 i = 1#1) :
    5120 ≤ (i 1).val ∧ (i 1).val < 6144 := by
  have hi : (i 1).val < 12288 := (i 1).isLt
  obtain ⟨h1, h2⟩ := and_one (Scalar.cmpi .sge (BitVec.ofNat 32 (i 1).val) 5120#32) (Scalar.cmpi .slt (BitVec.ofNat 32 (i 1).val) 6144#32) h
  exact ⟨(WordCmp.cmpi_sge_ofNat_eq_one_iff (by omega) (by omega)).mp h1, (WordCmp.cmpi_slt_ofNat_eq_one_iff (by omega) (by omega)).mp h2⟩

theorem no_dwa (i : S256x1024.Idx) (h : (Cert.On_attention_part.fn (F := Ideal) x0 x1 x2 x3 x4 x5 x6 x7 x8).2.2.1 i = 1#1) : False :=
  absurd (show (0#1 : BitVec 1) = 1#1 from h) (by decide)

theorem no_misc (i : S8x1024.Idx) (h : (Cert.On_attention_part.fn (F := Ideal) x0 x1 x2 x3 x4 x5 x6 x7 x8).2.2.2 i = 1#1) : False :=
  absurd (show (0#1 : BitVec 1) = 1#1 from h) (by decide)

end

/-! ## The kernel's arrays -/

variable (m : (ℓ : Loc nD τ sig) → Buf (Elt Ideal) ℓ)

theorem final_dq (c : Dev nD) (hS : ∀ h n, ∃ f : Fin 256 → ℝ, score (P m c) (KV m c) h n = fun j => ((f j : ℝ) : EReal))
    (i : S8192x12288.Idx) (h1 : 5120 ≤ (i 1).val) (h2 : (i 1).val < 6144) :
    (dats m 0 c).arrAt 21 cfg0.N i = Cert.Reference31Ideal.Read.val_main_v75 (F := Ideal) (P m c) (D m c) (KV m c) i := by
  have hb : ∀ (h : Fin 4) (s : Fin 256), 5120 + (256 * h.val + s.val) < 12288 := fun h s => by omega
  obtain ⟨n, k, rfl⟩ : ∃ (n : Fin 8192) (k : Fin 12288), i = ix2 n k := ⟨i 0, i 1, by
    funext a
    match a with
    | ⟨0, _⟩ => rfl
    | ⟨1, _⟩ => rfl⟩
  replace h1 : 5120 ≤ k.val := h1
  replace h2 : k.val < 6144 := h2
  have er : n.val = 128 * (n.val / 128) + n.val % 128 := by omega
  refine (congrFun (dp_arr m c) (ix2 n k)).trans ((if_pos (show k.val / 6144 = 0 by omega)).trans ?_)
  unfold dpArr
  refine (dif_pos (show k.val < 6144 by omega)).trans ?_
  obtain ⟨h, s, hs⟩ : ∃ (h : Fin 4) (s : Fin 256), k.val = 5120 + (256 * h.val + s.val) :=
    ⟨⟨(k.val - 5120) / 256, by omega⟩, ⟨(k.val - 5120) % 256, by omega⟩, by
      show k.val = 5120 + (256 * ((k.val - 5120) / 256) + (k.val - 5120) % 256)
      omega⟩
  obtain rfl : k = ⟨5120 + (256 * h.val + s.val), hb h s⟩ := Fin.ext hs
  obtain ⟨f, hf⟩ := hS h n
  exact (dq_out m c ⟨n.val / 128, point_lt n⟩ h ⟨n.val % 128, Nat.mod_lt _ (by decide)⟩ s n er h2).trans
    (dq_at (P m c) (D m c) (KV m c) h n f hf s (hb h s)).symm

theorem index_22 : ∀ t : Fin cfg0.N, win0_22.index t = ![0, 0] := (by decide +kernel : ∀ t : Fin grid0.N, _)

/-- The gradient of the keys and values, as point `n` leaves it, -/
def dkvAt (c : Dev nD) (n : ℕ) (h : n < cfg0.N) : Vec Ideal S256x2048 .f32 := (outsAt0 m c n h).2.1

/-- and as the last one does. -/
def dkvArr (c : Dev nD) : Vec Ideal S256x2048 .f32 := dkvAt m c 63 last_lt

theorem dkv_arr (c : Dev nD) : (dats m 0 c).arrAt 22 cfg0.N = dkvArr m c := by
  refine (dats m 0 c).arrAt_eq_of_covers 22 (dkvArr m c) (by decide +kernel) fun t hf y => ?_
  have ht : t.val = 63 := (by decide +kernel : ∀ t : Fin cfg0.N, (cfg0.win 22).flush t = true → t.val = 63) t hf
  blk_simp
  rw [after0_22]
  obtain ⟨u, s, rfl⟩ : ∃ (u : Fin 256) (s : Fin 2048), y = ix2 u s := ⟨y 0, y 1, by
    funext a
    match a with
    | ⟨0, _⟩ => rfl
    | ⟨1, _⟩ => rfl⟩
  have e : (((cfg0.win 22).blk t).view.emb (ix2 u s) : S256x2048.Idx) = ix2 u s := by
    blk_ext [index_22]
  rw [e, outs_congr m c t.val 63 t.isLt last_lt ht]
  rfl

theorem dkv_at_key (c : Dev nD) (n : ℕ) (hn : n < cfg0.N) (e : n + 1 = cfg0.N) (h : Fin 4) (j s : Fin 256) (hc : 0 + (256 * h.val + s.val) < 2048) :
    dkvAt m c n hn (ix2 j ⟨0 + (256 * h.val + s.val), hc⟩) = ∑ n, keyTerm (P m c) (D m c) (KV m c) h j s n :=
  dk_out m c ⟨n, hn⟩ e h j s hc

theorem dkv_at_val (c : Dev nD) (n : ℕ) (hn : n < cfg0.N) (e : n + 1 = cfg0.N) (h : Fin 4) (j s : Fin 256) (hc : 1024 + (256 * h.val + s.val) < 2048) :
    dkvAt m c n hn (ix2 j ⟨1024 + (256 * h.val + s.val), hc⟩) = ∑ n, valTerm (P m c) (D m c) (KV m c) h j s n :=
  dv_out m c ⟨n, hn⟩ e h j s hc

theorem final_dkv (c : Dev nD) (hS : ∀ h n, ∃ f : Fin 256 → ℝ, score (P m c) (KV m c) h n = fun j => ((f j : ℝ) : EReal)) (i : S256x2048.Idx) :
    (dats m 0 c).arrAt 22 cfg0.N i = Cert.Reference31Ideal.Read.val_main_v70 (F := Ideal) (P m c) (D m c) (KV m c) i := by
  refine (congrFun (dkv_arr m c) i).trans ?_
  have hb : ∀ (a : ℕ) (h : Fin 4) (s : Fin 256), a ≤ 1024 → a + (256 * h.val + s.val) < 2048 := fun a h s ha => by omega
  have cut : ∀ (k : Fin 2048) (a : ℕ), a ≤ k.val → k.val < a + 1024 → ∃ (h : Fin 4) (s : Fin 256), k.val = a + (256 * h.val + s.val) := fun k a h1 h2 =>
    ⟨⟨(k.val - a) / 256, by omega⟩, ⟨(k.val - a) % 256, by omega⟩, by
      show k.val = a + (256 * ((k.val - a) / 256) + (k.val - a) % 256)
      omega⟩
  obtain ⟨j, k, rfl⟩ : ∃ (j : Fin 256) (k : Fin 2048), i = ix2 j k := ⟨i 0, i 1, by
    funext a
    match a with
    | ⟨0, _⟩ => rfl
    | ⟨1, _⟩ => rfl⟩
  rcases Nat.lt_or_ge k.val 1024 with h3 | h3
  · obtain ⟨h, s, hs⟩ := cut k 0 (by omega) (by omega)
    obtain rfl : k = ⟨0 + (256 * h.val + s.val), hb 0 h s (by decide)⟩ := Fin.ext hs
    choose f hf using hS h
    exact (dkv_at_key m c 63 last_lt N_0.symm h j s _).trans (dkey_at (P m c) (D m c) (KV m c) h j s f hf _).symm
  · obtain ⟨h, s, hs⟩ := cut k 1024 h3 (by omega)
    obtain rfl : k = ⟨1024 + (256 * h.val + s.val), hb 1024 h s (by decide)⟩ := Fin.ext hs
    exact (dkv_at_val m c 63 last_lt N_0.symm h j s _).trans (dval_at (P m c) (D m c) (KV m c) h j s _).symm

theorem algebraic : Cert.algebraic_KernelIdeal_Reference31Ideal_on_attention_part_pre_attention_finite := by
  intro m g m' g' hpre hargs
  refine ⟨fun c => Cert.Reference31Ideal.Read.val_main_v75 (F := Ideal) (P m c) (D m c) (KV m c),
    fun c => Cert.Reference31Ideal.Read.val_main_v70 (F := Ideal) (P m c) (D m c) (KV m c), fun _ _ => (0 : EReal), fun _ _ => (0 : EReal), ?_, ?_⟩
  · refine (θ_run defs _ _).mono (fun r h c => ⟨fun i hi => ?_, fun i _ => ?_,
      fun i hi => (no_dwa _ _ _ _ _ _ _ _ _ i hi).elim, fun i hi => (no_misc _ _ _ _ _ _ _ _ _ i hi).elim, (h c).2.2.2.2⟩) (Value.run_blocks m g)
    · obtain ⟨h1, h2⟩ := mask_dp _ _ _ _ _ _ _ _ _ i hi
      exact (congrFun (h c).1 i).trans (final_dq m c (scores_real _ _ _ _ _ _ _ _ _ (hpre c).1 (hpre c).2) i h1 h2)
    · exact (congrFun (h c).2.1 i).trans (final_dkv m c (scores_real _ _ _ _ _ _ _ _ _ (hpre c).1 (hpre c).2) i)
  · refine (θ_run Cert.Reference31Ideal.defs _ _).mono (fun r h c => ⟨fun i _ => ?_, fun i _ => ?_,
      fun i hi => (no_dwa _ _ _ _ _ _ _ _ _ i hi).elim, fun i hi => (no_misc _ _ _ _ _ _ _ _ _ i hi).elim, (h c).2.2.2.2⟩) (Cert.Reference31Ideal.Value.run m' g')
    · obtain ⟨e0, e1, e2, e3, e4, e5, e6, e7, e8⟩ := hargs c
      rw [(h c).1, Cert.Reference31Ideal.Read.val_main_v75_eq, e0, e2, e3]
    · obtain ⟨e0, e1, e2, e3, e4, e5, e6, e7, e8⟩ := hargs c
      rw [(h c).2.1, Cert.Reference31Ideal.Read.val_main_v70_eq, e0, e2, e3]

end Cert.Attention

end
-- ==== Proof.Product.lean ====
module

public import Idealize.ShloMosaic.Lib.Pointwise

/-!
# Matrix products over the extended reals

The element of a matrix product is one sum of products over the contracted axis. A blocked product forms that sum tile
by tile; addition of extended reals is commutative and associative, so the order does not matter.
-/

@[expose] public section

noncomputable section

open scoped BigOperators

namespace Cert.Product

open Idealize.ShloMosaic

/-- `∑ₖ f k * g k`, one element of a matrix product. -/
def inner {K : ℕ} (f g : Fin K → EReal) : EReal := ∑ k, f k * g k

theorem inner_congr {K : ℕ} {f g f' g' : Fin K → EReal} (hf : ∀ k, f k = f' k) (hg : ∀ k, g k = g' k) :
    inner f g = inner f' g' := by
  obtain rfl : f = f' := funext hf
  obtain rfl : g = g' := funext hg
  rfl

/-- The factors of every term may be exchanged. -/
theorem inner_comm {K : ℕ} (f g : Fin K → EReal) : inner f g = inner g f :=
  Finset.sum_congr rfl fun k _ => mul_comm _ _

/-- The part of the sum over tile `j` of `T` positions. -/
def innerTile {K : ℕ} (T : ℕ) (f g : Fin K → EReal) (j : ℕ) (h : (j + 1) * T ≤ K) : EReal :=
  inner (fun t : Fin T => f ⟨j * T + t.val, by have := t.isLt; rw [Nat.add_mul, Nat.one_mul] at h; omega⟩)
    (fun t : Fin T => g ⟨j * T + t.val, by have := t.isLt; rw [Nat.add_mul, Nat.one_mul] at h; omega⟩)

theorem inner_two {K : ℕ} (T : ℕ) (f g : Fin K → EReal) (h : 2 * T = K) :
    inner f g = innerTile T f g 0 (by omega) + innerTile T f g 1 (by omega) := by
  unfold inner
  rw [Fin.sum_univ_tiles 2 T h, Fin.sum_univ_two]
  rfl

theorem inner_three {K : ℕ} (T : ℕ) (f g : Fin K → EReal) (h : 3 * T = K) :
    inner f g = innerTile T f g 0 (by omega) + innerTile T f g 1 (by omega) + innerTile T f g 2 (by omega) := by
  unfold inner
  rw [Fin.sum_univ_tiles 3 T h, Fin.sum_univ_three]
  rfl

end Cert.Product
-- ==== Proof.MlpDownBwd.lean ====
module

public import proofs.«01_k».proof.Defs
public import proofs.«01_k».proof.Proof.Product
public import proofs.«01_k».proof.Proof.Gen.Kernel2Ideal.Value
public import proofs.«01_k».proof.Proof.Gen.Reference2Ideal.Read
public import Idealize.ShloMosaic.Lib.Pipeline.ValueKit.Acc
public import Idealize.ShloMosaic.Lib.Pipeline.ValueKit.Geometry

/-!
# The gradient of the squared rectifier and down projection with respect to the rectifier's input

Grid point `t` multiplies one pair of blocks. The contracted axis is not cut, so each point has a finished block: it multiplies it by
twice the rectified value and writes it. Where the rectifier's input is not positive the rectified value is zero, and so is
the product with it, which is what the reference selects there.
-/

@[expose] public section

noncomputable section

open Idealize.ShloMosaic Idealize.ShloMosaic.TcCoe Idealize.SL.Sem

namespace Cert.MlpDownBwd

open Cert.Kernel2Ideal Cert.Kernel2Ideal.Gen Cert.Product

variable (m : (ℓ : Loc nD τ sig) → Buf (Elt Ideal) ℓ)

/-! ## Where the blocks lie -/

theorem index_0 : ∀ t : Fin cfg0.N, win0_0.index t = ![t.val / 4, 0] := (by decide +kernel : ∀ t : Fin grid0.N, _)
theorem index_1 : ∀ t : Fin cfg0.N, win0_1.index t = ![t.val % 4, 0] := (by decide +kernel : ∀ t : Fin grid0.N, _)
theorem index_2 : ∀ t : Fin cfg0.N, win0_2.index t = ![t.val / 4, t.val % 4] := (by decide +kernel : ∀ t : Fin grid0.N, _)
theorem index_3 : ∀ t : Fin cfg0.N, win0_3.index t = ![t.val / 4, t.val % 4] := (by decide +kernel : ∀ t : Fin grid0.N, _)

theorem ct_at (c : Dev nD) (t : Fin cfg0.N) (y : S1024x2048.Idx) (j : S8192x2048.Idx)
    (h0 : (j 0).val = t.val / 4 * 1024 + (y 0).val) (h1 : (j 1).val = (y 1).val) :
    iblk m c 0 t y = m ((c : Thread nD τ).loc main_arg2) j := by
  blk_simp [iblk, index_0]
  rw [V_main_arg2]
  congr 1
  blk_ext [index_0]

theorem weight_at (c : Dev nD) (t : Fin cfg0.N) (y : S2048x2048.Idx) (j : S8192x2048.Idx)
    (h0 : (j 0).val = t.val % 4 * 2048 + (y 0).val) (h1 : (j 1).val = (y 1).val) :
    iblk m c 1 t y = m ((c : Thread nD τ).loc main_arg1) j := by
  blk_simp [iblk, index_1]
  rw [V_main_arg1]
  congr 1
  blk_ext [index_1]

/-- The rectified values. -/
def rect (u : Vec Ideal S8192x8192 .f32) : Vec Ideal S8192x8192 .bf16 := fun j => max (u j) 0

/-- The rectified values the kernel is called with. -/
theorem V_relu (c : Dev nD) (j : S8192x8192.Idx) :
    (V m c main_v1 : Vec Ideal S8192x8192 .bf16) j = rect (m ((c : Thread nD τ).loc main_arg0)) j := by
  have e : (V m c main_v1 : Vec Ideal S8192x8192 .bf16) = truncf .bf16 (maximumf (F := Ideal) (φ := .f32) (m ((c : Thread nD τ).loc main_arg0))
      (broadcastInDim S8192x8192 ![] bcast_S_S8192x8192 (constant S_ .f32 0x00000000#32))) bitsLt_bf16_f32 := by
    unfold V
    simp only [hostOps0, hostOps0_1, List.flatten_cons, List.flatten_nil, List.append_nil, List.cons_append, List.nil_append]
    after_results
    rfl
  rw [e]
  obtain ⟨r, s, rfl⟩ : ∃ r s : Fin 8192, j = ix2 r s := ⟨j 0, j 1, by
    funext a
    match a with
    | ⟨0, _⟩ => rfl
    | ⟨1, _⟩ => rfl⟩
  pointwise
  rfl

theorem relu_at (c : Dev nD) (t : Fin cfg0.N) (y : S1024x2048.Idx) (j : S8192x8192.Idx)
    (h0 : (j 0).val = t.val / 4 * 1024 + (y 0).val) (h1 : (j 1).val = t.val % 4 * 2048 + (y 1).val) :
    iblk m c 2 t y = rect (m ((c : Thread nD τ).loc main_arg0)) j := by
  rw [← V_relu]
  blk_simp [iblk, index_2]
  congr 1
  blk_ext [index_2]

/-! ## What a point computes -/

theorem block_at (a : Vec Ideal S1024x2048 .bf16) (b : Vec Ideal S2048x2048 .bf16) (x : Vec Ideal S1024x2048 .bf16) (r : Fin 1024) (s : Fin 2048) :
    k0_pay1 (F := Ideal) a b x (ix2 r s) = inner (fun k => a (ix2 r k)) (fun k => b (ix2 s k)) * (Ideal.ofBits .f32 0x40000000#32 * x (ix2 r s)) := by
  pointwise [k0_pay1]
  rfl

/-- The gradient: the product with twice the rectified value. -/
def gradient (u : Vec Ideal S8192x8192 .f32) (w ct : Vec Ideal S8192x2048 .bf16) : Vec Ideal S8192x8192 .bf16 :=
  fun j => inner (fun k : Fin 2048 => ct (ix2 (j 0) k)) (fun k => w (ix2 (j 1) k)) * (Ideal.ofBits .f32 0x40000000#32 * rect u j)

theorem final (c : Dev nD) : (dats m 0 c).arrAt 3 cfg0.N = gradient (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, s, rfl⟩ : ∃ (r : Fin 1024) (s : Fin 2048), y = ix2 r s := ⟨y 0, y 1, by
    funext a
    match a with
    | ⟨0, _⟩ => rfl
    | ⟨1, _⟩ => rfl⟩
  have e0 : ((((cfg0.win 3).blk t).view.emb (ix2 r s) : S8192x8192.Idx) 0).val = t.val / 4 * 1024 + r.val := by
    blk_simp [index_3] <;> omega
  have e1 : ((((cfg0.win 3).blk t).view.emb (ix2 r s) : S8192x8192.Idx) 1).val = t.val % 4 * 2048 + s.val := by
    blk_simp [index_3] <;> omega
  generalize (((cfg0.win 3).blk t).view.emb (ix2 r s) : S8192x8192.Idx) = j at e0 e1
  frame_out
  rw [block_at]
  refine congrArg₂ (fun x y : EReal => x * (Ideal.ofBits .f32 0x40000000#32 * y)) (inner_congr (fun k => ?_) (fun k => ?_)) ?_
  · exact ct_at m c t _ _ (by show (j 0).val = t.val / 4 * 1024 + r.val; omega) rfl
  · exact weight_at m c t _ _ (by show (j 1).val = t.val % 4 * 2048 + s.val; omega) rfl
  · exact relu_at m c t (ix2 r s) j e0 e1

/-! ## The reference -/

theorem reference_eq (u : Vec Ideal S8192x8192 .f32) (w ct : Vec Ideal S8192x2048 .bf16) :
    Cert.Reference2Ideal.Read.val_main_v14 (F := Ideal) u w ct = gradient u w ct := by
  funext j
  obtain ⟨r, s, rfl⟩ : ∃ r s : Fin 8192, j = ix2 r s := ⟨j 0, j 1, by
    funext a
    match a with
    | ⟨0, _⟩ => rfl
    | ⟨1, _⟩ => rfl⟩
  rw [← Cert.Reference2Ideal.Read.val_main_v14_eq]
  pointwise
  show _ = (∑ x, ct (ix2 r x) * w (ix2 s x)) * (Ideal.ofBits FTy.f32 1073741824#32 * max (u (ix2 r s)) 0)
  split
  · rfl
  · rename_i h
    rw [max_eq_right (not_lt.mp h), mul_zero, mul_zero]

theorem algebraic : Cert.algebraic_Kernel2Ideal_Reference2Ideal := by
  intro m g m' g' _ hargs
  refine ⟨fun c => gradient (m ((c : Thread nD τ).loc main_arg0)) (m ((c : Thread nD τ).loc main_arg1))
    (m ((c : Thread nD τ).loc main_arg2)), ?_, ?_⟩
  · exact (θ_run defs _ _).mono (fun r h c => ⟨((h c).1 3).trans (final m c), Value.kept_main_arg0 m r h c,
      Value.kept_main_arg1 m r h c, Value.kept_main_arg2 m r h c⟩) (run_main m g)
  · refine (θ_run Cert.Reference2Ideal.defs _ _).mono (fun r h c => ⟨(h c).1.trans ?_, (h c).2⟩) (Cert.Reference2Ideal.Value.run m' g')
    obtain ⟨e0, e1, e2⟩ := hargs c
    rw [e0, e1, e2]
    exact reference_eq _ _ _

end Cert.MlpDownBwd

end
-- ==== Proof.GwIn.lean ====
module

public import proofs.«01_k».proof.Defs
public import proofs.«01_k».proof.Proof.Product
public import proofs.«01_k».proof.Proof.Gen.Kernel3Ideal.Value
public import proofs.«01_k».proof.Proof.Gen.Reference3Ideal.Read
public import Idealize.ShloMosaic.Lib.Pipeline.ValueKit.Acc
public import Idealize.ShloMosaic.Lib.Pipeline.ValueKit.Geometry

/-!
# The gradient of the input projection weight

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.GwIn

open Cert.Kernel3Ideal Cert.Kernel3Ideal.Gen Cert.Product

variable (m : (ℓ : Loc nD τ sig) → Buf (Elt Ideal) ℓ)

/-! ## Where the blocks lie -/

theorem index_0 : ∀ t : Fin cfg0.N, win0_0.index t = ![t.val % 2, t.val / 24] := (by decide +kernel : ∀ t : Fin grid0.N, _)
theorem index_1 : ∀ t : Fin cfg0.N, win0_1.index t = ![t.val % 2, t.val / 2 % 12] := (by decide +kernel : ∀ t : Fin grid0.N, _)
theorem index_2 : ∀ t : Fin cfg0.N, win0_2.index t = ![t.val / 24, t.val / 2 % 12] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S4096x1024.Idx) (j : S8192x2048.Idx)
    (h0 : (j 0).val = t.val % 2 * 4096 + (y 0).val) (h1 : (j 1).val = t.val / 24 * 1024 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S4096x1024.Idx) (j : S8192x12288.Idx)
    (h0 : (j 0).val = t.val % 2 * 4096 + (y 0).val) (h1 : (j 1).val = t.val / 2 % 12 * 1024 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S4096x1024 .bf16) (b : Vec Ideal S4096x1024 .bf16) (r s : Fin 1024) :
    k0_pay2 (F := Ideal) a b (ix2 r s) = inner (fun k => a (ix2 k r)) (fun k => b (ix2 k s)) := by
  pointwise [k0_pay2, k0_pay1]
  rfl

theorem next_at (a : Vec Ideal S4096x1024 .bf16) (b : Vec Ideal S4096x1024 .bf16) (x : Vec Ideal S1024x1024 .f32) (r s : Fin 1024) :
    k0_pay3 (F := Ideal) a b x (ix2 r s) = x (ix2 r s) + inner (fun k => a (ix2 k r)) (fun k => b (ix2 k s)) := by
  pointwise [k0_pay3, k0_pay1]
  rfl

theorem last_at (x : Vec Ideal S1024x1024 .f32) (j : S1024x1024.Idx) : k0_pay4 (F := Ideal) x j = x j := by
  pointwise [k0_pay4]

/-- The whole product. -/
def product (a : Vec Ideal S8192x2048 .bf16) (b : Vec Ideal S8192x12288 .bf16) : Vec Ideal S2048x12288 .bf16 :=
  fun j => inner (fun k : Fin 8192 => a (ix2 k (j 0))) (fun k => b (ix2 k (j 1)))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 48 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S2048x12288.Idx) 0).val = t.val / 24 * 1024 + r.val := by
    blk_simp [index_2] <;> omega
  have e1 : ((((cfg0.win 2).blk t).view.emb (ix2 r s) : S2048x12288.Idx) 1).val = t.val / 2 % 12 * 1024 + s.val := by
    blk_simp [index_2] <;> omega
  generalize (((cfg0.win 2).blk t).view.emb (ix2 r s) : S2048x12288.Idx) = j at e0 e1
  rw [out_last m c t ht, last_at, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show 0 * 4096 + k.val = (t.val - 1) % 2 * 4096 + k.val; omega) (by show (j 0).val = (t.val - 1) / 24 * 1024 + r.val; omega)
    · exact rhs_at m c ⟨t.val - 1, _⟩ _ _ (by show 0 * 4096 + k.val = (t.val - 1) % 2 * 4096 + k.val; omega) (by show (j 1).val = (t.val - 1) / 2 % 12 * 1024 + s.val; omega)
  · refine inner_congr (fun k => ?_) (fun k => ?_)
    · exact lhs_at m c t _ _ (by show 1 * 4096 + k.val = t.val % 2 * 4096 + k.val; omega) (by show (j 0).val = t.val / 24 * 1024 + r.val; omega)
    · exact rhs_at m c t _ _ (by show 1 * 4096 + k.val = t.val % 2 * 4096 + k.val; omega) (by show (j 1).val = t.val / 2 % 12 * 1024 + s.val; omega)

/-! ## The reference -/

/-- The reference's result is the same sum with the factors exchanged. -/
theorem reference_eq (a : Vec Ideal S8192x2048 .bf16) (b : Vec Ideal S8192x12288 .bf16) :
    Cert.Reference3Ideal.Read.val_main_v6 (F := Ideal) a b = product a b := by
  funext j
  obtain ⟨r, s, rfl⟩ : ∃ (r : Fin 2048) (s : Fin 12288), j = ix2 r s := ⟨j 0, j 1, by
    funext a
    match a with
    | ⟨0, _⟩ => rfl
    | ⟨1, _⟩ => rfl⟩
  show Cert.Reference3Ideal.Read.val_main_v6 (F := Ideal) a b (ix2 r s) = inner (fun k : Fin 8192 => a (ix2 k r)) (fun k => b (ix2 k s))
  rw [← Cert.Reference3Ideal.Read.val_main_v6_eq, inner_comm]
  pointwise
  rfl

theorem algebraic : Cert.algebraic_Kernel3Ideal_Reference3Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference3Ideal.defs _ _).mono (fun r h c => ⟨(h c).1.trans ?_, (h c).2⟩) (Cert.Reference3Ideal.Value.run m' g')
    obtain ⟨e0, e1⟩ := hargs c
    exact (congrArg₂ _ e0 e1).trans (reference_eq _ _)

end Cert.GwIn

end
-- ==== Proof.ProjBwd.lean ====
module

public import proofs.«01_k».proof.Defs
public import proofs.«01_k».proof.Proof.Product
public import proofs.«01_k».proof.Proof.Gen.Kernel4Ideal.Value
public import proofs.«01_k».proof.Proof.Gen.Reference4Ideal.Read
public import Idealize.ShloMosaic.Lib.Pipeline.ValueKit.Acc
public import Idealize.ShloMosaic.Lib.Pipeline.ValueKit.Geometry

/-!
# The gradient of the input projection with respect to its input

Grid point `t` multiplies one pair of blocks. The contracted axis is cut into 3 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.ProjBwd

open Cert.Kernel4Ideal Cert.Kernel4Ideal.Gen Cert.Product

variable (m : (ℓ : Loc nD τ sig) → Buf (Elt Ideal) ℓ)

/-! ## Where the blocks lie -/

theorem index_0 : ∀ t : Fin cfg0.N, win0_0.index t = ![t.val / 6, t.val % 3] := (by decide +kernel : ∀ t : Fin grid0.N, _)
theorem index_1 : ∀ t : Fin cfg0.N, win0_1.index t = ![t.val / 3 % 2, t.val % 3] := (by decide +kernel : ∀ t : Fin grid0.N, _)
theorem index_2 : ∀ t : Fin cfg0.N, win0_2.index t = ![t.val / 6, t.val / 3 % 2] := (by decide +kernel : ∀ t : Fin grid0.N, _)
theorem flush_2 : ∀ t : Fin cfg0.N, win0_2.flush t = true → t.val % 3 = 2 := (by decide +kernel : ∀ t : Fin grid0.N, _)

theorem lhs_at (c : Dev nD) (t : Fin cfg0.N) (y : S1024x4096.Idx) (j : S8192x12288.Idx)
    (h0 : (j 0).val = t.val / 6 * 1024 + (y 0).val) (h1 : (j 1).val = t.val % 3 * 4096 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S1024x4096.Idx) (j : S2048x12288.Idx)
    (h0 : (j 0).val = t.val / 3 % 2 * 1024 + (y 0).val) (h1 : (j 1).val = t.val % 3 * 4096 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1024x4096 .bf16) (b : Vec Ideal S1024x4096 .bf16) (r s : Fin 1024) :
    k0_pay2 (F := Ideal) a b (ix2 r s) = inner (fun k => a (ix2 r k)) (fun k => b (ix2 s k)) := by
  pointwise [k0_pay2, k0_pay1]
  rfl

theorem next_at (a : Vec Ideal S1024x4096 .bf16) (b : Vec Ideal S1024x4096 .bf16) (x : Vec Ideal S1024x1024 .f32) (r s : Fin 1024) :
    k0_pay3 (F := Ideal) a b x (ix2 r s) = x (ix2 r s) + inner (fun k => a (ix2 r k)) (fun k => b (ix2 s k)) := by
  pointwise [k0_pay3, k0_pay1]
  rfl

/-- The whole product. -/
def product (a : Vec Ideal S8192x12288 .bf16) (b : Vec Ideal S2048x12288 .bf16) : Vec Ideal S8192x2048 .f32 :=
  fun j => inner (fun k : Fin 12288 => a (ix2 (j 0) k)) (fun k => b (ix2 (j 1) k))

/-- At a first tile the accumulator holds one product. -/
theorem acc_first (c : Dev nD) (t : Fin cfg0.N) (h : t.val % 3 = 0) :
    (outsAt0 m c t.val t.isLt).2 = k0_pay2 (F := Ideal) (iblk m c 0 t) (iblk m c 1 t) := by
  rw [outsAt0_A m c t h (by omega) (by omega)]
  frame_out

/-- At a middle tile the product is added to it. -/
theorem acc_next (c : Dev nD) (t : Fin cfg0.N) (h : t.val % 3 = 1) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t (by omega) (by omega) (by omega)]
  frame_out
  rw [(Memref.isWhole_whole _).read_unread]

/-- At a last tile the sum is written out. -/
theorem out_last (c : Dev nD) (t : Fin cfg0.N) (h : t.val % 3 = 2) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_C m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 48 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val / 6 * 1024 + r.val := by
    blk_simp [index_2] <;> omega
  have e1 : ((((cfg0.win 2).blk t).view.emb (ix2 r s) : S8192x2048.Idx) 1).val = t.val / 3 % 2 * 1024 + s.val := by
    blk_simp [index_2] <;> omega
  generalize (((cfg0.win 2).blk t).view.emb (ix2 r s) : S8192x2048.Idx) = j at e0 e1
  rw [out_last m c t ht, next_at, acc_next m c ⟨t.val - 1, by omega⟩ (by show (t.val - 1) % 3 = 1; omega), next_at,
    acc_first m c ⟨t.val - 1 - 1, by omega⟩ (by show (t.val - 1 - 1) % 3 = 0; omega), first_at]
  unfold product
  rw [inner_three (K := 12288) 4096 _ _ (by norm_num)]
  refine congrArg₂ (fun x y : EReal => x + y) (congrArg₂ (fun x y : EReal => x + y) ?_ ?_) ?_
  · refine inner_congr (fun k => ?_) (fun k => ?_)
    · exact lhs_at m c ⟨t.val - 1 - 1, _⟩ _ _ (by show (j 0).val = (t.val - 1 - 1) / 6 * 1024 + r.val; omega) (by show 0 * 4096 + k.val = (t.val - 1 - 1) % 3 * 4096 + k.val; omega)
    · exact rhs_at m c ⟨t.val - 1 - 1, _⟩ _ _ (by show (j 1).val = (t.val - 1 - 1) / 3 % 2 * 1024 + s.val; omega) (by show 0 * 4096 + k.val = (t.val - 1 - 1) % 3 * 4096 + k.val; omega)
  · refine inner_congr (fun k => ?_) (fun k => ?_)
    · exact lhs_at m c ⟨t.val - 1, _⟩ _ _ (by show (j 0).val = (t.val - 1) / 6 * 1024 + r.val; omega) (by show 1 * 4096 + k.val = (t.val - 1) % 3 * 4096 + k.val; omega)
    · exact rhs_at m c ⟨t.val - 1, _⟩ _ _ (by show (j 1).val = (t.val - 1) / 3 % 2 * 1024 + s.val; omega) (by show 1 * 4096 + k.val = (t.val - 1) % 3 * 4096 + k.val; omega)
  · refine inner_congr (fun k => ?_) (fun k => ?_)
    · exact lhs_at m c t _ _ (by show (j 0).val = t.val / 6 * 1024 + r.val; omega) (by show 2 * 4096 + k.val = t.val % 3 * 4096 + k.val; omega)
    · exact rhs_at m c t _ _ (by show (j 1).val = t.val / 3 % 2 * 1024 + s.val; omega) (by show 2 * 4096 + k.val = t.val % 3 * 4096 + k.val; omega)

/-! ## The reference -/

/-- The reference's result is the same sum. -/
theorem reference_eq (a : Vec Ideal S8192x12288 .bf16) (b : Vec Ideal S2048x12288 .bf16) :
    Cert.Reference4Ideal.Read.val_main_v4 (F := Ideal) a b = product a b := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference4Ideal.Read.val_main_v4 (F := Ideal) a b (ix2 r s) = inner (fun k : Fin 12288 => a (ix2 r k)) (fun k => b (ix2 s k))
  rw [← Cert.Reference4Ideal.Read.val_main_v4_eq]
  pointwise
  rfl

theorem algebraic : Cert.algebraic_Kernel4Ideal_Reference4Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c, Value.kept_main_arg2 m r h c⟩)
      (run_main m g)
  · refine (θ_run Cert.Reference4Ideal.defs _ _).mono (fun r h c => ⟨(h c).1.trans ?_, (h c).2⟩) (Cert.Reference4Ideal.Value.run m' g')
    obtain ⟨e0, e1, -⟩ := hargs c
    exact (congrArg₂ _ e0 e1).trans (reference_eq _ _)

end Cert.ProjBwd

end
-- ==== Proof.MergeBwd.lean ====
module

public import proofs.«01_k».proof.Defs
public import proofs.«01_k».proof.Proof.Product
public import proofs.«01_k».proof.Proof.Gen.Kernel5Ideal.Value
public import proofs.«01_k».proof.Proof.Gen.Reference5Ideal.Read
public import proofs.«01_k».proof.Proof.Gen.On_gates_only
public import Idealize.ShloMosaic.Lib.Pipeline.ValueKit.Acc
public import Idealize.ShloMosaic.Lib.Pipeline.ValueKit.Geometry
public import Idealize.ShloMosaic.Lib.Pipeline.ValueKit.Partial

/-!
# The gradient of the gated merge and output projection

The merged activation is `∑ k, σ(gate k) * y k`. Its gradient `dm = dz * w_oᵀ` is the same for the three branches: grid
point `t` belongs to branch `t % 3`, and the first of three points computes the block of `dm` and keeps it for the next two.
From it each point writes the gradient of its branch, `dm * σ`, and of its gate, `dm * y * σ * (1 - σ)`. The gates are the
last 6144 columns of the input projection, and only these columns of the second result are written.
-/

@[expose] public section

noncomputable section

open Idealize.ShloMosaic Idealize.ShloMosaic.TcCoe Idealize.SL.Sem

namespace Cert.MergeBwd

open Cert.Kernel5Ideal Cert.Kernel5Ideal.Gen Cert.Product

variable (m : (ℓ : Loc nD τ sig) → Buf (Elt Ideal) ℓ)

/-! ## Where the blocks lie -/

theorem index_0 : ∀ t : Fin cfg0.N, win0_0.index t = ![t.val / 6, 0] := (by decide +kernel : ∀ t : Fin grid0.N, _)
theorem index_1 : ∀ t : Fin cfg0.N, win0_1.index t = ![t.val / 3 % 2, 0] := (by decide +kernel : ∀ t : Fin grid0.N, _)
theorem index_2 : ∀ t : Fin cfg0.N, win0_2.index t = ![t.val % 3, t.val / 6, t.val / 3 % 2] :=
  (by decide +kernel : ∀ t : Fin grid0.N, _)
theorem index_3 : ∀ t : Fin cfg0.N, win0_3.index t = ![t.val / 6, 6 + t.val % 3 * 2 + t.val / 3 % 2] :=
  (by decide +kernel : ∀ t : Fin grid0.N, _)
theorem index_4 : ∀ t : Fin cfg0.N, win0_4.index t = ![t.val % 3, t.val / 6, t.val / 3 % 2] :=
  (by decide +kernel : ∀ t : Fin grid0.N, _)
theorem index_5 : ∀ t : Fin cfg0.N, win0_5.index t = ![t.val / 6, 6 + t.val % 3 * 2 + t.val / 3 % 2] :=
  (by decide +kernel : ∀ t : Fin grid0.N, _)

theorem dz_at (c : Dev nD) (t : Fin cfg0.N) (y : S1024x2048.Idx) (j : S8192x2048.Idx)
    (h0 : (j 0).val = t.val / 6 * 1024 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem weight_at (c : Dev nD) (t : Fin cfg0.N) (y : S1024x2048.Idx) (j : S2048x2048.Idx)
    (h0 : (j 0).val = t.val / 3 % 2 * 1024 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem branch_at (c : Dev nD) (t : Fin cfg0.N) (y : S1x1024x1024.Idx) (j : S3x8192x2048.Idx)
    (h0 : (j 0).val = t.val % 3) (h1 : (j 1).val = t.val / 6 * 1024 + (y 1).val)
    (h2 : (j 2).val = t.val / 3 % 2 * 1024 + (y 2).val) :
    iblk m c 2 t y = m ((c : Thread nD τ).loc main_arg2) j := by
  blk_simp [iblk, index_2]
  show m ((c : Thread nD τ).loc main_arg2) _ = _
  congr 1
  blk_ext [index_2]

theorem gate_at (c : Dev nD) (t : Fin cfg0.N) (y : S1024x1024.Idx) (j : S8192x12288.Idx)
    (h0 : (j 0).val = t.val / 6 * 1024 + (y 0).val)
    (h1 : (j 1).val = (6 + t.val % 3 * 2 + t.val / 3 % 2) * 1024 + (y 1).val) :
    iblk m c 3 t y = m ((c : Thread nD τ).loc main_arg3) j := by
  blk_simp [iblk, index_3]
  show m ((c : Thread nD τ).loc main_arg3) _ = _
  congr 1
  blk_ext [index_3]

/-! ## What a point computes -/

theorem product_at (a b : Vec Ideal S1024x2048 .bf16) (r s : Fin 1024) :
    k0_pay1 (F := Ideal) a b (ix2 r s) = inner (fun k => a (ix2 r k)) (fun k => b (ix2 s k)) := by
  pointwise [k0_pay1]
  rfl

theorem dy_at (d g : Vec Ideal S1024x1024 .f32) (u : Fin 1) (r s : Fin 1024) :
    k0_pay3 (F := Ideal) d g (ix3 u r s) = d (ix2 r s) * Ideal.logistic (g (ix2 r s)) := by
  pointwise [k0_pay3, k0_pay2]

theorem dg_at (d g : Vec Ideal S1024x1024 .f32) (y : Vec Ideal S1x1024x1024 .bf16) (r s : Fin 1024) :
    k0_pay4 (F := Ideal) d g y (ix2 r s) = d (ix2 r s) * y (ix3 0 r s) * Ideal.logistic (g (ix2 r s))
      * (1 - Ideal.logistic (g (ix2 r s))) := by
  pointwise [k0_pay4, k0_pay2]

/-- The block of the merged activation's gradient that the three points of a group share. -/
theorem shared (c : Dev nD) : ∀ (n : ℕ) (hn : n < cfg0.N) (r s : Fin 1024) (i : Fin 8192) (j : Fin 2048),
    i.val = n / 6 * 1024 + r.val → j.val = n / 3 % 2 * 1024 + s.val →
    (outsAt0 m c n hn).2.2 (ix2 r s) = inner (fun k : Fin 2048 => m ((c : Thread nD τ).loc main_arg0) (ix2 i k))
      (fun k => m ((c : Thread nD τ).loc main_arg1) (ix2 j k)) := by
  intro n
  induction n with
  | zero =>
    intro hn r s i j hi hj
    rw [outsAt0_A m c ⟨0, hn⟩ rfl]
    frame_out
    rw [product_at]
    refine inner_congr (fun k => ?_) (fun k => ?_)
    · exact dz_at m c ⟨0, hn⟩ _ _ hi rfl
    · exact weight_at m c ⟨0, hn⟩ _ _ hj rfl
  | succ n ih =>
    intro hn r s i j hi hj
    by_cases h : (n + 1) % 3 = 0
    · rw [outsAt0_A m c ⟨n + 1, hn⟩ h]
      frame_out
      rw [product_at]
      refine inner_congr (fun k => ?_) (fun k => ?_)
      · exact dz_at m c ⟨n + 1, hn⟩ _ _ hi rfl
      · exact weight_at m c ⟨n + 1, hn⟩ _ _ hj rfl
    · rw [outsAt0_B m c ⟨n + 1, hn⟩ h]
      refine Eq.trans ?_ (ih (Nat.lt_of_succ_lt hn) r s i j (by omega) (by omega))
      frame_out
      try rw [(Memref.isWhole_whole _).read_unread]
      rfl

/-- The second and third point of a group keep the block. -/
theorem kept (c : Dev nD) (t : Fin cfg0.N) (h : ¬t.val % 3 = 0) : (outsAt0 m c t.val t.isLt).2.2
    = (outsAt0 m c (t.val - 1) (Nat.lt_of_le_of_lt (Nat.sub_le _ _) t.isLt)).2.2 := by
  rw [outsAt0_B m c t h]
  frame_out
  try rw [(Memref.isWhole_whole _).read_unread]
  rfl

/-- What a point writes, from the shared block. -/
theorem out_dy (c : Dev nD) (t : Fin cfg0.N) :
    (outsAt0 m c t.val t.isLt).1 = k0_pay3 (F := Ideal) (outsAt0 m c t.val t.isLt).2.2 (iblk m c 3 t) := by
  by_cases h : t.val % 3 = 0
  · rw [outsAt0_A m c t h]
    frame_out
  · rw [kept m c t h, outsAt0_B m c t h]
    frame_out
    try rw [(Memref.isWhole_whole _).read_unread]

theorem out_dg (c : Dev nD) (t : Fin cfg0.N) :
    (outsAt0 m c t.val t.isLt).2.1 = k0_pay4 (F := Ideal) (outsAt0 m c t.val t.isLt).2.2 (iblk m c 3 t) (iblk m c 2 t) := by
  by_cases h : t.val % 3 = 0
  · rw [outsAt0_A m c t h]
    frame_out
  · rw [kept m c t h, outsAt0_B m c t h]
    frame_out
    try rw [(Memref.isWhole_whole _).read_unread]

/-! ## The whole arrays -/

/-- The gradients of the three branches. -/
def gradY (dz : Vec Ideal S8192x2048 .bf16) (w : Vec Ideal S2048x2048 .bf16) (p : Vec Ideal S8192x12288 .f32) :
    Vec Ideal S3x8192x2048 .bf16 :=
  fun j => inner (fun k : Fin 2048 => dz (ix2 (j 1) k)) (fun k => w (ix2 (j 2) k))
    * Ideal.logistic (p (ix2 (j 1) ⟨6144 + (j 0).val * 2048 + (j 2).val, by
        have h0 : (j 0).val < 3 := (j 0).isLt
        have h2 : (j 2).val < 2048 := (j 2).isLt
        omega⟩))

/-- The gradients of the gates, in the columns from 6144 on. -/
def gradGate (dz : Vec Ideal S8192x2048 .bf16) (w : Vec Ideal S2048x2048 .bf16) (y : Vec Ideal S3x8192x2048 .bf16)
    (p : Vec Ideal S8192x12288 .f32) : Vec Ideal S8192x12288 .bf16 :=
  fun j => inner (fun k : Fin 2048 => dz (ix2 (j 0) k)) (fun k => w (ix2 ⟨((j 1).val - 6144) % 2048, Nat.mod_lt _ (by omega)⟩ k))
    * y (ix3 ⟨((j 1).val - 6144) / 2048, by have h : (j 1).val < 12288 := (j 1).isLt; omega⟩ (j 0)
      ⟨((j 1).val - 6144) % 2048, Nat.mod_lt _ (by omega)⟩)
    * Ideal.logistic (p j) * (1 - Ideal.logistic (p j))

theorem final_y (c : Dev nD) : (dats m 0 c).arrAt 4 cfg0.N = gradY (m ((c : Thread nD τ).loc main_arg0))
    (m ((c : Thread nD τ).loc main_arg1)) (m ((c : Thread nD τ).loc main_arg3)) := by
  refine (dats m 0 c).arrAt_eq_of_covers 4 _ (by decide +kernel) fun t hf y => ?_
  have hN : cfg0.N = 48 := N_0
  have htN := t.isLt
  blk_simp
  rw [after0_4]
  obtain ⟨u, r, s, rfl⟩ : ∃ (u : Fin 1) (r : Fin 1024) (s : Fin 1024), y = ix3 u r s := ⟨y 0, y 1, y 2, by
    funext a
    match a with
    | ⟨0, _⟩ => rfl
    | ⟨1, _⟩ => rfl
    | ⟨2, _⟩ => rfl⟩
  have e0 : ((((cfg0.win 4).blk t).view.emb (ix3 u r s) : S3x8192x2048.Idx) 0).val = t.val % 3 := by
    blk_simp [index_4] <;> omega
  have e1 : ((((cfg0.win 4).blk t).view.emb (ix3 u r s) : S3x8192x2048.Idx) 1).val = t.val / 6 * 1024 + r.val := by
    blk_simp [index_4] <;> omega
  have e2 : ((((cfg0.win 4).blk t).view.emb (ix3 u r s) : S3x8192x2048.Idx) 2).val = t.val / 3 % 2 * 1024 + s.val := by
    blk_simp [index_4] <;> omega
  generalize (((cfg0.win 4).blk t).view.emb (ix3 u r s) : S3x8192x2048.Idx) = j at e0 e1 e2
  rw [out_dy, dy_at]
  refine congrArg₂ (fun x y : EReal => x * Ideal.logistic y) ?_ ?_
  · exact shared m c t.val t.isLt r s (j 1) (j 2) e1 e2
  · refine gate_at m c t _ _ ?_ ?_
    · exact e1
    · show 6144 + (j 0).val * 2048 + (j 2).val = (6 + t.val % 3 * 2 + t.val / 3 % 2) * 1024 + s.val
      omega

theorem final_gate (c : Dev nD) : (dats m 0 c).arrAt 5 cfg0.N = fun j : S8192x12288.Idx => if 6 ≤ (j 1).val / 1024 then
    gradGate (m ((c : Thread nD τ).loc main_arg0)) (m ((c : Thread nD τ).loc main_arg1)) (m ((c : Thread nD τ).loc main_arg2))
      (m ((c : Thread nD τ).loc main_arg3)) j else (dats m 0 c).A 5 j := by
  refine (dats m 0 c).arrAt_eq_of_coversWhere 5 _ (fun β => 6 ≤ β 1) (by decide +kernel) (fun t hf y => ?_) (fun j => Iff.rfl)
  have hN : cfg0.N = 48 := N_0
  have htN := t.isLt
  blk_simp
  rw [after0_5]
  obtain ⟨r, s, rfl⟩ : ∃ r s : Fin 1024, y = ix2 r s := ⟨y 0, y 1, by
    funext a
    match a with
    | ⟨0, _⟩ => rfl
    | ⟨1, _⟩ => rfl⟩
  have e0 : ((((cfg0.win 5).blk t).view.emb (ix2 r s) : S8192x12288.Idx) 0).val = t.val / 6 * 1024 + r.val := by
    blk_simp [index_5] <;> omega
  have e1 : ((((cfg0.win 5).blk t).view.emb (ix2 r s) : S8192x12288.Idx) 1).val
      = (6 + t.val % 3 * 2 + t.val / 3 % 2) * 1024 + s.val := by
    blk_simp [index_5] <;> omega
  generalize (((cfg0.win 5).blk t).view.emb (ix2 r s) : S8192x12288.Idx) = j at e0 e1
  rw [out_dg, dg_at]
  have eg : iblk m c 3 t (ix2 r s) = m ((c : Thread nD τ).loc main_arg3) j := gate_at m c t _ _ e0 e1
  rw [eg]
  refine congrArg₂ (fun x y : EReal => x * y * Ideal.logistic _ * (1 - Ideal.logistic _)) ?_ ?_
  · refine shared m c t.val t.isLt r s (j 0) _ e0 ?_
    show ((j 1).val - 6144) % 2048 = _
    omega
  · refine branch_at m c t _ _ ?_ e0 ?_
    · show ((j 1).val - 6144) / 2048 = _
      omega
    · show ((j 1).val - 6144) % 2048 = t.val / 3 % 2 * 1024 + s.val
      omega

/-! ## The reference -/

theorem reference_y (dz : Vec Ideal S8192x2048 .bf16) (w : Vec Ideal S2048x2048 .bf16) (p : Vec Ideal S8192x12288 .f32) :
    Cert.Reference5Ideal.Read.val_main_v57 (F := Ideal) dz w p = gradY dz w p := by
  funext j
  obtain ⟨u, r, s, rfl⟩ : ∃ (u : Fin 3) (r : Fin 8192) (s : Fin 2048), j = ix3 u r s := ⟨j 0, j 1, j 2, by
    funext a
    match a with
    | ⟨0, _⟩ => rfl
    | ⟨1, _⟩ => rfl
    | ⟨2, _⟩ => rfl⟩
  rw [← Cert.Reference5Ideal.Read.val_main_v57_eq]
  fin_cases u
  all_goals pointwise
  all_goals rw [mul_comm]
  all_goals refine congrArg₂ (fun x y : EReal => x * Ideal.logistic y) rfl ?_
  all_goals refine congrArg (fun k => p (ix2 r k)) (Fin.ext ?_)
  · show 6144 + s.val = 6144 + 0 * 2048 + s.val
    omega
  · show 6144 + (2048 + s.val) = 6144 + 1 * 2048 + s.val
    omega
  · show 6144 + (4096 + s.val) = 6144 + 2 * 2048 + s.val
    omega

section
open Cert.Reference5Ideal.Read

/-- The column of a gate. -/
abbrev gateCol (q : Fin 6144) : Fin 12288 := ⟨6144 + q.val, by omega⟩

set_option maxRecDepth 20000 in
/-- The gates' gradient is put behind 6144 columns of zeros. -/
theorem reference_pad (dz : Vec Ideal S8192x2048 .bf16) (w : Vec Ideal S2048x2048 .bf16) (y : Vec Ideal S3x8192x2048 .bf16)
    (p : Vec Ideal S8192x12288 .f32) (r : Fin 8192) (q : Fin 6144) :
    val_main_v58 (F := Ideal) dz w y p (ix2 r (gateCol q)) = val_main_v56 (F := Ideal) dz w y p (ix2 r q) := by
  unfold val_main_v58
  generalize val_main_v56 (F := Ideal) dz w y p = v
  pointwise

theorem reference_split (dz : Vec Ideal S8192x2048 .bf16) (w : Vec Ideal S2048x2048 .bf16) (y : Vec Ideal S3x8192x2048 .bf16)
    (p : Vec Ideal S8192x12288 .f32) (r : Fin 8192) (q : Fin 6144) : val_main_v56 (F := Ideal) dz w y p (ix2 r q)
      = val_main_v54 (F := Ideal) dz w y (ix3 r ⟨q.val / 2048, by omega⟩ ⟨q.val % 2048, by omega⟩) * val_main_v10 (F := Ideal) p (ix2 r q) := by
  unfold val_main_v56 val_main_v55
  generalize val_main_v54 (F := Ideal) dz w y = v
  generalize val_main_v10 (F := Ideal) p = z
  pointwise

/-- The slope of the logistic function at a gate. -/
theorem reference_slope (p : Vec Ideal S8192x12288 .f32) (r : Fin 8192) (q : Fin 6144) : val_main_v10 (F := Ideal) p (ix2 r q)
    = Ideal.logistic (p (ix2 r (gateCol q))) * (1 - Ideal.logistic (p (ix2 r (gateCol q)))) := by
  pointwise [val_main_v1,val_main_v2,val_main_v3,val_main_cst,val_main_v4,val_main_v5,val_main_cst_0,val_main_v6,val_main_v7,
    val_main_cst_1,val_main_v8,val_main_v9,val_main_v10]
  rfl

/-- The gradient of a gate's value. -/
theorem reference_gate_value (dz : Vec Ideal S8192x2048 .bf16) (w : Vec Ideal S2048x2048 .bf16) (y : Vec Ideal S3x8192x2048 .bf16)
    (r : Fin 8192) (u : Fin 3) (s : Fin 2048) : val_main_v54 (F := Ideal) dz w y (ix3 r u s)
      = inner (fun k : Fin 2048 => dz (ix2 r k)) (fun k => w (ix2 s k)) * y (ix3 u r s) := by
  fin_cases u
  all_goals pointwise [val_main_v0,val_main_v11,val_main_v12,val_main_v13,val_main_v14,val_main_v15,val_main_v16,val_main_v17,
    val_main_v18,val_main_v19,val_main_v20,val_main_v21,val_main_v22,val_main_v23,val_main_v24,val_main_v25,val_main_v26,val_main_v27,
    val_main_v28,val_main_v29,val_main_v30,val_main_v31,val_main_v32,val_main_v33,val_main_v34,val_main_v35,val_main_v37,val_main_cst_3,val_main_v38,val_main_v40,
    val_main_v44,val_main_cst_5,val_main_v45,val_main_v46,val_main_v48,val_main_v52,val_main_cst_7,val_main_v53,val_main_v54]
  all_goals rfl

theorem reference_gate (dz : Vec Ideal S8192x2048 .bf16) (w : Vec Ideal S2048x2048 .bf16) (y : Vec Ideal S3x8192x2048 .bf16)
    (p : Vec Ideal S8192x12288 .f32) (j : S8192x12288.Idx) (h : 6144 ≤ (j 1).val) :
    val_main_v59 (F := Ideal) dz w y p j = gradGate dz w y p j := by
  have hj : (j 1).val < 12288 := (j 1).isLt
  obtain ⟨r, q, rfl⟩ : ∃ (r : Fin 8192) (q : Fin 6144), j = ix2 r (gateCol q) :=
    ⟨j 0, ⟨(j 1).val - 6144, by omega⟩, by
      funext a
      match a with
      | ⟨0, _⟩ => rfl
      | ⟨1, _⟩ => exact Fin.ext (by show (j 1).val = 6144 + ((j 1).val - 6144); omega)⟩
  show val_main_v58 (F := Ideal) dz w y p (ix2 r (gateCol q)) = _
  rw [reference_pad, reference_split, reference_slope, reference_gate_value]
  have e : (6144 + q.val) - 6144 = q.val := by omega
  unfold gradGate
  rw [mul_assoc (_ * _)]
  refine congrArg₂ (fun x y : EReal => x * y * _) (inner_congr (fun k => rfl) (fun k => ?_)) ?_
  · refine congrArg (fun i => w (ix2 i k)) (Fin.ext ?_)
    show q.val % 2048 = (6144 + q.val - 6144) % 2048
    rw [e]
  · refine congrArg₂ (fun i k => y (ix3 i r k)) (Fin.ext ?_) (Fin.ext ?_)
    · show q.val / 2048 = (6144 + q.val - 6144) / 2048
      rw [e]
    · show q.val % 2048 = (6144 + q.val - 6144) % 2048
      rw [e]

end

/-- Where the mask holds the column is a gate's. -/
theorem mask_gate (dz : Vec Ideal S8192x2048 .bf16) (w : Vec Ideal S2048x2048 .bf16) (y : Vec Ideal S3x8192x2048 .bf16)
    (p : Vec Ideal S8192x12288 .f32) (j : S8192x12288.Idx) (h : (Cert.On_gates_only.fn (F := Ideal) dz w y p).2 j = 1#1) :
    6144 ≤ (j 1).val := by
  have hj : (j 1).val < 12288 := (j 1).isLt
  have e : (Cert.On_gates_only.fn (F := Ideal) dz w y p).2 j = Scalar.cmpi .sge (BitVec.ofNat 32 (j 1).val) 6144#32 := rfl
  rw [e] at h
  exact (WordCmp.cmpi_sge_ofNat_eq_one_iff (by omega) (by omega)).mp h

theorem algebraic : Cert.algebraic_Kernel5Ideal_Reference5Ideal_on_gates_only := by
  intro m g m' g' _ hargs
  refine ⟨fun c => gradY (m ((c : Thread nD τ).loc main_arg0)) (m ((c : Thread nD τ).loc main_arg1)) (m ((c : Thread nD τ).loc main_arg3)),
    fun c => gradGate (m ((c : Thread nD τ).loc main_arg0)) (m ((c : Thread nD τ).loc main_arg1))
      (m ((c : Thread nD τ).loc main_arg2)) (m ((c : Thread nD τ).loc main_arg3)), ?_, ?_⟩
  · refine (θ_run defs _ _).mono (fun r h c => ⟨fun i _ => congrFun (((h c).1 4).trans (final_y m c)) i, fun i hi => ?_,
      Value.kept_main_arg0 m r h c, Value.kept_main_arg1 m r h c, Value.kept_main_arg2 m r h c, Value.kept_main_arg3 m r h c⟩)
      (run_main m g)
    refine (congrFun (((h c).1 5).trans (final_gate m c)) i).trans (if_pos ?_)
    have := mask_gate _ _ _ _ i hi
    omega
  · refine (θ_run Cert.Reference5Ideal.defs _ _).mono (fun r h c => ⟨fun i _ => ?_, fun i hi => ?_, (h c).2.2⟩)
      (Cert.Reference5Ideal.Value.run m' g')
    · obtain ⟨e0, e1, e2, e3⟩ := hargs c
      rw [(h c).1, e0, e1, e3]
      exact congrFun (reference_y _ _ _) i
    · obtain ⟨e0, e1, e2, e3⟩ := hargs c
      rw [(h c).2.1, e0, e1, e2, e3]
      exact reference_gate _ _ _ _ i (mask_gate _ _ _ _ i hi)

end Cert.MergeBwd

end
-- ==== Proof.MlpUp.lean ====
module

public import proofs.«01_k».proof.Defs
public import proofs.«01_k».proof.Proof.Product
public import proofs.«01_k».proof.Proof.Gen.Kernel6Ideal.Value
public import proofs.«01_k».proof.Proof.Gen.Reference6Ideal.Read
public import Idealize.ShloMosaic.Lib.Pipeline.ValueKit.Acc
public import Idealize.ShloMosaic.Lib.Pipeline.ValueKit.Geometry

/-!
# The up projection and its squared rectifier

Grid point `t` multiplies one pair of blocks. The contracted axis is not cut, so each point has a finished block: it writes the rectified block to
one result and its square to the other. The blocks cover both result arrays.
-/

@[expose] public section

noncomputable section

open Idealize.ShloMosaic Idealize.ShloMosaic.TcCoe Idealize.SL.Sem

namespace Cert.MlpUp

open Cert.Kernel6Ideal Cert.Kernel6Ideal.Gen Cert.Product

variable (m : (ℓ : Loc nD τ sig) → Buf (Elt Ideal) ℓ)

/-! ## Where the blocks lie -/

theorem index_0 : ∀ t : Fin cfg0.N, win0_0.index t = ![t.val / 4, 0] := (by decide +kernel : ∀ t : Fin grid0.N, _)
theorem index_1 : ∀ t : Fin cfg0.N, win0_1.index t = ![0, t.val % 4] := (by decide +kernel : ∀ t : Fin grid0.N, _)
theorem index_3 : ∀ t : Fin cfg0.N, win0_3.index t = ![t.val / 4, t.val % 4] := (by decide +kernel : ∀ t : Fin grid0.N, _)
theorem index_2 : ∀ t : Fin cfg0.N, win0_2.index t = ![t.val / 4, t.val % 4] := (by decide +kernel : ∀ t : Fin grid0.N, _)

theorem lhs_at (c : Dev nD) (t : Fin cfg0.N) (y : S1024x2048.Idx) (j : S8192x2048.Idx)
    (h0 : (j 0).val = t.val / 4 * 1024 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S2048x2048.Idx) (j : S2048x8192.Idx)
    (h0 : (j 0).val = (y 0).val) (h1 : (j 1).val = t.val % 4 * 2048 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem rect_at (a : Vec Ideal S1024x2048 .bf16) (b : Vec Ideal S2048x2048 .bf16) (r : Fin 1024) (s : Fin 2048) :
    k0_pay2 (F := Ideal) a b (ix2 r s) = max (inner (fun k => a (ix2 r k)) (fun k => b (ix2 k s))) 0 := by
  pointwise [k0_pay2, k0_pay1]
  rfl

theorem square_at (a : Vec Ideal S1024x2048 .bf16) (b : Vec Ideal S2048x2048 .bf16) (r : Fin 1024) (s : Fin 2048) :
    k0_pay3 (F := Ideal) a b (ix2 r s) = max (inner (fun k => a (ix2 r k)) (fun k => b (ix2 k s))) 0
      * max (inner (fun k => a (ix2 r k)) (fun k => b (ix2 k s))) 0 := by
  pointwise [k0_pay3, k0_pay1]
  rfl

/-- The rectified product. -/
def rectified (a : Vec Ideal S8192x2048 .bf16) (b : Vec Ideal S2048x8192 .bf16) : Vec Ideal S8192x8192 .bf16 :=
  fun j => max (inner (fun k : Fin 2048 => a (ix2 (j 0) k)) (fun k => b (ix2 k (j 1)))) 0

/-- Its square. -/
def squared (a : Vec Ideal S8192x2048 .bf16) (b : Vec Ideal S2048x8192 .bf16) : Vec Ideal S8192x8192 .bf16 :=
  fun j => max (inner (fun k : Fin 2048 => a (ix2 (j 0) k)) (fun k => b (ix2 k (j 1)))) 0
    * max (inner (fun k : Fin 2048 => a (ix2 (j 0) k)) (fun k => b (ix2 k (j 1)))) 0

/-- The first result array. -/
theorem final_rectified (c : Dev nD) : (dats m 0 c).arrAt 2 cfg0.N
    = rectified (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 2048), y = ix2 r s := ⟨y 0, y 1, by
    funext a
    match a with
    | ⟨0, _⟩ => rfl
    | ⟨1, _⟩ => rfl⟩
  have e0 : ((((cfg0.win 2).blk t).view.emb (ix2 r s) : S8192x8192.Idx) 0).val = t.val / 4 * 1024 + r.val := by
    blk_simp [index_2] <;> omega
  have e1 : ((((cfg0.win 2).blk t).view.emb (ix2 r s) : S8192x8192.Idx) 1).val = t.val % 4 * 2048 + s.val := by
    blk_simp [index_2] <;> omega
  generalize (((cfg0.win 2).blk t).view.emb (ix2 r s) : S8192x8192.Idx) = j at e0 e1
  frame_out
  rw [rect_at]
  refine congrArg (fun x : EReal => max x 0) (inner_congr (fun k => ?_) (fun k => ?_))
  · exact lhs_at m c t _ _ (by show (j 0).val = t.val / 4 * 1024 + r.val; omega) rfl
  · exact rhs_at m c t _ _ rfl (by show (j 1).val = t.val % 4 * 2048 + s.val; omega)

/-- The second result array. -/
theorem final_squared (c : Dev nD) : (dats m 0 c).arrAt 3 cfg0.N
    = squared (m ((c : Thread nD τ).loc main_arg0)) (m ((c : Thread nD τ).loc main_arg1)) := by
  refine (dats m 0 c).arrAt_eq_of_covers 3 _ (by decide +kernel) fun t hf y => ?_
  blk_simp
  rw [after0_3]
  obtain ⟨r, s, rfl⟩ : ∃ (r : Fin 1024) (s : Fin 2048), y = ix2 r s := ⟨y 0, y 1, by
    funext a
    match a with
    | ⟨0, _⟩ => rfl
    | ⟨1, _⟩ => rfl⟩
  have e0 : ((((cfg0.win 3).blk t).view.emb (ix2 r s) : S8192x8192.Idx) 0).val = t.val / 4 * 1024 + r.val := by
    blk_simp [index_3] <;> omega
  have e1 : ((((cfg0.win 3).blk t).view.emb (ix2 r s) : S8192x8192.Idx) 1).val = t.val % 4 * 2048 + s.val := by
    blk_simp [index_3] <;> omega
  generalize (((cfg0.win 3).blk t).view.emb (ix2 r s) : S8192x8192.Idx) = j at e0 e1
  frame_out
  rw [square_at]
  refine congrArg (fun x : EReal => max x 0 * max x 0) (inner_congr (fun k => ?_) (fun k => ?_))
  · exact lhs_at m c t _ _ (by show (j 0).val = t.val / 4 * 1024 + r.val; omega) rfl
  · exact rhs_at m c t _ _ rfl (by show (j 1).val = t.val % 4 * 2048 + s.val; omega)

/-! ## The reference -/

theorem reference_rectified (a : Vec Ideal S8192x2048 .bf16) (b : Vec Ideal S2048x8192 .bf16) :
    Cert.Reference6Ideal.Read.val_main_v4 (F := Ideal) a b = rectified a b := by
  funext j
  obtain ⟨r, s, rfl⟩ : ∃ r s : Fin 8192, j = ix2 r s := ⟨j 0, j 1, by
    funext a
    match a with
    | ⟨0, _⟩ => rfl
    | ⟨1, _⟩ => rfl⟩
  rw [← Cert.Reference6Ideal.Read.val_main_v4_eq]
  pointwise [rectified]
  rfl

theorem reference_squared (a : Vec Ideal S8192x2048 .bf16) (b : Vec Ideal S2048x8192 .bf16) :
    Cert.Reference6Ideal.Read.val_main_v6 (F := Ideal) a b = squared a b := by
  funext j
  obtain ⟨r, s, rfl⟩ : ∃ r s : Fin 8192, j = ix2 r s := ⟨j 0, j 1, by
    funext a
    match a with
    | ⟨0, _⟩ => rfl
    | ⟨1, _⟩ => rfl⟩
  rw [← Cert.Reference6Ideal.Read.val_main_v6_eq]
  pointwise [squared]
  rfl

theorem algebraic : Cert.algebraic_Kernel6Ideal_Reference6Ideal := by
  intro m g m' g' _ hargs
  refine ⟨fun c => rectified (m ((c : Thread nD τ).loc main_arg0)) (m ((c : Thread nD τ).loc main_arg1)),
    fun c => squared (m ((c : Thread nD τ).loc main_arg0)) (m ((c : Thread nD τ).loc main_arg1)), ?_, ?_⟩
  · exact (θ_run defs _ _).mono (fun r h c => ⟨((h c).1 2).trans (final_rectified m c), ((h c).1 3).trans (final_squared m c),
      Value.kept_main_arg0 m r h c, Value.kept_main_arg1 m r h c⟩) (run_main m g)
  · refine (θ_run Cert.Reference6Ideal.defs _ _).mono (fun r h c => ⟨(h c).1.trans ?_, (h c).2.1.trans ?_, (h c).2.2⟩)
      (Cert.Reference6Ideal.Value.run m' g')
    · obtain ⟨e0, e1⟩ := hargs c
      exact (congrArg₂ _ e0 e1).trans (reference_rectified _ _)
    · obtain ⟨e0, e1⟩ := hargs c
      exact (congrArg₂ _ e0 e1).trans (reference_squared _ _)

end Cert.MlpUp

end
-- ==== Proof.GwDown.lean ====
module

public import proofs.«01_k».proof.Defs
public import proofs.«01_k».proof.Proof.Product
public import proofs.«01_k».proof.Proof.Gen.Kernel7Ideal.Value
public import proofs.«01_k».proof.Proof.Gen.Reference7Ideal.Read
public import Idealize.ShloMosaic.Lib.Pipeline.ValueKit.Acc
public import Idealize.ShloMosaic.Lib.Pipeline.ValueKit.Geometry

/-!
# The gradient of the down projection weight

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.GwDown

open Cert.Kernel7Ideal Cert.Kernel7Ideal.Gen Cert.Product

variable (m : (ℓ : Loc nD τ sig) → Buf (Elt Ideal) ℓ)

/-! ## Where the blocks lie -/

theorem index_0 : ∀ t : Fin cfg0.N, win0_0.index t = ![t.val % 2, t.val / 4] := (by decide +kernel : ∀ t : Fin grid0.N, _)
theorem index_1 : ∀ t : Fin cfg0.N, win0_1.index t = ![t.val % 2, t.val / 2 % 2] := (by decide +kernel : ∀ t : Fin grid0.N, _)
theorem index_2 : ∀ t : Fin cfg0.N, win0_2.index t = ![t.val / 4, t.val / 2 % 2] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S4096x1024.Idx) (j : S8192x8192.Idx)
    (h0 : (j 0).val = t.val % 2 * 4096 + (y 0).val) (h1 : (j 1).val = t.val / 4 * 1024 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S4096x1024.Idx) (j : S8192x2048.Idx)
    (h0 : (j 0).val = t.val % 2 * 4096 + (y 0).val) (h1 : (j 1).val = t.val / 2 % 2 * 1024 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S4096x1024 .bf16) (b : Vec Ideal S4096x1024 .bf16) (r s : Fin 1024) :
    k0_pay2 (F := Ideal) a b (ix2 r s) = inner (fun k => a (ix2 k r)) (fun k => b (ix2 k s)) := by
  pointwise [k0_pay2, k0_pay1]
  rfl

theorem next_at (a : Vec Ideal S4096x1024 .bf16) (b : Vec Ideal S4096x1024 .bf16) (x : Vec Ideal S1024x1024 .f32) (r s : Fin 1024) :
    k0_pay3 (F := Ideal) a b x (ix2 r s) = x (ix2 r s) + inner (fun k => a (ix2 k r)) (fun k => b (ix2 k s)) := by
  pointwise [k0_pay3, k0_pay1]
  rfl

theorem last_at (x : Vec Ideal S1024x1024 .f32) (j : S1024x1024.Idx) : k0_pay4 (F := Ideal) x j = x j := by
  pointwise [k0_pay4]

/-- The whole product. -/
def product (a : Vec Ideal S8192x8192 .bf16) (b : Vec Ideal S8192x2048 .bf16) : Vec Ideal S8192x2048 .bf16 :=
  fun j => inner (fun k : Fin 8192 => a (ix2 k (j 0))) (fun k => b (ix2 k (j 1)))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 32 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val / 4 * 1024 + r.val := by
    blk_simp [index_2] <;> omega
  have e1 : ((((cfg0.win 2).blk t).view.emb (ix2 r s) : S8192x2048.Idx) 1).val = t.val / 2 % 2 * 1024 + s.val := by
    blk_simp [index_2] <;> omega
  generalize (((cfg0.win 2).blk t).view.emb (ix2 r s) : S8192x2048.Idx) = j at e0 e1
  rw [out_last m c t ht, last_at, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show 0 * 4096 + k.val = (t.val - 1) % 2 * 4096 + k.val; omega) (by show (j 0).val = (t.val - 1) / 4 * 1024 + r.val; omega)
    · exact rhs_at m c ⟨t.val - 1, _⟩ _ _ (by show 0 * 4096 + k.val = (t.val - 1) % 2 * 4096 + k.val; omega) (by show (j 1).val = (t.val - 1) / 2 % 2 * 1024 + s.val; omega)
  · refine inner_congr (fun k => ?_) (fun k => ?_)
    · exact lhs_at m c t _ _ (by show 1 * 4096 + k.val = t.val % 2 * 4096 + k.val; omega) (by show (j 0).val = t.val / 4 * 1024 + r.val; omega)
    · exact rhs_at m c t _ _ (by show 1 * 4096 + k.val = t.val % 2 * 4096 + k.val; omega) (by show (j 1).val = t.val / 2 % 2 * 1024 + s.val; omega)

/-! ## The reference -/

/-- The reference's result is the same sum with the factors exchanged. -/
theorem reference_eq (a : Vec Ideal S8192x8192 .bf16) (b : Vec Ideal S8192x2048 .bf16) :
    Cert.Reference7Ideal.Read.val_main_v6 (F := Ideal) a b = product a b := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference7Ideal.Read.val_main_v6 (F := Ideal) a b (ix2 r s) = inner (fun k : Fin 8192 => a (ix2 k r)) (fun k => b (ix2 k s))
  rw [← Cert.Reference7Ideal.Read.val_main_v6_eq, inner_comm]
  pointwise
  rfl

theorem algebraic : Cert.algebraic_Kernel7Ideal_Reference7Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference7Ideal.defs _ _).mono (fun r h c => ⟨(h c).1.trans ?_, (h c).2⟩) (Cert.Reference7Ideal.Value.run m' g')
    obtain ⟨e0, e1⟩ := hargs c
    exact (congrArg₂ _ e0 e1).trans (reference_eq _ _)

end Cert.GwDown

end
-- ==== Proof.MlpUpBwd.lean ====
module

public import proofs.«01_k».proof.Defs
public import proofs.«01_k».proof.Proof.Product
public import proofs.«01_k».proof.Proof.Gen.Kernel8Ideal.Value
public import proofs.«01_k».proof.Proof.Gen.Reference8Ideal.Read
public import Idealize.ShloMosaic.Lib.Pipeline.ValueKit.Acc
public import Idealize.ShloMosaic.Lib.Pipeline.ValueKit.Geometry

/-!
# The gradient of the up projection with respect to its input

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.MlpUpBwd

open Cert.Kernel8Ideal Cert.Kernel8Ideal.Gen Cert.Product

variable (m : (ℓ : Loc nD τ sig) → Buf (Elt Ideal) ℓ)

/-! ## Where the blocks lie -/

theorem index_0 : ∀ t : Fin cfg0.N, win0_0.index t = ![t.val / 4, t.val % 2] := (by decide +kernel : ∀ t : Fin grid0.N, _)
theorem index_1 : ∀ t : Fin cfg0.N, win0_1.index t = ![t.val / 2 % 2, t.val % 2] := (by decide +kernel : ∀ t : Fin grid0.N, _)
theorem index_2 : ∀ t : Fin cfg0.N, win0_2.index t = ![t.val / 4, t.val / 2 % 2] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S1024x4096.Idx) (j : S8192x8192.Idx)
    (h0 : (j 0).val = t.val / 4 * 1024 + (y 0).val) (h1 : (j 1).val = t.val % 2 * 4096 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S1024x4096.Idx) (j : S2048x8192.Idx)
    (h0 : (j 0).val = t.val / 2 % 2 * 1024 + (y 0).val) (h1 : (j 1).val = t.val % 2 * 4096 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1024x4096 .bf16) (b : Vec Ideal S1024x4096 .bf16) (r s : Fin 1024) :
    k0_pay2 (F := Ideal) a b (ix2 r s) = inner (fun k => a (ix2 r k)) (fun k => b (ix2 s k)) := by
  pointwise [k0_pay2, k0_pay1]
  rfl

theorem next_at (a : Vec Ideal S1024x4096 .bf16) (b : Vec Ideal S1024x4096 .bf16) (x : Vec Ideal S1024x1024 .f32) (r s : Fin 1024) :
    k0_pay3 (F := Ideal) a b x (ix2 r s) = x (ix2 r s) + inner (fun k => a (ix2 r k)) (fun k => b (ix2 s k)) := by
  pointwise [k0_pay3, k0_pay1]
  rfl

/-- The whole product. -/
def product (a : Vec Ideal S8192x8192 .bf16) (b : Vec Ideal S2048x8192 .bf16) : Vec Ideal S8192x2048 .f32 :=
  fun j => inner (fun k : Fin 8192 => a (ix2 (j 0) k)) (fun k => b (ix2 (j 1) k))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 32 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val / 4 * 1024 + r.val := by
    blk_simp [index_2] <;> omega
  have e1 : ((((cfg0.win 2).blk t).view.emb (ix2 r s) : S8192x2048.Idx) 1).val = t.val / 2 % 2 * 1024 + s.val := by
    blk_simp [index_2] <;> omega
  generalize (((cfg0.win 2).blk t).view.emb (ix2 r s) : S8192x2048.Idx) = j at e0 e1
  rw [out_last m c t ht, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show (j 0).val = (t.val - 1) / 4 * 1024 + r.val; omega) (by show 0 * 4096 + k.val = (t.val - 1) % 2 * 4096 + k.val; omega)
    · exact rhs_at m c ⟨t.val - 1, _⟩ _ _ (by show (j 1).val = (t.val - 1) / 2 % 2 * 1024 + s.val; omega) (by show 0 * 4096 + k.val = (t.val - 1) % 2 * 4096 + k.val; omega)
  · refine inner_congr (fun k => ?_) (fun k => ?_)
    · exact lhs_at m c t _ _ (by show (j 0).val = t.val / 4 * 1024 + r.val; omega) (by show 1 * 4096 + k.val = t.val % 2 * 4096 + k.val; omega)
    · exact rhs_at m c t _ _ (by show (j 1).val = t.val / 2 % 2 * 1024 + s.val; omega) (by show 1 * 4096 + k.val = t.val % 2 * 4096 + k.val; omega)

/-! ## The reference -/

/-- The reference's result is the same sum. -/
theorem reference_eq (a : Vec Ideal S8192x8192 .bf16) (b : Vec Ideal S2048x8192 .bf16) :
    Cert.Reference8Ideal.Read.val_main_v4 (F := Ideal) a b = product a b := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference8Ideal.Read.val_main_v4 (F := Ideal) a b (ix2 r s) = inner (fun k : Fin 8192 => a (ix2 r k)) (fun k => b (ix2 s k))
  rw [← Cert.Reference8Ideal.Read.val_main_v4_eq]
  pointwise
  rfl

theorem algebraic : Cert.algebraic_Kernel8Ideal_Reference8Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference8Ideal.defs _ _).mono (fun r h c => ⟨(h c).1.trans ?_, (h c).2⟩) (Cert.Reference8Ideal.Value.run m' g')
    obtain ⟨e0, e1⟩ := hargs c
    exact (congrArg₂ _ e0 e1).trans (reference_eq _ _)

end Cert.MlpUpBwd

end
-- ==== Proof.GwUp.lean ====
module

public import proofs.«01_k».proof.Defs
public import proofs.«01_k».proof.Proof.Product
public import proofs.«01_k».proof.Proof.Gen.Kernel9Ideal.Value
public import proofs.«01_k».proof.Proof.Gen.Reference9Ideal.Read
public import Idealize.ShloMosaic.Lib.Pipeline.ValueKit.Acc
public import Idealize.ShloMosaic.Lib.Pipeline.ValueKit.Geometry

/-!
# The gradient of the up projection weight

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.GwUp

open Cert.Kernel9Ideal Cert.Kernel9Ideal.Gen Cert.Product

variable (m : (ℓ : Loc nD τ sig) → Buf (Elt Ideal) ℓ)

/-! ## Where the blocks lie -/

theorem index_0 : ∀ t : Fin cfg0.N, win0_0.index t = ![t.val % 2, t.val / 16] := (by decide +kernel : ∀ t : Fin grid0.N, _)
theorem index_1 : ∀ t : Fin cfg0.N, win0_1.index t = ![t.val % 2, t.val / 2 % 8] := (by decide +kernel : ∀ t : Fin grid0.N, _)
theorem index_2 : ∀ t : Fin cfg0.N, win0_2.index t = ![t.val / 16, t.val / 2 % 8] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S4096x1024.Idx) (j : S8192x2048.Idx)
    (h0 : (j 0).val = t.val % 2 * 4096 + (y 0).val) (h1 : (j 1).val = t.val / 16 * 1024 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S4096x1024.Idx) (j : S8192x8192.Idx)
    (h0 : (j 0).val = t.val % 2 * 4096 + (y 0).val) (h1 : (j 1).val = t.val / 2 % 8 * 1024 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S4096x1024 .bf16) (b : Vec Ideal S4096x1024 .bf16) (r s : Fin 1024) :
    k0_pay2 (F := Ideal) a b (ix2 r s) = inner (fun k => a (ix2 k r)) (fun k => b (ix2 k s)) := by
  pointwise [k0_pay2, k0_pay1]
  rfl

theorem next_at (a : Vec Ideal S4096x1024 .bf16) (b : Vec Ideal S4096x1024 .bf16) (x : Vec Ideal S1024x1024 .f32) (r s : Fin 1024) :
    k0_pay3 (F := Ideal) a b x (ix2 r s) = x (ix2 r s) + inner (fun k => a (ix2 k r)) (fun k => b (ix2 k s)) := by
  pointwise [k0_pay3, k0_pay1]
  rfl

theorem last_at (x : Vec Ideal S1024x1024 .f32) (j : S1024x1024.Idx) : k0_pay4 (F := Ideal) x j = x j := by
  pointwise [k0_pay4]

/-- The whole product. -/
def product (a : Vec Ideal S8192x2048 .bf16) (b : Vec Ideal S8192x8192 .bf16) : Vec Ideal S2048x8192 .bf16 :=
  fun j => inner (fun k : Fin 8192 => a (ix2 k (j 0))) (fun k => b (ix2 k (j 1)))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 32 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S2048x8192.Idx) 0).val = t.val / 16 * 1024 + r.val := by
    blk_simp [index_2] <;> omega
  have e1 : ((((cfg0.win 2).blk t).view.emb (ix2 r s) : S2048x8192.Idx) 1).val = t.val / 2 % 8 * 1024 + s.val := by
    blk_simp [index_2] <;> omega
  generalize (((cfg0.win 2).blk t).view.emb (ix2 r s) : S2048x8192.Idx) = j at e0 e1
  rw [out_last m c t ht, last_at, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show 0 * 4096 + k.val = (t.val - 1) % 2 * 4096 + k.val; omega) (by show (j 0).val = (t.val - 1) / 16 * 1024 + r.val; omega)
    · exact rhs_at m c ⟨t.val - 1, _⟩ _ _ (by show 0 * 4096 + k.val = (t.val - 1) % 2 * 4096 + k.val; omega) (by show (j 1).val = (t.val - 1) / 2 % 8 * 1024 + s.val; omega)
  · refine inner_congr (fun k => ?_) (fun k => ?_)
    · exact lhs_at m c t _ _ (by show 1 * 4096 + k.val = t.val % 2 * 4096 + k.val; omega) (by show (j 0).val = t.val / 16 * 1024 + r.val; omega)
    · exact rhs_at m c t _ _ (by show 1 * 4096 + k.val = t.val % 2 * 4096 + k.val; omega) (by show (j 1).val = t.val / 2 % 8 * 1024 + s.val; omega)

/-! ## The reference -/

/-- The reference's result is the same sum with the factors exchanged. -/
theorem reference_eq (a : Vec Ideal S8192x2048 .bf16) (b : Vec Ideal S8192x8192 .bf16) :
    Cert.Reference9Ideal.Read.val_main_v6 (F := Ideal) a b = product a b := by
  funext j
  obtain ⟨r, s, rfl⟩ : ∃ (r : Fin 2048) (s : Fin 8192), j = ix2 r s := ⟨j 0, j 1, by
    funext a
    match a with
    | ⟨0, _⟩ => rfl
    | ⟨1, _⟩ => rfl⟩
  show Cert.Reference9Ideal.Read.val_main_v6 (F := Ideal) a b (ix2 r s) = inner (fun k : Fin 8192 => a (ix2 k r)) (fun k => b (ix2 k s))
  rw [← Cert.Reference9Ideal.Read.val_main_v6_eq, inner_comm]
  pointwise
  rfl

theorem algebraic : Cert.algebraic_Kernel9Ideal_Reference9Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference9Ideal.defs _ _).mono (fun r h c => ⟨(h c).1.trans ?_, (h c).2⟩) (Cert.Reference9Ideal.Value.run m' g')
    obtain ⟨e0, e1⟩ := hargs c
    exact (congrArg₂ _ e0 e1).trans (reference_eq _ _)

end Cert.GwUp

end
-- ==== Proof.Proj.lean ====
module

public import proofs.«01_k».proof.Defs
public import proofs.«01_k».proof.Proof.Product
public import proofs.«01_k».proof.Proof.Gen.Kernel10Ideal.Value
public import proofs.«01_k».proof.Proof.Gen.Reference10Ideal.Read
public import Idealize.ShloMosaic.Lib.Pipeline.ValueKit.Acc
public import Idealize.ShloMosaic.Lib.Pipeline.ValueKit.Geometry

/-!
# The input projection

Grid point `t` multiplies one pair of blocks. The contracted axis is not cut, so each point writes a finished block.
The blocks cover the result array, so it is the whole product, which is the reference's.
-/

@[expose] public section

noncomputable section

open Idealize.ShloMosaic Idealize.ShloMosaic.TcCoe Idealize.SL.Sem

namespace Cert.Proj

open Cert.Kernel10Ideal Cert.Kernel10Ideal.Gen Cert.Product

variable (m : (ℓ : Loc nD τ sig) → Buf (Elt Ideal) ℓ)

/-! ## Where the blocks lie -/

theorem index_0 : ∀ t : Fin cfg0.N, win0_0.index t = ![t.val / 6, 0] := (by decide +kernel : ∀ t : Fin grid0.N, _)
theorem index_1 : ∀ t : Fin cfg0.N, win0_1.index t = ![0, t.val % 6] := (by decide +kernel : ∀ t : Fin grid0.N, _)
theorem index_2 : ∀ t : Fin cfg0.N, win0_2.index t = ![t.val / 6, t.val % 6] := (by decide +kernel : ∀ t : Fin grid0.N, _)

theorem lhs_at (c : Dev nD) (t : Fin cfg0.N) (y : S1024x2048.Idx) (j : S8192x2048.Idx)
    (h0 : (j 0).val = t.val / 6 * 1024 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S2048x2048.Idx) (j : S2048x12288.Idx)
    (h0 : (j 0).val = (y 0).val) (h1 : (j 1).val = t.val % 6 * 2048 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1024x2048 .bf16) (b : Vec Ideal S2048x2048 .bf16) (r : Fin 1024) (s : Fin 2048) :
    k0_pay1 (F := Ideal) a b (ix2 r s) = inner (fun k => a (ix2 r k)) (fun k => b (ix2 k s)) := by
  pointwise [k0_pay1]
  rfl

/-- The whole product. -/
def product (a : Vec Ideal S8192x2048 .bf16) (b : Vec Ideal S2048x12288 .bf16) : Vec Ideal S8192x12288 .f32 :=
  fun j => inner (fun k : Fin 2048 => a (ix2 (j 0) k)) (fun k => b (ix2 k (j 1)))

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 2048), y = ix2 r s := ⟨y 0, y 1, by
    funext a
    match a with
    | ⟨0, _⟩ => rfl
    | ⟨1, _⟩ => rfl⟩
  have e0 : ((((cfg0.win 2).blk t).view.emb (ix2 r s) : S8192x12288.Idx) 0).val = t.val / 6 * 1024 + r.val := by
    blk_simp [index_2] <;> omega
  have e1 : ((((cfg0.win 2).blk t).view.emb (ix2 r s) : S8192x12288.Idx) 1).val = t.val % 6 * 2048 + s.val := by
    blk_simp [index_2] <;> omega
  generalize (((cfg0.win 2).blk t).view.emb (ix2 r s) : S8192x12288.Idx) = j at e0 e1
  frame_out
  rw [first_at]
  refine inner_congr (fun k => ?_) (fun k => ?_)
  · exact lhs_at m c t _ _ (by show (j 0).val = t.val / 6 * 1024 + r.val; omega) rfl
  · exact rhs_at m c t _ _ rfl (by show (j 1).val = t.val % 6 * 2048 + s.val; omega)

/-! ## The reference -/

/-- The reference's result is the same sum. -/
theorem reference_eq (a : Vec Ideal S8192x2048 .bf16) (b : Vec Ideal S2048x12288 .bf16) :
    Cert.Reference10Ideal.Read.val_main_v2 (F := Ideal) a b = product a b := by
  funext j
  obtain ⟨r, s, rfl⟩ : ∃ (r : Fin 8192) (s : Fin 12288), j = ix2 r s := ⟨j 0, j 1, by
    funext a
    match a with
    | ⟨0, _⟩ => rfl
    | ⟨1, _⟩ => rfl⟩
  show Cert.Reference10Ideal.Read.val_main_v2 (F := Ideal) a b (ix2 r s) = inner (fun k : Fin 2048 => a (ix2 r k)) (fun k => b (ix2 k s))
  rw [← Cert.Reference10Ideal.Read.val_main_v2_eq]
  pointwise
  rfl

theorem algebraic : Cert.algebraic_Kernel10Ideal_Reference10Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference10Ideal.defs _ _).mono (fun r h c => ⟨(h c).1.trans ?_, (h c).2⟩) (Cert.Reference10Ideal.Value.run m' g')
    obtain ⟨e0, e1⟩ := hargs c
    exact (congrArg₂ _ e0 e1).trans (reference_eq _ _)

end Cert.Proj

end
-- ==== Proof.MlpDown.lean ====
module

public import proofs.«01_k».proof.Defs
public import proofs.«01_k».proof.Proof.Product
public import proofs.«01_k».proof.Proof.Gen.Kernel11Ideal.Value
public import proofs.«01_k».proof.Proof.Gen.Reference11Ideal.Read
public import Idealize.ShloMosaic.Lib.Pipeline.ValueKit.Acc
public import Idealize.ShloMosaic.Lib.Pipeline.ValueKit.Geometry

/-!
# The down projection

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.MlpDown

open Cert.Kernel11Ideal Cert.Kernel11Ideal.Gen Cert.Product

variable (m : (ℓ : Loc nD τ sig) → Buf (Elt Ideal) ℓ)

/-! ## Where the blocks lie -/

theorem index_0 : ∀ t : Fin cfg0.N, win0_0.index t = ![t.val / 4, t.val % 2] := (by decide +kernel : ∀ t : Fin grid0.N, _)
theorem index_1 : ∀ t : Fin cfg0.N, win0_1.index t = ![t.val % 2, t.val / 2 % 2] := (by decide +kernel : ∀ t : Fin grid0.N, _)
theorem index_2 : ∀ t : Fin cfg0.N, win0_2.index t = ![t.val / 4, t.val / 2 % 2] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S1024x4096.Idx) (j : S8192x8192.Idx)
    (h0 : (j 0).val = t.val / 4 * 1024 + (y 0).val) (h1 : (j 1).val = t.val % 2 * 4096 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S4096x1024.Idx) (j : S8192x2048.Idx)
    (h0 : (j 0).val = t.val % 2 * 4096 + (y 0).val) (h1 : (j 1).val = t.val / 2 % 2 * 1024 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1024x4096 .bf16) (b : Vec Ideal S4096x1024 .bf16) (r s : Fin 1024) :
    k0_pay2 (F := Ideal) a b (ix2 r s) = inner (fun k => a (ix2 r k)) (fun k => b (ix2 k s)) := by
  pointwise [k0_pay2, k0_pay1]
  rfl

theorem next_at (a : Vec Ideal S1024x4096 .bf16) (b : Vec Ideal S4096x1024 .bf16) (x : Vec Ideal S1024x1024 .f32) (r s : Fin 1024) :
    k0_pay3 (F := Ideal) a b x (ix2 r s) = x (ix2 r s) + inner (fun k => a (ix2 r k)) (fun k => b (ix2 k s)) := by
  pointwise [k0_pay3, k0_pay1]
  rfl

/-- The whole product. -/
def product (a : Vec Ideal S8192x8192 .bf16) (b : Vec Ideal S8192x2048 .bf16) : Vec Ideal S8192x2048 .f32 :=
  fun j => inner (fun k : Fin 8192 => a (ix2 (j 0) k)) (fun k => b (ix2 k (j 1)))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay3 (F := Ideal) (iblk m c 0 t) (iblk m c 1 t)
      (outsAt0 m c (t.val - 1) (Nat.lt_of_le_of_lt (Nat.sub_le _ _) t.isLt)).2 := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 32 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val / 4 * 1024 + r.val := by
    blk_simp [index_2] <;> omega
  have e1 : ((((cfg0.win 2).blk t).view.emb (ix2 r s) : S8192x2048.Idx) 1).val = t.val / 2 % 2 * 1024 + s.val := by
    blk_simp [index_2] <;> omega
  generalize (((cfg0.win 2).blk t).view.emb (ix2 r s) : S8192x2048.Idx) = j at e0 e1
  rw [out_last m c t ht, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show (j 0).val = (t.val - 1) / 4 * 1024 + r.val; omega) (by show 0 * 4096 + k.val = (t.val - 1) % 2 * 4096 + k.val; omega)
    · exact rhs_at m c ⟨t.val - 1, _⟩ _ _ (by show 0 * 4096 + k.val = (t.val - 1) % 2 * 4096 + k.val; omega) (by show (j 1).val = (t.val - 1) / 2 % 2 * 1024 + s.val; omega)
  · refine inner_congr (fun k => ?_) (fun k => ?_)
    · exact lhs_at m c t _ _ (by show (j 0).val = t.val / 4 * 1024 + r.val; omega) (by show 1 * 4096 + k.val = t.val % 2 * 4096 + k.val; omega)
    · exact rhs_at m c t _ _ (by show 1 * 4096 + k.val = t.val % 2 * 4096 + k.val; omega) (by show (j 1).val = t.val / 2 % 2 * 1024 + s.val; omega)

/-! ## The reference -/

/-- The reference's result is the same sum. -/
theorem reference_eq (a : Vec Ideal S8192x8192 .bf16) (b : Vec Ideal S8192x2048 .bf16) :
    Cert.Reference11Ideal.Read.val_main_v2 (F := Ideal) a b = product a b := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference11Ideal.Read.val_main_v2 (F := Ideal) a b (ix2 r s) = inner (fun k : Fin 8192 => a (ix2 r k)) (fun k => b (ix2 k s))
  rw [← Cert.Reference11Ideal.Read.val_main_v2_eq]
  pointwise
  rfl

theorem algebraic : Cert.algebraic_Kernel11Ideal_Reference11Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference11Ideal.defs _ _).mono (fun r h c => ⟨(h c).1.trans ?_, (h c).2⟩) (Cert.Reference11Ideal.Value.run m' g')
    obtain ⟨e0, e1⟩ := hargs c
    exact (congrArg₂ _ e0 e1).trans (reference_eq _ _)

end Cert.MlpDown

end
-- ==== Proof.GwO.lean ====
module

public import proofs.«01_k».proof.Defs
public import proofs.«01_k».proof.Proof.Product
public import proofs.«01_k».proof.Proof.Gen.Kernel12Ideal.Value
public import proofs.«01_k».proof.Proof.Gen.Reference12Ideal.Read
public import Idealize.ShloMosaic.Lib.Pipeline.ValueKit.Acc
public import Idealize.ShloMosaic.Lib.Pipeline.ValueKit.Geometry

/-!
# The gradient of the output projection weight

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.GwO

open Cert.Kernel12Ideal Cert.Kernel12Ideal.Gen Cert.Product

variable (m : (ℓ : Loc nD τ sig) → Buf (Elt Ideal) ℓ)

/-! ## Where the blocks lie -/

theorem index_0 : ∀ t : Fin cfg0.N, win0_0.index t = ![t.val % 2, t.val / 4] := (by decide +kernel : ∀ t : Fin grid0.N, _)
theorem index_1 : ∀ t : Fin cfg0.N, win0_1.index t = ![t.val % 2, t.val / 2 % 2] := (by decide +kernel : ∀ t : Fin grid0.N, _)
theorem index_2 : ∀ t : Fin cfg0.N, win0_2.index t = ![t.val / 4, t.val / 2 % 2] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S4096x1024.Idx) (j : S8192x2048.Idx)
    (h0 : (j 0).val = t.val % 2 * 4096 + (y 0).val) (h1 : (j 1).val = t.val / 4 * 1024 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S4096x1024.Idx) (j : S8192x2048.Idx)
    (h0 : (j 0).val = t.val % 2 * 4096 + (y 0).val) (h1 : (j 1).val = t.val / 2 % 2 * 1024 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S4096x1024 .bf16) (b : Vec Ideal S4096x1024 .bf16) (r s : Fin 1024) :
    k0_pay2 (F := Ideal) a b (ix2 r s) = inner (fun k => a (ix2 k r)) (fun k => b (ix2 k s)) := by
  pointwise [k0_pay2, k0_pay1]
  rfl

theorem next_at (a : Vec Ideal S4096x1024 .bf16) (b : Vec Ideal S4096x1024 .bf16) (x : Vec Ideal S1024x1024 .f32) (r s : Fin 1024) :
    k0_pay3 (F := Ideal) a b x (ix2 r s) = x (ix2 r s) + inner (fun k => a (ix2 k r)) (fun k => b (ix2 k s)) := by
  pointwise [k0_pay3, k0_pay1]
  rfl

theorem last_at (x : Vec Ideal S1024x1024 .f32) (j : S1024x1024.Idx) : k0_pay4 (F := Ideal) x j = x j := by
  pointwise [k0_pay4]

/-- The whole product. -/
def product (a : Vec Ideal S8192x2048 .bf16) (b : Vec Ideal S8192x2048 .bf16) : Vec Ideal S2048x2048 .bf16 :=
  fun j => inner (fun k : Fin 8192 => a (ix2 k (j 0))) (fun k => b (ix2 k (j 1)))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 8 := N_0
  have htN := t.isLt
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S2048x2048.Idx) 0).val = t.val / 4 * 1024 + r.val := by
    blk_simp [index_2] <;> omega
  have e1 : ((((cfg0.win 2).blk t).view.emb (ix2 r s) : S2048x2048.Idx) 1).val = t.val / 2 % 2 * 1024 + s.val := by
    blk_simp [index_2] <;> omega
  generalize (((cfg0.win 2).blk t).view.emb (ix2 r s) : S2048x2048.Idx) = j at e0 e1
  rw [out_last m c t ht, last_at, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show 0 * 4096 + k.val = (t.val - 1) % 2 * 4096 + k.val; omega) (by show (j 0).val = (t.val - 1) / 4 * 1024 + r.val; omega)
    · exact rhs_at m c ⟨t.val - 1, _⟩ _ _ (by show 0 * 4096 + k.val = (t.val - 1) % 2 * 4096 + k.val; omega) (by show (j 1).val = (t.val - 1) / 2 % 2 * 1024 + s.val; omega)
  · refine inner_congr (fun k => ?_) (fun k => ?_)
    · exact lhs_at m c t _ _ (by show 1 * 4096 + k.val = t.val % 2 * 4096 + k.val; omega) (by show (j 0).val = t.val / 4 * 1024 + r.val; omega)
    · exact rhs_at m c t _ _ (by show 1 * 4096 + k.val = t.val % 2 * 4096 + k.val; omega) (by show (j 1).val = t.val / 2 % 2 * 1024 + s.val; omega)

/-! ## The reference -/

/-- The reference's result is the same sum with the factors exchanged. -/
theorem reference_eq (a : Vec Ideal S8192x2048 .bf16) (b : Vec Ideal S8192x2048 .bf16) :
    Cert.Reference12Ideal.Read.val_main_v6 (F := Ideal) a b = product a b := by
  funext j
  obtain ⟨r, s, rfl⟩ : ∃ (r : Fin 2048) (s : Fin 2048), j = ix2 r s := ⟨j 0, j 1, by
    funext a
    match a with
    | ⟨0, _⟩ => rfl
    | ⟨1, _⟩ => rfl⟩
  show Cert.Reference12Ideal.Read.val_main_v6 (F := Ideal) a b (ix2 r s) = inner (fun k : Fin 8192 => a (ix2 k r)) (fun k => b (ix2 k s))
  rw [← Cert.Reference12Ideal.Read.val_main_v6_eq, inner_comm]
  pointwise
  rfl

theorem algebraic : Cert.algebraic_Kernel12Ideal_Reference12Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference12Ideal.defs _ _).mono (fun r h c => ⟨(h c).1.trans ?_, (h c).2⟩) (Cert.Reference12Ideal.Value.run m' g')
    obtain ⟨e0, e1⟩ := hargs c
    exact (congrArg₂ _ e0 e1).trans (reference_eq _ _)

end Cert.GwO

end
-- ==== Proof.BranchOutBwd.lean ====
module

public import proofs.«01_k».proof.Defs
public import proofs.«01_k».proof.Proof.Product
public import proofs.«01_k».proof.Proof.Gen.Kernel13Ideal.Value
public import proofs.«01_k».proof.Proof.Gen.Reference13Ideal.Read
public import Idealize.ShloMosaic.Lib.Pipeline.ValueKit.Acc
public import Idealize.ShloMosaic.Lib.Pipeline.ValueKit.Geometry

/-!
# The gradient of the three branch projections with respect to their inputs

Grid point `t` multiplies one pair of blocks. The contracted axis is not cut, so each point writes a finished block.
The blocks cover the result array, so it is the whole product, which is the reference's.
-/

@[expose] public section

noncomputable section

open Idealize.ShloMosaic Idealize.ShloMosaic.TcCoe Idealize.SL.Sem

namespace Cert.BranchOutBwd

open Cert.Kernel13Ideal Cert.Kernel13Ideal.Gen Cert.Product

variable (m : (ℓ : Loc nD τ sig) → Buf (Elt Ideal) ℓ)

/-! ## Where the blocks lie -/

theorem index_0 : ∀ t : Fin cfg0.N, win0_0.index t = ![t.val / 8, t.val % 8, 0] := (by decide +kernel : ∀ t : Fin grid0.N, _)
theorem index_1 : ∀ t : Fin cfg0.N, win0_1.index t = ![t.val / 8, 0, 0] := (by decide +kernel : ∀ t : Fin grid0.N, _)
theorem index_2 : ∀ t : Fin cfg0.N, win0_2.index t = ![t.val / 8, t.val % 8, 0] := (by decide +kernel : ∀ t : Fin grid0.N, _)

theorem lhs_at (c : Dev nD) (t : Fin cfg0.N) (y : S1x1024x2048.Idx) (j : S3x8192x2048.Idx)
    (h0 : (j 0).val = t.val / 8 + (y 0).val) (h1 : (j 1).val = t.val % 8 * 1024 + (y 1).val) (h2 : (j 2).val = (y 2).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S1x1024x2048.Idx) (j : S3x1024x2048.Idx)
    (h0 : (j 0).val = t.val / 8 + (y 0).val) (h1 : (j 1).val = (y 1).val) (h2 : (j 2).val = (y 2).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1x1024x2048 .bf16) (b : Vec Ideal S1x1024x2048 .bf16) (u : Fin 1) (r s : Fin 1024) :
    k0_pay1 (F := Ideal) a b (ix3 u r s) = inner (fun k => a (ix3 0 r k)) (fun k => b (ix3 0 s k)) := by
  pointwise [k0_pay1]
  rfl

/-- The whole product. -/
def product (a : Vec Ideal S3x8192x2048 .bf16) (b : Vec Ideal S3x1024x2048 .bf16) : Vec Ideal S3x8192x1024 .f32 :=
  fun j => inner (fun k : Fin 2048 => a (ix3 (j 0) (j 1) k)) (fun k => b (ix3 (j 0) (j 2) k))

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨u, r, s, rfl⟩ : ∃ (u : Fin 1) (r : Fin 1024) (s : Fin 1024), y = ix3 u r s := ⟨y 0, y 1, y 2, by
    funext a
    match a with
    | ⟨0, _⟩ => rfl
    | ⟨1, _⟩ => rfl
    | ⟨2, _⟩ => rfl⟩
  have e0 : ((((cfg0.win 2).blk t).view.emb (ix3 u r s) : S3x8192x1024.Idx) 0).val = t.val / 8 + u.val := by
    blk_simp [index_2] <;> omega
  have e1 : ((((cfg0.win 2).blk t).view.emb (ix3 u r s) : S3x8192x1024.Idx) 1).val = t.val % 8 * 1024 + r.val := by
    blk_simp [index_2] <;> omega
  have e2 : ((((cfg0.win 2).blk t).view.emb (ix3 u r s) : S3x8192x1024.Idx) 2).val = s.val := by
    blk_simp [index_2] <;> omega
  generalize (((cfg0.win 2).blk t).view.emb (ix3 u r s) : S3x8192x1024.Idx) = j at e0 e1 e2
  frame_out
  rw [first_at]
  refine inner_congr (fun k => ?_) (fun k => ?_)
  · exact lhs_at m c t _ _ (by show (j 0).val = t.val / 8 + 0; omega) (by show (j 1).val = t.val % 8 * 1024 + r.val; omega) rfl
  · exact rhs_at m c t _ _ (by show (j 0).val = t.val / 8 + 0; omega) (by show (j 2).val = s.val; omega) rfl

/-! ## The reference -/

/-- The reference's result is the same sum. -/
theorem reference_eq (a : Vec Ideal S3x8192x2048 .bf16) (b : Vec Ideal S3x1024x2048 .bf16) :
    Cert.Reference13Ideal.Read.val_main_v26 (F := Ideal) a b = product a b := by
  funext j
  obtain ⟨u, r, s, rfl⟩ : ∃ (u : Fin 3) (r : Fin 8192) (s : Fin 1024), j = ix3 u r s := ⟨j 0, j 1, j 2, by
    funext a
    match a with
    | ⟨0, _⟩ => rfl
    | ⟨1, _⟩ => rfl
    | ⟨2, _⟩ => rfl⟩
  show Cert.Reference13Ideal.Read.val_main_v26 (F := Ideal) a b (ix3 u r s) = inner (fun k : Fin 2048 => a (ix3 u r k)) (fun k => b (ix3 u s k))
  rw [← Cert.Reference13Ideal.Read.val_main_v26_eq]
  fin_cases u
  all_goals pointwise
  all_goals rfl

theorem algebraic : Cert.algebraic_Kernel13Ideal_Reference13Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference13Ideal.defs _ _).mono (fun r h c => ⟨(h c).1.trans ?_, (h c).2⟩) (Cert.Reference13Ideal.Value.run m' g')
    obtain ⟨e0, e1⟩ := hargs c
    exact (congrArg₂ _ e0 e1).trans (reference_eq _ _)

end Cert.BranchOutBwd

end
-- ==== Proof.GwBranchOut.lean ====
module

public import proofs.«01_k».proof.Defs
public import proofs.«01_k».proof.Proof.Product
public import proofs.«01_k».proof.Proof.Gen.Kernel14Ideal.Value
public import proofs.«01_k».proof.Proof.Gen.Reference14Ideal.Read
public import Idealize.ShloMosaic.Lib.Pipeline.ValueKit.Acc
public import Idealize.ShloMosaic.Lib.Pipeline.ValueKit.Geometry

/-!
# The gradient of the three branch projection weights

Grid point `t` multiplies one pair of blocks. The contracted axis is cut into 2 tiles: the accumulator takes the first product, adds the others, and is written to the result block at the last.
The blocks cover the result array, so it is the whole product, which is the reference's.
-/

@[expose] public section

noncomputable section

open Idealize.ShloMosaic Idealize.ShloMosaic.TcCoe Idealize.SL.Sem

namespace Cert.GwBranchOut

open Cert.Kernel14Ideal Cert.Kernel14Ideal.Gen Cert.Product

variable (m : (ℓ : Loc nD τ sig) → Buf (Elt Ideal) ℓ)

/-! ## Where the blocks lie -/

theorem index_0 : ∀ t : Fin cfg0.N, win0_0.index t = ![t.val / 4, t.val % 2, 0] := (by decide +kernel : ∀ t : Fin grid0.N, _)
theorem index_1 : ∀ t : Fin cfg0.N, win0_1.index t = ![t.val / 4, t.val % 2, t.val / 2 % 2] := (by decide +kernel : ∀ t : Fin grid0.N, _)
theorem index_2 : ∀ t : Fin cfg0.N, win0_2.index t = ![t.val / 4, 0, t.val / 2 % 2] := (by decide +kernel : ∀ t : Fin grid0.N, _)
theorem flush_2 : ∀ t : Fin cfg0.N, win0_2.flush t = true → t.val % 2 = 1 := (by decide +kernel : ∀ t : Fin grid0.N, _)

theorem lhs_at (c : Dev nD) (t : Fin cfg0.N) (y : S1x4096x1024.Idx) (j : S3x8192x1024.Idx)
    (h0 : (j 0).val = t.val / 4 + (y 0).val) (h1 : (j 1).val = t.val % 2 * 4096 + (y 1).val) (h2 : (j 2).val = (y 2).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S1x4096x1024.Idx) (j : S3x8192x2048.Idx)
    (h0 : (j 0).val = t.val / 4 + (y 0).val) (h1 : (j 1).val = t.val % 2 * 4096 + (y 1).val) (h2 : (j 2).val = t.val / 2 % 2 * 1024 + (y 2).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1x4096x1024 .bf16) (b : Vec Ideal S1x4096x1024 .bf16) (r s : Fin 1024) :
    k0_pay2 (F := Ideal) a b (ix2 r s) = inner (fun k => a (ix3 0 k r)) (fun k => b (ix3 0 k s)) := by
  pointwise [k0_pay2, k0_pay1]
  rfl

theorem next_at (a : Vec Ideal S1x4096x1024 .bf16) (b : Vec Ideal S1x4096x1024 .bf16) (x : Vec Ideal S1024x1024 .f32) (r s : Fin 1024) :
    k0_pay3 (F := Ideal) a b x (ix2 r s) = x (ix2 r s) + inner (fun k => a (ix3 0 k r)) (fun k => b (ix3 0 k s)) := by
  pointwise [k0_pay3, k0_pay1]
  rfl

theorem last_at (x : Vec Ideal S1024x1024 .f32) (u : Fin 1) (r s : Fin 1024) : k0_pay4 (F := Ideal) x (ix3 u r s) = x (ix2 r s) := by
  pointwise [k0_pay4]

/-- The whole product. -/
def product (a : Vec Ideal S3x8192x1024 .bf16) (b : Vec Ideal S3x8192x2048 .bf16) : Vec Ideal S3x1024x2048 .bf16 :=
  fun j => inner (fun k : Fin 8192 => a (ix3 (j 0) k (j 1))) (fun k => b (ix3 (j 0) k (j 2)))

/-- At a first tile the accumulator holds one product. -/
theorem acc_first (c : Dev nD) (t : Fin cfg0.N) (h : t.val % 2 = 0) :
    (outsAt0 m c t.val t.isLt).2 = k0_pay2 (F := Ideal) (iblk m c 0 t) (iblk m c 1 t) := by
  rw [outsAt0_A m c t h (by omega) (by omega)]
  frame_out

/-- At a last tile the sum is written out. -/
theorem out_last (c : Dev nD) (t : Fin cfg0.N) (h : t.val % 2 = 1) :
    (outsAt0 m c t.val t.isLt).1 = k0_pay4 (F := Ideal) (k0_pay3 (F := Ideal) (iblk m c 0 t) (iblk m c 1 t)
      (outsAt0 m c (t.val - 1) (Nat.lt_of_le_of_lt (Nat.sub_le _ _) t.isLt)).2) := by
  rw [outsAt0_B m c t (by omega) (by omega) h]
  frame_out
  rw [(Memref.isWhole_whole _).read_unread]

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  have ht := flush_2 t hf
  have hN : cfg0.N = 12 := N_0
  have htN := t.isLt
  blk_simp
  rw [after0_2]
  obtain ⟨u, r, s, rfl⟩ : ∃ (u : Fin 1) (r : Fin 1024) (s : Fin 1024), y = ix3 u r s := ⟨y 0, y 1, y 2, by
    funext a
    match a with
    | ⟨0, _⟩ => rfl
    | ⟨1, _⟩ => rfl
    | ⟨2, _⟩ => rfl⟩
  have e0 : ((((cfg0.win 2).blk t).view.emb (ix3 u r s) : S3x1024x2048.Idx) 0).val = t.val / 4 + u.val := by
    blk_simp [index_2] <;> omega
  have e1 : ((((cfg0.win 2).blk t).view.emb (ix3 u r s) : S3x1024x2048.Idx) 1).val = r.val := by
    blk_simp [index_2] <;> omega
  have e2 : ((((cfg0.win 2).blk t).view.emb (ix3 u r s) : S3x1024x2048.Idx) 2).val = t.val / 2 % 2 * 1024 + s.val := by
    blk_simp [index_2] <;> omega
  generalize (((cfg0.win 2).blk t).view.emb (ix3 u r s) : S3x1024x2048.Idx) = j at e0 e1 e2
  rw [out_last m c t ht, last_at, next_at, acc_first m c ⟨t.val - 1, by omega⟩ (by show (t.val - 1) % 2 = 0; omega), first_at]
  unfold product
  rw [inner_two (K := 8192) 4096 _ _ (by norm_num)]
  refine congrArg₂ (fun x y : EReal => x + y) ?_ ?_
  · refine inner_congr (fun k => ?_) (fun k => ?_)
    · exact lhs_at m c ⟨t.val - 1, _⟩ _ _ (by show (j 0).val = (t.val - 1) / 4 + 0; omega) (by show 0 * 4096 + k.val = (t.val - 1) % 2 * 4096 + k.val; omega) (by show (j 1).val = r.val; omega)
    · exact rhs_at m c ⟨t.val - 1, _⟩ _ _ (by show (j 0).val = (t.val - 1) / 4 + 0; omega) (by show 0 * 4096 + k.val = (t.val - 1) % 2 * 4096 + k.val; omega) (by show (j 2).val = (t.val - 1) / 2 % 2 * 1024 + s.val; omega)
  · refine inner_congr (fun k => ?_) (fun k => ?_)
    · exact lhs_at m c t _ _ (by show (j 0).val = t.val / 4 + 0; omega) (by show 1 * 4096 + k.val = t.val % 2 * 4096 + k.val; omega) (by show (j 1).val = r.val; omega)
    · exact rhs_at m c t _ _ (by show (j 0).val = t.val / 4 + 0; omega) (by show 1 * 4096 + k.val = t.val % 2 * 4096 + k.val; omega) (by show (j 2).val = t.val / 2 % 2 * 1024 + s.val; omega)

/-! ## The reference -/

/-- The reference's result is the same sum with the factors exchanged. -/
theorem reference_eq (a : Vec Ideal S3x8192x1024 .bf16) (b : Vec Ideal S3x8192x2048 .bf16) :
    Cert.Reference14Ideal.Read.val_main_v28 (F := Ideal) a b = product a b := by
  funext j
  obtain ⟨u, r, s, rfl⟩ : ∃ (u : Fin 3) (r : Fin 1024) (s : Fin 2048), j = ix3 u r s := ⟨j 0, j 1, j 2, by
    funext a
    match a with
    | ⟨0, _⟩ => rfl
    | ⟨1, _⟩ => rfl
    | ⟨2, _⟩ => rfl⟩
  show Cert.Reference14Ideal.Read.val_main_v28 (F := Ideal) a b (ix3 u r s) = inner (fun k : Fin 8192 => a (ix3 u k r)) (fun k => b (ix3 u k s))
  rw [← Cert.Reference14Ideal.Read.val_main_v28_eq, inner_comm]
  fin_cases u
  all_goals pointwise
  all_goals rfl

theorem algebraic : Cert.algebraic_Kernel14Ideal_Reference14Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference14Ideal.defs _ _).mono (fun r h c => ⟨(h c).1.trans ?_, (h c).2⟩) (Cert.Reference14Ideal.Value.run m' g')
    obtain ⟨e0, e1⟩ := hargs c
    exact (congrArg₂ _ e0 e1).trans (reference_eq _ _)

end Cert.GwBranchOut

end
-- ==== Proof.MixOut.lean ====
module

public import proofs.«01_k».proof.Defs
public import proofs.«01_k».proof.Proof.Product
public import proofs.«01_k».proof.Proof.Gen.Kernel15Ideal.Value
public import proofs.«01_k».proof.Proof.Gen.Reference15Ideal.Read
public import Idealize.ShloMosaic.Lib.Pipeline.ValueKit.Acc
public import Idealize.ShloMosaic.Lib.Pipeline.ValueKit.Geometry

/-!
# The output projection

Grid point `t` multiplies one pair of blocks. The contracted axis is not cut, so each point writes a finished block.
The blocks cover the result array, so it is the whole product, which is the reference's.
-/

@[expose] public section

noncomputable section

open Idealize.ShloMosaic Idealize.ShloMosaic.TcCoe Idealize.SL.Sem

namespace Cert.MixOut

open Cert.Kernel15Ideal Cert.Kernel15Ideal.Gen Cert.Product

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem lhs_at (c : Dev nD) (t : Fin cfg0.N) (y : S1024x2048.Idx) (j : S8192x2048.Idx)
    (h0 : (j 0).val = t.val * 1024 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S2048x2048.Idx) (j : S2048x2048.Idx)
    (h0 : (j 0).val = (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S1024x2048 .bf16) (b : Vec Ideal S2048x2048 .bf16) (r : Fin 1024) (s : Fin 2048) :
    k0_pay1 (F := Ideal) a b (ix2 r s) = inner (fun k => a (ix2 r k)) (fun k => b (ix2 k s)) := by
  pointwise [k0_pay1]
  rfl

/-- The whole product. -/
def product (a : Vec Ideal S8192x2048 .bf16) (b : Vec Ideal S2048x2048 .bf16) : Vec Ideal S8192x2048 .f32 :=
  fun j => inner (fun k : Fin 2048 => a (ix2 (j 0) k)) (fun k => b (ix2 k (j 1)))

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 2048), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val * 1024 + r.val := by
    blk_simp [index_2] <;> omega
  have e1 : ((((cfg0.win 2).blk t).view.emb (ix2 r s) : S8192x2048.Idx) 1).val = s.val := by
    blk_simp [index_2] <;> omega
  generalize (((cfg0.win 2).blk t).view.emb (ix2 r s) : S8192x2048.Idx) = j at e0 e1
  frame_out
  rw [first_at]
  refine inner_congr (fun k => ?_) (fun k => ?_)
  · exact lhs_at m c t _ _ (by show (j 0).val = t.val * 1024 + r.val; omega) rfl
  · exact rhs_at m c t _ _ rfl (by show (j 1).val = s.val; omega)

/-! ## The reference -/

/-- The reference's result is the same sum. -/
theorem reference_eq (a : Vec Ideal S8192x2048 .bf16) (b : Vec Ideal S2048x2048 .bf16) :
    Cert.Reference15Ideal.Read.val_main_v2 (F := Ideal) a b = product a b := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference15Ideal.Read.val_main_v2 (F := Ideal) a b (ix2 r s) = inner (fun k : Fin 2048 => a (ix2 r k)) (fun k => b (ix2 k s))
  rw [← Cert.Reference15Ideal.Read.val_main_v2_eq]
  pointwise
  rfl

theorem algebraic : Cert.algebraic_Kernel15Ideal_Reference15Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference15Ideal.defs _ _).mono (fun r h c => ⟨(h c).1.trans ?_, (h c).2⟩) (Cert.Reference15Ideal.Value.run m' g')
    obtain ⟨e0, e1⟩ := hargs c
    exact (congrArg₂ _ e0 e1).trans (reference_eq _ _)

end Cert.MixOut

end
-- ==== Proof.MergeFwd.lean ====
module

public import proofs.«01_k».proof.Defs
public import proofs.«01_k».proof.Proof.Product
public import proofs.«01_k».proof.Proof.Gen.Kernel16Ideal.Value
public import proofs.«01_k».proof.Proof.Gen.Reference16Ideal.Read
public import Idealize.ShloMosaic.Lib.Pipeline.ValueKit.Acc
public import Idealize.ShloMosaic.Lib.Pipeline.ValueKit.Geometry

/-!
# The branch projections and their gated merge

Grid point `t` multiplies a block of rows of branch `t % 3` with a block of columns of its weights. It writes the product
and adds the product times its gate's logistic to the accumulator, which the first of three points sets and the last writes
out as a block of the merged activation.
-/

@[expose] public section

noncomputable section

open Idealize.ShloMosaic Idealize.ShloMosaic.TcCoe Idealize.SL.Sem

namespace Cert.MergeFwd

open Cert.Kernel16Ideal Cert.Kernel16Ideal.Gen Cert.Product

variable (m : (ℓ : Loc nD τ sig) → Buf (Elt Ideal) ℓ)

/-! ## Where the blocks lie -/

theorem index_0 : ∀ t : Fin cfg0.N, win0_0.index t = ![t.val % 3, t.val / 6, 0] := (by decide +kernel : ∀ t : Fin grid0.N, _)
theorem index_1 : ∀ t : Fin cfg0.N, win0_1.index t = ![t.val % 3, 0, t.val / 3 % 2] := (by decide +kernel : ∀ t : Fin grid0.N, _)
theorem index_2 : ∀ t : Fin cfg0.N, win0_2.index t = ![t.val / 6, 6 + t.val % 3 * 2 + t.val / 3 % 2] :=
  (by decide +kernel : ∀ t : Fin grid0.N, _)
theorem index_3 : ∀ t : Fin cfg0.N, win0_3.index t = ![t.val % 3, t.val / 6, t.val / 3 % 2] :=
  (by decide +kernel : ∀ t : Fin grid0.N, _)
theorem index_4 : ∀ t : Fin cfg0.N, win0_4.index t = ![t.val / 6, t.val / 3 % 2] := (by decide +kernel : ∀ t : Fin grid0.N, _)
theorem flush_4 : ∀ t : Fin cfg0.N, win0_4.flush t = true → t.val % 3 = 2 := (by decide +kernel : ∀ t : Fin grid0.N, _)

theorem branch_at (c : Dev nD) (t : Fin cfg0.N) (y : S1x1024x1024.Idx) (j : S3x8192x1024.Idx)
    (h0 : (j 0).val = t.val % 3) (h1 : (j 1).val = t.val / 6 * 1024 + (y 1).val) (h2 : (j 2).val = (y 2).val) :
    iblk m c 0 t y = m ((c : Thread nD τ).loc main_arg0) j := by
  blk_simp [iblk, index_0]
  show m ((c : Thread nD τ).loc main_arg0) _ = _
  congr 1
  blk_ext [index_0]

theorem weight_at (c : Dev nD) (t : Fin cfg0.N) (y : S1x1024x1024.Idx) (j : S3x1024x2048.Idx)
    (h0 : (j 0).val = t.val % 3) (h1 : (j 1).val = (y 1).val) (h2 : (j 2).val = t.val / 3 % 2 * 1024 + (y 2).val) :
    iblk m c 1 t y = m ((c : Thread nD τ).loc main_arg1) j := by
  blk_simp [iblk, index_1]
  show m ((c : Thread nD τ).loc main_arg1) _ = _
  congr 1
  blk_ext [index_1]

theorem gate_at (c : Dev nD) (t : Fin cfg0.N) (y : S1024x1024.Idx) (j : S8192x12288.Idx)
    (h0 : (j 0).val = t.val / 6 * 1024 + (y 0).val)
    (h1 : (j 1).val = (6 + t.val % 3 * 2 + t.val / 3 % 2) * 1024 + (y 1).val) :
    iblk m c 2 t y = m ((c : Thread nD τ).loc main_arg2) j := by
  blk_simp [iblk, index_2]
  show m ((c : Thread nD τ).loc main_arg2) _ = _
  congr 1
  blk_ext [index_2]

/-! ## What a point computes -/

theorem product_at (a b : Vec Ideal S1x1024x1024 .bf16) (r s : Fin 1024) :
    k0_pay1 (F := Ideal) a b (ix2 r s) = inner (fun k => a (ix3 0 r k)) (fun k => b (ix3 0 k s)) := by
  pointwise [k0_pay1]
  rfl

theorem y_at (a b : Vec Ideal S1x1024x1024 .bf16) (u : Fin 1) (r s : Fin 1024) :
    k0_pay2 (F := Ideal) a b (ix3 u r s) = inner (fun k => a (ix3 0 r k)) (fun k => b (ix3 0 k s)) := by
  pointwise [k0_pay2, k0_pay1]
  rfl

theorem gated_at (a b : Vec Ideal S1x1024x1024 .bf16) (g : Vec Ideal S1024x1024 .f32) (r s : Fin 1024) :
    k0_pay4 (F := Ideal) a b g (ix2 r s)
      = Ideal.logistic (g (ix2 r s)) * inner (fun k => a (ix3 0 r k)) (fun k => b (ix3 0 k s)) := by
  pointwise [k0_pay4, k0_pay3, k0_pay1]
  rfl

theorem next_at (a b : Vec Ideal S1x1024x1024 .bf16) (g x : Vec Ideal S1024x1024 .f32) (r s : Fin 1024) :
    k0_pay5 (F := Ideal) a b g x (ix2 r s)
      = x (ix2 r s) + Ideal.logistic (g (ix2 r s)) * inner (fun k => a (ix3 0 r k)) (fun k => b (ix3 0 k s)) := by
  pointwise [k0_pay5, k0_pay3, k0_pay1]
  rfl

theorem last_at (x : Vec Ideal S1024x1024 .f32) (r s : Fin 1024) : k0_pay6 (F := Ideal) x (ix2 r s) = x (ix2 r s) := by
  pointwise [k0_pay6]

/-- The accumulator after the first point of a group. -/
theorem acc_first (c : Dev nD) (t : Fin cfg0.N) (h : t.val % 3 = 0) : (outsAt0 m c t.val t.isLt).2.2
    = k0_pay4 (F := Ideal) (iblk m c 0 t) (iblk m c 1 t) (iblk m c 2 t) := by
  rw [outsAt0_A m c t h (by omega) (by omega)]
  frame_out

/-- The accumulator after the second. -/
theorem acc_next (c : Dev nD) (t : Fin cfg0.N) (h : t.val % 3 = 1) : (outsAt0 m c t.val t.isLt).2.2
    = k0_pay5 (F := Ideal) (iblk m c 0 t) (iblk m c 1 t) (iblk m c 2 t)
      (outsAt0 m c (t.val - 1) (Nat.lt_of_le_of_lt (Nat.sub_le _ _) t.isLt)).2.2 := by
  rw [outsAt0_B m c t (by omega) (by omega) (by omega)]
  frame_out
  try rw [(Memref.isWhole_whole _).read_unread]

/-- What the last writes out. -/
theorem out_last (c : Dev nD) (t : Fin cfg0.N) (h : t.val % 3 = 2) : (outsAt0 m c t.val t.isLt).2.1
    = k0_pay6 (F := Ideal) (k0_pay5 (F := Ideal) (iblk m c 0 t) (iblk m c 1 t) (iblk m c 2 t)
      (outsAt0 m c (t.val - 1) (Nat.lt_of_le_of_lt (Nat.sub_le _ _) t.isLt)).2.2) := by
  rw [outsAt0_C m c t (by omega) (by omega) h]
  frame_out
  try rw [(Memref.isWhole_whole _).read_unread]

/-- The product that a point writes. -/
theorem out_y (c : Dev nD) (t : Fin cfg0.N) :
    (outsAt0 m c t.val t.isLt).1 = k0_pay2 (F := Ideal) (iblk m c 0 t) (iblk m c 1 t) := by
  have h : t.val % 3 = 0 ∨ t.val % 3 = 1 ∨ t.val % 3 = 2 := by omega
  rcases h with h | h | h
  · rw [outsAt0_A m c t h (by omega) (by omega)]
    frame_out
  · rw [outsAt0_B m c t (by omega) (by omega) (by omega)]
    frame_out
  · rw [outsAt0_C m c t (by omega) (by omega) h]
    frame_out

/-! ## The whole arrays -/

/-- One element of a branch's projection. -/
def branch (a : Vec Ideal S3x8192x1024 .bf16) (w : Vec Ideal S3x1024x2048 .bf16) (u : Fin 3) (r : Fin 8192) (s : Fin 2048) : EReal :=
  inner (fun k : Fin 1024 => a (ix3 u r k)) (fun k => w (ix3 u k s))

/-- The gate of a branch. -/
def gate (p : Vec Ideal S8192x12288 .f32) (u : Fin 3) (r : Fin 8192) (s : Fin 2048) : EReal :=
  Ideal.logistic (p (ix2 r ⟨6144 + u.val * 2048 + s.val, by omega⟩))

/-- The three projections. -/
def branches (a : Vec Ideal S3x8192x1024 .bf16) (w : Vec Ideal S3x1024x2048 .bf16) : Vec Ideal S3x8192x2048 .bf16 :=
  fun j => branch a w (j 0) (j 1) (j 2)

/-- Their merge. -/
def merged (a : Vec Ideal S3x8192x1024 .bf16) (w : Vec Ideal S3x1024x2048 .bf16) (p : Vec Ideal S8192x12288 .f32) :
    Vec Ideal S8192x2048 .bf16 :=
  fun j => gate p 0 (j 0) (j 1) * branch a w 0 (j 0) (j 1) + gate p 1 (j 0) (j 1) * branch a w 1 (j 0) (j 1)
    + gate p 2 (j 0) (j 1) * branch a w 2 (j 0) (j 1)

/-- A block product is a branch's element. -/
theorem inner_branch (c : Dev nD) (t : Fin cfg0.N) (r s : Fin 1024) (u : Fin 3) (i : Fin 8192) (j : Fin 2048)
    (hu : u.val = t.val % 3) (hi : i.val = t.val / 6 * 1024 + r.val) (hj : j.val = t.val / 3 % 2 * 1024 + s.val) :
    inner (fun k : Fin 1024 => (iblk m c 0 t : Vec Ideal S1x1024x1024 .bf16) (ix3 0 r k))
      (fun k => (iblk m c 1 t : Vec Ideal S1x1024x1024 .bf16) (ix3 0 k s))
      = branch (m ((c : Thread nD τ).loc main_arg0)) (m ((c : Thread nD τ).loc main_arg1)) u i j :=
  inner_congr (fun k => branch_at m c t _ _ hu hi rfl) (fun k => weight_at m c t _ _ hu rfl hj)

theorem gate_block (c : Dev nD) (t : Fin cfg0.N) (r s : Fin 1024) (u : Fin 3) (i : Fin 8192) (j : Fin 2048)
    (hu : u.val = t.val % 3) (hi : i.val = t.val / 6 * 1024 + r.val) (hj : j.val = t.val / 3 % 2 * 1024 + s.val) :
    Ideal.logistic ((iblk m c 2 t : Vec Ideal S1024x1024 .f32) (ix2 r s)) = gate (m ((c : Thread nD τ).loc main_arg2)) u i j :=
  congrArg Ideal.logistic (gate_at m c t _ _ hi (by
    show 6144 + u.val * 2048 + j.val = (6 + t.val % 3 * 2 + t.val / 3 % 2) * 1024 + s.val
    omega))

theorem final_y (c : Dev nD) : (dats m 0 c).arrAt 3 cfg0.N
    = branches (m ((c : Thread nD τ).loc main_arg0)) (m ((c : Thread nD τ).loc main_arg1)) := by
  refine (dats m 0 c).arrAt_eq_of_covers 3 _ (by decide +kernel) fun t hf y => ?_
  have hN : cfg0.N = 48 := N_0
  have htN := t.isLt
  blk_simp
  rw [after0_3]
  obtain ⟨u, r, s, rfl⟩ : ∃ (u : Fin 1) (r : Fin 1024) (s : Fin 1024), y = ix3 u r s := ⟨y 0, y 1, y 2, by
    funext a
    match a with
    | ⟨0, _⟩ => rfl
    | ⟨1, _⟩ => rfl
    | ⟨2, _⟩ => rfl⟩
  have e0 : ((((cfg0.win 3).blk t).view.emb (ix3 u r s) : S3x8192x2048.Idx) 0).val = t.val % 3 := by
    blk_simp [index_3] <;> omega
  have e1 : ((((cfg0.win 3).blk t).view.emb (ix3 u r s) : S3x8192x2048.Idx) 1).val = t.val / 6 * 1024 + r.val := by
    blk_simp [index_3] <;> omega
  have e2 : ((((cfg0.win 3).blk t).view.emb (ix3 u r s) : S3x8192x2048.Idx) 2).val = t.val / 3 % 2 * 1024 + s.val := by
    blk_simp [index_3] <;> omega
  generalize (((cfg0.win 3).blk t).view.emb (ix3 u r s) : S3x8192x2048.Idx) = j at e0 e1 e2
  rw [out_y, y_at]
  exact inner_branch m c t r s (j 0) (j 1) (j 2) e0 e1 e2

theorem final_merged (c : Dev nD) : (dats m 0 c).arrAt 4 cfg0.N = merged (m ((c : Thread nD τ).loc main_arg0))
    (m ((c : Thread nD τ).loc main_arg1)) (m ((c : Thread nD τ).loc main_arg2)) := by
  refine (dats m 0 c).arrAt_eq_of_covers 4 _ (by decide +kernel) fun t hf y => ?_
  have ht := flush_4 t hf
  have hN : cfg0.N = 48 := N_0
  have htN := t.isLt
  blk_simp
  rw [after0_4]
  obtain ⟨r, s, rfl⟩ : ∃ r s : Fin 1024, y = ix2 r s := ⟨y 0, y 1, by
    funext a
    match a with
    | ⟨0, _⟩ => rfl
    | ⟨1, _⟩ => rfl⟩
  have e0 : ((((cfg0.win 4).blk t).view.emb (ix2 r s) : S8192x2048.Idx) 0).val = t.val / 6 * 1024 + r.val := by
    blk_simp [index_4] <;> omega
  have e1 : ((((cfg0.win 4).blk t).view.emb (ix2 r s) : S8192x2048.Idx) 1).val = t.val / 3 % 2 * 1024 + s.val := by
    blk_simp [index_4] <;> omega
  generalize (((cfg0.win 4).blk t).view.emb (ix2 r s) : S8192x2048.Idx) = j at e0 e1
  rw [out_last m c t ht, last_at, next_at, acc_next m c ⟨t.val - 1, by omega⟩ (by show (t.val - 1) % 3 = 1; omega), next_at,
    acc_first m c ⟨t.val - 1 - 1, by omega⟩ (by show (t.val - 1 - 1) % 3 = 0; omega), gated_at]
  have hb := fun (n : ℕ) (hn : n < cfg0.N) (u : Fin 3) (hu : u.val = n % 3) (h6 : n / 6 = t.val / 6) (h3 : n / 3 = t.val / 3) =>
    congrArg₂ (fun x y : EReal => x * y)
      (gate_block m c ⟨n, hn⟩ r s u (j 0) (j 1) hu (by show _ = n / 6 * 1024 + _; rw [h6]; exact e0) (by show _ = n / 3 % 2 * 1024 + _; rw [h3]; exact e1))
      (inner_branch m c ⟨n, hn⟩ r s u (j 0) (j 1) hu (by show _ = n / 6 * 1024 + _; rw [h6]; exact e0) (by show _ = n / 3 % 2 * 1024 + _; rw [h3]; exact e1))
  refine congrArg₂ (fun x y : EReal => x + y) (congrArg₂ (fun x y : EReal => x + y) ?_ ?_) ?_
  · exact hb (t.val - 1 - 1) (by omega) 0 (by show 0 = _; omega) (by omega) (by omega)
  · exact hb (t.val - 1) (by omega) 1 (by show 1 = _; omega) (by omega) (by omega)
  · exact hb t.val (by omega) 2 (by show 2 = _; omega) rfl rfl

/-! ## The reference -/

section
open Cert.Reference16Ideal.Read

theorem reference_0 (a : Vec Ideal S3x8192x1024 .bf16) (w : Vec Ideal S3x1024x2048 .bf16) (r : Fin 8192) (s : Fin 2048) :
    val_main_v6 (F := Ideal) a w (ix2 r s) = branch a w 0 r s := by
  pointwise [val_main_v0, val_main_v1, val_main_v2, val_main_v3, val_main_v4, val_main_v5, val_main_v6]
  rfl

theorem reference_1 (a : Vec Ideal S3x8192x1024 .bf16) (w : Vec Ideal S3x1024x2048 .bf16) (r : Fin 8192) (s : Fin 2048) :
    val_main_v13 (F := Ideal) a w (ix2 r s) = branch a w 1 r s := by
  pointwise [val_main_v7, val_main_v8, val_main_v9, val_main_v10, val_main_v11, val_main_v12, val_main_v13]
  rfl

theorem reference_2 (a : Vec Ideal S3x8192x1024 .bf16) (w : Vec Ideal S3x1024x2048 .bf16) (r : Fin 8192) (s : Fin 2048) :
    val_main_v20 (F := Ideal) a w (ix2 r s) = branch a w 2 r s := by
  pointwise [val_main_v14, val_main_v15, val_main_v16, val_main_v17, val_main_v18, val_main_v19, val_main_v20]
  rfl

/-- The logistic function of a gate's column. -/
theorem reference_logistic (p : Vec Ideal S8192x12288 .f32) (r : Fin 8192) (q : Fin 6144) :
    val_main_v27 (F := Ideal) p (ix2 r q) = Ideal.logistic (p (ix2 r ⟨6144 + q.val, by omega⟩)) := by
  pointwise [val_main_v21, val_main_v22, val_main_v23, val_main_v24, val_main_v25, val_main_v26, val_main_v27, val_main_cst, val_main_cst_0]
  try rfl

/-- The gates are cut into three. -/
theorem reference_split (p : Vec Ideal S8192x12288 .f32) (r : Fin 8192) (u : Fin 3) (s : Fin 2048) :
    val_main_v28 (F := Ideal) p (ix3 r u s) = gate p u r s := by
  have e : val_main_v28 (F := Ideal) p (ix3 r u s) = val_main_v27 (F := Ideal) p (ix2 r ⟨u.val * 2048 + s.val, by omega⟩) := by
    unfold val_main_v28
    generalize val_main_v27 (F := Ideal) p = z
    fin_cases u
    all_goals pointwise
    all_goals refine congrArg (fun k => z (ix2 r k)) (Fin.ext ?_)
    all_goals simp
  rw [e, reference_logistic]
  unfold gate
  refine congrArg (fun k => Ideal.logistic (p (ix2 r k))) (Fin.ext ?_)
  show 6144 + (u.val * 2048 + s.val) = 6144 + u.val * 2048 + s.val
  omega

theorem reference_gate_0 (p : Vec Ideal S8192x12288 .f32) (r : Fin 8192) (s : Fin 2048) :
    val_main_v30 (F := Ideal) p (ix2 r s) = gate p 0 r s := by
  rw [← reference_split]
  unfold val_main_v30 val_main_v29
  generalize val_main_v28 (F := Ideal) p = z
  pointwise

theorem reference_gate_1 (p : Vec Ideal S8192x12288 .f32) (r : Fin 8192) (s : Fin 2048) :
    val_main_v33 (F := Ideal) p (ix2 r s) = gate p 1 r s := by
  rw [← reference_split]
  unfold val_main_v33 val_main_v32
  generalize val_main_v28 (F := Ideal) p = z
  pointwise

theorem reference_gate_2 (p : Vec Ideal S8192x12288 .f32) (r : Fin 8192) (s : Fin 2048) :
    val_main_v37 (F := Ideal) p (ix2 r s) = gate p 2 r s := by
  rw [← reference_split]
  unfold val_main_v37 val_main_v36
  generalize val_main_v28 (F := Ideal) p = z
  pointwise

theorem reference_merged (a : Vec Ideal S3x8192x1024 .bf16) (w : Vec Ideal S3x1024x2048 .bf16) (p : Vec Ideal S8192x12288 .f32) :
    val_main_v45 (F := Ideal) a w p = merged a w p := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show val_main_v30 (F := Ideal) p (ix2 r s) * val_main_v6 (F := Ideal) a w (ix2 r s)
    + val_main_v33 (F := Ideal) p (ix2 r s) * val_main_v13 (F := Ideal) a w (ix2 r s)
    + val_main_v37 (F := Ideal) p (ix2 r s) * val_main_v20 (F := Ideal) a w (ix2 r s) = _
  rw [reference_0, reference_1, reference_2, reference_gate_0, reference_gate_1, reference_gate_2]
  rfl

theorem reference_y (a : Vec Ideal S3x8192x1024 .bf16) (w : Vec Ideal S3x1024x2048 .bf16) :
    val_main_v44 (F := Ideal) a w = branches a w := by
  funext j
  obtain ⟨u, r, s, rfl⟩ : ∃ (u : Fin 3) (r : Fin 8192) (s : Fin 2048), j = ix3 u r s := ⟨j 0, j 1, j 2, by
    funext a
    match a with
    | ⟨0, _⟩ => rfl
    | ⟨1, _⟩ => rfl
    | ⟨2, _⟩ => rfl⟩
  rw [← val_main_v44_eq]
  fin_cases u
  all_goals pointwise
  all_goals rfl

end

theorem algebraic : Cert.algebraic_Kernel16Ideal_Reference16Ideal := by
  intro m g m' g' _ hargs
  refine ⟨fun c => branches (m ((c : Thread nD τ).loc main_arg0)) (m ((c : Thread nD τ).loc main_arg1)),
    fun c => merged (m ((c : Thread nD τ).loc main_arg0)) (m ((c : Thread nD τ).loc main_arg1)) (m ((c : Thread nD τ).loc main_arg2)), ?_, ?_⟩
  · exact (θ_run defs _ _).mono (fun r h c => ⟨((h c).1 3).trans (final_y m c), ((h c).1 4).trans (final_merged m c),
      Value.kept_main_arg0 m r h c, Value.kept_main_arg1 m r h c, Value.kept_main_arg2 m r h c, Value.kept_main_arg3 m r h c⟩)
      (run_main m g)
  · refine (θ_run Cert.Reference16Ideal.defs _ _).mono (fun r h c => ⟨(h c).1.trans ?_, (h c).2.1.trans ?_, (h c).2.2⟩)
      (Cert.Reference16Ideal.Value.run m' g')
    · obtain ⟨e0, e1, e2, e3⟩ := hargs c
      exact (congrArg₂ _ e0 e1).trans (reference_y _ _)
    · obtain ⟨e0, e1, e2, e3⟩ := hargs c
      exact (congr (congrArg₂ _ e0 e1) e2).trans (reference_merged _ _ _)

end Cert.MergeFwd

end
-- ==== Proof.Adam.lean ====
module

public import Idealize.ShloMosaic.Lib.Pointwise

/-!
# One step of AdamW, at one element

The gradient `g` moves the two moments `m` and `v`, and the weight's step is made of them with their bias taken out. The
constants are the binary fractions that the program carries.
-/

@[expose] public section

noncomputable section

namespace Cert.Adam

open Idealize.ShloMosaic

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The step of the weight. -/
def step (g w m v : EReal) : EReal :=
  Ideal.ofBits .f32 0xBA83126F#32
    * (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Adam

end
-- ==== Proof.AdamSmall.lean ====
module

public import proofs.«01_k».proof.Defs
public import proofs.«01_k».proof.Proof.Adam
public import proofs.«01_k».proof.Proof.Gen.Kernel20Ideal.Value
public import proofs.«01_k».proof.Proof.Gen.Reference20Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the gains and biases, packed into rows

One grid point holds the arrays whole, and writes the gradient, the step and the two moments.
-/

@[expose] public section

noncomputable section

open scoped BigOperators
open Idealize.ShloMosaic Idealize.ShloMosaic.TcCoe Idealize.SL.Sem

namespace Cert.AdamSmall

open Cert.Kernel20Ideal Cert.Kernel20Ideal.Gen Cert.Adam

variable (m : (ℓ : Loc nD τ sig) → Buf (Elt Ideal) ℓ)

/-! ## Where the blocks lie -/

theorem index_0 : ∀ t : Fin cfg0.N, win0_0.index t = ![0, 0, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0, 0] := (by decide +kernel : ∀ t : Fin grid0.N, _)

theorem grad_at (c : Dev nD) (t : Fin cfg0.N) (i : Fin 64) (s : Fin 1024) :
    iblk m c 0 t (ix3 0 i s) = m ((c : Thread nD τ).loc main_arg0) (ix3 0 i s) := by
  blk_simp [iblk, index_0]
  show m ((c : Thread nD τ).loc main_arg0) _ = _
  congr 1
  blk_ext [index_0]

theorem weight_at (c : Dev nD) (t : Fin cfg0.N) (i : Fin 64) (s : Fin 1024) :
    iblk m c 1 t (ix3 0 i s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (i : Fin 64) (s : Fin 1024) :
    iblk m c 2 t (ix3 0 i s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (i : Fin 64) (s : Fin 1024) :
    iblk m c 3 t (ix3 0 i s) = m ((c : Thread nD τ).loc main_arg3) (ix3 0 i s) := by
  blk_simp [iblk, index_3]
  show m ((c : Thread nD τ).loc main_arg3) _ = _
  congr 1
  blk_ext [index_3]

/-! ## What the point computes -/

theorem out_grad (c : Dev nD) (t : Fin cfg0.N) (u : Fin 1) (i : Fin 64) (s : Fin 1024) : (outsAt0 m c t).1 (ix3 u i s)
    = (iblk m c 0 t : Vec Ideal S1x64x1024 .f32) (ix3 0 i s) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_step (c : Dev nD) (t : Fin cfg0.N) (u : Fin 1) (i : Fin 64) (s : Fin 1024) : (outsAt0 m c t).2.1 (ix3 u i s)
    = step ((iblk m c 0 t : Vec Ideal S1x64x1024 .f32) (ix3 0 i s)) ((iblk m c 1 t : Vec Ideal S1x64x1024 .f32) (ix3 0 i s)) ((iblk m c 2 t : Vec Ideal S1x64x1024 .f32) (ix3 0 i s)) ((iblk m c 3 t : Vec Ideal S1x64x1024 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_first (c : Dev nD) (t : Fin cfg0.N) (u : Fin 1) (i : Fin 64) (s : Fin 1024) : (outsAt0 m c t).2.2.1 (ix3 u i s)
    = Adam.first ((iblk m c 0 t : Vec Ideal S1x64x1024 .f32) (ix3 0 i s)) ((iblk m c 2 t : Vec Ideal S1x64x1024 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_second (c : Dev nD) (t : Fin cfg0.N) (u : Fin 1) (i : Fin 64) (s : Fin 1024) : (outsAt0 m c t).2.2.2 (ix3 u i s)
    = Adam.second ((iblk m c 0 t : Vec Ideal S1x64x1024 .f32) (ix3 0 i s)) ((iblk m c 3 t : Vec Ideal S1x64x1024 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

/-- The step. -/
def stepArr (g w m v : Vec Ideal S1x64x1024 .f32) : Vec Ideal S1x64x1024 .f32 := fun j => step (g j) (w j) (m j) (v j)

/-- The first moment. -/
def firstArr (g m : Vec Ideal S1x64x1024 .f32) : Vec Ideal S1x64x1024 .f32 := fun j => Adam.first (g j) (m j)

/-- The second moment. -/
def secondArr (g v : Vec Ideal S1x64x1024 .f32) : Vec Ideal S1x64x1024 .f32 := fun j => Adam.second (g j) (v j)

theorem final_grad (c : Dev nD) : (dats m 0 c).arrAt 4 cfg0.N = m ((c : Thread nD τ).loc main_arg0) := by
  refine (dats m 0 c).arrAt_eq_of_covers 4 _ (by decide +kernel) fun t hf y => ?_
  blk_simp
  rw [after0_4]
  obtain ⟨u, i, s, rfl⟩ : ∃ (u : Fin 1) (i : Fin 64) (s : Fin 1024), y = ix3 u i s := ⟨y 0, y 1, y 2, by
    funext a
    match a with
    | ⟨0, _⟩ => rfl
    | ⟨1, _⟩ => rfl
    | ⟨2, _⟩ => rfl⟩
  have e : (((cfg0.win 4).blk t).view.emb (ix3 u i s) : S1x64x1024.Idx) = ix3 0 i s := by
    blk_ext [index_4]
  rw [e, out_grad, grad_at m c t i s]

theorem final_step (c : Dev nD) : (dats m 0 c).arrAt 5 cfg0.N = stepArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨u, i, s, rfl⟩ : ∃ (u : Fin 1) (i : Fin 64) (s : Fin 1024), y = ix3 u i s := ⟨y 0, y 1, y 2, by
    funext a
    match a with
    | ⟨0, _⟩ => rfl
    | ⟨1, _⟩ => rfl
    | ⟨2, _⟩ => rfl⟩
  have e : (((cfg0.win 5).blk t).view.emb (ix3 u i s) : S1x64x1024.Idx) = ix3 0 i s := by
    blk_ext [index_5]
  rw [e, out_step, grad_at m c t i s, weight_at m c t i s, first_at m c t i s, second_at m c t i s]
  rfl

theorem final_first (c : Dev nD) : (dats m 0 c).arrAt 6 cfg0.N = firstArr (m ((c : Thread nD τ).loc main_arg0)) (m ((c : Thread nD τ).loc main_arg2)) := by
  refine (dats m 0 c).arrAt_eq_of_covers 6 _ (by decide +kernel) fun t hf y => ?_
  blk_simp
  rw [after0_6]
  obtain ⟨u, i, s, rfl⟩ : ∃ (u : Fin 1) (i : Fin 64) (s : Fin 1024), y = ix3 u i s := ⟨y 0, y 1, y 2, by
    funext a
    match a with
    | ⟨0, _⟩ => rfl
    | ⟨1, _⟩ => rfl
    | ⟨2, _⟩ => rfl⟩
  have e : (((cfg0.win 6).blk t).view.emb (ix3 u i s) : S1x64x1024.Idx) = ix3 0 i s := by
    blk_ext [index_6]
  rw [e, out_first, grad_at m c t i s, first_at m c t i s]
  rfl

theorem final_second (c : Dev nD) : (dats m 0 c).arrAt 7 cfg0.N = secondArr (m ((c : Thread nD τ).loc main_arg0)) (m ((c : Thread nD τ).loc main_arg3)) := by
  refine (dats m 0 c).arrAt_eq_of_covers 7 _ (by decide +kernel) fun t hf y => ?_
  blk_simp
  rw [after0_7]
  obtain ⟨u, i, s, rfl⟩ : ∃ (u : Fin 1) (i : Fin 64) (s : Fin 1024), y = ix3 u i s := ⟨y 0, y 1, y 2, by
    funext a
    match a with
    | ⟨0, _⟩ => rfl
    | ⟨1, _⟩ => rfl
    | ⟨2, _⟩ => rfl⟩
  have e : (((cfg0.win 7).blk t).view.emb (ix3 u i s) : S1x64x1024.Idx) = ix3 0 i s := by
    blk_ext [index_7]
  rw [e, out_second, grad_at m c t i s, second_at m c t i s]
  rfl

/-! ## The reference -/

section
open Cert.Reference20Ideal.Read

variable (g w m v : Vec Ideal S1x64x1024 .f32)

theorem reference_stepArr : val_main_v23 (F := Ideal) g w m v = stepArr g w m v := by
  funext j
  obtain ⟨u, i, s, rfl⟩ : ∃ (u : Fin 1) (i : Fin 64) (s : Fin 1024), j = ix3 u i s := ⟨j 0, j 1, j 2, by
    funext a
    match a with
    | ⟨0, _⟩ => rfl
    | ⟨1, _⟩ => rfl
    | ⟨2, _⟩ => rfl⟩
  rw [← val_main_v23_eq]
  pointwise
  try rfl

theorem reference_firstArr : val_main_v4 (F := Ideal) g m = firstArr g m := by
  funext j
  obtain ⟨u, i, s, rfl⟩ : ∃ (u : Fin 1) (i : Fin 64) (s : Fin 1024), j = ix3 u i s := ⟨j 0, j 1, j 2, by
    funext a
    match a with
    | ⟨0, _⟩ => rfl
    | ⟨1, _⟩ => rfl
    | ⟨2, _⟩ => rfl⟩
  rw [← val_main_v4_eq]
  pointwise
  try rfl

theorem reference_secondArr : val_main_v10 (F := Ideal) g v = secondArr g v := by
  funext j
  obtain ⟨u, i, s, rfl⟩ : ∃ (u : Fin 1) (i : Fin 64) (s : Fin 1024), j = ix3 u i s := ⟨j 0, j 1, j 2, by
    funext a
    match a with
    | ⟨0, _⟩ => rfl
    | ⟨1, _⟩ => rfl
    | ⟨2, _⟩ => rfl⟩
  rw [← val_main_v10_eq]
  pointwise
  try rfl

end

theorem algebraic : Cert.algebraic_Kernel20Ideal_Reference20Ideal := by
  intro m g m' g' _ hargs
  refine ⟨fun c => m ((c : Thread nD τ).loc main_arg0),
    fun c => stepArr (m ((c : Thread nD τ).loc main_arg0)) (m ((c : Thread nD τ).loc main_arg1)) (m ((c : Thread nD τ).loc main_arg2)) (m ((c : Thread nD τ).loc main_arg3)),
    fun c => firstArr (m ((c : Thread nD τ).loc main_arg0)) (m ((c : Thread nD τ).loc main_arg2)),
    fun c => secondArr (m ((c : Thread nD τ).loc main_arg0)) (m ((c : Thread nD τ).loc main_arg3)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference20Ideal.defs _ _).mono (fun r h c => ⟨?_, ?_, ?_, ?_, (h c).2.2.2.2⟩)
      (Cert.Reference20Ideal.Value.run m' g')
    all_goals obtain ⟨e0, e1, e2, e3, e4, e5, e6, e7, e8⟩ := hargs c
    · exact (h c).1.trans e0
    · rw [(h c).2.1, e0, e1, e2, e3]
      exact reference_stepArr _ _ _ _
    · rw [(h c).2.2.1, e0, e2]
      exact reference_firstArr _ _
    · rw [(h c).2.2.2.1, e0, e3]
      exact reference_secondArr _ _

end Cert.AdamSmall

end
-- ==== Proof.AdamConvA.lean ====
module

public import proofs.«01_k».proof.Defs
public import proofs.«01_k».proof.Proof.Adam
public import proofs.«01_k».proof.Proof.Gen.Kernel21Ideal.Value
public import proofs.«01_k».proof.Proof.Gen.Reference21Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the taps of the first convolution

One grid point holds the arrays whole, and writes the gradient, the step and the two moments.
-/

@[expose] public section

noncomputable section

open scoped BigOperators
open Idealize.ShloMosaic Idealize.ShloMosaic.TcCoe Idealize.SL.Sem

namespace Cert.AdamConvA

open Cert.Kernel21Ideal Cert.Kernel21Ideal.Gen Cert.Adam

variable (m : (ℓ : Loc nD τ sig) → Buf (Elt Ideal) ℓ)

/-! ## Where the blocks lie -/

theorem index_0 : ∀ t : Fin cfg0.N, win0_0.index t = ![0, 0, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0, 0] := (by decide +kernel : ∀ t : Fin grid0.N, _)

theorem grad_at (c : Dev nD) (t : Fin cfg0.N) (i : Fin 124) (s : Fin 128) :
    iblk m c 0 t (ix3 0 i s) = m ((c : Thread nD τ).loc main_arg0) (ix3 0 i s) := by
  blk_simp [iblk, index_0]
  show m ((c : Thread nD τ).loc main_arg0) _ = _
  congr 1
  blk_ext [index_0]

theorem weight_at (c : Dev nD) (t : Fin cfg0.N) (i : Fin 124) (s : Fin 128) :
    iblk m c 1 t (ix3 0 i s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (i : Fin 124) (s : Fin 128) :
    iblk m c 2 t (ix3 0 i s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (i : Fin 124) (s : Fin 128) :
    iblk m c 3 t (ix3 0 i s) = m ((c : Thread nD τ).loc main_arg3) (ix3 0 i s) := by
  blk_simp [iblk, index_3]
  show m ((c : Thread nD τ).loc main_arg3) _ = _
  congr 1
  blk_ext [index_3]

/-! ## What the point computes -/

theorem out_grad (c : Dev nD) (t : Fin cfg0.N) (u : Fin 1) (i : Fin 124) (s : Fin 128) : (outsAt0 m c t).1 (ix3 u i s)
    = (iblk m c 0 t : Vec Ideal S1x124x128 .f32) (ix3 0 i s) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_step (c : Dev nD) (t : Fin cfg0.N) (u : Fin 1) (i : Fin 124) (s : Fin 128) : (outsAt0 m c t).2.1 (ix3 u i s)
    = step ((iblk m c 0 t : Vec Ideal S1x124x128 .f32) (ix3 0 i s)) ((iblk m c 1 t : Vec Ideal S1x124x128 .f32) (ix3 0 i s)) ((iblk m c 2 t : Vec Ideal S1x124x128 .f32) (ix3 0 i s)) ((iblk m c 3 t : Vec Ideal S1x124x128 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_first (c : Dev nD) (t : Fin cfg0.N) (u : Fin 1) (i : Fin 124) (s : Fin 128) : (outsAt0 m c t).2.2.1 (ix3 u i s)
    = Adam.first ((iblk m c 0 t : Vec Ideal S1x124x128 .f32) (ix3 0 i s)) ((iblk m c 2 t : Vec Ideal S1x124x128 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_second (c : Dev nD) (t : Fin cfg0.N) (u : Fin 1) (i : Fin 124) (s : Fin 128) : (outsAt0 m c t).2.2.2 (ix3 u i s)
    = Adam.second ((iblk m c 0 t : Vec Ideal S1x124x128 .f32) (ix3 0 i s)) ((iblk m c 3 t : Vec Ideal S1x124x128 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

/-- The step. -/
def stepArr (g w m v : Vec Ideal S1x124x128 .f32) : Vec Ideal S1x124x128 .f32 := fun j => step (g j) (w j) (m j) (v j)

/-- The first moment. -/
def firstArr (g m : Vec Ideal S1x124x128 .f32) : Vec Ideal S1x124x128 .f32 := fun j => Adam.first (g j) (m j)

/-- The second moment. -/
def secondArr (g v : Vec Ideal S1x124x128 .f32) : Vec Ideal S1x124x128 .f32 := fun j => Adam.second (g j) (v j)

theorem final_grad (c : Dev nD) : (dats m 0 c).arrAt 4 cfg0.N = m ((c : Thread nD τ).loc main_arg0) := by
  refine (dats m 0 c).arrAt_eq_of_covers 4 _ (by decide +kernel) fun t hf y => ?_
  blk_simp
  rw [after0_4]
  obtain ⟨u, i, s, rfl⟩ : ∃ (u : Fin 1) (i : Fin 124) (s : Fin 128), y = ix3 u i s := ⟨y 0, y 1, y 2, by
    funext a
    match a with
    | ⟨0, _⟩ => rfl
    | ⟨1, _⟩ => rfl
    | ⟨2, _⟩ => rfl⟩
  have e : (((cfg0.win 4).blk t).view.emb (ix3 u i s) : S1x124x128.Idx) = ix3 0 i s := by
    blk_ext [index_4]
  rw [e, out_grad, grad_at m c t i s]

theorem final_step (c : Dev nD) : (dats m 0 c).arrAt 5 cfg0.N = stepArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨u, i, s, rfl⟩ : ∃ (u : Fin 1) (i : Fin 124) (s : Fin 128), y = ix3 u i s := ⟨y 0, y 1, y 2, by
    funext a
    match a with
    | ⟨0, _⟩ => rfl
    | ⟨1, _⟩ => rfl
    | ⟨2, _⟩ => rfl⟩
  have e : (((cfg0.win 5).blk t).view.emb (ix3 u i s) : S1x124x128.Idx) = ix3 0 i s := by
    blk_ext [index_5]
  rw [e, out_step, grad_at m c t i s, weight_at m c t i s, first_at m c t i s, second_at m c t i s]
  rfl

theorem final_first (c : Dev nD) : (dats m 0 c).arrAt 6 cfg0.N = firstArr (m ((c : Thread nD τ).loc main_arg0)) (m ((c : Thread nD τ).loc main_arg2)) := by
  refine (dats m 0 c).arrAt_eq_of_covers 6 _ (by decide +kernel) fun t hf y => ?_
  blk_simp
  rw [after0_6]
  obtain ⟨u, i, s, rfl⟩ : ∃ (u : Fin 1) (i : Fin 124) (s : Fin 128), y = ix3 u i s := ⟨y 0, y 1, y 2, by
    funext a
    match a with
    | ⟨0, _⟩ => rfl
    | ⟨1, _⟩ => rfl
    | ⟨2, _⟩ => rfl⟩
  have e : (((cfg0.win 6).blk t).view.emb (ix3 u i s) : S1x124x128.Idx) = ix3 0 i s := by
    blk_ext [index_6]
  rw [e, out_first, grad_at m c t i s, first_at m c t i s]
  rfl

theorem final_second (c : Dev nD) : (dats m 0 c).arrAt 7 cfg0.N = secondArr (m ((c : Thread nD τ).loc main_arg0)) (m ((c : Thread nD τ).loc main_arg3)) := by
  refine (dats m 0 c).arrAt_eq_of_covers 7 _ (by decide +kernel) fun t hf y => ?_
  blk_simp
  rw [after0_7]
  obtain ⟨u, i, s, rfl⟩ : ∃ (u : Fin 1) (i : Fin 124) (s : Fin 128), y = ix3 u i s := ⟨y 0, y 1, y 2, by
    funext a
    match a with
    | ⟨0, _⟩ => rfl
    | ⟨1, _⟩ => rfl
    | ⟨2, _⟩ => rfl⟩
  have e : (((cfg0.win 7).blk t).view.emb (ix3 u i s) : S1x124x128.Idx) = ix3 0 i s := by
    blk_ext [index_7]
  rw [e, out_second, grad_at m c t i s, second_at m c t i s]
  rfl

/-! ## The reference -/

section
open Cert.Reference21Ideal.Read

variable (g w m v : Vec Ideal S1x124x128 .f32)

theorem reference_stepArr : val_main_v23 (F := Ideal) g w m v = stepArr g w m v := by
  funext j
  obtain ⟨u, i, s, rfl⟩ : ∃ (u : Fin 1) (i : Fin 124) (s : Fin 128), j = ix3 u i s := ⟨j 0, j 1, j 2, by
    funext a
    match a with
    | ⟨0, _⟩ => rfl
    | ⟨1, _⟩ => rfl
    | ⟨2, _⟩ => rfl⟩
  rw [← val_main_v23_eq]
  pointwise
  try rfl

theorem reference_firstArr : val_main_v4 (F := Ideal) g m = firstArr g m := by
  funext j
  obtain ⟨u, i, s, rfl⟩ : ∃ (u : Fin 1) (i : Fin 124) (s : Fin 128), j = ix3 u i s := ⟨j 0, j 1, j 2, by
    funext a
    match a with
    | ⟨0, _⟩ => rfl
    | ⟨1, _⟩ => rfl
    | ⟨2, _⟩ => rfl⟩
  rw [← val_main_v4_eq]
  pointwise
  try rfl

theorem reference_secondArr : val_main_v10 (F := Ideal) g v = secondArr g v := by
  funext j
  obtain ⟨u, i, s, rfl⟩ : ∃ (u : Fin 1) (i : Fin 124) (s : Fin 128), j = ix3 u i s := ⟨j 0, j 1, j 2, by
    funext a
    match a with
    | ⟨0, _⟩ => rfl
    | ⟨1, _⟩ => rfl
    | ⟨2, _⟩ => rfl⟩
  rw [← val_main_v10_eq]
  pointwise
  try rfl

end

theorem algebraic : Cert.algebraic_Kernel21Ideal_Reference21Ideal := by
  intro m g m' g' _ hargs
  refine ⟨fun c => m ((c : Thread nD τ).loc main_arg0),
    fun c => stepArr (m ((c : Thread nD τ).loc main_arg0)) (m ((c : Thread nD τ).loc main_arg1)) (m ((c : Thread nD τ).loc main_arg2)) (m ((c : Thread nD τ).loc main_arg3)),
    fun c => firstArr (m ((c : Thread nD τ).loc main_arg0)) (m ((c : Thread nD τ).loc main_arg2)),
    fun c => secondArr (m ((c : Thread nD τ).loc main_arg0)) (m ((c : Thread nD τ).loc main_arg3)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference21Ideal.defs _ _).mono (fun r h c => ⟨?_, ?_, ?_, ?_, (h c).2.2.2.2⟩)
      (Cert.Reference21Ideal.Value.run m' g')
    all_goals obtain ⟨e0, e1, e2, e3, e4, e5, e6, e7, e8⟩ := hargs c
    · exact (h c).1.trans e0
    · rw [(h c).2.1, e0, e1, e2, e3]
      exact reference_stepArr _ _ _ _
    · rw [(h c).2.2.1, e0, e2]
      exact reference_firstArr _ _
    · rw [(h c).2.2.2.1, e0, e3]
      exact reference_secondArr _ _

end Cert.AdamConvA

end
-- ==== Proof.AdamConvB.lean ====
module

public import proofs.«01_k».proof.Defs
public import proofs.«01_k».proof.Proof.Adam
public import proofs.«01_k».proof.Proof.Gen.Kernel22Ideal.Value
public import proofs.«01_k».proof.Proof.Gen.Reference22Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the taps of the second convolution

One grid point holds the arrays whole, and writes the gradient, the step and the two moments.
-/

@[expose] public section

noncomputable section

open scoped BigOperators
open Idealize.ShloMosaic Idealize.ShloMosaic.TcCoe Idealize.SL.Sem

namespace Cert.AdamConvB

open Cert.Kernel22Ideal Cert.Kernel22Ideal.Gen Cert.Adam

variable (m : (ℓ : Loc nD τ sig) → Buf (Elt Ideal) ℓ)

/-! ## Where the blocks lie -/

theorem index_0 : ∀ t : Fin cfg0.N, win0_0.index t = ![0, 0, 0] := (by decide +kernel : ∀ t : Fin grid0.N, _)
theorem index_1 : ∀ t : Fin cfg0.N, win0_1.index t = ![0, 0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0, 0] := (by decide +kernel : ∀ t : Fin grid0.N, _)

theorem grad_at (c : Dev nD) (t : Fin cfg0.N) (i : Fin 12) (s : Fin 128) :
    iblk m c 0 t (ix3 0 i s) = m ((c : Thread nD τ).loc main_arg0) (ix3 0 i s) := by
  blk_simp [iblk, index_0]
  show m ((c : Thread nD τ).loc main_arg0) _ = _
  congr 1
  blk_ext [index_0]

theorem weight_at (c : Dev nD) (t : Fin cfg0.N) (i : Fin 12) (s : Fin 128) :
    iblk m c 1 t (ix3 0 i s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (i : Fin 12) (s : Fin 128) :
    iblk m c 2 t (ix3 0 i s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (i : Fin 12) (s : Fin 128) :
    iblk m c 3 t (ix3 0 i s) = m ((c : Thread nD τ).loc main_arg3) (ix3 0 i s) := by
  blk_simp [iblk, index_3]
  show m ((c : Thread nD τ).loc main_arg3) _ = _
  congr 1
  blk_ext [index_3]

/-! ## What the point computes -/

theorem out_grad (c : Dev nD) (t : Fin cfg0.N) (u : Fin 1) (i : Fin 12) (s : Fin 128) : (outsAt0 m c t).1 (ix3 u i s)
    = (iblk m c 0 t : Vec Ideal S1x12x128 .f32) (ix3 0 i s) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_step (c : Dev nD) (t : Fin cfg0.N) (u : Fin 1) (i : Fin 12) (s : Fin 128) : (outsAt0 m c t).2.1 (ix3 u i s)
    = step ((iblk m c 0 t : Vec Ideal S1x12x128 .f32) (ix3 0 i s)) ((iblk m c 1 t : Vec Ideal S1x12x128 .f32) (ix3 0 i s)) ((iblk m c 2 t : Vec Ideal S1x12x128 .f32) (ix3 0 i s)) ((iblk m c 3 t : Vec Ideal S1x12x128 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_first (c : Dev nD) (t : Fin cfg0.N) (u : Fin 1) (i : Fin 12) (s : Fin 128) : (outsAt0 m c t).2.2.1 (ix3 u i s)
    = Adam.first ((iblk m c 0 t : Vec Ideal S1x12x128 .f32) (ix3 0 i s)) ((iblk m c 2 t : Vec Ideal S1x12x128 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

theorem out_second (c : Dev nD) (t : Fin cfg0.N) (u : Fin 1) (i : Fin 12) (s : Fin 128) : (outsAt0 m c t).2.2.2 (ix3 u i s)
    = Adam.second ((iblk m c 0 t : Vec Ideal S1x12x128 .f32) (ix3 0 i s)) ((iblk m c 3 t : Vec Ideal S1x12x128 .f32) (ix3 0 i s)) := by
  obtain rfl : u = 0 := Subsingleton.elim _ _
  unfold outsAt0
  frame_out
  pointwise [k0_pay1, k0_pay2, k0_pay3, k0_pay4, k0_pay5, k0_pay6, k0_pay7, k0_pay8, k0_pay9]
  try rfl

/-- The step. -/
def stepArr (g w m v : Vec Ideal S1x12x128 .f32) : Vec Ideal S1x12x128 .f32 := fun j => step (g j) (w j) (m j) (v j)

/-- The first moment. -/
def firstArr (g m : Vec Ideal S1x12x128 .f32) : Vec Ideal S1x12x128 .f32 := fun j => Adam.first (g j) (m j)

/-- The second moment. -/
def secondArr (g v : Vec Ideal S1x12x128 .f32) : Vec Ideal S1x12x128 .f32 := fun j => Adam.second (g j) (v j)

theorem final_grad (c : Dev nD) : (dats m 0 c).arrAt 4 cfg0.N = m ((c : Thread nD τ).loc main_arg0) := by
  refine (dats m 0 c).arrAt_eq_of_covers 4 _ (by decide +kernel) fun t hf y => ?_
  blk_simp
  rw [after0_4]
  obtain ⟨u, i, s, rfl⟩ : ∃ (u : Fin 1) (i : Fin 12) (s : Fin 128), y = ix3 u i s := ⟨y 0, y 1, y 2, by
    funext a
    match a with
    | ⟨0, _⟩ => rfl
    | ⟨1, _⟩ => rfl
    | ⟨2, _⟩ => rfl⟩
  have e : (((cfg0.win 4).blk t).view.emb (ix3 u i s) : S1x12x128.Idx) = ix3 0 i s := by
    blk_ext [index_4]
  rw [e, out_grad, grad_at m c t i s]

theorem final_step (c : Dev nD) : (dats m 0 c).arrAt 5 cfg0.N = stepArr (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨u, i, s, rfl⟩ : ∃ (u : Fin 1) (i : Fin 12) (s : Fin 128), y = ix3 u i s := ⟨y 0, y 1, y 2, by
    funext a
    match a with
    | ⟨0, _⟩ => rfl
    | ⟨1, _⟩ => rfl
    | ⟨2, _⟩ => rfl⟩
  have e : (((cfg0.win 5).blk t).view.emb (ix3 u i s) : S1x12x128.Idx) = ix3 0 i s := by
    blk_ext [index_5]
  rw [e, out_step, grad_at m c t i s, weight_at m c t i s, first_at m c t i s, second_at m c t i s]
  rfl

theorem final_first (c : Dev nD) : (dats m 0 c).arrAt 6 cfg0.N = firstArr (m ((c : Thread nD τ).loc main_arg0)) (m ((c : Thread nD τ).loc main_arg2)) := by
  refine (dats m 0 c).arrAt_eq_of_covers 6 _ (by decide +kernel) fun t hf y => ?_
  blk_simp
  rw [after0_6]
  obtain ⟨u, i, s, rfl⟩ : ∃ (u : Fin 1) (i : Fin 12) (s : Fin 128), y = ix3 u i s := ⟨y 0, y 1, y 2, by
    funext a
    match a with
    | ⟨0, _⟩ => rfl
    | ⟨1, _⟩ => rfl
    | ⟨2, _⟩ => rfl⟩
  have e : (((cfg0.win 6).blk t).view.emb (ix3 u i s) : S1x12x128.Idx) = ix3 0 i s := by
    blk_ext [index_6]
  rw [e, out_first, grad_at m c t i s, first_at m c t i s]
  rfl

theorem final_second (c : Dev nD) : (dats m 0 c).arrAt 7 cfg0.N = secondArr (m ((c : Thread nD τ).loc main_arg0)) (m ((c : Thread nD τ).loc main_arg3)) := by
  refine (dats m 0 c).arrAt_eq_of_covers 7 _ (by decide +kernel) fun t hf y => ?_
  blk_simp
  rw [after0_7]
  obtain ⟨u, i, s, rfl⟩ : ∃ (u : Fin 1) (i : Fin 12) (s : Fin 128), y = ix3 u i s := ⟨y 0, y 1, y 2, by
    funext a
    match a with
    | ⟨0, _⟩ => rfl
    | ⟨1, _⟩ => rfl
    | ⟨2, _⟩ => rfl⟩
  have e : (((cfg0.win 7).blk t).view.emb (ix3 u i s) : S1x12x128.Idx) = ix3 0 i s := by
    blk_ext [index_7]
  rw [e, out_second, grad_at m c t i s, second_at m c t i s]
  rfl

/-! ## The reference -/

section
open Cert.Reference22Ideal.Read

variable (g w m v : Vec Ideal S1x12x128 .f32)

theorem reference_stepArr : val_main_v23 (F := Ideal) g w m v = stepArr g w m v := by
  funext j
  obtain ⟨u, i, s, rfl⟩ : ∃ (u : Fin 1) (i : Fin 12) (s : Fin 128), j = ix3 u i s := ⟨j 0, j 1, j 2, by
    funext a
    match a with
    | ⟨0, _⟩ => rfl
    | ⟨1, _⟩ => rfl
    | ⟨2, _⟩ => rfl⟩
  rw [← val_main_v23_eq]
  pointwise
  try rfl

theorem reference_firstArr : val_main_v4 (F := Ideal) g m = firstArr g m := by
  funext j
  obtain ⟨u, i, s, rfl⟩ : ∃ (u : Fin 1) (i : Fin 12) (s : Fin 128), j = ix3 u i s := ⟨j 0, j 1, j 2, by
    funext a
    match a with
    | ⟨0, _⟩ => rfl
    | ⟨1, _⟩ => rfl
    | ⟨2, _⟩ => rfl⟩
  rw [← val_main_v4_eq]
  pointwise
  try rfl

theorem reference_secondArr : val_main_v10 (F := Ideal) g v = secondArr g v := by
  funext j
  obtain ⟨u, i, s, rfl⟩ : ∃ (u : Fin 1) (i : Fin 12) (s : Fin 128), j = ix3 u i s := ⟨j 0, j 1, j 2, by
    funext a
    match a with
    | ⟨0, _⟩ => rfl
    | ⟨1, _⟩ => rfl
    | ⟨2, _⟩ => rfl⟩
  rw [← val_main_v10_eq]
  pointwise
  try rfl

end

theorem algebraic : Cert.algebraic_Kernel22Ideal_Reference22Ideal := by
  intro m g m' g' _ hargs
  refine ⟨fun c => m ((c : Thread nD τ).loc main_arg0),
    fun c => stepArr (m ((c : Thread nD τ).loc main_arg0)) (m ((c : Thread nD τ).loc main_arg1)) (m ((c : Thread nD τ).loc main_arg2)) (m ((c : Thread nD τ).loc main_arg3)),
    fun c => firstArr (m ((c : Thread nD τ).loc main_arg0)) (m ((c : Thread nD τ).loc main_arg2)),
    fun c => secondArr (m ((c : Thread nD τ).loc main_arg0)) (m ((c : Thread nD τ).loc main_arg3)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference22Ideal.defs _ _).mono (fun r h c => ⟨?_, ?_, ?_, ?_, (h c).2.2.2.2⟩)
      (Cert.Reference22Ideal.Value.run m' g')
    all_goals obtain ⟨e0, e1, e2, e3, e4, e5, e6, e7, e8⟩ := hargs c
    · exact (h c).1.trans e0
    · rw [(h c).2.1, e0, e1, e2, e3]
      exact reference_stepArr _ _ _ _
    · rw [(h c).2.2.1, e0, e2]
      exact reference_firstArr _ _
    · rw [(h c).2.2.2.1, e0, e3]
      exact reference_secondArr _ _

end Cert.AdamConvB

end
-- ==== Proof.AdamWIn.lean ====
module

public import proofs.«01_k».proof.Defs
public import proofs.«01_k».proof.Proof.Adam
public import proofs.«01_k».proof.Proof.Gen.Kernel23Ideal.Value
public import proofs.«01_k».proof.Proof.Gen.Reference23Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the input projection's weights

Each grid point takes 256 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWIn

open Cert.Kernel23Ideal Cert.Kernel23Ideal.Gen Cert.Adam

variable (m : (ℓ : Loc nD τ sig) → Buf (Elt Ideal) ℓ)

/-! ## Where the blocks lie -/

theorem index_0 : ∀ t : Fin cfg0.N, win0_0.index t = ![0, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 256) (i : Fin 2048) (s : Fin 1536) (h : i.val = t.val * 256 + r.val) :
    iblk m c 0 t (ix3 k r s) = m ((c : Thread nD τ).loc main_arg0) (ix3 k i s) := by
  blk_simp [iblk, index_0]
  show m ((c : Thread nD τ).loc main_arg0) _ = _
  congr 1
  blk_ext [index_0]

theorem weight_at (c : Dev nD) (t : Fin cfg0.N) (r : Fin 256) (i : Fin 2048) (s : Fin 1536) (h : i.val = t.val * 256 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 256) (i : Fin 2048) (s : Fin 1536) (h : i.val = t.val * 256 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 256) (i : Fin 2048) (s : Fin 1536) (h : i.val = t.val * 256 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x2048x1536 .bf16) (i : Fin 2048) (s : Fin 1536) : EReal := ∑ k : Fin 8, p (ix3 k i s)

/-- The same sum over a block. -/
def blockSum (p : Vec Ideal S8x256x1536 .bf16) (r : Fin 256) (s : Fin 1536) : EReal := ∑ k : Fin 8, p (ix3 k r s)

theorem sum_at (c : Dev nD) (t : Fin cfg0.N) (r : Fin 256) (i : Fin 2048) (s : Fin 1536) (h : i.val = t.val * 256 + r.val) :
    blockSum (iblk m c 0 t) r s = grad (m ((c : Thread nD τ).loc main_arg0)) i s :=
  Finset.sum_congr rfl fun k _ => parts_at m c t k r i s h

theorem out_grad (c : Dev nD) (t : Fin cfg0.N) (u : Fin 1) (r : Fin 256) (s : Fin 1536) : (outsAt0 m c t).1 (ix3 u r s)
    = (blockSum (iblk m c 0 t) r s) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_step (c : Dev nD) (t : Fin cfg0.N) (u : Fin 1) (r : Fin 256) (s : Fin 1536) : (outsAt0 m c t).2.1 (ix3 u r s)
    = step (blockSum (iblk m c 0 t) r s) ((iblk m c 1 t : Vec Ideal S1x256x1536 .f32) (ix3 0 r s)) ((iblk m c 2 t : Vec Ideal S1x256x1536 .f32) (ix3 0 r s)) ((iblk m c 3 t : Vec Ideal S1x256x1536 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_first (c : Dev nD) (t : Fin cfg0.N) (u : Fin 1) (r : Fin 256) (s : Fin 1536) : (outsAt0 m c t).2.2.1 (ix3 u r s)
    = Adam.first (blockSum (iblk m c 0 t) r s) ((iblk m c 2 t : Vec Ideal S1x256x1536 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_second (c : Dev nD) (t : Fin cfg0.N) (u : Fin 1) (r : Fin 256) (s : Fin 1536) : (outsAt0 m c t).2.2.2 (ix3 u r s)
    = Adam.second (blockSum (iblk m c 0 t) r s) ((iblk m c 3 t : Vec Ideal S1x256x1536 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

/-! ## The whole arrays -/

/-- Layer 0 is `f`, and the other layers are those of `prev`. -/
def layer (f : Fin 2048 → Fin 1536 → EReal) (prev : Vec Ideal S4x2048x1536 .f32) : Vec Ideal S4x2048x1536 .f32 :=
  fun j => if (j 0).val / 1 = 0 then f (j 1) (j 2) else prev j

/-- The new gradient. -/
def gradArr (p : Vec Ideal S8x2048x1536 .bf16) (g : Vec Ideal S4x2048x1536 .f32) : Vec Ideal S4x2048x1536 .f32 :=
  layer (fun i s => grad p i s) g

/-- The step. -/
def stepArr (p : Vec Ideal S8x2048x1536 .bf16) (w : Vec Ideal S4x2048x1536 .f32) (m : Vec Ideal S4x2048x1536 .f32) (v : Vec Ideal S4x2048x1536 .f32) (d : Vec Ideal S4x2048x1536 .f32) : Vec Ideal S4x2048x1536 .f32 :=
  layer (fun i s => step (grad p i s) (w (ix3 0 i s)) (m (ix3 0 i s)) (v (ix3 0 i s))) d

/-- The first moment. -/
def firstArr (p : Vec Ideal S8x2048x1536 .bf16) (m : Vec Ideal S4x2048x1536 .f32) (a : Vec Ideal S4x2048x1536 .f32) : Vec Ideal S4x2048x1536 .f32 :=
  layer (fun i s => Adam.first (grad p i s) (m (ix3 0 i s))) a

/-- The second moment. -/
def secondArr (p : Vec Ideal S8x2048x1536 .bf16) (v : Vec Ideal S4x2048x1536 .f32) (b : Vec Ideal S4x2048x1536 .f32) : Vec Ideal S4x2048x1536 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 256) (s : Fin 1536), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x2048x1536.Idx) 1).val = t.val * 256 + r.val := by
    blk_simp [index_4] <;> omega
  have e2 : ((((cfg0.win 4).blk t).view.emb (ix3 u r s) : S4x2048x1536.Idx) 2) = s := by
    apply Fin.ext
    blk_simp [index_4] <;> omega
  generalize (((cfg0.win 4).blk t).view.emb (ix3 u r s) : S4x2048x1536.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 256) (s : Fin 1536), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x2048x1536.Idx) 1).val = t.val * 256 + r.val := by
    blk_simp [index_5] <;> omega
  have e2 : ((((cfg0.win 5).blk t).view.emb (ix3 u r s) : S4x2048x1536.Idx) 2) = s := by
    apply Fin.ext
    blk_simp [index_5] <;> omega
  generalize (((cfg0.win 5).blk t).view.emb (ix3 u r s) : S4x2048x1536.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 256) (s : Fin 1536), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x2048x1536.Idx) 1).val = t.val * 256 + r.val := by
    blk_simp [index_6] <;> omega
  have e2 : ((((cfg0.win 6).blk t).view.emb (ix3 u r s) : S4x2048x1536.Idx) 2) = s := by
    apply Fin.ext
    blk_simp [index_6] <;> omega
  generalize (((cfg0.win 6).blk t).view.emb (ix3 u r s) : S4x2048x1536.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 256) (s : Fin 1536), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x2048x1536.Idx) 1).val = t.val * 256 + r.val := by
    blk_simp [index_7] <;> omega
  have e2 : ((((cfg0.win 7).blk t).view.emb (ix3 u r s) : S4x2048x1536.Idx) 2) = s := by
    apply Fin.ext
    blk_simp [index_7] <;> omega
  generalize (((cfg0.win 7).blk t).view.emb (ix3 u r s) : S4x2048x1536.Idx) = j at e1 e2
  rw [e2, out_second]
  generalize j 1 = i at e1
  rw [sum_at m c t r i s e1, second_at m c t r i s e1]

/-! ## The reference -/

section
open Cert.Reference23Ideal.Read

variable (p : Vec Ideal S8x2048x1536 .bf16) (w m v g d a b : Vec Ideal S4x2048x1536 .f32)

theorem reference_sum (i : Fin 2048) (s : Fin 1536) : val_main_v1 (F := Ideal) p (ix2 i s) = grad p i s := by
  pointwise [val_main_v0, val_main_v1, val_main_cst]
  rfl

theorem reference_step_at (i : Fin 2048) (s : Fin 1536) : val_main_v31 (F := Ideal) p w m v (ix2 i s)
    = step (grad p i s) (w (ix3 0 i s)) (m (ix3 0 i s)) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_first_at (i : Fin 2048) (s : Fin 1536) : val_main_v12 (F := Ideal) p m (ix2 i s)
    = Adam.first (grad p i s) (m (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_second_at (i : Fin 2048) (s : Fin 1536) : val_main_v18 (F := Ideal) p v (ix2 i s)
    = Adam.second (grad p i s) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x2048x1536 .f32) (f : Fin 2048 → Fin 1536 → EReal) (prev : Vec Ideal S4x2048x1536 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 2048) (s : Fin 1536), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v34 (F := Ideal) p g = gradArr p g := by
  refine layer_ext _ _ _ (fun i s => ?_) (fun i s => ?_) (fun i s => ?_) (fun i s => ?_)
  · refine Eq.trans ?_ (reference_sum p i s)
    unfold val_main_v34 val_main_v32 val_main_v33
    generalize val_main_v1 (F := Ideal) p = z
    pointwise
  all_goals
    unfold val_main_v34 val_main_v32 val_main_v33
    generalize val_main_v1 (F := Ideal) p = z
    pointwise

theorem reference_stepArr : val_main_v37 (F := Ideal) p w m v d = stepArr p w m v d := by
  refine layer_ext _ _ _ (fun i s => ?_) (fun i s => ?_) (fun i s => ?_) (fun i s => ?_)
  · refine Eq.trans ?_ (reference_step_at p w m v i s)
    unfold val_main_v37 val_main_v35 val_main_v36
    generalize val_main_v31 (F := Ideal) p w m v = z
    pointwise
  all_goals
    unfold val_main_v37 val_main_v35 val_main_v36
    generalize val_main_v31 (F := Ideal) p w m v = z
    pointwise

theorem reference_firstArr : val_main_v40 (F := Ideal) p m a = firstArr p m a := by
  refine layer_ext _ _ _ (fun i s => ?_) (fun i s => ?_) (fun i s => ?_) (fun i s => ?_)
  · refine Eq.trans ?_ (reference_first_at p m i s)
    unfold val_main_v40 val_main_v38 val_main_v39
    generalize val_main_v12 (F := Ideal) p m = z
    pointwise
  all_goals
    unfold val_main_v40 val_main_v38 val_main_v39
    generalize val_main_v12 (F := Ideal) p m = z
    pointwise

theorem reference_secondArr : val_main_v43 (F := Ideal) p v b = secondArr p v b := by
  refine layer_ext _ _ _ (fun i s => ?_) (fun i s => ?_) (fun i s => ?_) (fun i s => ?_)
  · refine Eq.trans ?_ (reference_second_at p v i s)
    unfold val_main_v43 val_main_v41 val_main_v42
    generalize val_main_v18 (F := Ideal) p v = z
    pointwise
  all_goals
    unfold val_main_v43 val_main_v41 val_main_v42
    generalize val_main_v18 (F := Ideal) p v = z
    pointwise

end

theorem algebraic : Cert.algebraic_Kernel23Ideal_Reference23Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference23Ideal.defs _ _).mono (fun r h c => ⟨?_, ?_, ?_, ?_, (h c).2.2.2.2⟩)
      (Cert.Reference23Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWIn

end
-- ==== Proof.AdamWKv.lean ====
module

public import proofs.«01_k».proof.Defs
public import proofs.«01_k».proof.Proof.Adam
public import proofs.«01_k».proof.Proof.Gen.Kernel24Ideal.Value
public import proofs.«01_k».proof.Proof.Gen.Reference24Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the key and value projection's weights, and of the output projection's, which have the same shape

Each grid point takes 256 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWKv

open Cert.Kernel24Ideal Cert.Kernel24Ideal.Gen Cert.Adam

variable (m : (ℓ : Loc nD τ sig) → Buf (Elt Ideal) ℓ)

/-! ## Where the blocks lie -/

theorem index_0 : ∀ t : Fin cfg0.N, win0_0.index t = ![0, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 256) (i : Fin 256) (s : Fin 2048) (h : i.val = t.val * 256 + r.val) :
    iblk m c 0 t (ix3 k r s) = m ((c : Thread nD τ).loc main_arg0) (ix3 k i s) := by
  blk_simp [iblk, index_0]
  show m ((c : Thread nD τ).loc main_arg0) _ = _
  congr 1
  blk_ext [index_0]

theorem weight_at (c : Dev nD) (t : Fin cfg0.N) (r : Fin 256) (i : Fin 256) (s : Fin 2048) (h : i.val = t.val * 256 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 256) (i : Fin 256) (s : Fin 2048) (h : i.val = t.val * 256 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 256) (i : Fin 256) (s : Fin 2048) (h : i.val = t.val * 256 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x256x2048 .bf16) (i : Fin 256) (s : Fin 2048) : EReal := ∑ k : Fin 8, p (ix3 k i s)

/-- The same sum over a block. -/
def blockSum (p : Vec Ideal S8x256x2048 .bf16) (r : Fin 256) (s : Fin 2048) : EReal := ∑ k : Fin 8, p (ix3 k r s)

theorem sum_at (c : Dev nD) (t : Fin cfg0.N) (r : Fin 256) (i : Fin 256) (s : Fin 2048) (h : i.val = t.val * 256 + r.val) :
    blockSum (iblk m c 0 t) r s = grad (m ((c : Thread nD τ).loc main_arg0)) i s :=
  Finset.sum_congr rfl fun k _ => parts_at m c t k r i s h

theorem out_grad (c : Dev nD) (t : Fin cfg0.N) (u : Fin 1) (r : Fin 256) (s : Fin 2048) : (outsAt0 m c t).1 (ix3 u r s)
    = (blockSum (iblk m c 0 t) r s) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_step (c : Dev nD) (t : Fin cfg0.N) (u : Fin 1) (r : Fin 256) (s : Fin 2048) : (outsAt0 m c t).2.1 (ix3 u r s)
    = step (blockSum (iblk m c 0 t) r s) ((iblk m c 1 t : Vec Ideal S1x256x2048 .f32) (ix3 0 r s)) ((iblk m c 2 t : Vec Ideal S1x256x2048 .f32) (ix3 0 r s)) ((iblk m c 3 t : Vec Ideal S1x256x2048 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_first (c : Dev nD) (t : Fin cfg0.N) (u : Fin 1) (r : Fin 256) (s : Fin 2048) : (outsAt0 m c t).2.2.1 (ix3 u r s)
    = Adam.first (blockSum (iblk m c 0 t) r s) ((iblk m c 2 t : Vec Ideal S1x256x2048 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_second (c : Dev nD) (t : Fin cfg0.N) (u : Fin 1) (r : Fin 256) (s : Fin 2048) : (outsAt0 m c t).2.2.2 (ix3 u r s)
    = Adam.second (blockSum (iblk m c 0 t) r s) ((iblk m c 3 t : Vec Ideal S1x256x2048 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

/-! ## The whole arrays -/

/-- Layer 0 is `f`, and the other layers are those of `prev`. -/
def layer (f : Fin 256 → Fin 2048 → EReal) (prev : Vec Ideal S4x256x2048 .f32) : Vec Ideal S4x256x2048 .f32 :=
  fun j => if (j 0).val / 1 = 0 then f (j 1) (j 2) else prev j

/-- The new gradient. -/
def gradArr (p : Vec Ideal S8x256x2048 .bf16) (g : Vec Ideal S4x256x2048 .f32) : Vec Ideal S4x256x2048 .f32 :=
  layer (fun i s => grad p i s) g

/-- The step. -/
def stepArr (p : Vec Ideal S8x256x2048 .bf16) (w : Vec Ideal S4x256x2048 .f32) (m : Vec Ideal S4x256x2048 .f32) (v : Vec Ideal S4x256x2048 .f32) (d : Vec Ideal S4x256x2048 .f32) : Vec Ideal S4x256x2048 .f32 :=
  layer (fun i s => step (grad p i s) (w (ix3 0 i s)) (m (ix3 0 i s)) (v (ix3 0 i s))) d

/-- The first moment. -/
def firstArr (p : Vec Ideal S8x256x2048 .bf16) (m : Vec Ideal S4x256x2048 .f32) (a : Vec Ideal S4x256x2048 .f32) : Vec Ideal S4x256x2048 .f32 :=
  layer (fun i s => Adam.first (grad p i s) (m (ix3 0 i s))) a

/-- The second moment. -/
def secondArr (p : Vec Ideal S8x256x2048 .bf16) (v : Vec Ideal S4x256x2048 .f32) (b : Vec Ideal S4x256x2048 .f32) : Vec Ideal S4x256x2048 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x256x2048.Idx) 1).val = t.val * 256 + r.val := by
    blk_simp [index_4] <;> omega
  have e2 : ((((cfg0.win 4).blk t).view.emb (ix3 u r s) : S4x256x2048.Idx) 2) = s := by
    apply Fin.ext
    blk_simp [index_4] <;> omega
  generalize (((cfg0.win 4).blk t).view.emb (ix3 u r s) : S4x256x2048.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x256x2048.Idx) 1).val = t.val * 256 + r.val := by
    blk_simp [index_5] <;> omega
  have e2 : ((((cfg0.win 5).blk t).view.emb (ix3 u r s) : S4x256x2048.Idx) 2) = s := by
    apply Fin.ext
    blk_simp [index_5] <;> omega
  generalize (((cfg0.win 5).blk t).view.emb (ix3 u r s) : S4x256x2048.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x256x2048.Idx) 1).val = t.val * 256 + r.val := by
    blk_simp [index_6] <;> omega
  have e2 : ((((cfg0.win 6).blk t).view.emb (ix3 u r s) : S4x256x2048.Idx) 2) = s := by
    apply Fin.ext
    blk_simp [index_6] <;> omega
  generalize (((cfg0.win 6).blk t).view.emb (ix3 u r s) : S4x256x2048.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x256x2048.Idx) 1).val = t.val * 256 + r.val := by
    blk_simp [index_7] <;> omega
  have e2 : ((((cfg0.win 7).blk t).view.emb (ix3 u r s) : S4x256x2048.Idx) 2) = s := by
    apply Fin.ext
    blk_simp [index_7] <;> omega
  generalize (((cfg0.win 7).blk t).view.emb (ix3 u r s) : S4x256x2048.Idx) = j at e1 e2
  rw [e2, out_second]
  generalize j 1 = i at e1
  rw [sum_at m c t r i s e1, second_at m c t r i s e1]

/-! ## The reference -/

section
open Cert.Reference24Ideal.Read

variable (p : Vec Ideal S8x256x2048 .bf16) (w m v g d a b : Vec Ideal S4x256x2048 .f32)

theorem reference_sum (i : Fin 256) (s : Fin 2048) : val_main_v1 (F := Ideal) p (ix2 i s) = grad p i s := by
  pointwise [val_main_v0, val_main_v1, val_main_cst]
  rfl

theorem reference_step_at (i : Fin 256) (s : Fin 2048) : val_main_v31 (F := Ideal) p w m v (ix2 i s)
    = step (grad p i s) (w (ix3 0 i s)) (m (ix3 0 i s)) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_first_at (i : Fin 256) (s : Fin 2048) : val_main_v12 (F := Ideal) p m (ix2 i s)
    = Adam.first (grad p i s) (m (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_second_at (i : Fin 256) (s : Fin 2048) : val_main_v18 (F := Ideal) p v (ix2 i s)
    = Adam.second (grad p i s) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x256x2048 .f32) (f : Fin 256 → Fin 2048 → EReal) (prev : Vec Ideal S4x256x2048 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 256) (s : Fin 2048), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v34 (F := Ideal) p g = gradArr p g := by
  refine layer_ext _ _ _ (fun i s => ?_) (fun i s => ?_) (fun i s => ?_) (fun i s => ?_)
  · refine Eq.trans ?_ (reference_sum p i s)
    unfold val_main_v34 val_main_v32 val_main_v33
    generalize val_main_v1 (F := Ideal) p = z
    pointwise
  all_goals
    unfold val_main_v34 val_main_v32 val_main_v33
    generalize val_main_v1 (F := Ideal) p = z
    pointwise

theorem reference_stepArr : val_main_v37 (F := Ideal) p w m v d = stepArr p w m v d := by
  refine layer_ext _ _ _ (fun i s => ?_) (fun i s => ?_) (fun i s => ?_) (fun i s => ?_)
  · refine Eq.trans ?_ (reference_step_at p w m v i s)
    unfold val_main_v37 val_main_v35 val_main_v36
    generalize val_main_v31 (F := Ideal) p w m v = z
    pointwise
  all_goals
    unfold val_main_v37 val_main_v35 val_main_v36
    generalize val_main_v31 (F := Ideal) p w m v = z
    pointwise

theorem reference_firstArr : val_main_v40 (F := Ideal) p m a = firstArr p m a := by
  refine layer_ext _ _ _ (fun i s => ?_) (fun i s => ?_) (fun i s => ?_) (fun i s => ?_)
  · refine Eq.trans ?_ (reference_first_at p m i s)
    unfold val_main_v40 val_main_v38 val_main_v39
    generalize val_main_v12 (F := Ideal) p m = z
    pointwise
  all_goals
    unfold val_main_v40 val_main_v38 val_main_v39
    generalize val_main_v12 (F := Ideal) p m = z
    pointwise

theorem reference_secondArr : val_main_v43 (F := Ideal) p v b = secondArr p v b := by
  refine layer_ext _ _ _ (fun i s => ?_) (fun i s => ?_) (fun i s => ?_) (fun i s => ?_)
  · refine Eq.trans ?_ (reference_second_at p v i s)
    unfold val_main_v43 val_main_v41 val_main_v42
    generalize val_main_v18 (F := Ideal) p v = z
    pointwise
  all_goals
    unfold val_main_v43 val_main_v41 val_main_v42
    generalize val_main_v18 (F := Ideal) p v = z
    pointwise

end

theorem algebraic : Cert.algebraic_Kernel24Ideal_Reference24Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference24Ideal.defs _ _).mono (fun r h c => ⟨?_, ?_, ?_, ?_, (h c).2.2.2.2⟩)
      (Cert.Reference24Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWKv

end
-- ==== Proof.AdamWUp.lean ====
module

public import proofs.«01_k».proof.Defs
public import proofs.«01_k».proof.Proof.Adam
public import proofs.«01_k».proof.Proof.Gen.Kernel25Ideal.Value
public import proofs.«01_k».proof.Proof.Gen.Reference25Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the up projection's weights

Each grid point takes 512 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWUp

open Cert.Kernel25Ideal Cert.Kernel25Ideal.Gen Cert.Adam

variable (m : (ℓ : Loc nD τ sig) → Buf (Elt Ideal) ℓ)

/-! ## Where the blocks lie -/

theorem index_0 : ∀ t : Fin cfg0.N, win0_0.index t = ![0, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 512) (i : Fin 2048) (s : Fin 1024) (h : i.val = t.val * 512 + r.val) :
    iblk m c 0 t (ix3 k r s) = m ((c : Thread nD τ).loc main_arg0) (ix3 k i s) := by
  blk_simp [iblk, index_0]
  show m ((c : Thread nD τ).loc main_arg0) _ = _
  congr 1
  blk_ext [index_0]

theorem weight_at (c : Dev nD) (t : Fin cfg0.N) (r : Fin 512) (i : Fin 2048) (s : Fin 1024) (h : i.val = t.val * 512 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 512) (i : Fin 2048) (s : Fin 1024) (h : i.val = t.val * 512 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 512) (i : Fin 2048) (s : Fin 1024) (h : i.val = t.val * 512 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x2048x1024 .bf16) (i : Fin 2048) (s : Fin 1024) : EReal := ∑ k : Fin 8, p (ix3 k i s)

/-- The same sum over a block. -/
def blockSum (p : Vec Ideal S8x512x1024 .bf16) (r : Fin 512) (s : Fin 1024) : EReal := ∑ k : Fin 8, p (ix3 k r s)

theorem sum_at (c : Dev nD) (t : Fin cfg0.N) (r : Fin 512) (i : Fin 2048) (s : Fin 1024) (h : i.val = t.val * 512 + r.val) :
    blockSum (iblk m c 0 t) r s = grad (m ((c : Thread nD τ).loc main_arg0)) i s :=
  Finset.sum_congr rfl fun k _ => parts_at m c t k r i s h

theorem out_grad (c : Dev nD) (t : Fin cfg0.N) (u : Fin 1) (r : Fin 512) (s : Fin 1024) : (outsAt0 m c t).1 (ix3 u r s)
    = (blockSum (iblk m c 0 t) r s) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_step (c : Dev nD) (t : Fin cfg0.N) (u : Fin 1) (r : Fin 512) (s : Fin 1024) : (outsAt0 m c t).2.1 (ix3 u r s)
    = step (blockSum (iblk m c 0 t) r s) ((iblk m c 1 t : Vec Ideal S1x512x1024 .f32) (ix3 0 r s)) ((iblk m c 2 t : Vec Ideal S1x512x1024 .f32) (ix3 0 r s)) ((iblk m c 3 t : Vec Ideal S1x512x1024 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_first (c : Dev nD) (t : Fin cfg0.N) (u : Fin 1) (r : Fin 512) (s : Fin 1024) : (outsAt0 m c t).2.2.1 (ix3 u r s)
    = Adam.first (blockSum (iblk m c 0 t) r s) ((iblk m c 2 t : Vec Ideal S1x512x1024 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_second (c : Dev nD) (t : Fin cfg0.N) (u : Fin 1) (r : Fin 512) (s : Fin 1024) : (outsAt0 m c t).2.2.2 (ix3 u r s)
    = Adam.second (blockSum (iblk m c 0 t) r s) ((iblk m c 3 t : Vec Ideal S1x512x1024 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

/-! ## The whole arrays -/

/-- Layer 0 is `f`, and the other layers are those of `prev`. -/
def layer (f : Fin 2048 → Fin 1024 → EReal) (prev : Vec Ideal S4x2048x1024 .f32) : Vec Ideal S4x2048x1024 .f32 :=
  fun j => if (j 0).val / 1 = 0 then f (j 1) (j 2) else prev j

/-- The new gradient. -/
def gradArr (p : Vec Ideal S8x2048x1024 .bf16) (g : Vec Ideal S4x2048x1024 .f32) : Vec Ideal S4x2048x1024 .f32 :=
  layer (fun i s => grad p i s) g

/-- The step. -/
def stepArr (p : Vec Ideal S8x2048x1024 .bf16) (w : Vec Ideal S4x2048x1024 .f32) (m : Vec Ideal S4x2048x1024 .f32) (v : Vec Ideal S4x2048x1024 .f32) (d : Vec Ideal S4x2048x1024 .f32) : Vec Ideal S4x2048x1024 .f32 :=
  layer (fun i s => step (grad p i s) (w (ix3 0 i s)) (m (ix3 0 i s)) (v (ix3 0 i s))) d

/-- The first moment. -/
def firstArr (p : Vec Ideal S8x2048x1024 .bf16) (m : Vec Ideal S4x2048x1024 .f32) (a : Vec Ideal S4x2048x1024 .f32) : Vec Ideal S4x2048x1024 .f32 :=
  layer (fun i s => Adam.first (grad p i s) (m (ix3 0 i s))) a

/-- The second moment. -/
def secondArr (p : Vec Ideal S8x2048x1024 .bf16) (v : Vec Ideal S4x2048x1024 .f32) (b : Vec Ideal S4x2048x1024 .f32) : Vec Ideal S4x2048x1024 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 512) (s : Fin 1024), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x2048x1024.Idx) 1).val = t.val * 512 + r.val := by
    blk_simp [index_4] <;> omega
  have e2 : ((((cfg0.win 4).blk t).view.emb (ix3 u r s) : S4x2048x1024.Idx) 2) = s := by
    apply Fin.ext
    blk_simp [index_4] <;> omega
  generalize (((cfg0.win 4).blk t).view.emb (ix3 u r s) : S4x2048x1024.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 512) (s : Fin 1024), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x2048x1024.Idx) 1).val = t.val * 512 + r.val := by
    blk_simp [index_5] <;> omega
  have e2 : ((((cfg0.win 5).blk t).view.emb (ix3 u r s) : S4x2048x1024.Idx) 2) = s := by
    apply Fin.ext
    blk_simp [index_5] <;> omega
  generalize (((cfg0.win 5).blk t).view.emb (ix3 u r s) : S4x2048x1024.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 512) (s : Fin 1024), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x2048x1024.Idx) 1).val = t.val * 512 + r.val := by
    blk_simp [index_6] <;> omega
  have e2 : ((((cfg0.win 6).blk t).view.emb (ix3 u r s) : S4x2048x1024.Idx) 2) = s := by
    apply Fin.ext
    blk_simp [index_6] <;> omega
  generalize (((cfg0.win 6).blk t).view.emb (ix3 u r s) : S4x2048x1024.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 512) (s : Fin 1024), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x2048x1024.Idx) 1).val = t.val * 512 + r.val := by
    blk_simp [index_7] <;> omega
  have e2 : ((((cfg0.win 7).blk t).view.emb (ix3 u r s) : S4x2048x1024.Idx) 2) = s := by
    apply Fin.ext
    blk_simp [index_7] <;> omega
  generalize (((cfg0.win 7).blk t).view.emb (ix3 u r s) : S4x2048x1024.Idx) = j at e1 e2
  rw [e2, out_second]
  generalize j 1 = i at e1
  rw [sum_at m c t r i s e1, second_at m c t r i s e1]

/-! ## The reference -/

section
open Cert.Reference25Ideal.Read

variable (p : Vec Ideal S8x2048x1024 .bf16) (w m v g d a b : Vec Ideal S4x2048x1024 .f32)

theorem reference_sum (i : Fin 2048) (s : Fin 1024) : val_main_v1 (F := Ideal) p (ix2 i s) = grad p i s := by
  pointwise [val_main_v0, val_main_v1, val_main_cst]
  rfl

theorem reference_step_at (i : Fin 2048) (s : Fin 1024) : val_main_v31 (F := Ideal) p w m v (ix2 i s)
    = step (grad p i s) (w (ix3 0 i s)) (m (ix3 0 i s)) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_first_at (i : Fin 2048) (s : Fin 1024) : val_main_v12 (F := Ideal) p m (ix2 i s)
    = Adam.first (grad p i s) (m (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_second_at (i : Fin 2048) (s : Fin 1024) : val_main_v18 (F := Ideal) p v (ix2 i s)
    = Adam.second (grad p i s) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x2048x1024 .f32) (f : Fin 2048 → Fin 1024 → EReal) (prev : Vec Ideal S4x2048x1024 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 2048) (s : Fin 1024), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v34 (F := Ideal) p g = gradArr p g := by
  refine layer_ext _ _ _ (fun i s => ?_) (fun i s => ?_) (fun i s => ?_) (fun i s => ?_)
  · refine Eq.trans ?_ (reference_sum p i s)
    unfold val_main_v34 val_main_v32 val_main_v33
    generalize val_main_v1 (F := Ideal) p = z
    pointwise
  all_goals
    unfold val_main_v34 val_main_v32 val_main_v33
    generalize val_main_v1 (F := Ideal) p = z
    pointwise

theorem reference_stepArr : val_main_v37 (F := Ideal) p w m v d = stepArr p w m v d := by
  refine layer_ext _ _ _ (fun i s => ?_) (fun i s => ?_) (fun i s => ?_) (fun i s => ?_)
  · refine Eq.trans ?_ (reference_step_at p w m v i s)
    unfold val_main_v37 val_main_v35 val_main_v36
    generalize val_main_v31 (F := Ideal) p w m v = z
    pointwise
  all_goals
    unfold val_main_v37 val_main_v35 val_main_v36
    generalize val_main_v31 (F := Ideal) p w m v = z
    pointwise

theorem reference_firstArr : val_main_v40 (F := Ideal) p m a = firstArr p m a := by
  refine layer_ext _ _ _ (fun i s => ?_) (fun i s => ?_) (fun i s => ?_) (fun i s => ?_)
  · refine Eq.trans ?_ (reference_first_at p m i s)
    unfold val_main_v40 val_main_v38 val_main_v39
    generalize val_main_v12 (F := Ideal) p m = z
    pointwise
  all_goals
    unfold val_main_v40 val_main_v38 val_main_v39
    generalize val_main_v12 (F := Ideal) p m = z
    pointwise

theorem reference_secondArr : val_main_v43 (F := Ideal) p v b = secondArr p v b := by
  refine layer_ext _ _ _ (fun i s => ?_) (fun i s => ?_) (fun i s => ?_) (fun i s => ?_)
  · refine Eq.trans ?_ (reference_second_at p v i s)
    unfold val_main_v43 val_main_v41 val_main_v42
    generalize val_main_v18 (F := Ideal) p v = z
    pointwise
  all_goals
    unfold val_main_v43 val_main_v41 val_main_v42
    generalize val_main_v18 (F := Ideal) p v = z
    pointwise

end

theorem algebraic : Cert.algebraic_Kernel25Ideal_Reference25Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference25Ideal.defs _ _).mono (fun r h c => ⟨?_, ?_, ?_, ?_, (h c).2.2.2.2⟩)
      (Cert.Reference25Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWUp

end
-- ==== Proof.AdamWDown.lean ====
module

public import proofs.«01_k».proof.Defs
public import proofs.«01_k».proof.Proof.Adam
public import proofs.«01_k».proof.Proof.Gen.Kernel26Ideal.Value
public import proofs.«01_k».proof.Proof.Gen.Reference26Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the down projection's weights

Each grid point takes 256 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWDown

open Cert.Kernel26Ideal Cert.Kernel26Ideal.Gen Cert.Adam

variable (m : (ℓ : Loc nD τ sig) → Buf (Elt Ideal) ℓ)

/-! ## Where the blocks lie -/

theorem index_0 : ∀ t : Fin cfg0.N, win0_0.index t = ![0, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 256) (i : Fin 1024) (s : Fin 2048) (h : i.val = t.val * 256 + r.val) :
    iblk m c 0 t (ix3 k r s) = m ((c : Thread nD τ).loc main_arg0) (ix3 k i s) := by
  blk_simp [iblk, index_0]
  show m ((c : Thread nD τ).loc main_arg0) _ = _
  congr 1
  blk_ext [index_0]

theorem weight_at (c : Dev nD) (t : Fin cfg0.N) (r : Fin 256) (i : Fin 1024) (s : Fin 2048) (h : i.val = t.val * 256 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 256) (i : Fin 1024) (s : Fin 2048) (h : i.val = t.val * 256 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 256) (i : Fin 1024) (s : Fin 2048) (h : i.val = t.val * 256 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x1024x2048 .bf16) (i : Fin 1024) (s : Fin 2048) : EReal := ∑ k : Fin 8, p (ix3 k i s)

/-- The same sum over a block. -/
def blockSum (p : Vec Ideal S8x256x2048 .bf16) (r : Fin 256) (s : Fin 2048) : EReal := ∑ k : Fin 8, p (ix3 k r s)

theorem sum_at (c : Dev nD) (t : Fin cfg0.N) (r : Fin 256) (i : Fin 1024) (s : Fin 2048) (h : i.val = t.val * 256 + r.val) :
    blockSum (iblk m c 0 t) r s = grad (m ((c : Thread nD τ).loc main_arg0)) i s :=
  Finset.sum_congr rfl fun k _ => parts_at m c t k r i s h

theorem out_grad (c : Dev nD) (t : Fin cfg0.N) (u : Fin 1) (r : Fin 256) (s : Fin 2048) : (outsAt0 m c t).1 (ix3 u r s)
    = (blockSum (iblk m c 0 t) r s) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_step (c : Dev nD) (t : Fin cfg0.N) (u : Fin 1) (r : Fin 256) (s : Fin 2048) : (outsAt0 m c t).2.1 (ix3 u r s)
    = step (blockSum (iblk m c 0 t) r s) ((iblk m c 1 t : Vec Ideal S1x256x2048 .f32) (ix3 0 r s)) ((iblk m c 2 t : Vec Ideal S1x256x2048 .f32) (ix3 0 r s)) ((iblk m c 3 t : Vec Ideal S1x256x2048 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_first (c : Dev nD) (t : Fin cfg0.N) (u : Fin 1) (r : Fin 256) (s : Fin 2048) : (outsAt0 m c t).2.2.1 (ix3 u r s)
    = Adam.first (blockSum (iblk m c 0 t) r s) ((iblk m c 2 t : Vec Ideal S1x256x2048 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

theorem out_second (c : Dev nD) (t : Fin cfg0.N) (u : Fin 1) (r : Fin 256) (s : Fin 2048) : (outsAt0 m c t).2.2.2 (ix3 u r s)
    = Adam.second (blockSum (iblk m c 0 t) r s) ((iblk m c 3 t : Vec Ideal S1x256x2048 .f32) (ix3 0 r s)) := by
  obtain rfl : u = 0 := Subsingleton.elim _ _
  unfold blockSum
  rw [Fin.sum_univ_eight]
  unfold outsAt0
  frame_out
  pointwise [k0_pay1, k0_pay2, k0_pay3, k0_pay4, k0_pay5, k0_pay6, k0_pay7]
  try rfl

/-! ## The whole arrays -/

/-- Layer 0 is `f`, and the other layers are those of `prev`. -/
def layer (f : Fin 1024 → Fin 2048 → EReal) (prev : Vec Ideal S4x1024x2048 .f32) : Vec Ideal S4x1024x2048 .f32 :=
  fun j => if (j 0).val / 1 = 0 then f (j 1) (j 2) else prev j

/-- The new gradient. -/
def gradArr (p : Vec Ideal S8x1024x2048 .bf16) (g : Vec Ideal S4x1024x2048 .f32) : Vec Ideal S4x1024x2048 .f32 :=
  layer (fun i s => grad p i s) g

/-- The step. -/
def stepArr (p : Vec Ideal S8x1024x2048 .bf16) (w : Vec Ideal S4x1024x2048 .f32) (m : Vec Ideal S4x1024x2048 .f32) (v : Vec Ideal S4x1024x2048 .f32) (d : Vec Ideal S4x1024x2048 .f32) : Vec Ideal S4x1024x2048 .f32 :=
  layer (fun i s => step (grad p i s) (w (ix3 0 i s)) (m (ix3 0 i s)) (v (ix3 0 i s))) d

/-- The first moment. -/
def firstArr (p : Vec Ideal S8x1024x2048 .bf16) (m : Vec Ideal S4x1024x2048 .f32) (a : Vec Ideal S4x1024x2048 .f32) : Vec Ideal S4x1024x2048 .f32 :=
  layer (fun i s => Adam.first (grad p i s) (m (ix3 0 i s))) a

/-- The second moment. -/
def secondArr (p : Vec Ideal S8x1024x2048 .bf16) (v : Vec Ideal S4x1024x2048 .f32) (b : Vec Ideal S4x1024x2048 .f32) : Vec Ideal S4x1024x2048 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x1024x2048.Idx) 1).val = t.val * 256 + r.val := by
    blk_simp [index_4] <;> omega
  have e2 : ((((cfg0.win 4).blk t).view.emb (ix3 u r s) : S4x1024x2048.Idx) 2) = s := by
    apply Fin.ext
    blk_simp [index_4] <;> omega
  generalize (((cfg0.win 4).blk t).view.emb (ix3 u r s) : S4x1024x2048.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x1024x2048.Idx) 1).val = t.val * 256 + r.val := by
    blk_simp [index_5] <;> omega
  have e2 : ((((cfg0.win 5).blk t).view.emb (ix3 u r s) : S4x1024x2048.Idx) 2) = s := by
    apply Fin.ext
    blk_simp [index_5] <;> omega
  generalize (((cfg0.win 5).blk t).view.emb (ix3 u r s) : S4x1024x2048.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x1024x2048.Idx) 1).val = t.val * 256 + r.val := by
    blk_simp [index_6] <;> omega
  have e2 : ((((cfg0.win 6).blk t).view.emb (ix3 u r s) : S4x1024x2048.Idx) 2) = s := by
    apply Fin.ext
    blk_simp [index_6] <;> omega
  generalize (((cfg0.win 6).blk t).view.emb (ix3 u r s) : S4x1024x2048.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 256) (s : Fin 2048), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x1024x2048.Idx) 1).val = t.val * 256 + r.val := by
    blk_simp [index_7] <;> omega
  have e2 : ((((cfg0.win 7).blk t).view.emb (ix3 u r s) : S4x1024x2048.Idx) 2) = s := by
    apply Fin.ext
    blk_simp [index_7] <;> omega
  generalize (((cfg0.win 7).blk t).view.emb (ix3 u r s) : S4x1024x2048.Idx) = j at e1 e2
  rw [e2, out_second]
  generalize j 1 = i at e1
  rw [sum_at m c t r i s e1, second_at m c t r i s e1]

/-! ## The reference -/

section
open Cert.Reference26Ideal.Read

variable (p : Vec Ideal S8x1024x2048 .bf16) (w m v g d a b : Vec Ideal S4x1024x2048 .f32)

theorem reference_sum (i : Fin 1024) (s : Fin 2048) : val_main_v1 (F := Ideal) p (ix2 i s) = grad p i s := by
  pointwise [val_main_v0, val_main_v1, val_main_cst]
  rfl

theorem reference_step_at (i : Fin 1024) (s : Fin 2048) : val_main_v31 (F := Ideal) p w m v (ix2 i s)
    = step (grad p i s) (w (ix3 0 i s)) (m (ix3 0 i s)) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_first_at (i : Fin 1024) (s : Fin 2048) : val_main_v12 (F := Ideal) p m (ix2 i s)
    = Adam.first (grad p i s) (m (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

theorem reference_second_at (i : Fin 1024) (s : Fin 2048) : val_main_v18 (F := Ideal) p v (ix2 i s)
    = Adam.second (grad p i s) (v (ix3 0 i s)) := by
  rw [← reference_sum]
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x1024x2048 .f32) (f : Fin 1024 → Fin 2048 → EReal) (prev : Vec Ideal S4x1024x2048 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 1024) (s : Fin 2048), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v34 (F := Ideal) p g = gradArr p g := by
  refine layer_ext _ _ _ (fun i s => ?_) (fun i s => ?_) (fun i s => ?_) (fun i s => ?_)
  · refine Eq.trans ?_ (reference_sum p i s)
    unfold val_main_v34 val_main_v32 val_main_v33
    generalize val_main_v1 (F := Ideal) p = z
    pointwise
  all_goals
    unfold val_main_v34 val_main_v32 val_main_v33
    generalize val_main_v1 (F := Ideal) p = z
    pointwise

theorem reference_stepArr : val_main_v37 (F := Ideal) p w m v d = stepArr p w m v d := by
  refine layer_ext _ _ _ (fun i s => ?_) (fun i s => ?_) (fun i s => ?_) (fun i s => ?_)
  · refine Eq.trans ?_ (reference_step_at p w m v i s)
    unfold val_main_v37 val_main_v35 val_main_v36
    generalize val_main_v31 (F := Ideal) p w m v = z
    pointwise
  all_goals
    unfold val_main_v37 val_main_v35 val_main_v36
    generalize val_main_v31 (F := Ideal) p w m v = z
    pointwise

theorem reference_firstArr : val_main_v40 (F := Ideal) p m a = firstArr p m a := by
  refine layer_ext _ _ _ (fun i s => ?_) (fun i s => ?_) (fun i s => ?_) (fun i s => ?_)
  · refine Eq.trans ?_ (reference_first_at p m i s)
    unfold val_main_v40 val_main_v38 val_main_v39
    generalize val_main_v12 (F := Ideal) p m = z
    pointwise
  all_goals
    unfold val_main_v40 val_main_v38 val_main_v39
    generalize val_main_v12 (F := Ideal) p m = z
    pointwise

theorem reference_secondArr : val_main_v43 (F := Ideal) p v b = secondArr p v b := by
  refine layer_ext _ _ _ (fun i s => ?_) (fun i s => ?_) (fun i s => ?_) (fun i s => ?_)
  · refine Eq.trans ?_ (reference_second_at p v i s)
    unfold val_main_v43 val_main_v41 val_main_v42
    generalize val_main_v18 (F := Ideal) p v = z
    pointwise
  all_goals
    unfold val_main_v43 val_main_v41 val_main_v42
    generalize val_main_v18 (F := Ideal) p v = z
    pointwise

end

theorem algebraic : Cert.algebraic_Kernel26Ideal_Reference26Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference26Ideal.defs _ _).mono (fun r h c => ⟨?_, ?_, ?_, ?_, (h c).2.2.2.2⟩)
      (Cert.Reference26Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWDown

end
-- ==== Proof.AdamWAOut.lean ====
module

public import proofs.«01_k».proof.Defs
public import proofs.«01_k».proof.Proof.Adam
public import proofs.«01_k».proof.Proof.Gen.Kernel27Ideal.Value
public import proofs.«01_k».proof.Proof.Gen.Reference27Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the first branch projection's weights

Each grid point takes 512 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWAOut

open Cert.Kernel27Ideal Cert.Kernel27Ideal.Gen Cert.Adam

variable (m : (ℓ : Loc nD τ sig) → Buf (Elt Ideal) ℓ)

/-! ## Where the blocks lie -/

theorem index_0 : ∀ t : Fin cfg0.N, win0_0.index t = ![0, 0, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 512) (i : Fin 1024) (s : Fin 256) (h : i.val = t.val * 512 + r.val) :
    iblk m c 0 t (ix4 k 0 r s) = m ((c : Thread nD τ).loc main_arg0) (ix4 k 0 i s) := by
  blk_simp [iblk, index_0]
  show m ((c : Thread nD τ).loc main_arg0) _ = _
  congr 1
  blk_ext [index_0]

theorem weight_at (c : Dev nD) (t : Fin cfg0.N) (r : Fin 512) (i : Fin 1024) (s : Fin 256) (h : i.val = t.val * 512 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 512) (i : Fin 1024) (s : Fin 256) (h : i.val = t.val * 512 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 512) (i : Fin 1024) (s : Fin 256) (h : i.val = t.val * 512 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x3x1024x256 .bf16) (i : Fin 1024) (s : Fin 256) : EReal := ∑ k : Fin 8, p (ix4 k 0 i s)

/-- The same sum over a block. -/
def blockSum (p : Vec Ideal S8x1x512x256 .bf16) (r : Fin 512) (s : Fin 256) : EReal := ∑ k : Fin 8, p (ix4 k 0 r s)

theorem sum_at (c : Dev nD) (t : Fin cfg0.N) (r : Fin 512) (i : Fin 1024) (s : Fin 256) (h : i.val = t.val * 512 + r.val) :
    blockSum (iblk m c 0 t) r s = grad (m ((c : Thread nD τ).loc main_arg0)) i s :=
  Finset.sum_congr rfl fun k _ => parts_at m c t k r i s h

section
variable (a : FVec Ideal S512x256 .f32) (b : Vec Ideal S1x1x512x256 .bf16) (w x v : Vec Ideal S1x512x256 .f32) (r : Fin 512) (s : Fin 256)

theorem read_grad : k0_pay8 a b (ix3 0 r s) = k0_pay5 a b (ix2 r s) := by
  pointwise [k0_pay8]
  try rfl

theorem read_first : k0_pay2 (k0_pay6 a b x) (ix3 0 r s) = Adam.first (k0_pay5 a b (ix2 r s)) (x (ix3 0 r s)) := by
  pointwise [k0_pay2, k0_pay6]
  try rfl

theorem read_second : k0_pay3 (k0_pay7 a b v) (ix3 0 r s) = Adam.second (k0_pay5 a b (ix2 r s)) (v (ix3 0 r s)) := by
  pointwise [k0_pay3, k0_pay7]
  try rfl

theorem read_step : k0_pay1 (k0_pay9 a b x v w) (ix3 0 r s)
    = step (k0_pay5 a b (ix2 r s)) (w (ix3 0 r s)) (x (ix3 0 r s)) (v (ix3 0 r s)) := by
  pointwise [k0_pay1, k0_pay9, k0_pay6, k0_pay7]
  try rfl

end

theorem out_grad (c : Dev nD) (t : Fin cfg0.N) (u : Fin 1) (r : Fin 512) (s : Fin 256) : (outsAt0 m c t).1 (ix3 u r s)
    = (blockSum (iblk m c 0 t) r s) := by
  obtain rfl : u = 0 := Subsingleton.elim _ _
  unfold outsAt0
  frame_out
  refine (read_grad _ _ r s).trans ?_
  refine congrArg (fun q : EReal => q) ?_
  unfold blockSum
  rw [Fin.sum_univ_eight]
  pointwise [k0_pay4, k0_pay5]
  try rfl

theorem out_step (c : Dev nD) (t : Fin cfg0.N) (u : Fin 1) (r : Fin 512) (s : Fin 256) : (outsAt0 m c t).2.1 (ix3 u r s)
    = step (blockSum (iblk m c 0 t) r s) ((iblk m c 1 t : Vec Ideal S1x512x256 .f32) (ix3 0 r s)) ((iblk m c 2 t : Vec Ideal S1x512x256 .f32) (ix3 0 r s)) ((iblk m c 3 t : Vec Ideal S1x512x256 .f32) (ix3 0 r s)) := by
  obtain rfl : u = 0 := Subsingleton.elim _ _
  unfold outsAt0
  frame_out
  refine (read_step _ _ _ _ _ r s).trans ?_
  refine congrArg (fun q : EReal => step q _ _ _) ?_
  unfold blockSum
  rw [Fin.sum_univ_eight]
  pointwise [k0_pay4, k0_pay5]
  try rfl

theorem out_first (c : Dev nD) (t : Fin cfg0.N) (u : Fin 1) (r : Fin 512) (s : Fin 256) : (outsAt0 m c t).2.2.1 (ix3 u r s)
    = Adam.first (blockSum (iblk m c 0 t) r s) ((iblk m c 2 t : Vec Ideal S1x512x256 .f32) (ix3 0 r s)) := by
  obtain rfl : u = 0 := Subsingleton.elim _ _
  unfold outsAt0
  frame_out
  refine (read_first _ _ _ r s).trans ?_
  refine congrArg (fun q : EReal => Adam.first q _) ?_
  unfold blockSum
  rw [Fin.sum_univ_eight]
  pointwise [k0_pay4, k0_pay5]
  try rfl

theorem out_second (c : Dev nD) (t : Fin cfg0.N) (u : Fin 1) (r : Fin 512) (s : Fin 256) : (outsAt0 m c t).2.2.2 (ix3 u r s)
    = Adam.second (blockSum (iblk m c 0 t) r s) ((iblk m c 3 t : Vec Ideal S1x512x256 .f32) (ix3 0 r s)) := by
  obtain rfl : u = 0 := Subsingleton.elim _ _
  unfold outsAt0
  frame_out
  refine (read_second _ _ _ r s).trans ?_
  refine congrArg (fun q : EReal => Adam.second q _) ?_
  unfold blockSum
  rw [Fin.sum_univ_eight]
  pointwise [k0_pay4, k0_pay5]
  try rfl

/-! ## The whole arrays -/

/-- Layer 0 is `f`, and the other layers are those of `prev`. -/
def layer (f : Fin 1024 → Fin 256 → EReal) (prev : Vec Ideal S4x1024x256 .f32) : Vec Ideal S4x1024x256 .f32 :=
  fun j => if (j 0).val / 1 = 0 then f (j 1) (j 2) else prev j

/-- The new gradient. -/
def gradArr (p : Vec Ideal S8x3x1024x256 .bf16) (g : Vec Ideal S4x1024x256 .f32) : Vec Ideal S4x1024x256 .f32 :=
  layer (fun i s => grad p i s) g

/-- The step. -/
def stepArr (p : Vec Ideal S8x3x1024x256 .bf16) (w : Vec Ideal S4x1024x256 .f32) (m : Vec Ideal S4x1024x256 .f32) (v : Vec Ideal S4x1024x256 .f32) (d : Vec Ideal S4x1024x256 .f32) : Vec Ideal S4x1024x256 .f32 :=
  layer (fun i s => step (grad p i s) (w (ix3 0 i s)) (m (ix3 0 i s)) (v (ix3 0 i s))) d

/-- The first moment. -/
def firstArr (p : Vec Ideal S8x3x1024x256 .bf16) (m : Vec Ideal S4x1024x256 .f32) (a : Vec Ideal S4x1024x256 .f32) : Vec Ideal S4x1024x256 .f32 :=
  layer (fun i s => Adam.first (grad p i s) (m (ix3 0 i s))) a

/-- The second moment. -/
def secondArr (p : Vec Ideal S8x3x1024x256 .bf16) (v : Vec Ideal S4x1024x256 .f32) (b : Vec Ideal S4x1024x256 .f32) : Vec Ideal S4x1024x256 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x1024x256.Idx) 1).val = t.val * 512 + r.val := by
    blk_simp [index_4] <;> omega
  have e2 : ((((cfg0.win 4).blk t).view.emb (ix3 u r s) : S4x1024x256.Idx) 2) = s := by
    apply Fin.ext
    blk_simp [index_4] <;> omega
  generalize (((cfg0.win 4).blk t).view.emb (ix3 u r s) : S4x1024x256.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x1024x256.Idx) 1).val = t.val * 512 + r.val := by
    blk_simp [index_5] <;> omega
  have e2 : ((((cfg0.win 5).blk t).view.emb (ix3 u r s) : S4x1024x256.Idx) 2) = s := by
    apply Fin.ext
    blk_simp [index_5] <;> omega
  generalize (((cfg0.win 5).blk t).view.emb (ix3 u r s) : S4x1024x256.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x1024x256.Idx) 1).val = t.val * 512 + r.val := by
    blk_simp [index_6] <;> omega
  have e2 : ((((cfg0.win 6).blk t).view.emb (ix3 u r s) : S4x1024x256.Idx) 2) = s := by
    apply Fin.ext
    blk_simp [index_6] <;> omega
  generalize (((cfg0.win 6).blk t).view.emb (ix3 u r s) : S4x1024x256.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x1024x256.Idx) 1).val = t.val * 512 + r.val := by
    blk_simp [index_7] <;> omega
  have e2 : ((((cfg0.win 7).blk t).view.emb (ix3 u r s) : S4x1024x256.Idx) 2) = s := by
    apply Fin.ext
    blk_simp [index_7] <;> omega
  generalize (((cfg0.win 7).blk t).view.emb (ix3 u r s) : S4x1024x256.Idx) = j at e1 e2
  rw [e2, out_second]
  generalize j 1 = i at e1
  rw [sum_at m c t r i s e1, second_at m c t r i s e1]

/-! ## The reference -/

section
open Cert.Reference27Ideal.Read

variable (p : Vec Ideal S8x3x1024x256 .bf16) (w m v g d a b : Vec Ideal S4x1024x256 .f32)

theorem reference_sum (i : Fin 1024) (s : Fin 256) : val_main_v3 (F := Ideal) p (ix2 i s) = grad p i s := by
  pointwise [val_main_v0, val_main_v1, val_main_v2, val_main_v3, val_main_cst]
  rfl

theorem reference_step_at (i : Fin 1024) (s : Fin 256) : val_main_v33 (F := Ideal) p w m v (ix2 i s)
    = step (grad p i s) (w (ix3 0 i s)) (m (ix3 0 i s)) (v (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

theorem reference_first_at (i : Fin 1024) (s : Fin 256) : val_main_v14 (F := Ideal) p m (ix2 i s)
    = Adam.first (grad p i s) (m (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

theorem reference_second_at (i : Fin 1024) (s : Fin 256) : val_main_v20 (F := Ideal) p v (ix2 i s)
    = Adam.second (grad p i s) (v (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x1024x256 .f32) (f : Fin 1024 → Fin 256 → EReal) (prev : Vec Ideal S4x1024x256 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 1024) (s : Fin 256), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v36 (F := Ideal) p g = gradArr p g := by
  refine layer_ext _ _ _ (fun i s => ?_) (fun i s => ?_) (fun i s => ?_) (fun i s => ?_)
  · refine Eq.trans ?_ (reference_sum p i s)
    unfold val_main_v36 val_main_v34 val_main_v35
    generalize val_main_v3 (F := Ideal) p = z
    pointwise
  all_goals
    unfold val_main_v36 val_main_v34 val_main_v35
    generalize val_main_v3 (F := Ideal) p = z
    pointwise

theorem reference_stepArr : val_main_v39 (F := Ideal) p w m v d = stepArr p w m v d := by
  refine layer_ext _ _ _ (fun i s => ?_) (fun i s => ?_) (fun i s => ?_) (fun i s => ?_)
  · refine Eq.trans ?_ (reference_step_at p w m v i s)
    unfold val_main_v39 val_main_v37 val_main_v38
    generalize val_main_v33 (F := Ideal) p w m v = z
    pointwise
  all_goals
    unfold val_main_v39 val_main_v37 val_main_v38
    generalize val_main_v33 (F := Ideal) p w m v = z
    pointwise

theorem reference_firstArr : val_main_v42 (F := Ideal) p m a = firstArr p m a := by
  refine layer_ext _ _ _ (fun i s => ?_) (fun i s => ?_) (fun i s => ?_) (fun i s => ?_)
  · refine Eq.trans ?_ (reference_first_at p m i s)
    unfold val_main_v42 val_main_v40 val_main_v41
    generalize val_main_v14 (F := Ideal) p m = z
    pointwise
  all_goals
    unfold val_main_v42 val_main_v40 val_main_v41
    generalize val_main_v14 (F := Ideal) p m = z
    pointwise

theorem reference_secondArr : val_main_v45 (F := Ideal) p v b = secondArr p v b := by
  refine layer_ext _ _ _ (fun i s => ?_) (fun i s => ?_) (fun i s => ?_) (fun i s => ?_)
  · refine Eq.trans ?_ (reference_second_at p v i s)
    unfold val_main_v45 val_main_v43 val_main_v44
    generalize val_main_v20 (F := Ideal) p v = z
    pointwise
  all_goals
    unfold val_main_v45 val_main_v43 val_main_v44
    generalize val_main_v20 (F := Ideal) p v = z
    pointwise

end

theorem algebraic : Cert.algebraic_Kernel27Ideal_Reference27Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference27Ideal.defs _ _).mono (fun r h c => ⟨?_, ?_, ?_, ?_, (h c).2.2.2.2⟩)
      (Cert.Reference27Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWAOut

end
-- ==== Proof.AdamWBOut.lean ====
module

public import proofs.«01_k».proof.Defs
public import proofs.«01_k».proof.Proof.Adam
public import proofs.«01_k».proof.Proof.Gen.Kernel28Ideal.Value
public import proofs.«01_k».proof.Proof.Gen.Reference28Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the second branch projection's weights

Each grid point takes 512 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWBOut

open Cert.Kernel28Ideal Cert.Kernel28Ideal.Gen Cert.Adam

variable (m : (ℓ : Loc nD τ sig) → Buf (Elt Ideal) ℓ)

/-! ## Where the blocks lie -/

theorem index_0 : ∀ t : Fin cfg0.N, win0_0.index t = ![0, 1, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 512) (i : Fin 1024) (s : Fin 256) (h : i.val = t.val * 512 + r.val) :
    iblk m c 0 t (ix4 k 0 r s) = m ((c : Thread nD τ).loc main_arg0) (ix4 k 1 i s) := by
  blk_simp [iblk, index_0]
  show m ((c : Thread nD τ).loc main_arg0) _ = _
  congr 1
  blk_ext [index_0]

theorem weight_at (c : Dev nD) (t : Fin cfg0.N) (r : Fin 512) (i : Fin 1024) (s : Fin 256) (h : i.val = t.val * 512 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 512) (i : Fin 1024) (s : Fin 256) (h : i.val = t.val * 512 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 512) (i : Fin 1024) (s : Fin 256) (h : i.val = t.val * 512 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x3x1024x256 .bf16) (i : Fin 1024) (s : Fin 256) : EReal := ∑ k : Fin 8, p (ix4 k 1 i s)

/-- The same sum over a block. -/
def blockSum (p : Vec Ideal S8x1x512x256 .bf16) (r : Fin 512) (s : Fin 256) : EReal := ∑ k : Fin 8, p (ix4 k 0 r s)

theorem sum_at (c : Dev nD) (t : Fin cfg0.N) (r : Fin 512) (i : Fin 1024) (s : Fin 256) (h : i.val = t.val * 512 + r.val) :
    blockSum (iblk m c 0 t) r s = grad (m ((c : Thread nD τ).loc main_arg0)) i s :=
  Finset.sum_congr rfl fun k _ => parts_at m c t k r i s h

section
variable (a : FVec Ideal S512x256 .f32) (b : Vec Ideal S1x1x512x256 .bf16) (w x v : Vec Ideal S1x512x256 .f32) (r : Fin 512) (s : Fin 256)

theorem read_grad : k0_pay8 a b (ix3 0 r s) = k0_pay5 a b (ix2 r s) := by
  pointwise [k0_pay8]
  try rfl

theorem read_first : k0_pay2 (k0_pay6 a b x) (ix3 0 r s) = Adam.first (k0_pay5 a b (ix2 r s)) (x (ix3 0 r s)) := by
  pointwise [k0_pay2, k0_pay6]
  try rfl

theorem read_second : k0_pay3 (k0_pay7 a b v) (ix3 0 r s) = Adam.second (k0_pay5 a b (ix2 r s)) (v (ix3 0 r s)) := by
  pointwise [k0_pay3, k0_pay7]
  try rfl

theorem read_step : k0_pay1 (k0_pay9 a b x v w) (ix3 0 r s)
    = step (k0_pay5 a b (ix2 r s)) (w (ix3 0 r s)) (x (ix3 0 r s)) (v (ix3 0 r s)) := by
  pointwise [k0_pay1, k0_pay9, k0_pay6, k0_pay7]
  try rfl

end

theorem out_grad (c : Dev nD) (t : Fin cfg0.N) (u : Fin 1) (r : Fin 512) (s : Fin 256) : (outsAt0 m c t).1 (ix3 u r s)
    = (blockSum (iblk m c 0 t) r s) := by
  obtain rfl : u = 0 := Subsingleton.elim _ _
  unfold outsAt0
  frame_out
  refine (read_grad _ _ r s).trans ?_
  refine congrArg (fun q : EReal => q) ?_
  unfold blockSum
  rw [Fin.sum_univ_eight]
  pointwise [k0_pay4, k0_pay5]
  try rfl

theorem out_step (c : Dev nD) (t : Fin cfg0.N) (u : Fin 1) (r : Fin 512) (s : Fin 256) : (outsAt0 m c t).2.1 (ix3 u r s)
    = step (blockSum (iblk m c 0 t) r s) ((iblk m c 1 t : Vec Ideal S1x512x256 .f32) (ix3 0 r s)) ((iblk m c 2 t : Vec Ideal S1x512x256 .f32) (ix3 0 r s)) ((iblk m c 3 t : Vec Ideal S1x512x256 .f32) (ix3 0 r s)) := by
  obtain rfl : u = 0 := Subsingleton.elim _ _
  unfold outsAt0
  frame_out
  refine (read_step _ _ _ _ _ r s).trans ?_
  refine congrArg (fun q : EReal => step q _ _ _) ?_
  unfold blockSum
  rw [Fin.sum_univ_eight]
  pointwise [k0_pay4, k0_pay5]
  try rfl

theorem out_first (c : Dev nD) (t : Fin cfg0.N) (u : Fin 1) (r : Fin 512) (s : Fin 256) : (outsAt0 m c t).2.2.1 (ix3 u r s)
    = Adam.first (blockSum (iblk m c 0 t) r s) ((iblk m c 2 t : Vec Ideal S1x512x256 .f32) (ix3 0 r s)) := by
  obtain rfl : u = 0 := Subsingleton.elim _ _
  unfold outsAt0
  frame_out
  refine (read_first _ _ _ r s).trans ?_
  refine congrArg (fun q : EReal => Adam.first q _) ?_
  unfold blockSum
  rw [Fin.sum_univ_eight]
  pointwise [k0_pay4, k0_pay5]
  try rfl

theorem out_second (c : Dev nD) (t : Fin cfg0.N) (u : Fin 1) (r : Fin 512) (s : Fin 256) : (outsAt0 m c t).2.2.2 (ix3 u r s)
    = Adam.second (blockSum (iblk m c 0 t) r s) ((iblk m c 3 t : Vec Ideal S1x512x256 .f32) (ix3 0 r s)) := by
  obtain rfl : u = 0 := Subsingleton.elim _ _
  unfold outsAt0
  frame_out
  refine (read_second _ _ _ r s).trans ?_
  refine congrArg (fun q : EReal => Adam.second q _) ?_
  unfold blockSum
  rw [Fin.sum_univ_eight]
  pointwise [k0_pay4, k0_pay5]
  try rfl

/-! ## The whole arrays -/

/-- Layer 0 is `f`, and the other layers are those of `prev`. -/
def layer (f : Fin 1024 → Fin 256 → EReal) (prev : Vec Ideal S4x1024x256 .f32) : Vec Ideal S4x1024x256 .f32 :=
  fun j => if (j 0).val / 1 = 0 then f (j 1) (j 2) else prev j

/-- The new gradient. -/
def gradArr (p : Vec Ideal S8x3x1024x256 .bf16) (g : Vec Ideal S4x1024x256 .f32) : Vec Ideal S4x1024x256 .f32 :=
  layer (fun i s => grad p i s) g

/-- The step. -/
def stepArr (p : Vec Ideal S8x3x1024x256 .bf16) (w : Vec Ideal S4x1024x256 .f32) (m : Vec Ideal S4x1024x256 .f32) (v : Vec Ideal S4x1024x256 .f32) (d : Vec Ideal S4x1024x256 .f32) : Vec Ideal S4x1024x256 .f32 :=
  layer (fun i s => step (grad p i s) (w (ix3 0 i s)) (m (ix3 0 i s)) (v (ix3 0 i s))) d

/-- The first moment. -/
def firstArr (p : Vec Ideal S8x3x1024x256 .bf16) (m : Vec Ideal S4x1024x256 .f32) (a : Vec Ideal S4x1024x256 .f32) : Vec Ideal S4x1024x256 .f32 :=
  layer (fun i s => Adam.first (grad p i s) (m (ix3 0 i s))) a

/-- The second moment. -/
def secondArr (p : Vec Ideal S8x3x1024x256 .bf16) (v : Vec Ideal S4x1024x256 .f32) (b : Vec Ideal S4x1024x256 .f32) : Vec Ideal S4x1024x256 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x1024x256.Idx) 1).val = t.val * 512 + r.val := by
    blk_simp [index_4] <;> omega
  have e2 : ((((cfg0.win 4).blk t).view.emb (ix3 u r s) : S4x1024x256.Idx) 2) = s := by
    apply Fin.ext
    blk_simp [index_4] <;> omega
  generalize (((cfg0.win 4).blk t).view.emb (ix3 u r s) : S4x1024x256.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x1024x256.Idx) 1).val = t.val * 512 + r.val := by
    blk_simp [index_5] <;> omega
  have e2 : ((((cfg0.win 5).blk t).view.emb (ix3 u r s) : S4x1024x256.Idx) 2) = s := by
    apply Fin.ext
    blk_simp [index_5] <;> omega
  generalize (((cfg0.win 5).blk t).view.emb (ix3 u r s) : S4x1024x256.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x1024x256.Idx) 1).val = t.val * 512 + r.val := by
    blk_simp [index_6] <;> omega
  have e2 : ((((cfg0.win 6).blk t).view.emb (ix3 u r s) : S4x1024x256.Idx) 2) = s := by
    apply Fin.ext
    blk_simp [index_6] <;> omega
  generalize (((cfg0.win 6).blk t).view.emb (ix3 u r s) : S4x1024x256.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x1024x256.Idx) 1).val = t.val * 512 + r.val := by
    blk_simp [index_7] <;> omega
  have e2 : ((((cfg0.win 7).blk t).view.emb (ix3 u r s) : S4x1024x256.Idx) 2) = s := by
    apply Fin.ext
    blk_simp [index_7] <;> omega
  generalize (((cfg0.win 7).blk t).view.emb (ix3 u r s) : S4x1024x256.Idx) = j at e1 e2
  rw [e2, out_second]
  generalize j 1 = i at e1
  rw [sum_at m c t r i s e1, second_at m c t r i s e1]

/-! ## The reference -/

section
open Cert.Reference28Ideal.Read

variable (p : Vec Ideal S8x3x1024x256 .bf16) (w m v g d a b : Vec Ideal S4x1024x256 .f32)

theorem reference_sum (i : Fin 1024) (s : Fin 256) : val_main_v3 (F := Ideal) p (ix2 i s) = grad p i s := by
  pointwise [val_main_v0, val_main_v1, val_main_v2, val_main_v3, val_main_cst]
  rfl

theorem reference_step_at (i : Fin 1024) (s : Fin 256) : val_main_v33 (F := Ideal) p w m v (ix2 i s)
    = step (grad p i s) (w (ix3 0 i s)) (m (ix3 0 i s)) (v (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

theorem reference_first_at (i : Fin 1024) (s : Fin 256) : val_main_v14 (F := Ideal) p m (ix2 i s)
    = Adam.first (grad p i s) (m (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

theorem reference_second_at (i : Fin 1024) (s : Fin 256) : val_main_v20 (F := Ideal) p v (ix2 i s)
    = Adam.second (grad p i s) (v (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x1024x256 .f32) (f : Fin 1024 → Fin 256 → EReal) (prev : Vec Ideal S4x1024x256 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 1024) (s : Fin 256), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v36 (F := Ideal) p g = gradArr p g := by
  refine layer_ext _ _ _ (fun i s => ?_) (fun i s => ?_) (fun i s => ?_) (fun i s => ?_)
  · refine Eq.trans ?_ (reference_sum p i s)
    unfold val_main_v36 val_main_v34 val_main_v35
    generalize val_main_v3 (F := Ideal) p = z
    pointwise
  all_goals
    unfold val_main_v36 val_main_v34 val_main_v35
    generalize val_main_v3 (F := Ideal) p = z
    pointwise

theorem reference_stepArr : val_main_v39 (F := Ideal) p w m v d = stepArr p w m v d := by
  refine layer_ext _ _ _ (fun i s => ?_) (fun i s => ?_) (fun i s => ?_) (fun i s => ?_)
  · refine Eq.trans ?_ (reference_step_at p w m v i s)
    unfold val_main_v39 val_main_v37 val_main_v38
    generalize val_main_v33 (F := Ideal) p w m v = z
    pointwise
  all_goals
    unfold val_main_v39 val_main_v37 val_main_v38
    generalize val_main_v33 (F := Ideal) p w m v = z
    pointwise

theorem reference_firstArr : val_main_v42 (F := Ideal) p m a = firstArr p m a := by
  refine layer_ext _ _ _ (fun i s => ?_) (fun i s => ?_) (fun i s => ?_) (fun i s => ?_)
  · refine Eq.trans ?_ (reference_first_at p m i s)
    unfold val_main_v42 val_main_v40 val_main_v41
    generalize val_main_v14 (F := Ideal) p m = z
    pointwise
  all_goals
    unfold val_main_v42 val_main_v40 val_main_v41
    generalize val_main_v14 (F := Ideal) p m = z
    pointwise

theorem reference_secondArr : val_main_v45 (F := Ideal) p v b = secondArr p v b := by
  refine layer_ext _ _ _ (fun i s => ?_) (fun i s => ?_) (fun i s => ?_) (fun i s => ?_)
  · refine Eq.trans ?_ (reference_second_at p v i s)
    unfold val_main_v45 val_main_v43 val_main_v44
    generalize val_main_v20 (F := Ideal) p v = z
    pointwise
  all_goals
    unfold val_main_v45 val_main_v43 val_main_v44
    generalize val_main_v20 (F := Ideal) p v = z
    pointwise

end

theorem algebraic : Cert.algebraic_Kernel28Ideal_Reference28Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference28Ideal.defs _ _).mono (fun r h c => ⟨?_, ?_, ?_, ?_, (h c).2.2.2.2⟩)
      (Cert.Reference28Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWBOut

end
-- ==== Proof.AdamWXOut.lean ====
module

public import proofs.«01_k».proof.Defs
public import proofs.«01_k».proof.Proof.Adam
public import proofs.«01_k».proof.Proof.Gen.Kernel29Ideal.Value
public import proofs.«01_k».proof.Proof.Gen.Reference29Ideal.Read
public import Idealize.ShloMosaic.Lib.Pipeline.ValueKit.Acc
public import Idealize.ShloMosaic.Lib.Pipeline.ValueKit.Geometry
public import Idealize.ShloMosaic.Lib.Pipeline.ValueKit.Partial

/-!
# AdamW on the third branch projection's weights

Each grid point takes 512 rows of layer 0: it adds the eight devices' parts of the gradient and writes the gradient, the step
and the two moments. The blocks cover layer 0 of the four results; the other layers stay as they were.
-/

@[expose] public section

noncomputable section

open scoped BigOperators
open Idealize.ShloMosaic Idealize.ShloMosaic.TcCoe Idealize.SL.Sem

namespace Cert.AdamWXOut

open Cert.Kernel29Ideal Cert.Kernel29Ideal.Gen Cert.Adam

variable (m : (ℓ : Loc nD τ sig) → Buf (Elt Ideal) ℓ)

/-! ## Where the blocks lie -/

theorem index_0 : ∀ t : Fin cfg0.N, win0_0.index t = ![0, 2, t.val, 0] := (by decide +kernel : ∀ t : Fin grid0.N, _)
theorem index_1 : ∀ t : Fin cfg0.N, win0_1.index t = ![0, t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, t.val, 0] := (by decide +kernel : ∀ t : Fin grid0.N, _)
theorem index_4 : ∀ t : Fin cfg0.N, win0_4.index t = ![0, t.val, 0] := (by decide +kernel : ∀ t : Fin grid0.N, _)
theorem index_5 : ∀ t : Fin cfg0.N, win0_5.index t = ![0, t.val, 0] := (by decide +kernel : ∀ t : Fin grid0.N, _)
theorem index_6 : ∀ t : Fin cfg0.N, win0_6.index t = ![0, t.val, 0] := (by decide +kernel : ∀ t : Fin grid0.N, _)
theorem index_7 : ∀ t : Fin cfg0.N, win0_7.index t = ![0, t.val, 0] := (by decide +kernel : ∀ t : Fin grid0.N, _)

theorem parts_at (c : Dev nD) (t : Fin cfg0.N) (k : Fin 8) (r : Fin 512) (i : Fin 1024) (s : Fin 256) (h : i.val = t.val * 512 + r.val) :
    iblk m c 0 t (ix4 k 0 r s) = m ((c : Thread nD τ).loc main_arg0) (ix4 k 2 i s) := by
  blk_simp [iblk, index_0]
  show m ((c : Thread nD τ).loc main_arg0) _ = _
  congr 1
  blk_ext [index_0]

theorem weight_at (c : Dev nD) (t : Fin cfg0.N) (r : Fin 512) (i : Fin 1024) (s : Fin 256) (h : i.val = t.val * 512 + r.val) :
    iblk m c 1 t (ix3 0 r s) = m ((c : Thread nD τ).loc main_arg1) (ix3 0 i s) := by
  blk_simp [iblk, index_1]
  show m ((c : Thread nD τ).loc main_arg1) _ = _
  congr 1
  blk_ext [index_1]

theorem first_at (c : Dev nD) (t : Fin cfg0.N) (r : Fin 512) (i : Fin 1024) (s : Fin 256) (h : i.val = t.val * 512 + r.val) :
    iblk m c 2 t (ix3 0 r s) = m ((c : Thread nD τ).loc main_arg2) (ix3 0 i s) := by
  blk_simp [iblk, index_2]
  show m ((c : Thread nD τ).loc main_arg2) _ = _
  congr 1
  blk_ext [index_2]

theorem second_at (c : Dev nD) (t : Fin cfg0.N) (r : Fin 512) (i : Fin 1024) (s : Fin 256) (h : i.val = t.val * 512 + r.val) :
    iblk m c 3 t (ix3 0 r s) = m ((c : Thread nD τ).loc main_arg3) (ix3 0 i s) := by
  blk_simp [iblk, index_3]
  show m ((c : Thread nD τ).loc main_arg3) _ = _
  congr 1
  blk_ext [index_3]

/-! ## What a point computes -/

/-- The gradient: the sum of the devices' parts. -/
def grad (p : Vec Ideal S8x3x1024x256 .bf16) (i : Fin 1024) (s : Fin 256) : EReal := ∑ k : Fin 8, p (ix4 k 2 i s)

/-- The same sum over a block. -/
def blockSum (p : Vec Ideal S8x1x512x256 .bf16) (r : Fin 512) (s : Fin 256) : EReal := ∑ k : Fin 8, p (ix4 k 0 r s)

theorem sum_at (c : Dev nD) (t : Fin cfg0.N) (r : Fin 512) (i : Fin 1024) (s : Fin 256) (h : i.val = t.val * 512 + r.val) :
    blockSum (iblk m c 0 t) r s = grad (m ((c : Thread nD τ).loc main_arg0)) i s :=
  Finset.sum_congr rfl fun k _ => parts_at m c t k r i s h

section
variable (a : FVec Ideal S512x256 .f32) (b : Vec Ideal S1x1x512x256 .bf16) (w x v : Vec Ideal S1x512x256 .f32) (r : Fin 512) (s : Fin 256)

theorem read_grad : k0_pay8 a b (ix3 0 r s) = k0_pay5 a b (ix2 r s) := by
  pointwise [k0_pay8]
  try rfl

theorem read_first : k0_pay2 (k0_pay6 a b x) (ix3 0 r s) = Adam.first (k0_pay5 a b (ix2 r s)) (x (ix3 0 r s)) := by
  pointwise [k0_pay2, k0_pay6]
  try rfl

theorem read_second : k0_pay3 (k0_pay7 a b v) (ix3 0 r s) = Adam.second (k0_pay5 a b (ix2 r s)) (v (ix3 0 r s)) := by
  pointwise [k0_pay3, k0_pay7]
  try rfl

theorem read_step : k0_pay1 (k0_pay9 a b x v w) (ix3 0 r s)
    = step (k0_pay5 a b (ix2 r s)) (w (ix3 0 r s)) (x (ix3 0 r s)) (v (ix3 0 r s)) := by
  pointwise [k0_pay1, k0_pay9, k0_pay6, k0_pay7]
  try rfl

end

theorem out_grad (c : Dev nD) (t : Fin cfg0.N) (u : Fin 1) (r : Fin 512) (s : Fin 256) : (outsAt0 m c t).1 (ix3 u r s)
    = (blockSum (iblk m c 0 t) r s) := by
  obtain rfl : u = 0 := Subsingleton.elim _ _
  unfold outsAt0
  frame_out
  refine (read_grad _ _ r s).trans ?_
  refine congrArg (fun q : EReal => q) ?_
  unfold blockSum
  rw [Fin.sum_univ_eight]
  pointwise [k0_pay4, k0_pay5]
  try rfl

theorem out_step (c : Dev nD) (t : Fin cfg0.N) (u : Fin 1) (r : Fin 512) (s : Fin 256) : (outsAt0 m c t).2.1 (ix3 u r s)
    = step (blockSum (iblk m c 0 t) r s) ((iblk m c 1 t : Vec Ideal S1x512x256 .f32) (ix3 0 r s)) ((iblk m c 2 t : Vec Ideal S1x512x256 .f32) (ix3 0 r s)) ((iblk m c 3 t : Vec Ideal S1x512x256 .f32) (ix3 0 r s)) := by
  obtain rfl : u = 0 := Subsingleton.elim _ _
  unfold outsAt0
  frame_out
  refine (read_step _ _ _ _ _ r s).trans ?_
  refine congrArg (fun q : EReal => step q _ _ _) ?_
  unfold blockSum
  rw [Fin.sum_univ_eight]
  pointwise [k0_pay4, k0_pay5]
  try rfl

theorem out_first (c : Dev nD) (t : Fin cfg0.N) (u : Fin 1) (r : Fin 512) (s : Fin 256) : (outsAt0 m c t).2.2.1 (ix3 u r s)
    = Adam.first (blockSum (iblk m c 0 t) r s) ((iblk m c 2 t : Vec Ideal S1x512x256 .f32) (ix3 0 r s)) := by
  obtain rfl : u = 0 := Subsingleton.elim _ _
  unfold outsAt0
  frame_out
  refine (read_first _ _ _ r s).trans ?_
  refine congrArg (fun q : EReal => Adam.first q _) ?_
  unfold blockSum
  rw [Fin.sum_univ_eight]
  pointwise [k0_pay4, k0_pay5]
  try rfl

theorem out_second (c : Dev nD) (t : Fin cfg0.N) (u : Fin 1) (r : Fin 512) (s : Fin 256) : (outsAt0 m c t).2.2.2 (ix3 u r s)
    = Adam.second (blockSum (iblk m c 0 t) r s) ((iblk m c 3 t : Vec Ideal S1x512x256 .f32) (ix3 0 r s)) := by
  obtain rfl : u = 0 := Subsingleton.elim _ _
  unfold outsAt0
  frame_out
  refine (read_second _ _ _ r s).trans ?_
  refine congrArg (fun q : EReal => Adam.second q _) ?_
  unfold blockSum
  rw [Fin.sum_univ_eight]
  pointwise [k0_pay4, k0_pay5]
  try rfl

/-! ## The whole arrays -/

/-- Layer 0 is `f`, and the other layers are those of `prev`. -/
def layer (f : Fin 1024 → Fin 256 → EReal) (prev : Vec Ideal S4x1024x256 .f32) : Vec Ideal S4x1024x256 .f32 :=
  fun j => if (j 0).val / 1 = 0 then f (j 1) (j 2) else prev j

/-- The new gradient. -/
def gradArr (p : Vec Ideal S8x3x1024x256 .bf16) (g : Vec Ideal S4x1024x256 .f32) : Vec Ideal S4x1024x256 .f32 :=
  layer (fun i s => grad p i s) g

/-- The step. -/
def stepArr (p : Vec Ideal S8x3x1024x256 .bf16) (w : Vec Ideal S4x1024x256 .f32) (m : Vec Ideal S4x1024x256 .f32) (v : Vec Ideal S4x1024x256 .f32) (d : Vec Ideal S4x1024x256 .f32) : Vec Ideal S4x1024x256 .f32 :=
  layer (fun i s => step (grad p i s) (w (ix3 0 i s)) (m (ix3 0 i s)) (v (ix3 0 i s))) d

/-- The first moment. -/
def firstArr (p : Vec Ideal S8x3x1024x256 .bf16) (m : Vec Ideal S4x1024x256 .f32) (a : Vec Ideal S4x1024x256 .f32) : Vec Ideal S4x1024x256 .f32 :=
  layer (fun i s => Adam.first (grad p i s) (m (ix3 0 i s))) a

/-- The second moment. -/
def secondArr (p : Vec Ideal S8x3x1024x256 .bf16) (v : Vec Ideal S4x1024x256 .f32) (b : Vec Ideal S4x1024x256 .f32) : Vec Ideal S4x1024x256 .f32 :=
  layer (fun i s => Adam.second (grad p i s) (v (ix3 0 i s))) b

theorem final_grad (c : Dev nD) : (dats m 0 c).arrAt 4 cfg0.N
    = gradArr (m ((c : Thread nD τ).loc main_arg0)) (m ((c : Thread nD τ).loc main_arg4)) := by
  have hA : (dats m 0 c).A 4 = m ((c : Thread nD τ).loc main_arg4) := by
    show V m c main_v0_0 = _
    unfold V
    simp only [hostOps0, List.flatten_cons, List.flatten_nil, List.append_nil]
    after_results
    rfl
  unfold gradArr layer
  rw [← hA]
  refine (dats m 0 c).arrAt_eq_of_coversWhere 4 _ (fun β => β 0 = 0) (by decide +kernel) (fun t hf y => ?_) (fun j => Iff.rfl)
  blk_simp
  rw [after0_4]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 4).blk t).view.emb (ix3 u r s) : S4x1024x256.Idx) 1).val = t.val * 512 + r.val := by
    blk_simp [index_4] <;> omega
  have e2 : ((((cfg0.win 4).blk t).view.emb (ix3 u r s) : S4x1024x256.Idx) 2) = s := by
    apply Fin.ext
    blk_simp [index_4] <;> omega
  generalize (((cfg0.win 4).blk t).view.emb (ix3 u r s) : S4x1024x256.Idx) = j at e1 e2
  rw [e2, out_grad]
  generalize j 1 = i at e1
  rw [sum_at m c t r i s e1]

theorem final_step (c : Dev nD) : (dats m 0 c).arrAt 5 cfg0.N
    = stepArr (m ((c : Thread nD τ).loc main_arg0)) (m ((c : Thread nD τ).loc main_arg1)) (m ((c : Thread nD τ).loc main_arg2)) (m ((c : Thread nD τ).loc main_arg3)) (m ((c : Thread nD τ).loc main_arg5)) := by
  have hA : (dats m 0 c).A 5 = m ((c : Thread nD τ).loc main_arg5) := by
    show V m c main_v0_1 = _
    unfold V
    simp only [hostOps0, List.flatten_cons, List.flatten_nil, List.append_nil]
    after_results
    rfl
  unfold stepArr layer
  rw [← hA]
  refine (dats m 0 c).arrAt_eq_of_coversWhere 5 _ (fun β => β 0 = 0) (by decide +kernel) (fun t hf y => ?_) (fun j => Iff.rfl)
  blk_simp
  rw [after0_5]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 5).blk t).view.emb (ix3 u r s) : S4x1024x256.Idx) 1).val = t.val * 512 + r.val := by
    blk_simp [index_5] <;> omega
  have e2 : ((((cfg0.win 5).blk t).view.emb (ix3 u r s) : S4x1024x256.Idx) 2) = s := by
    apply Fin.ext
    blk_simp [index_5] <;> omega
  generalize (((cfg0.win 5).blk t).view.emb (ix3 u r s) : S4x1024x256.Idx) = j at e1 e2
  rw [e2, out_step]
  generalize j 1 = i at e1
  rw [sum_at m c t r i s e1, weight_at m c t r i s e1, first_at m c t r i s e1, second_at m c t r i s e1]

theorem final_first (c : Dev nD) : (dats m 0 c).arrAt 6 cfg0.N
    = firstArr (m ((c : Thread nD τ).loc main_arg0)) (m ((c : Thread nD τ).loc main_arg2)) (m ((c : Thread nD τ).loc main_arg6)) := by
  have hA : (dats m 0 c).A 6 = m ((c : Thread nD τ).loc main_arg6) := by
    show V m c main_v0_2 = _
    unfold V
    simp only [hostOps0, List.flatten_cons, List.flatten_nil, List.append_nil]
    after_results
    rfl
  unfold firstArr layer
  rw [← hA]
  refine (dats m 0 c).arrAt_eq_of_coversWhere 6 _ (fun β => β 0 = 0) (by decide +kernel) (fun t hf y => ?_) (fun j => Iff.rfl)
  blk_simp
  rw [after0_6]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 6).blk t).view.emb (ix3 u r s) : S4x1024x256.Idx) 1).val = t.val * 512 + r.val := by
    blk_simp [index_6] <;> omega
  have e2 : ((((cfg0.win 6).blk t).view.emb (ix3 u r s) : S4x1024x256.Idx) 2) = s := by
    apply Fin.ext
    blk_simp [index_6] <;> omega
  generalize (((cfg0.win 6).blk t).view.emb (ix3 u r s) : S4x1024x256.Idx) = j at e1 e2
  rw [e2, out_first]
  generalize j 1 = i at e1
  rw [sum_at m c t r i s e1, first_at m c t r i s e1]

theorem final_second (c : Dev nD) : (dats m 0 c).arrAt 7 cfg0.N
    = secondArr (m ((c : Thread nD τ).loc main_arg0)) (m ((c : Thread nD τ).loc main_arg3)) (m ((c : Thread nD τ).loc main_arg7)) := by
  have hA : (dats m 0 c).A 7 = m ((c : Thread nD τ).loc main_arg7) := by
    show V m c main_v0_3 = _
    unfold V
    simp only [hostOps0, List.flatten_cons, List.flatten_nil, List.append_nil]
    after_results
    rfl
  unfold secondArr layer
  rw [← hA]
  refine (dats m 0 c).arrAt_eq_of_coversWhere 7 _ (fun β => β 0 = 0) (by decide +kernel) (fun t hf y => ?_) (fun j => Iff.rfl)
  blk_simp
  rw [after0_7]
  obtain ⟨u, r, s, rfl⟩ : ∃ (u : Fin 1) (r : Fin 512) (s : Fin 256), y = ix3 u r s := ⟨y 0, y 1, y 2, by
    funext a
    match a with
    | ⟨0, _⟩ => rfl
    | ⟨1, _⟩ => rfl
    | ⟨2, _⟩ => rfl⟩
  have e1 : ((((cfg0.win 7).blk t).view.emb (ix3 u r s) : S4x1024x256.Idx) 1).val = t.val * 512 + r.val := by
    blk_simp [index_7] <;> omega
  have e2 : ((((cfg0.win 7).blk t).view.emb (ix3 u r s) : S4x1024x256.Idx) 2) = s := by
    apply Fin.ext
    blk_simp [index_7] <;> omega
  generalize (((cfg0.win 7).blk t).view.emb (ix3 u r s) : S4x1024x256.Idx) = j at e1 e2
  rw [e2, out_second]
  generalize j 1 = i at e1
  rw [sum_at m c t r i s e1, second_at m c t r i s e1]

/-! ## The reference -/

section
open Cert.Reference29Ideal.Read

variable (p : Vec Ideal S8x3x1024x256 .bf16) (w m v g d a b : Vec Ideal S4x1024x256 .f32)

theorem reference_sum (i : Fin 1024) (s : Fin 256) : val_main_v3 (F := Ideal) p (ix2 i s) = grad p i s := by
  pointwise [val_main_v0, val_main_v1, val_main_v2, val_main_v3, val_main_cst]
  rfl

theorem reference_step_at (i : Fin 1024) (s : Fin 256) : val_main_v33 (F := Ideal) p w m v (ix2 i s)
    = step (grad p i s) (w (ix3 0 i s)) (m (ix3 0 i s)) (v (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

theorem reference_first_at (i : Fin 1024) (s : Fin 256) : val_main_v14 (F := Ideal) p m (ix2 i s)
    = Adam.first (grad p i s) (m (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

theorem reference_second_at (i : Fin 1024) (s : Fin 256) : val_main_v20 (F := Ideal) p v (ix2 i s)
    = Adam.second (grad p i s) (v (ix3 0 i s)) := by
  rw [← reference_sum]
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_0, val_main_cst_1, val_main_cst_2, val_main_cst_3, val_main_cst_4, val_main_cst_5, val_main_cst_6, val_main_cst_7, val_main_cst_8]
  try rfl

/-- Every position of a result lies in layer 0 or behind it. -/
theorem layer_ext (x : Vec Ideal S4x1024x256 .f32) (f : Fin 1024 → Fin 256 → EReal) (prev : Vec Ideal S4x1024x256 .f32)
    (h0 : ∀ i s, x (ix3 0 i s) = f i s) (h1 : ∀ i s, x (ix3 1 i s) = prev (ix3 1 i s))
    (h2 : ∀ i s, x (ix3 2 i s) = prev (ix3 2 i s)) (h3 : ∀ i s, x (ix3 3 i s) = prev (ix3 3 i s)) : x = layer f prev := by
  funext j
  obtain ⟨l, i, s, rfl⟩ : ∃ (l : Fin 4) (i : Fin 1024) (s : Fin 256), j = ix3 l i s := ⟨j 0, j 1, j 2, by
    funext a
    match a with
    | ⟨0, _⟩ => rfl
    | ⟨1, _⟩ => rfl
    | ⟨2, _⟩ => rfl⟩
  match l with
  | 0 => exact (h0 i s).trans (if_pos (show (0 : ℕ) / 1 = 0 by decide)).symm
  | 1 => exact (h1 i s).trans (if_neg (show ¬(1 : ℕ) / 1 = 0 by decide)).symm
  | 2 => exact (h2 i s).trans (if_neg (show ¬(2 : ℕ) / 1 = 0 by decide)).symm
  | 3 => exact (h3 i s).trans (if_neg (show ¬(3 : ℕ) / 1 = 0 by decide)).symm

theorem reference_gradArr : val_main_v36 (F := Ideal) p g = gradArr p g := by
  refine layer_ext _ _ _ (fun i s => ?_) (fun i s => ?_) (fun i s => ?_) (fun i s => ?_)
  · refine Eq.trans ?_ (reference_sum p i s)
    unfold val_main_v36 val_main_v34 val_main_v35
    generalize val_main_v3 (F := Ideal) p = z
    pointwise
  all_goals
    unfold val_main_v36 val_main_v34 val_main_v35
    generalize val_main_v3 (F := Ideal) p = z
    pointwise

theorem reference_stepArr : val_main_v39 (F := Ideal) p w m v d = stepArr p w m v d := by
  refine layer_ext _ _ _ (fun i s => ?_) (fun i s => ?_) (fun i s => ?_) (fun i s => ?_)
  · refine Eq.trans ?_ (reference_step_at p w m v i s)
    unfold val_main_v39 val_main_v37 val_main_v38
    generalize val_main_v33 (F := Ideal) p w m v = z
    pointwise
  all_goals
    unfold val_main_v39 val_main_v37 val_main_v38
    generalize val_main_v33 (F := Ideal) p w m v = z
    pointwise

theorem reference_firstArr : val_main_v42 (F := Ideal) p m a = firstArr p m a := by
  refine layer_ext _ _ _ (fun i s => ?_) (fun i s => ?_) (fun i s => ?_) (fun i s => ?_)
  · refine Eq.trans ?_ (reference_first_at p m i s)
    unfold val_main_v42 val_main_v40 val_main_v41
    generalize val_main_v14 (F := Ideal) p m = z
    pointwise
  all_goals
    unfold val_main_v42 val_main_v40 val_main_v41
    generalize val_main_v14 (F := Ideal) p m = z
    pointwise

theorem reference_secondArr : val_main_v45 (F := Ideal) p v b = secondArr p v b := by
  refine layer_ext _ _ _ (fun i s => ?_) (fun i s => ?_) (fun i s => ?_) (fun i s => ?_)
  · refine Eq.trans ?_ (reference_second_at p v i s)
    unfold val_main_v45 val_main_v43 val_main_v44
    generalize val_main_v20 (F := Ideal) p v = z
    pointwise
  all_goals
    unfold val_main_v45 val_main_v43 val_main_v44
    generalize val_main_v20 (F := Ideal) p v = z
    pointwise

end

theorem algebraic : Cert.algebraic_Kernel29Ideal_Reference29Ideal := by
  intro m g m' g' _ hargs
  refine ⟨fun c => gradArr (m ((c : Thread nD τ).loc main_arg0)) (m ((c : Thread nD τ).loc main_arg4)),
    fun c => stepArr (m ((c : Thread nD τ).loc main_arg0)) (m ((c : Thread nD τ).loc main_arg1)) (m ((c : Thread nD τ).loc main_arg2)) (m ((c : Thread nD τ).loc main_arg3)) (m ((c : Thread nD τ).loc main_arg5)),
    fun c => firstArr (m ((c : Thread nD τ).loc main_arg0)) (m ((c : Thread nD τ).loc main_arg2)) (m ((c : Thread nD τ).loc main_arg6)),
    fun c => secondArr (m ((c : Thread nD τ).loc main_arg0)) (m ((c : Thread nD τ).loc main_arg3)) (m ((c : Thread nD τ).loc main_arg7)), ?_, ?_⟩
  · exact (θ_run defs _ _).mono (fun r h c => ⟨((h c).1 4).trans (final_grad m c), ((h c).1 5).trans (final_step m c),
      ((h c).1 6).trans (final_first m c), ((h c).1 7).trans (final_second m c), Value.kept_main_arg0 m r h c, Value.kept_main_arg1 m r h c, Value.kept_main_arg2 m r h c, Value.kept_main_arg3 m r h c, Value.kept_main_arg4 m r h c, Value.kept_main_arg5 m r h c, Value.kept_main_arg6 m r h c, Value.kept_main_arg7 m r h c, Value.kept_main_arg8 m r h c⟩)
      (run_main m g)
  · refine (θ_run Cert.Reference29Ideal.defs _ _).mono (fun r h c => ⟨?_, ?_, ?_, ?_, (h c).2.2.2.2⟩)
      (Cert.Reference29Ideal.Value.run m' g')
    all_goals obtain ⟨e0, e1, e2, e3, e4, e5, e6, e7, e8⟩ := hargs c
    · rw [(h c).1, e0, e4]
      exact reference_gradArr _ _
    · rw [(h c).2.1, e0, e1, e2, e3, e5]
      exact reference_stepArr _ _ _ _ _
    · rw [(h c).2.2.1, e0, e2, e6]
      exact reference_firstArr _ _ _
    · rw [(h c).2.2.2.1, e0, e3, e7]
      exact reference_secondArr _ _ _

end Cert.AdamWXOut

end
-- ==== Proof.KvProduct.lean ====
module

public import proofs.«01_k».proof.Defs
public import proofs.«01_k».proof.Proof.Product
public import proofs.«01_k».proof.Proof.Gen.Kernel32Ideal.Value
public import proofs.«01_k».proof.Proof.Gen.Reference32Ideal.Read
public import Idealize.ShloMosaic.Lib.Pipeline.ValueKit.Acc
public import Idealize.ShloMosaic.Lib.Pipeline.ValueKit.Geometry

/-!
# The keys and values of the memory

The one grid point multiplies the whole arrays; its block is the whole result, which is the reference's.
-/

@[expose] public section

noncomputable section

open Idealize.ShloMosaic Idealize.ShloMosaic.TcCoe Idealize.SL.Sem

namespace Cert.KvProduct

open Cert.Kernel32Ideal Cert.Kernel32Ideal.Gen Cert.Product

variable (m : (ℓ : Loc nD τ sig) → Buf (Elt Ideal) ℓ)

/-! ## Where the blocks lie -/

theorem index_0 : ∀ t : Fin cfg0.N, win0_0.index t = ![0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

theorem lhs_at (c : Dev nD) (t : Fin cfg0.N) (y : S256x2048.Idx) (j : S256x2048.Idx)
    (h0 : (j 0).val = (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S2048x2048.Idx) (j : S2048x2048.Idx)
    (h0 : (j 0).val = (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S256x2048 .bf16) (b : Vec Ideal S2048x2048 .bf16) (r : Fin 256) (s : Fin 2048) :
    k0_pay1 (F := Ideal) a b (ix2 r s) = inner (fun k => a (ix2 r k)) (fun k => b (ix2 k s)) := by
  pointwise [k0_pay1]
  rfl

/-- The whole product. -/
def product (a : Vec Ideal S256x2048 .bf16) (b : Vec Ideal S2048x2048 .bf16) : Vec Ideal S256x2048 .bf16 :=
  fun j => inner (fun k : Fin 2048 => a (ix2 (j 0) k)) (fun k => b (ix2 k (j 1)))

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 256) (s : Fin 2048), y = ix2 r s := ⟨y 0, y 1, by
    funext a
    match a with
    | ⟨0, _⟩ => rfl
    | ⟨1, _⟩ => rfl⟩
  have e0 : ((((cfg0.win 2).blk t).view.emb (ix2 r s) : S256x2048.Idx) 0).val = r.val := by
    blk_simp [index_2] <;> omega
  have e1 : ((((cfg0.win 2).blk t).view.emb (ix2 r s) : S256x2048.Idx) 1).val = s.val := by
    blk_simp [index_2] <;> omega
  generalize (((cfg0.win 2).blk t).view.emb (ix2 r s) : S256x2048.Idx) = j at e0 e1
  frame_out
  rw [first_at]
  refine inner_congr (fun k => ?_) (fun k => ?_)
  · exact lhs_at m c t _ _ (by show (j 0).val = r.val; omega) rfl
  · exact rhs_at m c t _ _ rfl (by show (j 1).val = s.val; omega)

/-! ## The reference -/

/-- The reference's result is the same sum. -/
theorem reference_eq (a : Vec Ideal S256x2048 .bf16) (b : Vec Ideal S2048x2048 .bf16) :
    Cert.Reference32Ideal.Read.val_main_v3 (F := Ideal) a b = product a b := by
  funext j
  obtain ⟨r, s, rfl⟩ : ∃ (r : Fin 256) (s : Fin 2048), j = ix2 r s := ⟨j 0, j 1, by
    funext a
    match a with
    | ⟨0, _⟩ => rfl
    | ⟨1, _⟩ => rfl⟩
  show Cert.Reference32Ideal.Read.val_main_v3 (F := Ideal) a b (ix2 r s) = inner (fun k : Fin 2048 => a (ix2 r k)) (fun k => b (ix2 k s))
  rw [← Cert.Reference32Ideal.Read.val_main_v3_eq]
  pointwise
  rfl

theorem algebraic : Cert.algebraic_Kernel32Ideal_Reference32Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference32Ideal.defs _ _).mono (fun r h c => ⟨(h c).1.trans ?_, (h c).2⟩) (Cert.Reference32Ideal.Value.run m' g')
    obtain ⟨e0, e1⟩ := hargs c
    exact (congrArg₂ _ e0 e1).trans (reference_eq _ _)

end Cert.KvProduct

end
-- ==== Proof.GwKv.lean ====
module

public import proofs.«01_k».proof.Defs
public import proofs.«01_k».proof.Proof.Product
public import proofs.«01_k».proof.Proof.Gen.Kernel33Ideal.Value
public import proofs.«01_k».proof.Proof.Gen.Reference33Ideal.Read
public import Idealize.ShloMosaic.Lib.Pipeline.ValueKit.Acc
public import Idealize.ShloMosaic.Lib.Pipeline.ValueKit.Geometry

/-!
# The gradient of the key and value projection weight

Grid point `t` multiplies one pair of blocks. The contracted axis is not cut, so each point writes a finished block.
The blocks cover the result array, so it is the whole product, which is the reference's.
-/

@[expose] public section

noncomputable section

open Idealize.ShloMosaic Idealize.ShloMosaic.TcCoe Idealize.SL.Sem

namespace Cert.GwKv

open Cert.Kernel33Ideal Cert.Kernel33Ideal.Gen Cert.Product

variable (m : (ℓ : Loc nD τ sig) → Buf (Elt Ideal) ℓ)

/-! ## Where the blocks lie -/

theorem index_0 : ∀ t : Fin cfg0.N, win0_0.index t = ![0, t.val / 2] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

theorem lhs_at (c : Dev nD) (t : Fin cfg0.N) (y : S256x1024.Idx) (j : S256x2048.Idx)
    (h0 : (j 0).val = (y 0).val) (h1 : (j 1).val = t.val / 2 * 1024 + (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S256x1024.Idx) (j : S256x2048.Idx)
    (h0 : (j 0).val = (y 0).val) (h1 : (j 1).val = t.val % 2 * 1024 + (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S256x1024 .bf16) (b : Vec Ideal S256x1024 .bf16) (r : Fin 1024) (s : Fin 1024) :
    k0_pay1 (F := Ideal) a b (ix2 r s) = inner (fun k => a (ix2 k r)) (fun k => b (ix2 k s)) := by
  pointwise [k0_pay1]
  rfl

/-- The whole product. -/
def product (a : Vec Ideal S256x2048 .bf16) (b : Vec Ideal S256x2048 .bf16) : Vec Ideal S2048x2048 .bf16 :=
  fun j => inner (fun k : Fin 256 => a (ix2 k (j 0))) (fun k => b (ix2 k (j 1)))

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 1024) (s : Fin 1024), y = ix2 r s := ⟨y 0, y 1, by
    funext a
    match a with
    | ⟨0, _⟩ => rfl
    | ⟨1, _⟩ => rfl⟩
  have e0 : ((((cfg0.win 2).blk t).view.emb (ix2 r s) : S2048x2048.Idx) 0).val = t.val / 2 * 1024 + r.val := by
    blk_simp [index_2] <;> omega
  have e1 : ((((cfg0.win 2).blk t).view.emb (ix2 r s) : S2048x2048.Idx) 1).val = t.val % 2 * 1024 + s.val := by
    blk_simp [index_2] <;> omega
  generalize (((cfg0.win 2).blk t).view.emb (ix2 r s) : S2048x2048.Idx) = j at e0 e1
  frame_out
  rw [first_at]
  refine inner_congr (fun k => ?_) (fun k => ?_)
  · exact lhs_at m c t _ _ rfl (by show (j 0).val = t.val / 2 * 1024 + r.val; omega)
  · exact rhs_at m c t _ _ rfl (by show (j 1).val = t.val % 2 * 1024 + s.val; omega)

/-! ## The reference -/

/-- The reference's result is the same sum with the factors exchanged. -/
theorem reference_eq (a : Vec Ideal S256x2048 .bf16) (b : Vec Ideal S256x2048 .bf16) :
    Cert.Reference33Ideal.Read.val_main_v6 (F := Ideal) a b = product a b := by
  funext j
  obtain ⟨r, s, rfl⟩ : ∃ (r : Fin 2048) (s : Fin 2048), j = ix2 r s := ⟨j 0, j 1, by
    funext a
    match a with
    | ⟨0, _⟩ => rfl
    | ⟨1, _⟩ => rfl⟩
  show Cert.Reference33Ideal.Read.val_main_v6 (F := Ideal) a b (ix2 r s) = inner (fun k : Fin 256 => a (ix2 k r)) (fun k => b (ix2 k s))
  rw [← Cert.Reference33Ideal.Read.val_main_v6_eq, inner_comm]
  pointwise
  rfl

theorem algebraic : Cert.algebraic_Kernel33Ideal_Reference33Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference33Ideal.defs _ _).mono (fun r h c => ⟨(h c).1.trans ?_, (h c).2⟩) (Cert.Reference33Ideal.Value.run m' g')
    obtain ⟨e0, e1⟩ := hargs c
    exact (congrArg₂ _ e0 e1).trans (reference_eq _ _)

end Cert.GwKv

end
-- ==== Proof.KvBwd.lean ====
module

public import proofs.«01_k».proof.Defs
public import proofs.«01_k».proof.Proof.Product
public import proofs.«01_k».proof.Proof.Gen.Kernel34Ideal.Value
public import proofs.«01_k».proof.Proof.Gen.Reference34Ideal.Read
public import Idealize.ShloMosaic.Lib.Pipeline.ValueKit.Acc
public import Idealize.ShloMosaic.Lib.Pipeline.ValueKit.Geometry

/-!
# The gradient of the normalised memory through the key and value projection

Grid point `t` multiplies one pair of blocks. The contracted axis is not cut, so each point writes a finished block.
The blocks cover the result array, so it is the whole product, which is the reference's.
-/

@[expose] public section

noncomputable section

open Idealize.ShloMosaic Idealize.ShloMosaic.TcCoe Idealize.SL.Sem

namespace Cert.KvBwd

open Cert.Kernel34Ideal Cert.Kernel34Ideal.Gen Cert.Product

variable (m : (ℓ : Loc nD τ sig) → Buf (Elt Ideal) ℓ)

/-! ## Where the blocks lie -/

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, t.val] := (by decide +kernel : ∀ t : Fin grid0.N, _)

theorem lhs_at (c : Dev nD) (t : Fin cfg0.N) (y : S256x2048.Idx) (j : S256x2048.Idx)
    (h0 : (j 0).val = (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem rhs_at (c : Dev nD) (t : Fin cfg0.N) (y : S1024x2048.Idx) (j : S2048x2048.Idx)
    (h0 : (j 0).val = t.val * 1024 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

/-! ## What a point computes -/

theorem first_at (a : Vec Ideal S256x2048 .bf16) (b : Vec Ideal S1024x2048 .bf16) (r : Fin 256) (s : Fin 1024) :
    k0_pay1 (F := Ideal) a b (ix2 r s) = inner (fun k => a (ix2 r k)) (fun k => b (ix2 s k)) := by
  pointwise [k0_pay1]
  rfl

/-- The whole product. -/
def product (a : Vec Ideal S256x2048 .bf16) (b : Vec Ideal S2048x2048 .bf16) : Vec Ideal S256x2048 .f32 :=
  fun j => inner (fun k : Fin 2048 => a (ix2 (j 0) k)) (fun k => b (ix2 (j 1) k))

/-- The result array is the whole product. -/
theorem final (c : Dev nD) : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 256) (s : Fin 1024), y = ix2 r s := ⟨y 0, y 1, by
    funext a
    match a with
    | ⟨0, _⟩ => rfl
    | ⟨1, _⟩ => rfl⟩
  have e0 : ((((cfg0.win 2).blk t).view.emb (ix2 r s) : S256x2048.Idx) 0).val = r.val := by
    blk_simp [index_2] <;> omega
  have e1 : ((((cfg0.win 2).blk t).view.emb (ix2 r s) : S256x2048.Idx) 1).val = t.val * 1024 + s.val := by
    blk_simp [index_2] <;> omega
  generalize (((cfg0.win 2).blk t).view.emb (ix2 r s) : S256x2048.Idx) = j at e0 e1
  frame_out
  rw [first_at]
  refine inner_congr (fun k => ?_) (fun k => ?_)
  · exact lhs_at m c t _ _ (by show (j 0).val = r.val; omega) rfl
  · exact rhs_at m c t _ _ (by show (j 1).val = t.val * 1024 + s.val; omega) rfl

/-! ## The reference -/

/-- The reference's result is the same sum. -/
theorem reference_eq (a : Vec Ideal S256x2048 .bf16) (b : Vec Ideal S2048x2048 .bf16) :
    Cert.Reference34Ideal.Read.val_main_v4 (F := Ideal) a b = product a b := by
  funext j
  obtain ⟨r, s, rfl⟩ : ∃ (r : Fin 256) (s : Fin 2048), j = ix2 r s := ⟨j 0, j 1, by
    funext a
    match a with
    | ⟨0, _⟩ => rfl
    | ⟨1, _⟩ => rfl⟩
  show Cert.Reference34Ideal.Read.val_main_v4 (F := Ideal) a b (ix2 r s) = inner (fun k : Fin 2048 => a (ix2 r k)) (fun k => b (ix2 s k))
  rw [← Cert.Reference34Ideal.Read.val_main_v4_eq]
  pointwise
  rfl

theorem algebraic : Cert.algebraic_Kernel34Ideal_Reference34Ideal := by
  intro m g m' g' _ hargs
  refine ⟨fun c => product (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c⟩)
      (run_main m g)
  · refine (θ_run Cert.Reference34Ideal.defs _ _).mono (fun r h c => ⟨(h c).1.trans ?_, (h c).2⟩) (Cert.Reference34Ideal.Value.run m' g')
    obtain ⟨e0, e1⟩ := hargs c
    exact (congrArg₂ _ e0 e1).trans (reference_eq _ _)

end Cert.KvBwd

end
-- ==== Proof.RowNorm.lean ====
module

public import Idealize.ShloMosaic.PureOps.Ideal.Laws
public import Idealize.ShloMosaic.Lib.IdealHost

/-!
# One row's norm and its slope, over the extended reals
-/

@[expose] public section

noncomputable section

open scoped BigOperators
open Idealize.ShloMosaic

namespace Cert.RowNorm

theorem width_eq : Ideal.ofBits .f32 0x45000000#32 = ((2048 : ℝ) : EReal) := by
  simp [Ideal.ofBits, Ideal.ieee, -EReal.coe_mul]; norm_num

theorem eps_eq : Ideal.ofBits .f32 0x358637BD#32 = ((8796093 / 8796093022208 : ℝ) : EReal) := by
  simp [Ideal.ofBits, Ideal.ieee, -EReal.coe_mul]; norm_num

theorem minus_half_eq : Ideal.ofBits .f32 0xBF000000#32 = ((-(1 / 2) : ℝ) : EReal) := by
  simp [Ideal.ofBits, Ideal.ieee, -EReal.coe_mul, -EReal.coe_neg]; norm_num

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_inv_eq : Ideal.ofBits .f32 0x3A000000#32 = ((1 / 2048 : ℝ) : EReal) := by
  simp [Ideal.ofBits, Ideal.ieee, -EReal.coe_mul]; norm_num

/-- The mean of a row's squares and the small constant. -/
def spread (X : Fin 2048 → EReal) : EReal := Ideal.div (∑ k, X k * X k) (Ideal.ofBits .f32 0x45000000#32) + Ideal.ofBits .f32 0x358637BD#32

/-- The reciprocal of its root. -/
def inv (X : Fin 2048 → EReal) : EReal := Ideal.rsqrt (spread X)

theorem square_nonneg (x : EReal) : 0 ≤ x * x := by
  induction x with
  | bot => simp
  | top => simp
  | coe r => rw [← EReal.coe_mul]; exact EReal.coe_nonneg.mpr (mul_self_nonneg r)

/-- It is infinite or a positive real. -/
theorem spread_cases (X : Fin 2048 → EReal) : spread X = ⊤ ∨ ∃ a : ℝ, 0 < a ∧ spread X = a := by
  have h : 0 ≤ ∑ k, X k * X k := Finset.sum_nonneg fun k _ => square_nonneg (X k)
  unfold spread
  rw [width_eq, eps_eq, Ideal.div_coe (by norm_num)]
  generalize (∑ k, X k * X k) = M at h
  induction M with
  | bot => exact absurd h (by simp)
  | top => left; rw [EReal.top_mul_coe_of_pos (by norm_num), EReal.top_add_coe]
  | coe r =>
    right
    refine ⟨r * (1 / 2048) + 8796093 / 8796093022208, ?_, by push_cast; rfl⟩
    have : 0 ≤ r := EReal.coe_nonneg.mp h
    positivity

theorem twice (y : EReal) (p : ℝ) (hp : 0 < p) : y * ((-(1 / 2) * p : ℝ) : EReal) + y * ((-(1 / 2) * p : ℝ) : EReal) = -(y * (p : EReal)) := by
  have hn : -(1 / 2) * p < 0 := by linarith
  induction y with
  | bot => rw [EReal.bot_mul_coe_of_neg hn, EReal.bot_mul_coe_of_pos hp]; rfl
  | top => rw [EReal.top_mul_coe_of_neg hn, EReal.top_mul_coe_of_pos hp]; rfl
  | coe r =>
    rw [← EReal.coe_mul, ← EReal.coe_mul, ← EReal.coe_add, ← EReal.coe_neg]
    congr 1
    ring

/-- The two equal terms in which the derivative of the norm comes out are one with the third power of the reciprocal root. -/
theorem slope (A M x : EReal) (h : A = ⊤ ∨ ∃ a : ℝ, 0 < a ∧ A = a) :
    x * Ideal.div (M * (Ideal.ofBits .f32 0xBF000000#32 * Ideal.div (Ideal.rsqrt A) A)) (Ideal.ofBits .f32 0x45000000#32)
      + Ideal.div (M * (Ideal.ofBits .f32 0xBF000000#32 * Ideal.div (Ideal.rsqrt A) A)) (Ideal.ofBits .f32 0x45000000#32) * x
      = -(x * (Ideal.rsqrt A * Ideal.rsqrt A * Ideal.rsqrt A * Ideal.div M (Ideal.ofBits .f32 0x45000000#32))) := by
  rw [width_eq, minus_half_eq, Ideal.div_coe (by norm_num), Ideal.div_coe (by norm_num)]
  rcases h with rfl | ⟨a, ha, rfl⟩
  · have e : Ideal.div (Ideal.rsqrt ⊤) ⊤ = 0 := by simp [Ideal.div]
    rw [e]
    simp
  · have e : Ideal.rsqrt (a : EReal) = (((Real.sqrt a)⁻¹ : ℝ) : EReal) := by
      rw [Ideal.rsqrt_coe, if_neg (not_lt.mpr ha.le), if_neg ha.ne']
    rw [Ideal.div_coe ha.ne', e]
    have hs : 0 < Real.sqrt a := Real.sqrt_pos.mpr ha
    have e1 : (Real.sqrt a)⁻¹ * (1 / a) = (Real.sqrt a)⁻¹ * (Real.sqrt a)⁻¹ * (Real.sqrt a)⁻¹ := by
      have : (1 / a) = (Real.sqrt a)⁻¹ * (Real.sqrt a)⁻¹ := by
        rw [← mul_inv, Real.mul_self_sqrt ha.le, one_div]
      rw [this, mul_assoc]
    rw [← EReal.coe_mul, e1, ← EReal.coe_mul, ← EReal.coe_mul, ← EReal.coe_mul]
    have hp : 0 < (Real.sqrt a)⁻¹ * (Real.sqrt a)⁻¹ * (Real.sqrt a)⁻¹ := by positivity
    generalize (Real.sqrt a)⁻¹ * (Real.sqrt a)⁻¹ * (Real.sqrt a)⁻¹ = p at hp
    have hq : 0 < p * (1 / 2048) := by positivity
    rw [show x * ((p : EReal) * (M * ((1 / 2048 : ℝ) : EReal))) = x * M * ((p * (1 / 2048) : ℝ) : EReal) by rw [EReal.coe_mul]; ac_rfl,
      ← twice (x * M) (p * (1 / 2048)) hq,
      show ((-(1 / 2) * (p * (1 / 2048)) : ℝ) : EReal) = ((-(1 / 2) * p : ℝ) : EReal) * ((1 / 2048 : ℝ) : EReal) by rw [← EReal.coe_mul]; congr 1; ring]
    refine congrArg₂ (· + ·) ?_ ?_ <;> ac_rfl

theorem real_mul_sum {n : ℕ} (r : ℝ) (hr : 0 ≤ r) (f : Fin n → EReal) : (r : EReal) * ∑ l, f l = ∑ l, (r : EReal) * f l := by
  refine Finset.induction_on (motive := fun s => (r : EReal) * ∑ l ∈ s, f l = ∑ l ∈ s, (r : EReal) * f l) Finset.univ ?_ fun a s ha ih => ?_
  · simp
  · rw [Finset.sum_insert ha, Finset.sum_insert ha, ← ih,
      EReal.left_distrib_of_nonneg_of_ne_top (EReal.coe_nonneg.mpr hr) (EReal.coe_ne_top r)]

/-- The factors in which the derivative of the halved mean square comes out. -/
theorem error_slope (d : EReal) :
    Ideal.div (Ideal.ofBits .f32 0x3F000000#32) (Ideal.ofBits .f32 0x45000000#32) * (Ideal.ofBits .f32 0x40000000#32 * d)
      = d * Ideal.ofBits .f32 0x3A000000#32 := by
  rw [half_eq, width_eq, two_eq, width_inv_eq, Ideal.div_coe (by norm_num), ← EReal.coe_mul, ← mul_assoc, ← EReal.coe_mul, mul_comm d]
  congr 2
  norm_num

end Cert.RowNorm

end
-- ==== Proof.RmsMixPre.lean ====
module

public import proofs.«01_k».proof.Defs
public import proofs.«01_k».proof.Proof.RowNorm
public import proofs.«01_k».proof.Proof.Gen.Kernel35Ideal.Value
public import proofs.«01_k».proof.Proof.Gen.Reference35Ideal.Read
public import Idealize.ShloMosaic.Lib.Pointwise
public import Idealize.ShloMosaic.Lib.Pipeline.ValueKit.Acc
public import Idealize.ShloMosaic.Lib.Pipeline.ValueKit.Geometry

/-!
# The norm before the mixing part of a layer

Grid point `t` normalises 512 rows, each by itself. The blocks cover the result array, so it is the reference's.
-/

@[expose] public section

noncomputable section

open Idealize.ShloMosaic Idealize.ShloMosaic.TcCoe Idealize.SL.Sem

namespace Cert.RmsMixPre

open Cert.Kernel35Ideal Cert.Kernel35Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem x_at (c : Dev nD) (t : Fin cfg0.N) (y : S512x2048.Idx) (j : S8192x2048.Idx)
    (h0 : (j 0).val = t.val * 512 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem g_at (c : Dev nD) (t : Fin cfg0.N) (y : S1x2048.Idx) :
    iblk m c 1 t y = m ((c : Thread nD τ).loc main_arg1) y := by
  blk_simp [iblk, index_1]
  show m ((c : Thread nD τ).loc main_arg1) _ = _
  congr 1
  blk_ext [index_1]

/-! ## What a point computes -/

/-- The normalised rows. -/
def normed (x : Vec Ideal S8192x2048 .f32) (g : Vec Ideal S1x2048 .f32) : Vec Ideal S8192x2048 .bf16 :=
  fun j => (x j : EReal) * inv (fun k => x (ix2 (j 0) k)) * g (ix2 0 (j 1))

theorem out_at (x : Vec Ideal S512x2048 .f32) (g : Vec Ideal S1x2048 .f32) (r : Fin 512) (s : Fin 2048) :
    k0_pay1 (F := Ideal) x g (ix2 r s) = (x (ix2 r s) : EReal) * inv (fun k => x (ix2 r k)) * g (ix2 0 s) := by
  pointwise [k0_pay1]
  rfl

/-- The result array has every row normalised. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val * 512 + r.val := by
    blk_simp [index_2] <;> omega
  have e1 : ((((cfg0.win 2).blk t).view.emb (ix2 r s) : S8192x2048.Idx) 1).val = s.val := by
    blk_simp [index_2] <;> omega
  generalize (((cfg0.win 2).blk t).view.emb (ix2 r s) : S8192x2048.Idx) = j at e0 e1
  unfold outsAt0
  frame_out
  rw [out_at]
  unfold normed
  refine congrArg₂ (fun x y : EReal => x * y) (congrArg₂ (fun x y : EReal => x * y) (x_at m c t _ _ e0 e1) (congrArg inv (funext fun k => x_at m c t _ _ e0 rfl))) ?_
  refine (g_at m c t _).trans (congrArg (m ((c : Thread nD τ).loc main_arg1)) ?_)
  exact congrArg (fun q : Fin 2048 => (ix2 (0 : Fin 1) q : S1x2048.Idx)) (Fin.ext e1.symm)

/-! ## The reference -/

theorem reference_eq (x : Vec Ideal S8192x2048 .f32) (g : Vec Ideal S1x2048 .f32) :
    Cert.Reference35Ideal.Read.val_main_v12 (F := Ideal) x g = normed x g := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference35Ideal.Read.val_main_v12 (F := Ideal) x g (ix2 r s) = (x (ix2 r s) : EReal) * inv (fun k => x (ix2 r k)) * g (ix2 0 s)
  rw [← Cert.Reference35Ideal.Read.val_main_v12_eq]
  pointwise
  rfl

theorem algebraic : Cert.algebraic_Kernel35Ideal_Reference35Ideal := by
  intro m g m' g' _ hargs
  refine ⟨fun c => normed (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c, Value.kept_main_arg2 m r h c⟩)
      (run_main m g)
  · refine (θ_run Cert.Reference35Ideal.defs _ _).mono (fun r h c => ⟨(h c).1.trans ?_, (h c).2⟩) (Cert.Reference35Ideal.Value.run m' g')
    obtain ⟨e0, e1, e2⟩ := hargs c
    exact (congrArg₂ _ e0 e1).trans (reference_eq _ _)

end Cert.RmsMixPre

end
-- ==== Proof.RmsBwd.lean ====
module

public import proofs.«01_k».proof.Defs
public import proofs.«01_k».proof.Proof.RowNorm
public import proofs.«01_k».proof.Proof.Gen.Kernel36Ideal.Value
public import proofs.«01_k».proof.Proof.Gen.Reference36Ideal.Read
public import Idealize.ShloMosaic.Lib.Pointwise
public import Idealize.ShloMosaic.Lib.Pipeline.ValueKit.Acc
public import Idealize.ShloMosaic.Lib.Pipeline.ValueKit.Geometry

/-!
# The gradient through the norm before the mixing part of a layer

Grid point `t` handles 512 rows: it writes the gradient of their entries, and adds what they give to the gradient of the scale.
-/

@[expose] public section

noncomputable section

open scoped BigOperators
open Idealize.ShloMosaic Idealize.ShloMosaic.TcCoe Idealize.SL.Sem

namespace Cert.RmsBwd

open Cert.Kernel36Ideal Cert.Kernel36Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)

theorem dy_at (c : Dev nD) (t : Fin cfg0.N) (y : S512x2048.Idx) (j : S8192x2048.Idx)
    (h0 : (j 0).val = t.val * 512 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem x_at (c : Dev nD) (t : Fin cfg0.N) (y : S512x2048.Idx) (j : S8192x2048.Idx)
    (h0 : (j 0).val = t.val * 512 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem g_at (c : Dev nD) (t : Fin cfg0.N) (y : S1x2048.Idx) :
    iblk m c 2 t y = m ((c : Thread nD τ).loc main_arg2) y := by
  blk_simp [iblk, index_2]
  show m ((c : Thread nD τ).loc main_arg2) _ = _
  congr 1
  blk_ext [index_2]

theorem res_at (c : Dev nD) (t : Fin cfg0.N) (y : S512x2048.Idx) (j : S8192x2048.Idx)
    (h0 : (j 0).val = t.val * 512 + (y 0).val) (h1 : (j 1).val = (y 1).val) :
    iblk m c 3 t y = m ((c : Thread nD τ).loc main_arg4) j := by
  blk_simp [iblk, index_3]
  show m ((c : Thread nD τ).loc main_arg4) _ = _
  congr 1
  blk_ext [index_3]

/-! ## What a point computes -/

/-- An entry of the gradient of one row: `i` the reciprocal root, `d` and `x` the entries, `a` the scaled row and `X` the row. -/
def entry (i d x : EReal) (a X : Fin 2048 → EReal) : EReal :=
  i * d - x * (i * i * i * Ideal.div (∑ k, X k * a k) (Ideal.ofBits .f32 0x45000000#32))

/-- The gradient of the rows. -/
def gradX (dy x : Vec Ideal S8192x2048 .f32) (g : Vec Ideal S1x2048 .f32) (res : Vec Ideal S8192x2048 .f32) : Vec Ideal S8192x2048 .f32 :=
  fun j => entry (RowNorm.inv fun k => x (ix2 (j 0) k)) ((dy j : EReal) * g (ix2 0 (j 1))) (x j) (fun k => (dy (ix2 (j 0) k) : EReal) * g (ix2 0 k))
    (fun k => x (ix2 (j 0) k)) + res j

/-- The rows' contributions to the gradient of the scale, zero past the last row, -/
def share (dy x : Vec Ideal S8192x2048 .f32) (n : ℕ) (s : Fin 2048) : EReal :=
  if h : n < 8192 then (dy (ix2 ⟨n, h⟩ s) : EReal) * x (ix2 ⟨n, h⟩ s) * RowNorm.inv (fun k => x (ix2 ⟨n, h⟩ k)) else 0

/-- and their sum. -/
def gradG (dy x : Vec Ideal S8192x2048 .f32) : Vec Ideal S1x2048 .f32 := fun j => ∑ n : Fin 8192, share dy x n.val (j 1)

theorem x_out_at (dy x : Vec Ideal S512x2048 .f32) (g : Vec Ideal S1x2048 .f32) (res : Vec Ideal S512x2048 .f32) (r : Fin 512) (s : Fin 2048) :
    k0_pay4 (F := Ideal) dy x g res (ix2 r s) = entry (RowNorm.inv fun k => x (ix2 r k)) ((dy (ix2 r s) : EReal) * g (ix2 0 s)) (x (ix2 r s))
      (fun k => (dy (ix2 r k) : EReal) * g (ix2 0 k)) (fun k => x (ix2 r k)) + (res (ix2 r s) : EReal) := by
  pointwise [k0_pay4, k0_pay2]
  rfl

/-- What a block of rows gives to the gradient of the scale. -/
def blockPart (dy x : Vec Ideal S512x2048 .f32) (s : Fin 2048) : EReal :=
  ∑ k : Fin 512, (dy (ix2 k s) : EReal) * x (ix2 k s) * RowNorm.inv (fun l => x (ix2 k l))

theorem g_out_at (dy x : Vec Ideal S512x2048 .f32) (p : Vec Ideal S1x2048 .f32) (s : Fin 2048) :
    k0_pay1 (F := Ideal) (k0_pay3 dy x) (k0_pay6 p) (ix2 0 s) = (p (ix2 0 s) : EReal) + blockPart dy x s := by
  pointwise [k0_pay1, k0_pay3, k0_pay6, k0_pay2]
  rfl

theorem out_x (c : Dev nD) (t : Fin cfg0.N) :
    (outsAt0 m c t.val t.isLt).1 = k0_pay4 (F := Ideal) (iblk m c 0 t) (iblk m c 1 t) (iblk m c 2 t) (iblk m c 3 t) := by
  by_cases h : t.val % 16 = 0
  · rw [outsAt0_A m c t h]
    frame_out
  · rw [outsAt0_B m c t h]
    frame_out

/-- What the 512 rows of point `t` give. -/
def part (dy x : Vec Ideal S8192x2048 .f32) (t : ℕ) (s : Fin 2048) : EReal := ∑ k : Fin 512, share dy x (t * 512 + k.val) s

theorem point_sum (D X : Vec Ideal S512x2048 .f32) (dy x : Vec Ideal S8192x2048 .f32) (n : ℕ) (hn : n < 16)
    (hD : ∀ (k : Fin 512) (l : Fin 2048) (j : S8192x2048.Idx), (j 0).val = n * 512 + k.val → (j 1).val = l.val → D (ix2 k l) = dy j)
    (hX : ∀ (k : Fin 512) (l : Fin 2048) (j : S8192x2048.Idx), (j 0).val = n * 512 + k.val → (j 1).val = l.val → X (ix2 k l) = x j)
    (s : Fin 2048) :
    blockPart D X s = part dy x n s := by
  unfold blockPart part
  refine Finset.sum_congr rfl fun k _ => ?_
  unfold share
  have hk : n * 512 + k.val < 8192 := by omega
  rw [dif_pos hk]
  have h : (fun l => X (ix2 k l) : Fin 2048 → EReal) = fun l => x (ix2 ⟨n * 512 + k.val, hk⟩ l) :=
    funext fun l => hX k l (ix2 ⟨n * 512 + k.val, hk⟩ l) rfl rfl
  rw [h, hD k s (ix2 ⟨n * 512 + k.val, hk⟩ s) rfl rfl, hX k s (ix2 ⟨n * 512 + k.val, hk⟩ s) rfl rfl]

theorem point_sum_at (c : Dev nD) (t : Fin cfg0.N) (s : Fin 2048) :
    blockPart (iblk m c 0 t) (iblk m c 1 t) s
      = part (m ((c : Thread nD τ).loc main_arg0)) (m ((c : Thread nD τ).loc main_arg1)) t.val s :=
  point_sum _ _ _ _ t.val (lt_of_lt_of_eq t.isLt N_0) (fun k l j h0 h1 => dy_at m c t (ix2 k l) j h0 h1)
    (fun k l j h0 h1 => x_at m c t (ix2 k l) j h0 h1) s

theorem out_g_A (c : Dev nD) (t : Fin cfg0.N) (h : t.val % 16 = 0) (s : Fin 2048) :
    (outsAt0 m c t.val t.isLt).2 (ix2 0 s)
      = (0 : EReal) + part (m ((c : Thread nD τ).loc main_arg0)) (m ((c : Thread nD τ).loc main_arg1)) t.val s := by
  rw [outsAt0_A m c t h]
  frame_out
  refine (g_out_at _ _ _ s).trans ?_
  refine congrArg₂ (fun x y : EReal => x + y) ?_ (point_sum_at m c t s)
  pointwise [k0_pay5]

theorem out_g_B (c : Dev nD) (t : Fin cfg0.N) (h : ¬t.val % 16 = 0) (s : Fin 2048) :
    (outsAt0 m c t.val t.isLt).2 (ix2 0 s)
      = (outsAt0 m c (t.val - 1) (Nat.lt_of_le_of_lt (Nat.sub_le _ _) t.isLt)).2 (ix2 0 s)
        + part (m ((c : Thread nD τ).loc main_arg0)) (m ((c : Thread nD τ).loc main_arg1)) t.val s := by
  rw [outsAt0_B m c t h]
  frame_out
  refine (g_out_at _ _ _ s).trans ?_
  refine congrArg₂ (fun x y : EReal => x + y) ?_ (point_sum_at m c t s)
  rfl

/-- The rows of all the points. -/
theorem sum_part (dy x : Vec Ideal S8192x2048 .f32) (s : Fin 2048) : ∑ t : Fin cfg0.N, part dy x t.val s = ∑ n : Fin 8192, share dy x n.val s := by
  have e : ∀ N : ℕ, N = 16 → ∑ t : Fin N, part dy x t.val s = ∑ n : Fin 8192, share dy x n.val s := by
    rintro N rfl
    unfold part
    refine Fin.sum_mul_add_congr fun t r h => ?_
    rfl
  exact e _ N_0

theorem out_g_last (c : Dev nD) (t : Fin cfg0.N) (ht : t.val + 1 = cfg0.N) (s : Fin 2048) :
    (outsAt0 m c t.val t.isLt).2 (ix2 0 s)
      = ∑ n : Fin 8192, share (m ((c : Thread nD τ).loc main_arg0)) (m ((c : Thread nD τ).loc main_arg1)) n.val s := by
  rw [Pipeline.eq_sum_fin_of_reset_step_apply_last (fun n h => fun s : Fin 2048 => ((outsAt0 m c n h).2 (ix2 0 s) : EReal)) 16 (fun _ => 0)
    (fun t s => part (m ((c : Thread nD τ).loc main_arg0)) (m ((c : Thread nD τ).loc main_arg1)) t.val s) (fun t h s => out_g_A m c t h s)
    (fun t h s => out_g_B m c t h s) (le_of_eq N_0) t ht s, zero_add]
  exact sum_part _ _ _

/-- A block of 512 rows is the part of the whole that lies there. -/
theorem rows (D X : Vec Ideal S512x2048 .f32) (G : Vec Ideal S1x2048 .f32) (R : Vec Ideal S512x2048 .f32)
    (dy x : Vec Ideal S8192x2048 .f32) (g : Vec Ideal S1x2048 .f32) (res : Vec Ideal S8192x2048 .f32) (n : ℕ)
    (hD : ∀ (k : Fin 512) (l : Fin 2048) (j : S8192x2048.Idx), (j 0).val = n * 512 + k.val → (j 1).val = l.val → D (ix2 k l) = dy j)
    (hX : ∀ (k : Fin 512) (l : Fin 2048) (j : S8192x2048.Idx), (j 0).val = n * 512 + k.val → (j 1).val = l.val → X (ix2 k l) = x j)
    (hG : ∀ l : Fin 2048, G (ix2 0 l) = g (ix2 0 l))
    (hR : ∀ (k : Fin 512) (l : Fin 2048) (j : S8192x2048.Idx), (j 0).val = n * 512 + k.val → (j 1).val = l.val → R (ix2 k l) = res j)
    (r : Fin 512) (s : Fin 2048) (j : S8192x2048.Idx) (h0 : (j 0).val = n * 512 + r.val) (h1 : (j 1).val = s.val) :
    k0_pay4 (F := Ideal) D X G R (ix2 r s) = gradX dy x g res j := by
  rw [x_out_at, hG s]
  obtain rfl : s = (j 1 : Fin 2048) := Fin.ext h1.symm
  have e : (fun k => X (ix2 r k) : Fin 2048 → EReal) = fun k => x (ix2 (j 0) k) := funext fun k => hX r k _ h0 rfl
  have e' : (fun k => (D (ix2 r k) : EReal) * G (ix2 0 k) : Fin 2048 → EReal) = fun k => (dy (ix2 (j 0) k) : EReal) * g (ix2 0 k) :=
    funext fun k => congrArg₂ (fun x y : EReal => x * y) (hD r k _ h0 rfl) (hG k)
  unfold gradX
  rw [e, e', hD r _ j h0 rfl, hX r _ j h0 rfl, hR r _ j h0 rfl]

/-- The first result array. -/
theorem final_x (c : Dev nD) : (dats m 0 c).arrAt 4 cfg0.N
    = gradX (m ((c : Thread nD τ).loc main_arg0)) (m ((c : Thread nD τ).loc main_arg1)) (m ((c : Thread nD τ).loc main_arg2))
      (m ((c : Thread nD τ).loc main_arg4)) := by
  refine (dats m 0 c).arrAt_eq_of_covers 4 _ (by decide +kernel) fun t hf y => ?_
  blk_simp
  rw [after0_4]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 4).blk t).view.emb (ix2 r s) : S8192x2048.Idx) 0).val = t.val * 512 + r.val := by
    blk_simp [index_4] <;> omega
  have e1 : ((((cfg0.win 4).blk t).view.emb (ix2 r s) : S8192x2048.Idx) 1).val = s.val := by
    blk_simp [index_4] <;> omega
  generalize (((cfg0.win 4).blk t).view.emb (ix2 r s) : S8192x2048.Idx) = j at e0 e1
  rw [out_x]
  exact rows _ _ _ _ _ _ _ _ t.val (fun k l j h0 h1 => dy_at m c t (ix2 k l) j h0 h1) (fun k l j h0 h1 => x_at m c t (ix2 k l) j h0 h1)
    (fun l => g_at m c t (ix2 0 l)) (fun k l j h0 h1 => res_at m c t (ix2 k l) j h0 h1) r s j e0 e1

/-- The second result array. -/
theorem final_g (c : Dev nD) : (dats m 0 c).arrAt 5 cfg0.N
    = gradG (m ((c : Thread nD τ).loc main_arg0)) (m ((c : Thread nD τ).loc main_arg1)) := by
  refine (dats m 0 c).arrAt_eq_of_covers 5 _ (by decide +kernel) fun t hf y => ?_
  have ht : t.val = 15 := (by decide +kernel : ∀ t : Fin cfg0.N, (cfg0.win 5).flush t = true → t.val = 15) t hf
  blk_simp
  rw [after0_5]
  obtain ⟨u, s, rfl⟩ : ∃ (u : Fin 1) (s : Fin 2048), y = ix2 u s := ⟨y 0, y 1, by
    funext a
    match a with
    | ⟨0, _⟩ => rfl
    | ⟨1, _⟩ => rfl⟩
  have e : (((cfg0.win 5).blk t).view.emb (ix2 u s) : S1x2048.Idx) = ix2 u s := by
    blk_ext [index_5]
  rw [e]
  obtain rfl : u = 0 := Subsingleton.elim _ _
  have hN : cfg0.N = 16 := N_0
  exact out_g_last m c t (by omega) s

/-! ## The reference -/

theorem reference_x (dy x : Vec Ideal S8192x2048 .f32) (g : Vec Ideal S1x2048 .f32) (res : Vec Ideal S8192x2048 .f32) :
    Cert.Reference36Ideal.Read.val_main_v34 (F := Ideal) dy x g res = gradX dy x g res := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference36Ideal.Read.val_main_v34 (F := Ideal) dy x g res (ix2 r s)
    = entry (RowNorm.inv fun k => x (ix2 r k)) ((dy (ix2 r s) : EReal) * g (ix2 0 s)) (x (ix2 r s)) (fun k => (dy (ix2 r k) : EReal) * g (ix2 0 k))
      (fun k => x (ix2 r k)) + res (ix2 r s)
  rw [← Cert.Reference36Ideal.Read.val_main_v34_eq]
  pointwise
  refine congrArg (fun q : EReal => q + res (ix2 r s)) ?_
  rw [Fin.sum_univ_one, add_assoc]
  refine (congrArg₂ (fun p q : EReal => p + q) (mul_comm _ _)
    (slope (spread fun k => x (ix2 r k)) (∑ k, (x (ix2 r k) : EReal) * (dy (ix2 r k) * g (ix2 0 k))) (x (ix2 r s)) (spread_cases _))).trans ?_
  rfl

theorem reference_g (dy x : Vec Ideal S8192x2048 .f32) :
    Cert.Reference36Ideal.Read.val_main_v17 (F := Ideal) dy x = gradG dy x := by
  funext j
  obtain ⟨r, s, rfl⟩ : ∃ (r : Fin 1) (s : Fin 2048), j = ix2 r s := ⟨j 0, j 1, by
    funext a
    match a with
    | ⟨0, _⟩ => rfl
    | ⟨1, _⟩ => rfl⟩
  show Cert.Reference36Ideal.Read.val_main_v17 (F := Ideal) dy x (ix2 r s) = ∑ n : Fin 8192, share dy x n.val s
  rw [← Cert.Reference36Ideal.Read.val_main_v17_eq]
  pointwise
  refine Finset.sum_congr rfl fun n _ => ?_
  unfold share
  rw [dif_pos n.isLt, mul_comm, ← mul_assoc]
  rfl

theorem algebraic : Cert.algebraic_Kernel36Ideal_Reference36Ideal := by
  intro m g m' g' _ hargs
  refine ⟨fun c => gradX (m ((c : Thread nD τ).loc main_arg0)) (m ((c : Thread nD τ).loc main_arg1)) (m ((c : Thread nD τ).loc main_arg2))
      (m ((c : Thread nD τ).loc main_arg4)),
    fun c => gradG (m ((c : Thread nD τ).loc main_arg0)) (m ((c : Thread nD τ).loc main_arg1)), ?_, ?_⟩
  · exact (θ_run defs _ _).mono (fun r h c => ⟨(h c).1.trans (final_x m c), (h c).2.1.trans (final_g m c), (h c).2.2⟩) (Value.run_blocks m g)
  · refine (θ_run Cert.Reference36Ideal.defs _ _).mono (fun r h c => ⟨(h c).1.trans ?_, (h c).2.1.trans ?_, (h c).2.2⟩)
      (Cert.Reference36Ideal.Value.run m' g')
    · obtain ⟨e0, e1, e2, e3, e4⟩ := hargs c
      refine (reference_x _ _ _ _).trans ?_
      rw [e0, e1, e2, e4]
    · obtain ⟨e0, e1, e2, e3, e4⟩ := hargs c
      refine (reference_g _ _).trans ?_
      rw [e0, e1]

end Cert.RmsBwd

end
-- ==== Proof.LossHead.lean ====
module

public import proofs.«01_k».proof.Defs
public import proofs.«01_k».proof.Proof.RowNorm
public import proofs.«01_k».proof.Proof.Gen.Kernel37Ideal.Value
public import proofs.«01_k».proof.Proof.Gen.Reference37Ideal.Read
public import Idealize.ShloMosaic.Lib.Pointwise
public import Idealize.ShloMosaic.Lib.Pipeline.ValueKit.Acc
public import Idealize.ShloMosaic.Lib.Pipeline.ValueKit.Geometry

/-!
# The loss and the gradient it starts with

Grid point `t` handles 512 rows: it writes the gradient of their entries, and adds half the means of their squared errors to the loss, which
stands in every entry of a small block.
-/

@[expose] public section

noncomputable section

open scoped BigOperators
open Idealize.ShloMosaic Idealize.ShloMosaic.TcCoe Idealize.SL.Sem

namespace Cert.LossHead

open Cert.Kernel37Ideal Cert.Kernel37Ideal.Gen

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)

theorem y_at (c : Dev nD) (t : Fin cfg0.N) (y : S512x2048.Idx) (j : S8192x2048.Idx)
    (h0 : (j 0).val = t.val * 512 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem target_at (c : Dev nD) (t : Fin cfg0.N) (y : S512x2048.Idx) (j : S8192x2048.Idx)
    (h0 : (j 0).val = t.val * 512 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

/-! ## What a point computes -/

/-- The gradient. -/
def grad (y t : Vec Ideal S8192x2048 .f32) : Vec Ideal S8192x2048 .f32 :=
  fun j => ((y j : EReal) - t j) * Ideal.ofBits .f32 0x3A000000#32

/-- The mean of one row's squared errors, -/
def rowMean (Y T : Fin 2048 → EReal) : EReal := Ideal.div (∑ k, (Y k - T k) * (Y k - T k)) (Ideal.ofBits .f32 0x45000000#32)

/-- that of row `n`, zero past the last one, -/
def share (y t : Vec Ideal S8192x2048 .f32) (n : ℕ) : EReal :=
  if h : n < 8192 then rowMean (fun k => y (ix2 ⟨n, h⟩ k)) (fun k => t (ix2 ⟨n, h⟩ k)) else 0

/-- half the sum of 512 rows' means, and of all rows'. -/
def part (y t : Vec Ideal S8192x2048 .f32) (n : ℕ) : EReal := Ideal.ofBits .f32 0x3F000000#32 * ∑ k : Fin 512, share y t (n * 512 + k.val)

def loss (y t : Vec Ideal S8192x2048 .f32) : Vec Ideal S8x128 .f32 := fun _ => Ideal.ofBits .f32 0x3F000000#32 * ∑ n : Fin 8192, share y t n.val

/-- Half the sum of the means in a block of rows. -/
def blockPart (Y T : Vec Ideal S512x2048 .f32) : EReal :=
  Ideal.ofBits .f32 0x3F000000#32 * ∑ k : Fin 512, rowMean (fun l => Y (ix2 k l)) (fun l => T (ix2 k l))

theorem grad_out_at (Y T : Vec Ideal S512x2048 .f32) (r : Fin 512) (s : Fin 2048) :
    k0_pay2 (F := Ideal) Y T (ix2 r s) = ((Y (ix2 r s) : EReal) - T (ix2 r s)) * Ideal.ofBits .f32 0x3A000000#32 := by
  pointwise [k0_pay2, k0_pay1]

theorem loss_out_at (Y T : Vec Ideal S512x2048 .f32) (p : Vec Ideal S8x128 .f32) (r : Fin 8) (s : Fin 128) :
    k0_pay4 (F := Ideal) Y T p (ix2 r s) = (p (ix2 r s) : EReal) + blockPart Y T := by
  pointwise [k0_pay4, k0_pay1]
  simp only [Fin.sum_univ_one]
  rfl

theorem out_grad (c : Dev nD) (t : Fin cfg0.N) :
    (outsAt0 m c t.val t.isLt).1 = k0_pay2 (F := Ideal) (iblk m c 0 t) (iblk m c 1 t) := by
  by_cases h : t.val % 16 = 0
  · rw [outsAt0_A m c t h]
    frame_out
  · rw [outsAt0_B m c t h]
    frame_out

theorem block_part (Y T : Vec Ideal S512x2048 .f32) (y t : Vec Ideal S8192x2048 .f32) (n : ℕ) (hn : n < 16)
    (hY : ∀ (k : Fin 512) (l : Fin 2048) (j : S8192x2048.Idx), (j 0).val = n * 512 + k.val → (j 1).val = l.val → Y (ix2 k l) = y j)
    (hT : ∀ (k : Fin 512) (l : Fin 2048) (j : S8192x2048.Idx), (j 0).val = n * 512 + k.val → (j 1).val = l.val → T (ix2 k l) = t j) :
    blockPart Y T = part y t n := by
  unfold blockPart part
  refine congrArg (fun q : EReal => Ideal.ofBits .f32 0x3F000000#32 * q) (Finset.sum_congr rfl fun k _ => ?_)
  unfold share
  have hk : n * 512 + k.val < 8192 := by omega
  rw [dif_pos hk]
  exact congrArg₂ rowMean (funext fun l => hY k l (ix2 ⟨n * 512 + k.val, hk⟩ l) rfl rfl)
    (funext fun l => hT k l (ix2 ⟨n * 512 + k.val, hk⟩ l) rfl rfl)

theorem block_part_at (c : Dev nD) (t : Fin cfg0.N) :
    blockPart (iblk m c 0 t) (iblk m c 1 t) = part (m ((c : Thread nD τ).loc main_arg0)) (m ((c : Thread nD τ).loc main_arg1)) t.val :=
  block_part _ _ _ _ t.val (lt_of_lt_of_eq t.isLt N_0) (fun k l j h0 h1 => y_at m c t (ix2 k l) j h0 h1)
    (fun k l j h0 h1 => target_at m c t (ix2 k l) j h0 h1)

theorem out_loss_A (c : Dev nD) (t : Fin cfg0.N) (h : t.val % 16 = 0) (q : Fin 8 × Fin 128) :
    (outsAt0 m c t.val t.isLt).2 (ix2 q.1 q.2)
      = (0 : EReal) + part (m ((c : Thread nD τ).loc main_arg0)) (m ((c : Thread nD τ).loc main_arg1)) t.val := by
  rw [outsAt0_A m c t h]
  frame_out
  refine (loss_out_at _ _ _ q.1 q.2).trans ?_
  refine congrArg₂ (fun x y : EReal => x + y) ?_ (block_part_at m c t)
  pointwise [k0_pay3]

theorem out_loss_B (c : Dev nD) (t : Fin cfg0.N) (h : ¬t.val % 16 = 0) (q : Fin 8 × Fin 128) :
    (outsAt0 m c t.val t.isLt).2 (ix2 q.1 q.2)
      = (outsAt0 m c (t.val - 1) (Nat.lt_of_le_of_lt (Nat.sub_le _ _) t.isLt)).2 (ix2 q.1 q.2)
        + part (m ((c : Thread nD τ).loc main_arg0)) (m ((c : Thread nD τ).loc main_arg1)) t.val := by
  rw [outsAt0_B m c t h]
  frame_out
  refine (loss_out_at _ _ _ q.1 q.2).trans ?_
  refine congrArg₂ (fun x y : EReal => x + y) ?_ (block_part_at m c t)
  rfl

/-- The rows of all the points. -/
theorem sum_part (y t : Vec Ideal S8192x2048 .f32) :
    ∑ n : Fin cfg0.N, part y t n.val = Ideal.ofBits .f32 0x3F000000#32 * ∑ n : Fin 8192, share y t n.val := by
  have e : ∀ N : ℕ, N = 16 → ∑ n : Fin N, part y t n.val = Ideal.ofBits .f32 0x3F000000#32 * ∑ n : Fin 8192, share y t n.val := by
    rintro N rfl
    unfold part
    rw [RowNorm.half_eq, ← RowNorm.real_mul_sum _ (by norm_num)]
    refine congrArg (fun q : EReal => ((1 / 2 : ℝ) : EReal) * q) ?_
    refine Fin.sum_mul_add_congr fun n r h => ?_
    rfl
  exact e _ N_0

theorem out_loss_last (c : Dev nD) (t : Fin cfg0.N) (ht : t.val + 1 = cfg0.N) (q : Fin 8 × Fin 128) :
    (outsAt0 m c t.val t.isLt).2 (ix2 q.1 q.2) = Ideal.ofBits .f32 0x3F000000#32
      * ∑ n : Fin 8192, share (m ((c : Thread nD τ).loc main_arg0)) (m ((c : Thread nD τ).loc main_arg1)) n.val := by
  rw [Pipeline.eq_sum_fin_of_reset_step_apply_last (fun n h => fun q : Fin 8 × Fin 128 => ((outsAt0 m c n h).2 (ix2 q.1 q.2) : EReal)) 16 (fun _ => 0)
    (fun t _ => part (m ((c : Thread nD τ).loc main_arg0)) (m ((c : Thread nD τ).loc main_arg1)) t.val) (fun t h q => out_loss_A m c t h q)
    (fun t h q => out_loss_B m c t h q) (le_of_eq N_0) t ht q, zero_add]
  exact sum_part _ _

/-- The gradient's array. -/
theorem final_grad (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 2).blk t).view.emb (ix2 r s) : S8192x2048.Idx) 0).val = t.val * 512 + r.val := by
    blk_simp [index_2] <;> omega
  have e1 : ((((cfg0.win 2).blk t).view.emb (ix2 r s) : S8192x2048.Idx) 1).val = s.val := by
    blk_simp [index_2] <;> omega
  generalize (((cfg0.win 2).blk t).view.emb (ix2 r s) : S8192x2048.Idx) = j at e0 e1
  rw [out_grad, grad_out_at]
  unfold grad
  exact congrArg₂ (fun a b : EReal => (a - b) * Ideal.ofBits .f32 0x3A000000#32) (y_at m c t _ _ e0 e1) (target_at m c t _ _ e0 e1)

/-- The loss's array. -/
theorem final_loss (c : Dev nD) : (dats m 0 c).arrAt 3 cfg0.N
    = loss (m ((c : Thread nD τ).loc main_arg0)) (m ((c : Thread nD τ).loc main_arg1)) := by
  refine (dats m 0 c).arrAt_eq_of_covers 3 _ (by decide +kernel) fun t hf y => ?_
  have ht : t.val = 15 := (by decide +kernel : ∀ t : Fin cfg0.N, (cfg0.win 3).flush t = true → t.val = 15) t hf
  blk_simp
  rw [after0_3]
  obtain ⟨u, s, rfl⟩ : ∃ (u : Fin 8) (s : Fin 128), y = ix2 u s := ⟨y 0, y 1, by
    funext a
    match a with
    | ⟨0, _⟩ => rfl
    | ⟨1, _⟩ => rfl⟩
  have hN : cfg0.N = 16 := N_0
  exact out_loss_last m c t (by omega) (u, s)

/-! ## The reference -/

theorem reference_grad (y t : Vec Ideal S8192x2048 .f32) : Cert.Reference37Ideal.Read.val_main_v14 (F := Ideal) y t = grad y t := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference37Ideal.Read.val_main_v14 (F := Ideal) y t (ix2 r s) = ((y (ix2 r s) : EReal) - t (ix2 r s)) * Ideal.ofBits .f32 0x3A000000#32
  rw [← Cert.Reference37Ideal.Read.val_main_v14_eq]
  pointwise
  exact RowNorm.error_slope _

theorem reference_loss (y t : Vec Ideal S8192x2048 .f32) : Cert.Reference37Ideal.Read.val_main_v15 (F := Ideal) y t = loss y t := by
  funext j
  obtain ⟨r, s, rfl⟩ : ∃ (r : Fin 8) (s : Fin 128), j = ix2 r s := ⟨j 0, j 1, by
    funext a
    match a with
    | ⟨0, _⟩ => rfl
    | ⟨1, _⟩ => rfl⟩
  show Cert.Reference37Ideal.Read.val_main_v15 (F := Ideal) y t (ix2 r s) = Ideal.ofBits .f32 0x3F000000#32 * ∑ n : Fin 8192, share y t n.val
  rw [← Cert.Reference37Ideal.Read.val_main_v15_eq]
  pointwise
  refine congrArg (fun q : EReal => Ideal.ofBits .f32 0x3F000000#32 * q) (Finset.sum_congr rfl fun n _ => ?_)
  unfold share
  rw [dif_pos n.isLt]
  rfl

theorem algebraic : Cert.algebraic_Kernel37Ideal_Reference37Ideal := by
  intro m g m' g' _ hargs
  refine ⟨fun c => loss (m ((c : Thread nD τ).loc main_arg0)) (m ((c : Thread nD τ).loc main_arg1)),
    fun c => grad (m ((c : Thread nD τ).loc main_arg0)) (m ((c : Thread nD τ).loc main_arg1)), ?_, ?_⟩
  · exact (θ_run defs _ _).mono (fun r h c => ⟨(h c).2.1.trans (final_loss m c), (h c).1.trans (final_grad m c), (h c).2.2⟩) (Value.run_blocks m g)
  · refine (θ_run Cert.Reference37Ideal.defs _ _).mono (fun r h c => ⟨(h c).1.trans ?_, (h c).2.1.trans ?_, (h c).2.2⟩)
      (Cert.Reference37Ideal.Value.run m' g')
    · obtain ⟨e0, e1⟩ := hargs c
      refine (reference_loss _ _).trans ?_
      rw [e0, e1]
    · obtain ⟨e0, e1⟩ := hargs c
      refine (reference_grad _ _).trans ?_
      rw [e0, e1]

end Cert.LossHead

end
-- ==== Proof.RmsBwdPair.lean ====
module

public import proofs.«01_k».proof.Defs
public import proofs.«01_k».proof.Proof.RowNorm
public import proofs.«01_k».proof.Proof.Gen.Kernel38Ideal.Value
public import proofs.«01_k».proof.Proof.Gen.Reference38Ideal.Read
public import Idealize.ShloMosaic.Lib.Pointwise
public import Idealize.ShloMosaic.Lib.Pipeline.ValueKit.Acc
public import Idealize.ShloMosaic.Lib.Pipeline.ValueKit.Geometry

/-!
# The gradient through two norms with a residual connection between them

Grid point `t` handles 256 rows: it writes the gradients of their entries through the upper norm, with the residual's added, and from these through the lower norm,
and adds what they give to the gradients of the two scales.
-/

@[expose] public section

noncomputable section

open scoped BigOperators
open Idealize.ShloMosaic Idealize.ShloMosaic.TcCoe Idealize.SL.Sem

namespace Cert.RmsBwdPair

open Cert.Kernel38Ideal Cert.Kernel38Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![0, 0] := (by decide +kernel : ∀ t : Fin grid0.N, _)

theorem dy_at (c : Dev nD) (t : Fin cfg0.N) (y : S256x2048.Idx) (j : S8192x2048.Idx)
    (h0 : (j 0).val = t.val * 256 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem x_at (c : Dev nD) (t : Fin cfg0.N) (y : S256x2048.Idx) (j : S8192x2048.Idx)
    (h0 : (j 0).val = t.val * 256 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem g_at (c : Dev nD) (t : Fin cfg0.N) (y : S1x2048.Idx) :
    iblk m c 2 t y = m ((c : Thread nD τ).loc main_arg2) y := by
  blk_simp [iblk, index_2]
  show m ((c : Thread nD τ).loc main_arg2) _ = _
  congr 1
  blk_ext [index_2]

theorem res_at (c : Dev nD) (t : Fin cfg0.N) (y : S256x2048.Idx) (j : S8192x2048.Idx)
    (h0 : (j 0).val = t.val * 256 + (y 0).val) (h1 : (j 1).val = (y 1).val) :
    iblk m c 3 t y = m ((c : Thread nD τ).loc main_arg4) j := by
  blk_simp [iblk, index_3]
  show m ((c : Thread nD τ).loc main_arg4) _ = _
  congr 1
  blk_ext [index_3]

theorem z_at (c : Dev nD) (t : Fin cfg0.N) (y : S256x2048.Idx) (j : S8192x2048.Idx)
    (h0 : (j 0).val = t.val * 256 + (y 0).val) (h1 : (j 1).val = (y 1).val) :
    iblk m c 4 t y = m ((c : Thread nD τ).loc main_arg5) j := by
  blk_simp [iblk, index_4]
  show m ((c : Thread nD τ).loc main_arg5) _ = _
  congr 1
  blk_ext [index_4]

theorem gz_at (c : Dev nD) (t : Fin cfg0.N) (y : S1x2048.Idx) :
    iblk m c 5 t y = m ((c : Thread nD τ).loc main_arg6) y := by
  blk_simp [iblk, index_5]
  show m ((c : Thread nD τ).loc main_arg6) _ = _
  congr 1
  blk_ext [index_5]

/-! ## What a point computes -/

/-- An entry of the gradient of one row: `i` the reciprocal root, `d` and `x` the entries, `a` the scaled row and `X` the row. -/
def entry (i d x : EReal) (a X : Fin 2048 → EReal) : EReal :=
  i * d - x * (i * i * i * Ideal.div (∑ k, X k * a k) (Ideal.ofBits .f32 0x45000000#32))

/-- The gradient of the rows. -/
def gradX (dy x : Vec Ideal S8192x2048 .f32) (g : Vec Ideal S1x2048 .f32) (res : Vec Ideal S8192x2048 .f32) : Vec Ideal S8192x2048 .f32 :=
  fun j => entry (RowNorm.inv fun k => x (ix2 (j 0) k)) ((dy j : EReal) * g (ix2 0 (j 1))) (x j) (fun k => (dy (ix2 (j 0) k) : EReal) * g (ix2 0 k))
    (fun k => x (ix2 (j 0) k)) + res j

/-- The rows' contributions to the gradient of the scale, zero past the last row, -/
def share (dy x : Vec Ideal S8192x2048 .f32) (n : ℕ) (s : Fin 2048) : EReal :=
  if h : n < 8192 then (dy (ix2 ⟨n, h⟩ s) : EReal) * x (ix2 ⟨n, h⟩ s) * RowNorm.inv (fun k => x (ix2 ⟨n, h⟩ k)) else 0

/-- and their sum. -/
def gradG (dy x : Vec Ideal S8192x2048 .f32) : Vec Ideal S1x2048 .f32 := fun j => ∑ n : Fin 8192, share dy x n.val (j 1)

/-- The gradient through a norm alone. -/
def gradZ (d z : Vec Ideal S8192x2048 .f32) (g : Vec Ideal S1x2048 .f32) : Vec Ideal S8192x2048 .bf16 :=
  fun j => entry (RowNorm.inv fun k => z (ix2 (j 0) k)) ((d j : EReal) * g (ix2 0 (j 1))) (z j) (fun k => (d (ix2 (j 0) k) : EReal) * g (ix2 0 k))
    (fun k => z (ix2 (j 0) k))

theorem z_out_at (d z : Vec Ideal S256x2048 .f32) (g : Vec Ideal S1x2048 .f32) (r : Fin 256) (s : Fin 2048) :
    k0_pay9 (F := Ideal) d z g (ix2 r s) = entry (RowNorm.inv fun k => z (ix2 r k)) ((d (ix2 r s) : EReal) * g (ix2 0 s)) (z (ix2 r s))
      (fun k => (d (ix2 r k) : EReal) * g (ix2 0 k)) (fun k => z (ix2 r k)) := by
  pointwise [k0_pay9, k0_pay8]
  rfl

theorem x_out_at (dy x : Vec Ideal S256x2048 .f32) (g : Vec Ideal S1x2048 .f32) (res : Vec Ideal S256x2048 .f32) (r : Fin 256) (s : Fin 2048) :
    k0_pay4 (F := Ideal) dy x g res (ix2 r s) = entry (RowNorm.inv fun k => x (ix2 r k)) ((dy (ix2 r s) : EReal) * g (ix2 0 s)) (x (ix2 r s))
      (fun k => (dy (ix2 r k) : EReal) * g (ix2 0 k)) (fun k => x (ix2 r k)) + (res (ix2 r s) : EReal) := by
  pointwise [k0_pay4, k0_pay2]
  rfl

/-- What a block of rows gives to the gradient of the scale. -/
def blockPart (dy x : Vec Ideal S256x2048 .f32) (s : Fin 2048) : EReal :=
  ∑ k : Fin 256, (dy (ix2 k s) : EReal) * x (ix2 k s) * RowNorm.inv (fun l => x (ix2 k l))

theorem g_out_at (dy x : Vec Ideal S256x2048 .f32) (p : Vec Ideal S1x2048 .f32) (s : Fin 2048) :
    k0_pay7 (F := Ideal) (k0_pay3 dy x) (k0_pay6 p) (ix2 0 s) = (p (ix2 0 s) : EReal) + blockPart dy x s := by
  pointwise [k0_pay7, k0_pay3, k0_pay6, k0_pay2]
  rfl

theorem gz_out_at (d z : Vec Ideal S256x2048 .f32) (p : Vec Ideal S1x2048 .f32) (s : Fin 2048) :
    k0_pay1 (F := Ideal) (k0_pay11 p) (k0_pay12 d z) (ix2 0 s) = (p (ix2 0 s) : EReal) + blockPart d z s := by
  pointwise [k0_pay1, k0_pay11, k0_pay12, k0_pay8]
  rfl

theorem out_x (c : Dev nD) (t : Fin cfg0.N) :
    (outsAt0 m c t.val t.isLt).1 = k0_pay4 (F := Ideal) (iblk m c 0 t) (iblk m c 1 t) (iblk m c 2 t) (iblk m c 3 t) := by
  by_cases h : t.val % 32 = 0
  · rw [outsAt0_A m c t h h]
    frame_out
  · rw [outsAt0_B m c t h h]
    frame_out

theorem out_z (c : Dev nD) (t : Fin cfg0.N) :
    (outsAt0 m c t.val t.isLt).2.2.1 = k0_pay9 (F := Ideal) (k0_pay4 (F := Ideal) (iblk m c 0 t) (iblk m c 1 t) (iblk m c 2 t) (iblk m c 3 t)) (iblk m c 4 t) (iblk m c 5 t) := by
  by_cases h : t.val % 32 = 0
  · rw [outsAt0_A m c t h h]
    frame_out
  · rw [outsAt0_B m c t h h]
    frame_out

/-- What the 256 rows of point `t` give. -/
def part (dy x : Vec Ideal S8192x2048 .f32) (t : ℕ) (s : Fin 2048) : EReal := ∑ k : Fin 256, share dy x (t * 256 + k.val) s

theorem point_sum (D X : Vec Ideal S256x2048 .f32) (dy x : Vec Ideal S8192x2048 .f32) (n : ℕ) (hn : n < 32)
    (hD : ∀ (k : Fin 256) (l : Fin 2048) (j : S8192x2048.Idx), (j 0).val = n * 256 + k.val → (j 1).val = l.val → D (ix2 k l) = dy j)
    (hX : ∀ (k : Fin 256) (l : Fin 2048) (j : S8192x2048.Idx), (j 0).val = n * 256 + k.val → (j 1).val = l.val → X (ix2 k l) = x j)
    (s : Fin 2048) :
    blockPart D X s = part dy x n s := by
  unfold blockPart part
  refine Finset.sum_congr rfl fun k _ => ?_
  unfold share
  have hk : n * 256 + k.val < 8192 := by omega
  rw [dif_pos hk]
  have h : (fun l => X (ix2 k l) : Fin 2048 → EReal) = fun l => x (ix2 ⟨n * 256 + k.val, hk⟩ l) :=
    funext fun l => hX k l (ix2 ⟨n * 256 + k.val, hk⟩ l) rfl rfl
  rw [h, hD k s (ix2 ⟨n * 256 + k.val, hk⟩ s) rfl rfl, hX k s (ix2 ⟨n * 256 + k.val, hk⟩ s) rfl rfl]

theorem point_sum_at (c : Dev nD) (t : Fin cfg0.N) (s : Fin 2048) :
    blockPart (iblk m c 0 t) (iblk m c 1 t) s
      = part (m ((c : Thread nD τ).loc main_arg0)) (m ((c : Thread nD τ).loc main_arg1)) t.val s :=
  point_sum _ _ _ _ t.val (lt_of_lt_of_eq t.isLt N_0) (fun k l j h0 h1 => dy_at m c t (ix2 k l) j h0 h1)
    (fun k l j h0 h1 => x_at m c t (ix2 k l) j h0 h1) s

theorem out_g_A (c : Dev nD) (t : Fin cfg0.N) (h : t.val % 32 = 0) (s : Fin 2048) :
    (outsAt0 m c t.val t.isLt).2.1 (ix2 0 s)
      = (0 : EReal) + part (m ((c : Thread nD τ).loc main_arg0)) (m ((c : Thread nD τ).loc main_arg1)) t.val s := by
  rw [outsAt0_A m c t h h]
  frame_out
  refine (g_out_at _ _ _ s).trans ?_
  refine congrArg₂ (fun x y : EReal => x + y) ?_ (point_sum_at m c t s)
  pointwise [k0_pay5]

theorem out_g_B (c : Dev nD) (t : Fin cfg0.N) (h : ¬t.val % 32 = 0) (s : Fin 2048) :
    (outsAt0 m c t.val t.isLt).2.1 (ix2 0 s)
      = (outsAt0 m c (t.val - 1) (Nat.lt_of_le_of_lt (Nat.sub_le _ _) t.isLt)).2.1 (ix2 0 s)
        + part (m ((c : Thread nD τ).loc main_arg0)) (m ((c : Thread nD τ).loc main_arg1)) t.val s := by
  rw [outsAt0_B m c t h h]
  frame_out
  refine (g_out_at _ _ _ s).trans ?_
  refine congrArg₂ (fun x y : EReal => x + y) ?_ (point_sum_at m c t s)
  rfl

/-- The rows of all the points. -/
theorem sum_part (dy x : Vec Ideal S8192x2048 .f32) (s : Fin 2048) : ∑ t : Fin cfg0.N, part dy x t.val s = ∑ n : Fin 8192, share dy x n.val s := by
  have e : ∀ N : ℕ, N = 32 → ∑ t : Fin N, part dy x t.val s = ∑ n : Fin 8192, share dy x n.val s := by
    rintro N rfl
    unfold part
    refine Fin.sum_mul_add_congr fun t r h => ?_
    rfl
  exact e _ N_0

theorem out_g_last (c : Dev nD) (t : Fin cfg0.N) (ht : t.val + 1 = cfg0.N) (s : Fin 2048) :
    (outsAt0 m c t.val t.isLt).2.1 (ix2 0 s)
      = ∑ n : Fin 8192, share (m ((c : Thread nD τ).loc main_arg0)) (m ((c : Thread nD τ).loc main_arg1)) n.val s := by
  rw [Pipeline.eq_sum_fin_of_reset_step_apply_last (fun n h => fun s : Fin 2048 => ((outsAt0 m c n h).2.1 (ix2 0 s) : EReal)) 32 (fun _ => 0)
    (fun t s => part (m ((c : Thread nD τ).loc main_arg0)) (m ((c : Thread nD τ).loc main_arg1)) t.val s) (fun t h s => out_g_A m c t h s)
    (fun t h s => out_g_B m c t h s) (le_of_eq N_0) t ht s, zero_add]
  exact sum_part _ _ _

/-- A block of 256 rows is the part of the whole that lies there. -/
theorem rows (D X : Vec Ideal S256x2048 .f32) (G : Vec Ideal S1x2048 .f32) (R : Vec Ideal S256x2048 .f32)
    (dy x : Vec Ideal S8192x2048 .f32) (g : Vec Ideal S1x2048 .f32) (res : Vec Ideal S8192x2048 .f32) (n : ℕ)
    (hD : ∀ (k : Fin 256) (l : Fin 2048) (j : S8192x2048.Idx), (j 0).val = n * 256 + k.val → (j 1).val = l.val → D (ix2 k l) = dy j)
    (hX : ∀ (k : Fin 256) (l : Fin 2048) (j : S8192x2048.Idx), (j 0).val = n * 256 + k.val → (j 1).val = l.val → X (ix2 k l) = x j)
    (hG : ∀ l : Fin 2048, G (ix2 0 l) = g (ix2 0 l))
    (hR : ∀ (k : Fin 256) (l : Fin 2048) (j : S8192x2048.Idx), (j 0).val = n * 256 + k.val → (j 1).val = l.val → R (ix2 k l) = res j)
    (r : Fin 256) (s : Fin 2048) (j : S8192x2048.Idx) (h0 : (j 0).val = n * 256 + r.val) (h1 : (j 1).val = s.val) :
    k0_pay4 (F := Ideal) D X G R (ix2 r s) = gradX dy x g res j := by
  rw [x_out_at, hG s]
  obtain rfl : s = (j 1 : Fin 2048) := Fin.ext h1.symm
  have e : (fun k => X (ix2 r k) : Fin 2048 → EReal) = fun k => x (ix2 (j 0) k) := funext fun k => hX r k _ h0 rfl
  have e' : (fun k => (D (ix2 r k) : EReal) * G (ix2 0 k) : Fin 2048 → EReal) = fun k => (dy (ix2 (j 0) k) : EReal) * g (ix2 0 k) :=
    funext fun k => congrArg₂ (fun x y : EReal => x * y) (hD r k _ h0 rfl) (hG k)
  unfold gradX
  rw [e, e', hD r _ j h0 rfl, hX r _ j h0 rfl, hR r _ j h0 rfl]

theorem upper_at (c : Dev nD) (t : Fin cfg0.N) (r : Fin 256) (s : Fin 2048) (j : S8192x2048.Idx) (h0 : (j 0).val = t.val * 256 + r.val)
    (h1 : (j 1).val = s.val) :
    k0_pay4 (F := Ideal) (iblk m c 0 t) (iblk m c 1 t) (iblk m c 2 t) (iblk m c 3 t) (ix2 r s)
      = gradX (m ((c : Thread nD τ).loc main_arg0)) (m ((c : Thread nD τ).loc main_arg1)) (m ((c : Thread nD τ).loc main_arg2))
        (m ((c : Thread nD τ).loc main_arg4)) j :=
  rows _ _ _ _ _ _ _ _ t.val (fun k l j h0 h1 => dy_at m c t (ix2 k l) j h0 h1) (fun k l j h0 h1 => x_at m c t (ix2 k l) j h0 h1)
    (fun l => g_at m c t (ix2 0 l)) (fun k l j h0 h1 => res_at m c t (ix2 k l) j h0 h1) r s j h0 h1

theorem lower_rows (D Z : Vec Ideal S256x2048 .f32) (G : Vec Ideal S1x2048 .f32) (d z : Vec Ideal S8192x2048 .f32) (g : Vec Ideal S1x2048 .f32) (n : ℕ)
    (hD : ∀ (k : Fin 256) (l : Fin 2048) (j : S8192x2048.Idx), (j 0).val = n * 256 + k.val → (j 1).val = l.val → D (ix2 k l) = d j)
    (hZ : ∀ (k : Fin 256) (l : Fin 2048) (j : S8192x2048.Idx), (j 0).val = n * 256 + k.val → (j 1).val = l.val → Z (ix2 k l) = z j)
    (hG : ∀ l : Fin 2048, G (ix2 0 l) = g (ix2 0 l))
    (r : Fin 256) (s : Fin 2048) (j : S8192x2048.Idx) (h0 : (j 0).val = n * 256 + r.val) (h1 : (j 1).val = s.val) :
    k0_pay9 (F := Ideal) D Z G (ix2 r s) = gradZ d z g j := by
  rw [z_out_at, hG s]
  obtain rfl : s = (j 1 : Fin 2048) := Fin.ext h1.symm
  have e : (fun k => Z (ix2 r k) : Fin 2048 → EReal) = fun k => z (ix2 (j 0) k) := funext fun k => hZ r k _ h0 rfl
  have e' : (fun k => (D (ix2 r k) : EReal) * G (ix2 0 k) : Fin 2048 → EReal) = fun k => (d (ix2 (j 0) k) : EReal) * g (ix2 0 k) :=
    funext fun k => congrArg₂ (fun x y : EReal => x * y) (hD r k _ h0 rfl) (hG k)
  unfold gradZ
  rw [e, e', hD r _ j h0 rfl, hZ r _ j h0 rfl]

theorem lower_sum_at (c : Dev nD) (t : Fin cfg0.N) (s : Fin 2048) :
    blockPart (k0_pay4 (F := Ideal) (iblk m c 0 t) (iblk m c 1 t) (iblk m c 2 t) (iblk m c 3 t)) (iblk m c 4 t) s
      = part (gradX (m ((c : Thread nD τ).loc main_arg0)) (m ((c : Thread nD τ).loc main_arg1)) (m ((c : Thread nD τ).loc main_arg2))
        (m ((c : Thread nD τ).loc main_arg4))) (m ((c : Thread nD τ).loc main_arg5)) t.val s :=
  point_sum _ _ _ _ t.val (lt_of_lt_of_eq t.isLt N_0) (fun k l j h0 h1 => upper_at m c t k l j h0 h1)
    (fun k l j h0 h1 => z_at m c t (ix2 k l) j h0 h1) s

theorem out_gz_A (c : Dev nD) (t : Fin cfg0.N) (h : t.val % 32 = 0) (s : Fin 2048) :
    (outsAt0 m c t.val t.isLt).2.2.2 (ix2 0 s)
      = (0 : EReal) + part (gradX (m ((c : Thread nD τ).loc main_arg0)) (m ((c : Thread nD τ).loc main_arg1)) (m ((c : Thread nD τ).loc main_arg2))
        (m ((c : Thread nD τ).loc main_arg4))) (m ((c : Thread nD τ).loc main_arg5)) t.val s := by
  rw [outsAt0_A m c t h h]
  frame_out
  refine (gz_out_at _ _ _ s).trans ?_
  refine congrArg₂ (fun x y : EReal => x + y) ?_ (lower_sum_at m c t s)
  pointwise [k0_pay10]

theorem out_gz_B (c : Dev nD) (t : Fin cfg0.N) (h : ¬t.val % 32 = 0) (s : Fin 2048) :
    (outsAt0 m c t.val t.isLt).2.2.2 (ix2 0 s)
      = (outsAt0 m c (t.val - 1) (Nat.lt_of_le_of_lt (Nat.sub_le _ _) t.isLt)).2.2.2 (ix2 0 s)
        + part (gradX (m ((c : Thread nD τ).loc main_arg0)) (m ((c : Thread nD τ).loc main_arg1)) (m ((c : Thread nD τ).loc main_arg2))
        (m ((c : Thread nD τ).loc main_arg4))) (m ((c : Thread nD τ).loc main_arg5)) t.val s := by
  rw [outsAt0_B m c t h h]
  frame_out
  refine (gz_out_at _ _ _ s).trans ?_
  refine congrArg₂ (fun x y : EReal => x + y) ?_ (lower_sum_at m c t s)
  rfl

theorem out_gz_last (c : Dev nD) (t : Fin cfg0.N) (ht : t.val + 1 = cfg0.N) (s : Fin 2048) :
    (outsAt0 m c t.val t.isLt).2.2.2 (ix2 0 s)
      = ∑ n : Fin 8192, share (gradX (m ((c : Thread nD τ).loc main_arg0)) (m ((c : Thread nD τ).loc main_arg1)) (m ((c : Thread nD τ).loc main_arg2))
        (m ((c : Thread nD τ).loc main_arg4))) (m ((c : Thread nD τ).loc main_arg5)) n.val s := by
  rw [Pipeline.eq_sum_fin_of_reset_step_apply_last (fun n h => fun s : Fin 2048 => ((outsAt0 m c n h).2.2.2 (ix2 0 s) : EReal)) 32 (fun _ => 0)
    (fun t s => part (gradX (m ((c : Thread nD τ).loc main_arg0)) (m ((c : Thread nD τ).loc main_arg1)) (m ((c : Thread nD τ).loc main_arg2))
        (m ((c : Thread nD τ).loc main_arg4))) (m ((c : Thread nD τ).loc main_arg5)) t.val s) (fun t h s => out_gz_A m c t h s)
    (fun t h s => out_gz_B m c t h s) (le_of_eq N_0) t ht s, zero_add]
  exact sum_part _ _ _

/-- The first result array. -/
theorem final_x (c : Dev nD) : (dats m 0 c).arrAt 6 cfg0.N
    = gradX (m ((c : Thread nD τ).loc main_arg0)) (m ((c : Thread nD τ).loc main_arg1)) (m ((c : Thread nD τ).loc main_arg2))
      (m ((c : Thread nD τ).loc main_arg4)) := by
  refine (dats m 0 c).arrAt_eq_of_covers 6 _ (by decide +kernel) fun t hf y => ?_
  blk_simp
  rw [after0_6]
  obtain ⟨r, s, rfl⟩ : ∃ (r : Fin 256) (s : Fin 2048), y = ix2 r s := ⟨y 0, y 1, by
    funext a
    match a with
    | ⟨0, _⟩ => rfl
    | ⟨1, _⟩ => rfl⟩
  have e0 : ((((cfg0.win 6).blk t).view.emb (ix2 r s) : S8192x2048.Idx) 0).val = t.val * 256 + r.val := by
    blk_simp [index_6] <;> omega
  have e1 : ((((cfg0.win 6).blk t).view.emb (ix2 r s) : S8192x2048.Idx) 1).val = s.val := by
    blk_simp [index_6] <;> omega
  generalize (((cfg0.win 6).blk t).view.emb (ix2 r s) : S8192x2048.Idx) = j at e0 e1
  rw [out_x]
  exact upper_at m c t r s j e0 e1

/-- The second result array. -/
theorem final_g (c : Dev nD) : (dats m 0 c).arrAt 7 cfg0.N
    = gradG (m ((c : Thread nD τ).loc main_arg0)) (m ((c : Thread nD τ).loc main_arg1)) := by
  refine (dats m 0 c).arrAt_eq_of_covers 7 _ (by decide +kernel) fun t hf y => ?_
  have ht : t.val = 31 := (by decide +kernel : ∀ t : Fin cfg0.N, (cfg0.win 7).flush t = true → t.val = 31) t hf
  blk_simp
  rw [after0_7]
  obtain ⟨u, s, rfl⟩ : ∃ (u : Fin 1) (s : Fin 2048), y = ix2 u s := ⟨y 0, y 1, by
    funext a
    match a with
    | ⟨0, _⟩ => rfl
    | ⟨1, _⟩ => rfl⟩
  have e : (((cfg0.win 7).blk t).view.emb (ix2 u s) : S1x2048.Idx) = ix2 u s := by
    blk_ext [index_7]
  rw [e]
  obtain rfl : u = 0 := Subsingleton.elim _ _
  have hN : cfg0.N = 32 := N_0
  exact out_g_last m c t (by omega) s

/-- The third result array. -/
theorem final_z (c : Dev nD) : (dats m 0 c).arrAt 8 cfg0.N
    = gradZ (gradX (m ((c : Thread nD τ).loc main_arg0)) (m ((c : Thread nD τ).loc main_arg1)) (m ((c : Thread nD τ).loc main_arg2))
        (m ((c : Thread nD τ).loc main_arg4))) (m ((c : Thread nD τ).loc main_arg5)) (m ((c : Thread nD τ).loc main_arg6)) := by
  refine (dats m 0 c).arrAt_eq_of_covers 8 _ (by decide +kernel) fun t hf y => ?_
  blk_simp
  rw [after0_8]
  obtain ⟨r, s, rfl⟩ : ∃ (r : Fin 256) (s : Fin 2048), y = ix2 r s := ⟨y 0, y 1, by
    funext a
    match a with
    | ⟨0, _⟩ => rfl
    | ⟨1, _⟩ => rfl⟩
  have e0 : ((((cfg0.win 8).blk t).view.emb (ix2 r s) : S8192x2048.Idx) 0).val = t.val * 256 + r.val := by
    blk_simp [index_8] <;> omega
  have e1 : ((((cfg0.win 8).blk t).view.emb (ix2 r s) : S8192x2048.Idx) 1).val = s.val := by
    blk_simp [index_8] <;> omega
  generalize (((cfg0.win 8).blk t).view.emb (ix2 r s) : S8192x2048.Idx) = j at e0 e1
  rw [out_z]
  exact lower_rows _ _ _ _ _ _ t.val (fun k l j h0 h1 => upper_at m c t k l j h0 h1) (fun k l j h0 h1 => z_at m c t (ix2 k l) j h0 h1)
    (fun l => gz_at m c t (ix2 0 l)) r s j e0 e1

/-- The fourth result array. -/
theorem final_gz (c : Dev nD) : (dats m 0 c).arrAt 9 cfg0.N
    = gradG (gradX (m ((c : Thread nD τ).loc main_arg0)) (m ((c : Thread nD τ).loc main_arg1)) (m ((c : Thread nD τ).loc main_arg2))
        (m ((c : Thread nD τ).loc main_arg4))) (m ((c : Thread nD τ).loc main_arg5)) := by
  refine (dats m 0 c).arrAt_eq_of_covers 9 _ (by decide +kernel) fun t hf y => ?_
  have ht : t.val = 31 := (by decide +kernel : ∀ t : Fin cfg0.N, (cfg0.win 9).flush t = true → t.val = 31) t hf
  blk_simp
  rw [after0_9]
  obtain ⟨u, s, rfl⟩ : ∃ (u : Fin 1) (s : Fin 2048), y = ix2 u s := ⟨y 0, y 1, by
    funext a
    match a with
    | ⟨0, _⟩ => rfl
    | ⟨1, _⟩ => rfl⟩
  have e : (((cfg0.win 9).blk t).view.emb (ix2 u s) : S1x2048.Idx) = ix2 u s := by
    blk_ext [index_9]
  rw [e]
  obtain rfl : u = 0 := Subsingleton.elim _ _
  have hN : cfg0.N = 32 := N_0
  exact out_gz_last m c t (by omega) s

/-! ## The reference -/

theorem reference_x (dy x : Vec Ideal S8192x2048 .f32) (g : Vec Ideal S1x2048 .f32) (res : Vec Ideal S8192x2048 .f32) :
    Cert.Reference38Ideal.Read.val_main_v34 (F := Ideal) dy x g res = gradX dy x g res := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference38Ideal.Read.val_main_v34 (F := Ideal) dy x g res (ix2 r s)
    = entry (RowNorm.inv fun k => x (ix2 r k)) ((dy (ix2 r s) : EReal) * g (ix2 0 s)) (x (ix2 r s)) (fun k => (dy (ix2 r k) : EReal) * g (ix2 0 k))
      (fun k => x (ix2 r k)) + res (ix2 r s)
  rw [← Cert.Reference38Ideal.Read.val_main_v34_eq]
  pointwise
  refine congrArg (fun q : EReal => q + res (ix2 r s)) ?_
  rw [Fin.sum_univ_one, add_assoc]
  refine (congrArg₂ (fun p q : EReal => p + q) (mul_comm _ _)
    (slope (spread fun k => x (ix2 r k)) (∑ k, (x (ix2 r k) : EReal) * (dy (ix2 r k) * g (ix2 0 k))) (x (ix2 r s)) (spread_cases _))).trans ?_
  rfl

theorem reference_g (dy x : Vec Ideal S8192x2048 .f32) :
    Cert.Reference38Ideal.Read.val_main_v17 (F := Ideal) dy x = gradG dy x := by
  funext j
  obtain ⟨r, s, rfl⟩ : ∃ (r : Fin 1) (s : Fin 2048), j = ix2 r s := ⟨j 0, j 1, by
    funext a
    match a with
    | ⟨0, _⟩ => rfl
    | ⟨1, _⟩ => rfl⟩
  show Cert.Reference38Ideal.Read.val_main_v17 (F := Ideal) dy x (ix2 r s) = ∑ n : Fin 8192, share dy x n.val s
  rw [← Cert.Reference38Ideal.Read.val_main_v17_eq]
  pointwise
  refine Finset.sum_congr rfl fun n _ => ?_
  unfold share
  rw [dif_pos n.isLt, mul_comm, ← mul_assoc]
  rfl

theorem reference_z (dy x : Vec Ideal S8192x2048 .f32) (g : Vec Ideal S1x2048 .f32) (res z : Vec Ideal S8192x2048 .f32) (gz : Vec Ideal S1x2048 .f32) :
    Cert.Reference38Ideal.Read.val_main_v69 (F := Ideal) dy x g res z gz = gradZ (gradX dy x g res) z gz := by
  simp only [
    Cert.Reference38Ideal.Read.val_main_v35, Cert.Reference38Ideal.Read.val_main_cst_7, Cert.Reference38Ideal.Read.val_main_v36,
    Cert.Reference38Ideal.Read.val_main_v37, Cert.Reference38Ideal.Read.val_main_cst_8, Cert.Reference38Ideal.Read.val_main_v38,
    Cert.Reference38Ideal.Read.val_main_v39, Cert.Reference38Ideal.Read.val_main_cst_9, Cert.Reference38Ideal.Read.val_main_v40,
    Cert.Reference38Ideal.Read.val_main_v41, Cert.Reference38Ideal.Read.val_main_v42, Cert.Reference38Ideal.Read.val_main_v43,
    Cert.Reference38Ideal.Read.val_main_cst_10, Cert.Reference38Ideal.Read.val_main_v44, Cert.Reference38Ideal.Read.val_main_v45,
    Cert.Reference38Ideal.Read.val_main_v46, Cert.Reference38Ideal.Read.val_main_v47, Cert.Reference38Ideal.Read.val_main_v48,
    Cert.Reference38Ideal.Read.val_main_v49, Cert.Reference38Ideal.Read.val_main_v50, Cert.Reference38Ideal.Read.val_main_cst_11,
    Cert.Reference38Ideal.Read.val_main_v51, Cert.Reference38Ideal.Read.val_main_v52, Cert.Reference38Ideal.Read.val_main_v53,
    Cert.Reference38Ideal.Read.val_main_v54, Cert.Reference38Ideal.Read.val_main_v55, Cert.Reference38Ideal.Read.val_main_cst_12,
    Cert.Reference38Ideal.Read.val_main_v56, Cert.Reference38Ideal.Read.val_main_v57, Cert.Reference38Ideal.Read.val_main_v58,
    Cert.Reference38Ideal.Read.val_main_v59, Cert.Reference38Ideal.Read.val_main_v60, Cert.Reference38Ideal.Read.val_main_cst_13,
    Cert.Reference38Ideal.Read.val_main_v61, Cert.Reference38Ideal.Read.val_main_v62, Cert.Reference38Ideal.Read.val_main_cst_14,
    Cert.Reference38Ideal.Read.val_main_v63, Cert.Reference38Ideal.Read.val_main_v64, Cert.Reference38Ideal.Read.val_main_v65,
    Cert.Reference38Ideal.Read.val_main_v66, Cert.Reference38Ideal.Read.val_main_v67, Cert.Reference38Ideal.Read.val_main_v68,
    Cert.Reference38Ideal.Read.val_main_v69]
  rw [reference_x]
  generalize gradX dy x g res = d
  funext j
  obtain ⟨r, s, rfl⟩ : ∃ (r : Fin 8192) (s : Fin 2048), j = ix2 r s := ⟨j 0, j 1, by
    funext a
    match a with
    | ⟨0, _⟩ => rfl
    | ⟨1, _⟩ => rfl⟩
  show _ = entry (RowNorm.inv fun k => z (ix2 r k)) ((d (ix2 r s) : EReal) * gz (ix2 0 s)) (z (ix2 r s)) (fun k => (d (ix2 r k) : EReal) * gz (ix2 0 k))
      (fun k => z (ix2 r k))
  pointwise
  rw [Fin.sum_univ_one, add_assoc]
  refine (congrArg₂ (fun p q : EReal => p + q) (mul_comm _ _)
    (slope (spread fun k => z (ix2 r k)) (∑ k, (z (ix2 r k) : EReal) * (d (ix2 r k) * gz (ix2 0 k))) (z (ix2 r s)) (spread_cases _))).trans ?_
  rfl

theorem reference_gz (dy x : Vec Ideal S8192x2048 .f32) (g : Vec Ideal S1x2048 .f32) (res z : Vec Ideal S8192x2048 .f32) :
    Cert.Reference38Ideal.Read.val_main_v52 (F := Ideal) dy x g res z = gradG (gradX dy x g res) z := by
  simp only [
    Cert.Reference38Ideal.Read.val_main_v35, Cert.Reference38Ideal.Read.val_main_cst_7, Cert.Reference38Ideal.Read.val_main_v36,
    Cert.Reference38Ideal.Read.val_main_v37, Cert.Reference38Ideal.Read.val_main_cst_8, Cert.Reference38Ideal.Read.val_main_v38,
    Cert.Reference38Ideal.Read.val_main_v39, Cert.Reference38Ideal.Read.val_main_cst_9, Cert.Reference38Ideal.Read.val_main_v40,
    Cert.Reference38Ideal.Read.val_main_v41, Cert.Reference38Ideal.Read.val_main_v42, Cert.Reference38Ideal.Read.val_main_v43,
    Cert.Reference38Ideal.Read.val_main_cst_10, Cert.Reference38Ideal.Read.val_main_v44, Cert.Reference38Ideal.Read.val_main_v45,
    Cert.Reference38Ideal.Read.val_main_v46, Cert.Reference38Ideal.Read.val_main_v47, Cert.Reference38Ideal.Read.val_main_v48,
    Cert.Reference38Ideal.Read.val_main_v49, Cert.Reference38Ideal.Read.val_main_v50, Cert.Reference38Ideal.Read.val_main_cst_11,
    Cert.Reference38Ideal.Read.val_main_v51, Cert.Reference38Ideal.Read.val_main_v52, Cert.Reference38Ideal.Read.val_main_v53,
    Cert.Reference38Ideal.Read.val_main_v54, Cert.Reference38Ideal.Read.val_main_v55, Cert.Reference38Ideal.Read.val_main_cst_12,
    Cert.Reference38Ideal.Read.val_main_v56, Cert.Reference38Ideal.Read.val_main_v57, Cert.Reference38Ideal.Read.val_main_v58,
    Cert.Reference38Ideal.Read.val_main_v59, Cert.Reference38Ideal.Read.val_main_v60, Cert.Reference38Ideal.Read.val_main_cst_13,
    Cert.Reference38Ideal.Read.val_main_v61, Cert.Reference38Ideal.Read.val_main_v62, Cert.Reference38Ideal.Read.val_main_cst_14,
    Cert.Reference38Ideal.Read.val_main_v63, Cert.Reference38Ideal.Read.val_main_v64, Cert.Reference38Ideal.Read.val_main_v65,
    Cert.Reference38Ideal.Read.val_main_v66, Cert.Reference38Ideal.Read.val_main_v67, Cert.Reference38Ideal.Read.val_main_v68,
    Cert.Reference38Ideal.Read.val_main_v69]
  rw [reference_x]
  generalize gradX dy x g res = d
  funext j
  obtain ⟨r, s, rfl⟩ : ∃ (r : Fin 1) (s : Fin 2048), j = ix2 r s := ⟨j 0, j 1, by
    funext a
    match a with
    | ⟨0, _⟩ => rfl
    | ⟨1, _⟩ => rfl⟩
  show _ = ∑ n : Fin 8192, share d z n.val s
  pointwise
  refine Finset.sum_congr rfl fun n _ => ?_
  unfold share
  rw [dif_pos n.isLt, mul_comm, ← mul_assoc]
  rfl

theorem algebraic : Cert.algebraic_Kernel38Ideal_Reference38Ideal := by
  intro m g m' g' _ hargs
  refine ⟨fun c => gradX (m ((c : Thread nD τ).loc main_arg0)) (m ((c : Thread nD τ).loc main_arg1)) (m ((c : Thread nD τ).loc main_arg2))
      (m ((c : Thread nD τ).loc main_arg4)),
    fun c => gradG (m ((c : Thread nD τ).loc main_arg0)) (m ((c : Thread nD τ).loc main_arg1)),
    fun c => gradZ (gradX (m ((c : Thread nD τ).loc main_arg0)) (m ((c : Thread nD τ).loc main_arg1)) (m ((c : Thread nD τ).loc main_arg2))
      (m ((c : Thread nD τ).loc main_arg4))) (m ((c : Thread nD τ).loc main_arg5)) (m ((c : Thread nD τ).loc main_arg6)),
    fun c => gradG (gradX (m ((c : Thread nD τ).loc main_arg0)) (m ((c : Thread nD τ).loc main_arg1)) (m ((c : Thread nD τ).loc main_arg2))
      (m ((c : Thread nD τ).loc main_arg4))) (m ((c : Thread nD τ).loc main_arg5)), ?_, ?_⟩
  · exact (θ_run defs _ _).mono (fun r h c => ⟨(h c).1.trans (final_x m c), (h c).2.1.trans (final_g m c), (h c).2.2.1.trans (final_z m c),
      (h c).2.2.2.1.trans (final_gz m c), (h c).2.2.2.2⟩) (Value.run_blocks m g)
  · refine (θ_run Cert.Reference38Ideal.defs _ _).mono (fun r h c => ⟨(h c).1.trans ?_, (h c).2.1.trans ?_, (h c).2.2.1.trans ?_,
      (h c).2.2.2.1.trans ?_, (h c).2.2.2.2⟩) (Cert.Reference38Ideal.Value.run m' g')
    · obtain ⟨e0, e1, e2, e3, e4, e5, e6⟩ := hargs c
      refine (reference_x _ _ _ _).trans ?_
      rw [e0, e1, e2, e4]
    · obtain ⟨e0, e1, e2, e3, e4, e5, e6⟩ := hargs c
      refine (reference_g _ _).trans ?_
      rw [e0, e1]
    · obtain ⟨e0, e1, e2, e3, e4, e5, e6⟩ := hargs c
      rw [Cert.Reference38Ideal.Read.val_main_v69_eq]
      refine (reference_z _ _ _ _ _ _).trans ?_
      rw [e0, e1, e2, e4, e5, e6]
    · obtain ⟨e0, e1, e2, e3, e4, e5, e6⟩ := hargs c
      rw [Cert.Reference38Ideal.Read.val_main_v52_eq]
      refine (reference_gz _ _ _ _ _).trans ?_
      rw [e0, e1, e2, e4, e5]

end Cert.RmsBwdPair

end
-- ==== Proof.ResNorm.lean ====
module

public import proofs.«01_k».proof.Defs
public import proofs.«01_k».proof.Proof.RowNorm
public import proofs.«01_k».proof.Proof.Gen.Kernel39Ideal.Value
public import proofs.«01_k».proof.Proof.Gen.Reference39Ideal.Read
public import Idealize.ShloMosaic.Lib.Pointwise
public import Idealize.ShloMosaic.Lib.Pipeline.ValueKit.Acc
public import Idealize.ShloMosaic.Lib.Pipeline.ValueKit.Geometry

/-!
# A norm, the residual connection and the norm that follows

Grid point `t` normalises 512 rows, each by itself, adds the residual's rows and normalises the sums.
-/

@[expose] public section

noncomputable section

open Idealize.ShloMosaic Idealize.ShloMosaic.TcCoe Idealize.SL.Sem

namespace Cert.ResNorm

open Cert.Kernel39Ideal Cert.Kernel39Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![t.val, 0] := (by decide +kernel : ∀ t : Fin grid0.N, _)

theorem z_at (c : Dev nD) (t : Fin cfg0.N) (y : S512x2048.Idx) (j : S8192x2048.Idx)
    (h0 : (j 0).val = t.val * 512 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem x_at (c : Dev nD) (t : Fin cfg0.N) (y : S512x2048.Idx) (j : S8192x2048.Idx)
    (h0 : (j 0).val = t.val * 512 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem g_at (c : Dev nD) (t : Fin cfg0.N) (y : S1x2048.Idx) :
    iblk m c 2 t y = m ((c : Thread nD τ).loc main_arg2) y := by
  blk_simp [iblk, index_2]
  show m ((c : Thread nD τ).loc main_arg2) _ = _
  congr 1
  blk_ext [index_2]

theorem h_at (c : Dev nD) (t : Fin cfg0.N) (y : S1x2048.Idx) :
    iblk m c 3 t y = m ((c : Thread nD τ).loc main_arg3) y := by
  blk_simp [iblk, index_3]
  show m ((c : Thread nD τ).loc main_arg3) _ = _
  congr 1
  blk_ext [index_3]

/-! ## What a point computes -/

/-- The normalised rows with the other array's rows added. -/
def added (z x : Vec Ideal S8192x2048 .f32) (g : Vec Ideal S1x2048 .f32) : Vec Ideal S8192x2048 .f32 :=
  fun j => x j + (z j : EReal) * inv (fun k => z (ix2 (j 0) k)) * g (ix2 0 (j 1))

theorem out_at (z x : Vec Ideal S512x2048 .f32) (g : Vec Ideal S1x2048 .f32) (r : Fin 512) (s : Fin 2048) :
    k0_pay1 (F := Ideal) z x g (ix2 r s) = x (ix2 r s) + (z (ix2 r s) : EReal) * inv (fun k => z (ix2 r k)) * g (ix2 0 s) := by
  pointwise [k0_pay1]
  rfl

/-- A block of 512 rows is the part of the whole that lies there. -/
theorem rows (Z X : Vec Ideal S512x2048 .f32) (G : Vec Ideal S1x2048 .f32) (z x : Vec Ideal S8192x2048 .f32) (g : Vec Ideal S1x2048 .f32) (n : ℕ)
    (hZ : ∀ (k : Fin 512) (l : Fin 2048) (j : S8192x2048.Idx), (j 0).val = n * 512 + k.val → (j 1).val = l.val → Z (ix2 k l) = z j)
    (hX : ∀ (k : Fin 512) (l : Fin 2048) (j : S8192x2048.Idx), (j 0).val = n * 512 + k.val → (j 1).val = l.val → X (ix2 k l) = x j)
    (hG : ∀ l : Fin 2048, G (ix2 0 l) = g (ix2 0 l))
    (r : Fin 512) (s : Fin 2048) (j : S8192x2048.Idx) (h0 : (j 0).val = n * 512 + r.val) (h1 : (j 1).val = s.val) :
    k0_pay1 (F := Ideal) Z X G (ix2 r s) = added z x g j := by
  rw [out_at, hG s]
  obtain rfl : s = (j 1 : Fin 2048) := Fin.ext h1.symm
  have e : (fun k => Z (ix2 r k) : Fin 2048 → EReal) = fun k => z (ix2 (j 0) k) := funext fun k => hZ r k _ h0 rfl
  unfold added
  rw [e, hZ r _ j h0 rfl, hX r _ j h0 rfl]

/-- The rows of the sums normalised. -/
def normed (z x : Vec Ideal S8192x2048 .f32) (g h : Vec Ideal S1x2048 .f32) : Vec Ideal S8192x2048 .bf16 :=
  fun j => (added z x g j : EReal) * inv (fun k => added z x g (ix2 (j 0) k)) * h (ix2 0 (j 1))

theorem next_at (z x : Vec Ideal S512x2048 .f32) (g h : Vec Ideal S1x2048 .f32) (r : Fin 512) (s : Fin 2048) :
    k0_pay2 (F := Ideal) z x g h (ix2 r s)
      = (k0_pay1 (F := Ideal) z x g (ix2 r s) : EReal) * inv (fun k => k0_pay1 (F := Ideal) z x g (ix2 r k)) * h (ix2 0 s) := by
  pointwise [k0_pay2]
  rfl

theorem next_rows (Z X : Vec Ideal S512x2048 .f32) (G H : Vec Ideal S1x2048 .f32) (z x : Vec Ideal S8192x2048 .f32) (g h : Vec Ideal S1x2048 .f32) (n : ℕ)
    (hZ : ∀ (k : Fin 512) (l : Fin 2048) (j : S8192x2048.Idx), (j 0).val = n * 512 + k.val → (j 1).val = l.val → Z (ix2 k l) = z j)
    (hX : ∀ (k : Fin 512) (l : Fin 2048) (j : S8192x2048.Idx), (j 0).val = n * 512 + k.val → (j 1).val = l.val → X (ix2 k l) = x j)
    (hG : ∀ l : Fin 2048, G (ix2 0 l) = g (ix2 0 l)) (hH : ∀ l : Fin 2048, H (ix2 0 l) = h (ix2 0 l))
    (r : Fin 512) (s : Fin 2048) (j : S8192x2048.Idx) (h0 : (j 0).val = n * 512 + r.val) (h1 : (j 1).val = s.val) :
    k0_pay2 (F := Ideal) Z X G H (ix2 r s) = normed z x g h j := by
  rw [next_at, hH s]
  obtain rfl : s = (j 1 : Fin 2048) := Fin.ext h1.symm
  have e : (fun k => k0_pay1 (F := Ideal) Z X G (ix2 r k) : Fin 2048 → EReal) = fun k => added z x g (ix2 (j 0) k) :=
    funext fun k => rows Z X G z x g n hZ hX hG r k _ h0 rfl
  unfold normed
  rw [e, rows Z X G z x g n hZ hX hG r _ j h0 rfl]

/-- The first result array, -/
theorem final (c : Dev nD) : (dats m 0 c).arrAt 4 cfg0.N
    = added (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 4).blk t).view.emb (ix2 r s) : S8192x2048.Idx) 0).val = t.val * 512 + r.val := by
    blk_simp [index_4] <;> omega
  have e1 : ((((cfg0.win 4).blk t).view.emb (ix2 r s) : S8192x2048.Idx) 1).val = s.val := by
    blk_simp [index_4] <;> omega
  generalize (((cfg0.win 4).blk t).view.emb (ix2 r s) : S8192x2048.Idx) = j at e0 e1
  frame_out
  exact rows _ _ _ _ _ _ t.val (fun k l j h0 h1 => z_at m c t (ix2 k l) j h0 h1) (fun k l j h0 h1 => x_at m c t (ix2 k l) j h0 h1)
    (fun l => g_at m c t (ix2 0 l)) r s j e0 e1

/-- and the second. -/
theorem final_next (c : Dev nD) : (dats m 0 c).arrAt 5 cfg0.N
    = normed (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 5).blk t).view.emb (ix2 r s) : S8192x2048.Idx) 0).val = t.val * 512 + r.val := by
    blk_simp [index_5] <;> omega
  have e1 : ((((cfg0.win 5).blk t).view.emb (ix2 r s) : S8192x2048.Idx) 1).val = s.val := by
    blk_simp [index_5] <;> omega
  generalize (((cfg0.win 5).blk t).view.emb (ix2 r s) : S8192x2048.Idx) = j at e0 e1
  frame_out
  exact next_rows _ _ _ _ _ _ _ _ t.val (fun k l j h0 h1 => z_at m c t (ix2 k l) j h0 h1) (fun k l j h0 h1 => x_at m c t (ix2 k l) j h0 h1)
    (fun l => g_at m c t (ix2 0 l)) (fun l => h_at m c t (ix2 0 l)) r s j e0 e1

/-! ## The reference -/

theorem reference_eq (z x : Vec Ideal S8192x2048 .f32) (g : Vec Ideal S1x2048 .f32) :
    Cert.Reference39Ideal.Read.val_main_v12 (F := Ideal) z x g = added z x g := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference39Ideal.Read.val_main_v12 (F := Ideal) z x g (ix2 r s) = x (ix2 r s) + (z (ix2 r s) : EReal) * inv (fun k => z (ix2 r k)) * g (ix2 0 s)
  rw [← Cert.Reference39Ideal.Read.val_main_v12_eq]
  pointwise
  rfl

theorem reference_next (z x : Vec Ideal S8192x2048 .f32) (g h : Vec Ideal S1x2048 .f32) :
    Cert.Reference39Ideal.Read.val_main_v25 (F := Ideal) z x g h = normed z x g h := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  have e : ∀ k : Fin 2048, (Cert.Reference39Ideal.Read.val_main_v12 (F := Ideal) z x g (ix2 r k) : EReal) = added z x g (ix2 r k) :=
    fun k => congrFun (reference_eq z x g) _
  show Cert.Reference39Ideal.Read.val_main_v25 (F := Ideal) z x g h (ix2 r s)
    = (added z x g (ix2 r s) : EReal) * inv (fun k => added z x g (ix2 r k)) * h (ix2 0 s)
  rw [← Cert.Reference39Ideal.Read.val_main_v25_eq]
  pointwise
  rfl

theorem algebraic : Cert.algebraic_Kernel39Ideal_Reference39Ideal := by
  intro m g m' g' _ hargs
  refine ⟨fun c => added (m ((c : Thread nD τ).loc main_arg0)) (m ((c : Thread nD τ).loc main_arg1)) (m ((c : Thread nD τ).loc main_arg2)),
    fun c => normed (m ((c : Thread nD τ).loc main_arg0)) (m ((c : Thread nD τ).loc main_arg1)) (m ((c : Thread nD τ).loc main_arg2)) (m ((c : Thread nD τ).loc main_arg3)), ?_, ?_⟩
  · exact (θ_run defs _ _).mono (fun r h c => ⟨(h c).1.trans (final m c), (h c).2.1.trans (final_next m c), (h c).2.2⟩) (Value.run_blocks m g)
  · refine (θ_run Cert.Reference39Ideal.defs _ _).mono (fun r h c => ⟨(h c).1.trans ?_, (h c).2.1.trans ?_, (h c).2.2⟩)
      (Cert.Reference39Ideal.Value.run m' g')
    · obtain ⟨e0, e1, e2, e3⟩ := hargs c
      refine (reference_eq _ _ _).trans ?_
      rw [e0, e1, e2]
    · obtain ⟨e0, e1, e2, e3⟩ := hargs c
      refine (reference_next _ _ _ _).trans ?_
      rw [e0, e1, e2, e3]

end Cert.ResNorm

end
-- ==== Proof.LastNorm.lean ====
module

public import proofs.«01_k».proof.Defs
public import proofs.«01_k».proof.Proof.RowNorm
public import proofs.«01_k».proof.Proof.Gen.Kernel40Ideal.Value
public import proofs.«01_k».proof.Proof.Gen.Reference40Ideal.Read
public import Idealize.ShloMosaic.Lib.Pointwise
public import Idealize.ShloMosaic.Lib.Pipeline.ValueKit.Acc
public import Idealize.ShloMosaic.Lib.Pipeline.ValueKit.Geometry

/-!
# The last norm of the last layer

Grid point `t` normalises 512 rows, each by itself, and adds the residual's rows. The blocks cover the result array, so it is the reference's.
-/

@[expose] public section

noncomputable section

open Idealize.ShloMosaic Idealize.ShloMosaic.TcCoe Idealize.SL.Sem

namespace Cert.LastNorm

open Cert.Kernel40Ideal Cert.Kernel40Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)

theorem z_at (c : Dev nD) (t : Fin cfg0.N) (y : S512x2048.Idx) (j : S8192x2048.Idx)
    (h0 : (j 0).val = t.val * 512 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem x_at (c : Dev nD) (t : Fin cfg0.N) (y : S512x2048.Idx) (j : S8192x2048.Idx)
    (h0 : (j 0).val = t.val * 512 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem g_at (c : Dev nD) (t : Fin cfg0.N) (y : S1x2048.Idx) :
    iblk m c 2 t y = m ((c : Thread nD τ).loc main_arg2) y := by
  blk_simp [iblk, index_2]
  show m ((c : Thread nD τ).loc main_arg2) _ = _
  congr 1
  blk_ext [index_2]

/-! ## What a point computes -/

/-- The normalised rows with the other array's rows added. -/
def added (z x : Vec Ideal S8192x2048 .f32) (g : Vec Ideal S1x2048 .f32) : Vec Ideal S8192x2048 .f32 :=
  fun j => x j + (z j : EReal) * inv (fun k => z (ix2 (j 0) k)) * g (ix2 0 (j 1))

theorem out_at (z x : Vec Ideal S512x2048 .f32) (g : Vec Ideal S1x2048 .f32) (r : Fin 512) (s : Fin 2048) :
    k0_pay1 (F := Ideal) z x g (ix2 r s) = x (ix2 r s) + (z (ix2 r s) : EReal) * inv (fun k => z (ix2 r k)) * g (ix2 0 s) := by
  pointwise [k0_pay1]
  rfl

/-- A block of 512 rows is the part of the whole that lies there. -/
theorem rows (Z X : Vec Ideal S512x2048 .f32) (G : Vec Ideal S1x2048 .f32) (z x : Vec Ideal S8192x2048 .f32) (g : Vec Ideal S1x2048 .f32) (n : ℕ)
    (hZ : ∀ (k : Fin 512) (l : Fin 2048) (j : S8192x2048.Idx), (j 0).val = n * 512 + k.val → (j 1).val = l.val → Z (ix2 k l) = z j)
    (hX : ∀ (k : Fin 512) (l : Fin 2048) (j : S8192x2048.Idx), (j 0).val = n * 512 + k.val → (j 1).val = l.val → X (ix2 k l) = x j)
    (hG : ∀ l : Fin 2048, G (ix2 0 l) = g (ix2 0 l))
    (r : Fin 512) (s : Fin 2048) (j : S8192x2048.Idx) (h0 : (j 0).val = n * 512 + r.val) (h1 : (j 1).val = s.val) :
    k0_pay1 (F := Ideal) Z X G (ix2 r s) = added z x g j := by
  rw [out_at, hG s]
  obtain rfl : s = (j 1 : Fin 2048) := Fin.ext h1.symm
  have e : (fun k => Z (ix2 r k) : Fin 2048 → EReal) = fun k => z (ix2 (j 0) k) := funext fun k => hZ r k _ h0 rfl
  unfold added
  rw [e, hZ r _ j h0 rfl, hX r _ j h0 rfl]

/-- The result array. -/
theorem final (c : Dev nD) : (dats m 0 c).arrAt 3 cfg0.N
    = added (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 3).blk t).view.emb (ix2 r s) : S8192x2048.Idx) 0).val = t.val * 512 + r.val := by
    blk_simp [index_3] <;> omega
  have e1 : ((((cfg0.win 3).blk t).view.emb (ix2 r s) : S8192x2048.Idx) 1).val = s.val := by
    blk_simp [index_3] <;> omega
  generalize (((cfg0.win 3).blk t).view.emb (ix2 r s) : S8192x2048.Idx) = j at e0 e1
  frame_out
  exact rows _ _ _ _ _ _ t.val (fun k l j h0 h1 => z_at m c t (ix2 k l) j h0 h1) (fun k l j h0 h1 => x_at m c t (ix2 k l) j h0 h1)
    (fun l => g_at m c t (ix2 0 l)) r s j e0 e1

/-! ## The reference -/

theorem reference_eq (z x : Vec Ideal S8192x2048 .f32) (g : Vec Ideal S1x2048 .f32) :
    Cert.Reference40Ideal.Read.val_main_v12 (F := Ideal) z x g = added z x g := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference40Ideal.Read.val_main_v12 (F := Ideal) z x g (ix2 r s) = x (ix2 r s) + (z (ix2 r s) : EReal) * inv (fun k => z (ix2 r k)) * g (ix2 0 s)
  rw [← Cert.Reference40Ideal.Read.val_main_v12_eq]
  pointwise
  rfl

theorem algebraic : Cert.algebraic_Kernel40Ideal_Reference40Ideal := by
  intro m g m' g' _ hargs
  refine ⟨fun c => added (m ((c : Thread nD τ).loc main_arg0)) (m ((c : Thread nD τ).loc main_arg1)) (m ((c : Thread nD τ).loc main_arg2)), ?_, ?_⟩
  · exact (θ_run defs _ _).mono (fun r h c => ⟨(h c).1.trans (final m c), (h c).2⟩) (Value.run_blocks m g)
  · refine (θ_run Cert.Reference40Ideal.defs _ _).mono (fun r h c => ⟨(h c).1.trans ?_, (h c).2⟩) (Cert.Reference40Ideal.Value.run m' g')
    obtain ⟨e0, e1, e2⟩ := hargs c
    refine (reference_eq _ _ _).trans ?_
    rw [e0, e1, e2]

end Cert.LastNorm

end
-- ==== Proof.RmsBwdTop.lean ====
module

public import proofs.«01_k».proof.Defs
public import proofs.«01_k».proof.Proof.RowNorm
public import proofs.«01_k».proof.Proof.Gen.Kernel41Ideal.Value
public import proofs.«01_k».proof.Proof.Gen.Reference41Ideal.Read
public import Idealize.ShloMosaic.Lib.Pointwise
public import Idealize.ShloMosaic.Lib.Pipeline.ValueKit.Acc
public import Idealize.ShloMosaic.Lib.Pipeline.ValueKit.Geometry

/-!
# The gradient through the last norm of the top layer

Grid point `t` handles 512 rows: it writes the gradient of their entries, and adds what they give to the gradient of the scale.
-/

@[expose] public section

noncomputable section

open scoped BigOperators
open Idealize.ShloMosaic Idealize.ShloMosaic.TcCoe Idealize.SL.Sem

namespace Cert.RmsBwdTop

open Cert.Kernel41Ideal Cert.Kernel41Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)

theorem dy_at (c : Dev nD) (t : Fin cfg0.N) (y : S512x2048.Idx) (j : S8192x2048.Idx)
    (h0 : (j 0).val = t.val * 512 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem x_at (c : Dev nD) (t : Fin cfg0.N) (y : S512x2048.Idx) (j : S8192x2048.Idx)
    (h0 : (j 0).val = t.val * 512 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem g_at (c : Dev nD) (t : Fin cfg0.N) (y : S1x2048.Idx) :
    iblk m c 2 t y = m ((c : Thread nD τ).loc main_arg2) y := by
  blk_simp [iblk, index_2]
  show m ((c : Thread nD τ).loc main_arg2) _ = _
  congr 1
  blk_ext [index_2]

/-! ## What a point computes -/

/-- An entry of the gradient of one row: `i` the reciprocal root, `d` and `x` the entries, `a` the scaled row and `X` the row. -/
def entry (i d x : EReal) (a X : Fin 2048 → EReal) : EReal :=
  i * d - x * (i * i * i * Ideal.div (∑ k, X k * a k) (Ideal.ofBits .f32 0x45000000#32))

/-- The gradient of the rows. -/
def gradX (dy x : Vec Ideal S8192x2048 .f32) (g : Vec Ideal S1x2048 .f32) : Vec Ideal S8192x2048 .bf16 :=
  fun j => entry (RowNorm.inv fun k => x (ix2 (j 0) k)) ((dy j : EReal) * g (ix2 0 (j 1))) (x j) (fun k => (dy (ix2 (j 0) k) : EReal) * g (ix2 0 k))
    (fun k => x (ix2 (j 0) k))

/-- The rows' contributions to the gradient of the scale, zero past the last row, -/
def share (dy x : Vec Ideal S8192x2048 .f32) (n : ℕ) (s : Fin 2048) : EReal :=
  if h : n < 8192 then (dy (ix2 ⟨n, h⟩ s) : EReal) * x (ix2 ⟨n, h⟩ s) * RowNorm.inv (fun k => x (ix2 ⟨n, h⟩ k)) else 0

/-- and their sum. -/
def gradG (dy x : Vec Ideal S8192x2048 .f32) : Vec Ideal S1x2048 .f32 := fun j => ∑ n : Fin 8192, share dy x n.val (j 1)

theorem x_out_at (dy x : Vec Ideal S512x2048 .f32) (g : Vec Ideal S1x2048 .f32) (r : Fin 512) (s : Fin 2048) :
    k0_pay2 (F := Ideal) dy x g (ix2 r s) = entry (RowNorm.inv fun k => x (ix2 r k)) ((dy (ix2 r s) : EReal) * g (ix2 0 s)) (x (ix2 r s))
      (fun k => (dy (ix2 r k) : EReal) * g (ix2 0 k)) (fun k => x (ix2 r k)) := by
  pointwise [k0_pay2, k0_pay1]
  rfl

/-- What a block of rows gives to the gradient of the scale. -/
def blockPart (dy x : Vec Ideal S512x2048 .f32) (s : Fin 2048) : EReal :=
  ∑ k : Fin 512, (dy (ix2 k s) : EReal) * x (ix2 k s) * RowNorm.inv (fun l => x (ix2 k l))

theorem g_out_at (dy x : Vec Ideal S512x2048 .f32) (p : Vec Ideal S1x2048 .f32) (s : Fin 2048) :
    k0_pay4 (F := Ideal) dy x p (ix2 0 s) = (p (ix2 0 s) : EReal) + blockPart dy x s := by
  pointwise [k0_pay4, k0_pay1]
  rfl

theorem out_x (c : Dev nD) (t : Fin cfg0.N) :
    (outsAt0 m c t.val t.isLt).1 = k0_pay2 (F := Ideal) (iblk m c 0 t) (iblk m c 1 t) (iblk m c 2 t) := by
  by_cases h : t.val % 16 = 0
  · rw [outsAt0_A m c t h]
    frame_out
  · rw [outsAt0_B m c t h]
    frame_out

/-- What the 512 rows of point `t` give. -/
def part (dy x : Vec Ideal S8192x2048 .f32) (t : ℕ) (s : Fin 2048) : EReal := ∑ k : Fin 512, share dy x (t * 512 + k.val) s

theorem point_sum (D X : Vec Ideal S512x2048 .f32) (dy x : Vec Ideal S8192x2048 .f32) (n : ℕ) (hn : n < 16)
    (hD : ∀ (k : Fin 512) (l : Fin 2048) (j : S8192x2048.Idx), (j 0).val = n * 512 + k.val → (j 1).val = l.val → D (ix2 k l) = dy j)
    (hX : ∀ (k : Fin 512) (l : Fin 2048) (j : S8192x2048.Idx), (j 0).val = n * 512 + k.val → (j 1).val = l.val → X (ix2 k l) = x j)
    (s : Fin 2048) :
    blockPart D X s = part dy x n s := by
  unfold blockPart part
  refine Finset.sum_congr rfl fun k _ => ?_
  unfold share
  have hk : n * 512 + k.val < 8192 := by omega
  rw [dif_pos hk]
  have h : (fun l => X (ix2 k l) : Fin 2048 → EReal) = fun l => x (ix2 ⟨n * 512 + k.val, hk⟩ l) :=
    funext fun l => hX k l (ix2 ⟨n * 512 + k.val, hk⟩ l) rfl rfl
  rw [h, hD k s (ix2 ⟨n * 512 + k.val, hk⟩ s) rfl rfl, hX k s (ix2 ⟨n * 512 + k.val, hk⟩ s) rfl rfl]

theorem point_sum_at (c : Dev nD) (t : Fin cfg0.N) (s : Fin 2048) :
    blockPart (iblk m c 0 t) (iblk m c 1 t) s
      = part (m ((c : Thread nD τ).loc main_arg0)) (m ((c : Thread nD τ).loc main_arg1)) t.val s :=
  point_sum _ _ _ _ t.val (lt_of_lt_of_eq t.isLt N_0) (fun k l j h0 h1 => dy_at m c t (ix2 k l) j h0 h1)
    (fun k l j h0 h1 => x_at m c t (ix2 k l) j h0 h1) s

theorem out_g_A (c : Dev nD) (t : Fin cfg0.N) (h : t.val % 16 = 0) (s : Fin 2048) :
    (outsAt0 m c t.val t.isLt).2 (ix2 0 s)
      = (0 : EReal) + part (m ((c : Thread nD τ).loc main_arg0)) (m ((c : Thread nD τ).loc main_arg1)) t.val s := by
  rw [outsAt0_A m c t h]
  frame_out
  refine (g_out_at _ _ _ s).trans ?_
  refine congrArg₂ (fun x y : EReal => x + y) ?_ (point_sum_at m c t s)
  pointwise [k0_pay3]

theorem out_g_B (c : Dev nD) (t : Fin cfg0.N) (h : ¬t.val % 16 = 0) (s : Fin 2048) :
    (outsAt0 m c t.val t.isLt).2 (ix2 0 s)
      = (outsAt0 m c (t.val - 1) (Nat.lt_of_le_of_lt (Nat.sub_le _ _) t.isLt)).2 (ix2 0 s)
        + part (m ((c : Thread nD τ).loc main_arg0)) (m ((c : Thread nD τ).loc main_arg1)) t.val s := by
  rw [outsAt0_B m c t h]
  frame_out
  refine (g_out_at _ _ _ s).trans ?_
  refine congrArg₂ (fun x y : EReal => x + y) ?_ (point_sum_at m c t s)
  rfl

/-- The rows of all the points. -/
theorem sum_part (dy x : Vec Ideal S8192x2048 .f32) (s : Fin 2048) : ∑ t : Fin cfg0.N, part dy x t.val s = ∑ n : Fin 8192, share dy x n.val s := by
  have e : ∀ N : ℕ, N = 16 → ∑ t : Fin N, part dy x t.val s = ∑ n : Fin 8192, share dy x n.val s := by
    rintro N rfl
    unfold part
    refine Fin.sum_mul_add_congr fun t r h => ?_
    rfl
  exact e _ N_0

theorem out_g_last (c : Dev nD) (t : Fin cfg0.N) (ht : t.val + 1 = cfg0.N) (s : Fin 2048) :
    (outsAt0 m c t.val t.isLt).2 (ix2 0 s)
      = ∑ n : Fin 8192, share (m ((c : Thread nD τ).loc main_arg0)) (m ((c : Thread nD τ).loc main_arg1)) n.val s := by
  rw [Pipeline.eq_sum_fin_of_reset_step_apply_last (fun n h => fun s : Fin 2048 => ((outsAt0 m c n h).2 (ix2 0 s) : EReal)) 16 (fun _ => 0)
    (fun t s => part (m ((c : Thread nD τ).loc main_arg0)) (m ((c : Thread nD τ).loc main_arg1)) t.val s) (fun t h s => out_g_A m c t h s)
    (fun t h s => out_g_B m c t h s) (le_of_eq N_0) t ht s, zero_add]
  exact sum_part _ _ _

/-- A block of 512 rows is the part of the whole that lies there. -/
theorem rows (D X : Vec Ideal S512x2048 .f32) (G : Vec Ideal S1x2048 .f32)
    (dy x : Vec Ideal S8192x2048 .f32) (g : Vec Ideal S1x2048 .f32) (n : ℕ)
    (hD : ∀ (k : Fin 512) (l : Fin 2048) (j : S8192x2048.Idx), (j 0).val = n * 512 + k.val → (j 1).val = l.val → D (ix2 k l) = dy j)
    (hX : ∀ (k : Fin 512) (l : Fin 2048) (j : S8192x2048.Idx), (j 0).val = n * 512 + k.val → (j 1).val = l.val → X (ix2 k l) = x j)
    (hG : ∀ l : Fin 2048, G (ix2 0 l) = g (ix2 0 l))
    (r : Fin 512) (s : Fin 2048) (j : S8192x2048.Idx) (h0 : (j 0).val = n * 512 + r.val) (h1 : (j 1).val = s.val) :
    k0_pay2 (F := Ideal) D X G (ix2 r s) = gradX dy x g j := by
  rw [x_out_at, hG s]
  obtain rfl : s = (j 1 : Fin 2048) := Fin.ext h1.symm
  have e : (fun k => X (ix2 r k) : Fin 2048 → EReal) = fun k => x (ix2 (j 0) k) := funext fun k => hX r k _ h0 rfl
  have e' : (fun k => (D (ix2 r k) : EReal) * G (ix2 0 k) : Fin 2048 → EReal) = fun k => (dy (ix2 (j 0) k) : EReal) * g (ix2 0 k) :=
    funext fun k => congrArg₂ (fun x y : EReal => x * y) (hD r k _ h0 rfl) (hG k)
  unfold gradX
  rw [e, e', hD r _ j h0 rfl, hX r _ j h0 rfl]

/-- The first result array. -/
theorem final_x (c : Dev nD) : (dats m 0 c).arrAt 3 cfg0.N
    = gradX (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, s, rfl⟩ : ∃ (r : Fin 512) (s : Fin 2048), y = ix2 r s := ⟨y 0, y 1, by
    funext a
    match a with
    | ⟨0, _⟩ => rfl
    | ⟨1, _⟩ => rfl⟩
  have e0 : ((((cfg0.win 3).blk t).view.emb (ix2 r s) : S8192x2048.Idx) 0).val = t.val * 512 + r.val := by
    blk_simp [index_3] <;> omega
  have e1 : ((((cfg0.win 3).blk t).view.emb (ix2 r s) : S8192x2048.Idx) 1).val = s.val := by
    blk_simp [index_3] <;> omega
  generalize (((cfg0.win 3).blk t).view.emb (ix2 r s) : S8192x2048.Idx) = j at e0 e1
  rw [out_x]
  exact rows _ _ _ _ _ _ t.val (fun k l j h0 h1 => dy_at m c t (ix2 k l) j h0 h1) (fun k l j h0 h1 => x_at m c t (ix2 k l) j h0 h1)
    (fun l => g_at m c t (ix2 0 l)) r s j e0 e1

/-- The second result array. -/
theorem final_g (c : Dev nD) : (dats m 0 c).arrAt 4 cfg0.N
    = gradG (m ((c : Thread nD τ).loc main_arg0)) (m ((c : Thread nD τ).loc main_arg1)) := by
  refine (dats m 0 c).arrAt_eq_of_covers 4 _ (by decide +kernel) fun t hf y => ?_
  have ht : t.val = 15 := (by decide +kernel : ∀ t : Fin cfg0.N, (cfg0.win 4).flush t = true → t.val = 15) t hf
  blk_simp
  rw [after0_4]
  obtain ⟨u, s, rfl⟩ : ∃ (u : Fin 1) (s : Fin 2048), y = ix2 u s := ⟨y 0, y 1, by
    funext a
    match a with
    | ⟨0, _⟩ => rfl
    | ⟨1, _⟩ => rfl⟩
  have e : (((cfg0.win 4).blk t).view.emb (ix2 u s) : S1x2048.Idx) = ix2 u s := by
    blk_ext [index_4]
  rw [e]
  obtain rfl : u = 0 := Subsingleton.elim _ _
  have hN : cfg0.N = 16 := N_0
  exact out_g_last m c t (by omega) s

/-! ## The reference -/

theorem reference_x (dy x : Vec Ideal S8192x2048 .f32) (g : Vec Ideal S1x2048 .f32) :
    Cert.Reference41Ideal.Read.val_main_v34 (F := Ideal) dy x g = gradX dy x g := by
  funext j
  obtain ⟨r, s, rfl⟩ : ∃ (r : Fin 8192) (s : Fin 2048), j = ix2 r s := ⟨j 0, j 1, by
    funext a
    match a with
    | ⟨0, _⟩ => rfl
    | ⟨1, _⟩ => rfl⟩
  show Cert.Reference41Ideal.Read.val_main_v34 (F := Ideal) dy x g (ix2 r s)
    = entry (RowNorm.inv fun k => x (ix2 r k)) ((dy (ix2 r s) : EReal) * g (ix2 0 s)) (x (ix2 r s)) (fun k => (dy (ix2 r k) : EReal) * g (ix2 0 k))
      (fun k => x (ix2 r k))
  rw [← Cert.Reference41Ideal.Read.val_main_v34_eq]
  pointwise
  rw [Fin.sum_univ_one, add_assoc]
  refine (congrArg₂ (fun p q : EReal => p + q) (mul_comm _ _)
    (slope (spread fun k => x (ix2 r k)) (∑ k, (x (ix2 r k) : EReal) * (dy (ix2 r k) * g (ix2 0 k))) (x (ix2 r s)) (spread_cases _))).trans ?_
  rfl

theorem reference_g (dy x : Vec Ideal S8192x2048 .f32) :
    Cert.Reference41Ideal.Read.val_main_v17 (F := Ideal) dy x = gradG dy x := by
  funext j
  obtain ⟨r, s, rfl⟩ : ∃ (r : Fin 1) (s : Fin 2048), j = ix2 r s := ⟨j 0, j 1, by
    funext a
    match a with
    | ⟨0, _⟩ => rfl
    | ⟨1, _⟩ => rfl⟩
  show Cert.Reference41Ideal.Read.val_main_v17 (F := Ideal) dy x (ix2 r s) = ∑ n : Fin 8192, share dy x n.val s
  rw [← Cert.Reference41Ideal.Read.val_main_v17_eq]
  pointwise
  refine Finset.sum_congr rfl fun n _ => ?_
  unfold share
  rw [dif_pos n.isLt, mul_comm, ← mul_assoc]
  rfl

theorem algebraic : Cert.algebraic_Kernel41Ideal_Reference41Ideal := by
  intro m g m' g' _ hargs
  refine ⟨fun c => gradX (m ((c : Thread nD τ).loc main_arg0)) (m ((c : Thread nD τ).loc main_arg1)) (m ((c : Thread nD τ).loc main_arg2)),
    fun c => gradG (m ((c : Thread nD τ).loc main_arg0)) (m ((c : Thread nD τ).loc main_arg1)), ?_, ?_⟩
  · exact (θ_run defs _ _).mono (fun r h c => ⟨(h c).1.trans (final_x m c), (h c).2.1.trans (final_g m c), (h c).2.2⟩) (Value.run_blocks m g)
  · refine (θ_run Cert.Reference41Ideal.defs _ _).mono (fun r h c => ⟨(h c).1.trans ?_, (h c).2.1.trans ?_, (h c).2.2⟩)
      (Cert.Reference41Ideal.Value.run m' g')
    · obtain ⟨e0, e1, e2, e3⟩ := hargs c
      refine (reference_x _ _ _).trans ?_
      rw [e0, e1, e2]
    · obtain ⟨e0, e1, e2, e3⟩ := hargs c
      refine (reference_g _ _).trans ?_
      rw [e0, e1]

end Cert.RmsBwdTop

end
-- ==== Proof.RmsMem.lean ====
module

public import proofs.«01_k».proof.Defs
public import proofs.«01_k».proof.Proof.RowNorm
public import proofs.«01_k».proof.Proof.Gen.Kernel42Ideal.Value
public import proofs.«01_k».proof.Proof.Gen.Reference42Ideal.Read
public import Idealize.ShloMosaic.Lib.Pointwise
public import Idealize.ShloMosaic.Lib.Pipeline.ValueKit.Acc
public import Idealize.ShloMosaic.Lib.Pipeline.ValueKit.Geometry

/-!
# The norm of the memory

The one grid point normalises the 256 rows, each by itself.
-/

@[expose] public section

noncomputable section

open Idealize.ShloMosaic Idealize.ShloMosaic.TcCoe Idealize.SL.Sem

namespace Cert.RmsMem

open Cert.Kernel42Ideal Cert.Kernel42Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem x_at (c : Dev nD) (t : Fin cfg0.N) (y : S256x2048.Idx) (j : S256x2048.Idx)
    (h0 : (j 0).val = t.val * 256 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem g_at (c : Dev nD) (t : Fin cfg0.N) (y : S1x2048.Idx) :
    iblk m c 1 t y = m ((c : Thread nD τ).loc main_arg1) y := by
  blk_simp [iblk, index_1]
  show m ((c : Thread nD τ).loc main_arg1) _ = _
  congr 1
  blk_ext [index_1]

/-! ## What a point computes -/

/-- The normalised rows. -/
def normed (x : Vec Ideal S256x2048 .f32) (g : Vec Ideal S1x2048 .f32) : Vec Ideal S256x2048 .bf16 :=
  fun j => (x j : EReal) * inv (fun k => x (ix2 (j 0) k)) * g (ix2 0 (j 1))

theorem out_at (x : Vec Ideal S256x2048 .f32) (g : Vec Ideal S1x2048 .f32) (r : Fin 256) (s : Fin 2048) :
    k0_pay1 (F := Ideal) x g (ix2 r s) = (x (ix2 r s) : EReal) * inv (fun k => x (ix2 r k)) * g (ix2 0 s) := by
  pointwise [k0_pay1]
  rfl

/-- The result array has every row normalised. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, s, rfl⟩ : ∃ (r : Fin 256) (s : Fin 2048), y = ix2 r s := ⟨y 0, y 1, by
    funext a
    match a with
    | ⟨0, _⟩ => rfl
    | ⟨1, _⟩ => rfl⟩
  have e0 : ((((cfg0.win 2).blk t).view.emb (ix2 r s) : S256x2048.Idx) 0).val = t.val * 256 + r.val := by
    blk_simp [index_2] <;> omega
  have e1 : ((((cfg0.win 2).blk t).view.emb (ix2 r s) : S256x2048.Idx) 1).val = s.val := by
    blk_simp [index_2] <;> omega
  generalize (((cfg0.win 2).blk t).view.emb (ix2 r s) : S256x2048.Idx) = j at e0 e1
  unfold outsAt0
  frame_out
  rw [out_at]
  unfold normed
  refine congrArg₂ (fun x y : EReal => x * y) (congrArg₂ (fun x y : EReal => x * y) (x_at m c t _ _ e0 e1) (congrArg inv (funext fun k => x_at m c t _ _ e0 rfl))) ?_
  refine (g_at m c t _).trans (congrArg (m ((c : Thread nD τ).loc main_arg1)) ?_)
  exact congrArg (fun q : Fin 2048 => (ix2 (0 : Fin 1) q : S1x2048.Idx)) (Fin.ext e1.symm)

/-! ## The reference -/

theorem reference_eq (x : Vec Ideal S256x2048 .f32) (g : Vec Ideal S1x2048 .f32) :
    Cert.Reference42Ideal.Read.val_main_v12 (F := Ideal) x g = normed x g := by
  funext j
  obtain ⟨r, s, rfl⟩ : ∃ (r : Fin 256) (s : Fin 2048), j = ix2 r s := ⟨j 0, j 1, by
    funext a
    match a with
    | ⟨0, _⟩ => rfl
    | ⟨1, _⟩ => rfl⟩
  show Cert.Reference42Ideal.Read.val_main_v12 (F := Ideal) x g (ix2 r s) = (x (ix2 r s) : EReal) * inv (fun k => x (ix2 r k)) * g (ix2 0 s)
  rw [← Cert.Reference42Ideal.Read.val_main_v12_eq]
  pointwise
  rfl

theorem algebraic : Cert.algebraic_Kernel42Ideal_Reference42Ideal := by
  intro m g m' g' _ hargs
  refine ⟨fun c => normed (m ((c : Thread nD τ).loc main_arg0)) (m ((c : Thread nD τ).loc main_arg1)), ?_, ?_⟩
  · exact (θ_run defs _ _).mono (fun r h c => ⟨((h c).1 2).trans (final m c), Value.kept_main_arg0 m r h c, Value.kept_main_arg1 m r h c, Value.kept_main_arg2 m r h c⟩)
      (run_main m g)
  · refine (θ_run Cert.Reference42Ideal.defs _ _).mono (fun r h c => ⟨(h c).1.trans ?_, (h c).2⟩) (Cert.Reference42Ideal.Value.run m' g')
    obtain ⟨e0, e1, e2⟩ := hargs c
    exact (congrArg₂ _ e0 e1).trans (reference_eq _ _)

end Cert.RmsMem

end
-- ==== Proof.RmsBwdMem.lean ====
module

public import proofs.«01_k».proof.Defs
public import proofs.«01_k».proof.Proof.RowNorm
public import proofs.«01_k».proof.Proof.Gen.Kernel43Ideal.Value
public import proofs.«01_k».proof.Proof.Gen.Reference43Ideal.Read
public import Idealize.ShloMosaic.Lib.Pointwise
public import Idealize.ShloMosaic.Lib.Pipeline.ValueKit.Acc
public import Idealize.ShloMosaic.Lib.Pipeline.ValueKit.Geometry

/-!
# The gradient through the norm of the memory

The one grid point handles the 256 rows: it writes the gradient of their entries and of the scale.
-/

@[expose] public section

noncomputable section

open scoped BigOperators
open Idealize.ShloMosaic Idealize.ShloMosaic.TcCoe Idealize.SL.Sem

namespace Cert.RmsBwdMem

open Cert.Kernel43Ideal Cert.Kernel43Ideal.Gen Cert.RowNorm

variable (m : (ℓ : Loc nD τ sig) → Buf (Elt Ideal) ℓ)

/-! ## Where the blocks lie -/

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)

theorem dy_at (c : Dev nD) (t : Fin cfg0.N) (y : S256x2048.Idx) (j : S256x2048.Idx)
    (h0 : (j 0).val = t.val * 256 + (y 0).val) (h1 : (j 1).val = (y 1).val) :
    iblk m c 0 t y = m ((c : Thread nD τ).loc main_arg0) j := by
  blk_simp [iblk, index_0]
  show m ((c : Thread nD τ).loc main_arg0) _ = _
  congr 1
  blk_ext [index_0]

theorem x_at (c : Dev nD) (t : Fin cfg0.N) (y : S256x2048.Idx) (j : S256x2048.Idx)
    (h0 : (j 0).val = t.val * 256 + (y 0).val) (h1 : (j 1).val = (y 1).val) :
    iblk m c 1 t y = m ((c : Thread nD τ).loc main_arg1) j := by
  blk_simp [iblk, index_1]
  show m ((c : Thread nD τ).loc main_arg1) _ = _
  congr 1
  blk_ext [index_1]

theorem g_at (c : Dev nD) (t : Fin cfg0.N) (y : S1x2048.Idx) :
    iblk m c 2 t y = m ((c : Thread nD τ).loc main_arg2) y := by
  blk_simp [iblk, index_2]
  show m ((c : Thread nD τ).loc main_arg2) _ = _
  congr 1
  blk_ext [index_2]

/-! ## What a point computes -/

/-- An entry of the gradient of one row: `i` the reciprocal root, `d` and `x` the entries, `a` the scaled row and `X` the row. -/
def entry (i d x : EReal) (a X : Fin 2048 → EReal) : EReal :=
  i * d - x * (i * i * i * Ideal.div (∑ k, X k * a k) (Ideal.ofBits .f32 0x45000000#32))

/-- The gradient of the rows. -/
def gradX (dy x : Vec Ideal S256x2048 .f32) (g : Vec Ideal S1x2048 .f32) : Vec Ideal S256x2048 .bf16 :=
  fun j => entry (RowNorm.inv fun k => x (ix2 (j 0) k)) ((dy j : EReal) * g (ix2 0 (j 1))) (x j) (fun k => (dy (ix2 (j 0) k) : EReal) * g (ix2 0 k))
    (fun k => x (ix2 (j 0) k))

/-- The rows' contributions to the gradient of the scale, zero past the last row, -/
def share (dy x : Vec Ideal S256x2048 .f32) (n : ℕ) (s : Fin 2048) : EReal :=
  if h : n < 256 then (dy (ix2 ⟨n, h⟩ s) : EReal) * x (ix2 ⟨n, h⟩ s) * RowNorm.inv (fun k => x (ix2 ⟨n, h⟩ k)) else 0

/-- and their sum. -/
def gradG (dy x : Vec Ideal S256x2048 .f32) : Vec Ideal S1x2048 .f32 := fun j => ∑ n : Fin 256, share dy x n.val (j 1)

theorem x_out_at (dy x : Vec Ideal S256x2048 .f32) (g : Vec Ideal S1x2048 .f32) (r : Fin 256) (s : Fin 2048) :
    k0_pay2 (F := Ideal) dy x g (ix2 r s) = entry (RowNorm.inv fun k => x (ix2 r k)) ((dy (ix2 r s) : EReal) * g (ix2 0 s)) (x (ix2 r s))
      (fun k => (dy (ix2 r k) : EReal) * g (ix2 0 k)) (fun k => x (ix2 r k)) := by
  pointwise [k0_pay2, k0_pay1]
  rfl

/-- What a block of rows gives to the gradient of the scale. -/
def blockPart (dy x : Vec Ideal S256x2048 .f32) (s : Fin 2048) : EReal :=
  ∑ k : Fin 256, (dy (ix2 k s) : EReal) * x (ix2 k s) * RowNorm.inv (fun l => x (ix2 k l))

theorem g_out_at (dy x : Vec Ideal S256x2048 .f32) (p : Vec Ideal S1x2048 .f32) (s : Fin 2048) :
    k0_pay4 (F := Ideal) dy x p (ix2 0 s) = (p (ix2 0 s) : EReal) + blockPart dy x s := by
  pointwise [k0_pay4, k0_pay1]
  rfl

theorem out_x (c : Dev nD) (t : Fin cfg0.N) :
    (outsAt0 m c t).1 = k0_pay2 (F := Ideal) (iblk m c 0 t) (iblk m c 1 t) (iblk m c 2 t) := by
  unfold outsAt0
  frame_out

theorem point_sum (D X : Vec Ideal S256x2048 .f32) (dy x : Vec Ideal S256x2048 .f32) (hD : D = dy) (hX : X = x) (s : Fin 2048) :
    blockPart D X s = ∑ n : Fin 256, share dy x n.val s := by
  subst hD hX
  refine Finset.sum_congr rfl fun k _ => ?_
  unfold share
  rw [dif_pos k.isLt]

theorem out_g (c : Dev nD) (t : Fin cfg0.N) (s : Fin 2048) :
    (outsAt0 m c t).2 (ix2 0 s) = ∑ n : Fin 256, share (m ((c : Thread nD τ).loc main_arg0)) (m ((c : Thread nD τ).loc main_arg1)) n.val s := by
  have ht : t.val = 0 := by
    have h := lt_of_lt_of_eq t.isLt N_0
    omega
  unfold outsAt0
  frame_out
  refine (g_out_at _ _ _ s).trans ?_
  refine (congrArg₂ (fun x y : EReal => x + y) (show _ = (0 : EReal) from ?_) (point_sum _ _ _ _ (funext fun y => dy_at m c t y y (by rw [ht]; simp) rfl)
    (funext fun y => x_at m c t y y (by rw [ht]; simp) rfl) s)).trans (zero_add _)
  pointwise [k0_pay3]

/-- What is written is the gradient of the rows. -/
theorem rows (D X : Vec Ideal S256x2048 .f32) (G : Vec Ideal S1x2048 .f32)
    (dy x : Vec Ideal S256x2048 .f32) (g : Vec Ideal S1x2048 .f32) (n : ℕ)
    (hD : ∀ (k : Fin 256) (l : Fin 2048) (j : S256x2048.Idx), (j 0).val = n * 256 + k.val → (j 1).val = l.val → D (ix2 k l) = dy j)
    (hX : ∀ (k : Fin 256) (l : Fin 2048) (j : S256x2048.Idx), (j 0).val = n * 256 + k.val → (j 1).val = l.val → X (ix2 k l) = x j)
    (hG : ∀ l : Fin 2048, G (ix2 0 l) = g (ix2 0 l))
    (r : Fin 256) (s : Fin 2048) (j : S256x2048.Idx) (h0 : (j 0).val = n * 256 + r.val) (h1 : (j 1).val = s.val) :
    k0_pay2 (F := Ideal) D X G (ix2 r s) = gradX dy x g j := by
  rw [x_out_at, hG s]
  obtain rfl : s = (j 1 : Fin 2048) := Fin.ext h1.symm
  have e : (fun k => X (ix2 r k) : Fin 2048 → EReal) = fun k => x (ix2 (j 0) k) := funext fun k => hX r k _ h0 rfl
  have e' : (fun k => (D (ix2 r k) : EReal) * G (ix2 0 k) : Fin 2048 → EReal) = fun k => (dy (ix2 (j 0) k) : EReal) * g (ix2 0 k) :=
    funext fun k => congrArg₂ (fun x y : EReal => x * y) (hD r k _ h0 rfl) (hG k)
  unfold gradX
  rw [e, e', hD r _ j h0 rfl, hX r _ j h0 rfl]

/-- The first result array. -/
theorem final_x (c : Dev nD) : (dats m 0 c).arrAt 3 cfg0.N
    = gradX (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, s, rfl⟩ : ∃ (r : Fin 256) (s : Fin 2048), y = ix2 r s := ⟨y 0, y 1, by
    funext a
    match a with
    | ⟨0, _⟩ => rfl
    | ⟨1, _⟩ => rfl⟩
  have e0 : ((((cfg0.win 3).blk t).view.emb (ix2 r s) : S256x2048.Idx) 0).val = t.val * 256 + r.val := by
    blk_simp [index_3] <;> omega
  have e1 : ((((cfg0.win 3).blk t).view.emb (ix2 r s) : S256x2048.Idx) 1).val = s.val := by
    blk_simp [index_3] <;> omega
  generalize (((cfg0.win 3).blk t).view.emb (ix2 r s) : S256x2048.Idx) = j at e0 e1
  rw [out_x]
  exact rows _ _ _ _ _ _ t.val (fun k l j h0 h1 => dy_at m c t (ix2 k l) j h0 h1) (fun k l j h0 h1 => x_at m c t (ix2 k l) j h0 h1)
    (fun l => g_at m c t (ix2 0 l)) r s j e0 e1

/-- The second result array. -/
theorem final_g (c : Dev nD) : (dats m 0 c).arrAt 4 cfg0.N
    = gradG (m ((c : Thread nD τ).loc main_arg0)) (m ((c : Thread nD τ).loc main_arg1)) := by
  refine (dats m 0 c).arrAt_eq_of_covers 4 _ (by decide +kernel) fun t hf y => ?_
  blk_simp
  rw [after0_4]
  obtain ⟨u, s, rfl⟩ : ∃ (u : Fin 1) (s : Fin 2048), y = ix2 u s := ⟨y 0, y 1, by
    funext a
    match a with
    | ⟨0, _⟩ => rfl
    | ⟨1, _⟩ => rfl⟩
  have e : (((cfg0.win 4).blk t).view.emb (ix2 u s) : S1x2048.Idx) = ix2 u s := by
    blk_ext [index_4]
  rw [e]
  obtain rfl : u = 0 := Subsingleton.elim _ _
  exact out_g m c t s

/-! ## The reference -/

theorem reference_x (dy x : Vec Ideal S256x2048 .f32) (g : Vec Ideal S1x2048 .f32) :
    Cert.Reference43Ideal.Read.val_main_v34 (F := Ideal) dy x g = gradX dy x g := by
  funext j
  obtain ⟨r, s, rfl⟩ : ∃ (r : Fin 256) (s : Fin 2048), j = ix2 r s := ⟨j 0, j 1, by
    funext a
    match a with
    | ⟨0, _⟩ => rfl
    | ⟨1, _⟩ => rfl⟩
  show Cert.Reference43Ideal.Read.val_main_v34 (F := Ideal) dy x g (ix2 r s)
    = entry (RowNorm.inv fun k => x (ix2 r k)) ((dy (ix2 r s) : EReal) * g (ix2 0 s)) (x (ix2 r s)) (fun k => (dy (ix2 r k) : EReal) * g (ix2 0 k))
      (fun k => x (ix2 r k))
  rw [← Cert.Reference43Ideal.Read.val_main_v34_eq]
  pointwise
  rw [Fin.sum_univ_one, add_assoc]
  refine (congrArg₂ (fun p q : EReal => p + q) (mul_comm _ _)
    (slope (spread fun k => x (ix2 r k)) (∑ k, (x (ix2 r k) : EReal) * (dy (ix2 r k) * g (ix2 0 k))) (x (ix2 r s)) (spread_cases _))).trans ?_
  rfl

theorem reference_g (dy x : Vec Ideal S256x2048 .f32) :
    Cert.Reference43Ideal.Read.val_main_v17 (F := Ideal) dy x = gradG dy x := by
  funext j
  obtain ⟨r, s, rfl⟩ : ∃ (r : Fin 1) (s : Fin 2048), j = ix2 r s := ⟨j 0, j 1, by
    funext a
    match a with
    | ⟨0, _⟩ => rfl
    | ⟨1, _⟩ => rfl⟩
  show Cert.Reference43Ideal.Read.val_main_v17 (F := Ideal) dy x (ix2 r s) = ∑ n : Fin 256, share dy x n.val s
  rw [← Cert.Reference43Ideal.Read.val_main_v17_eq]
  pointwise
  refine Finset.sum_congr rfl fun n _ => ?_
  unfold share
  rw [dif_pos n.isLt, mul_comm, ← mul_assoc]
  rfl

theorem algebraic : Cert.algebraic_Kernel43Ideal_Reference43Ideal := by
  intro m g m' g' _ hargs
  refine ⟨fun c => gradX (m ((c : Thread nD τ).loc main_arg0)) (m ((c : Thread nD τ).loc main_arg1)) (m ((c : Thread nD τ).loc main_arg2)),
    fun c => gradG (m ((c : Thread nD τ).loc main_arg0)) (m ((c : Thread nD τ).loc main_arg1)), ?_, ?_⟩
  · exact (θ_run defs _ _).mono (fun r h c => ⟨(h c).1.trans (final_x m c), (h c).2.1.trans (final_g m c), (h c).2.2⟩) (Value.run_blocks m g)
  · refine (θ_run Cert.Reference43Ideal.defs _ _).mono (fun r h c => ⟨(h c).1.trans ?_, (h c).2.1.trans ?_, (h c).2.2⟩)
      (Cert.Reference43Ideal.Value.run m' g')
    · obtain ⟨e0, e1, e2, e3⟩ := hargs c
      refine (reference_x _ _ _).trans ?_
      rw [e0, e1, e2]
    · obtain ⟨e0, e1, e2, e3⟩ := hargs c
      refine (reference_g _ _).trans ?_
      rw [e0, e1]

end Cert.RmsBwdMem

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import proofs.«01_k».proof.Proof.Gen.Kernel15.Frame
public import proofs.«01_k».proof.Proof.Gen.Kernel15Ideal.Frame
public import proofs.«01_k».proof.Proof.Gen.Kernel16.Frame
public import proofs.«01_k».proof.Proof.Gen.Kernel16Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel27.Frame
public import proofs.«01_k».proof.Proof.Gen.Kernel27Ideal.Frame
public import proofs.«01_k».proof.Proof.Gen.Kernel28.Frame
public import proofs.«01_k».proof.Proof.Gen.Kernel28Ideal.Frame
public import proofs.«01_k».proof.Proof.Gen.Kernel29.Frame
public import proofs.«01_k».proof.Proof.Gen.Kernel29Ideal.Frame
public import proofs.«01_k».proof.Proof.Gen.Kernel32.Frame
public import proofs.«01_k».proof.Proof.Gen.Kernel32Ideal.Frame
public import proofs.«01_k».proof.Proof.Gen.Kernel33.Frame
public import proofs.«01_k».proof.Proof.Gen.Kernel33Ideal.Frame
public import proofs.«01_k».proof.Proof.Gen.Kernel34.Frame
public import proofs.«01_k».proof.Proof.Gen.Kernel34Ideal.Frame
public import proofs.«01_k».proof.Proof.Gen.Kernel35.Frame
public import proofs.«01_k».proof.Proof.Gen.Kernel35Ideal.Frame
public import proofs.«01_k».proof.Proof.Gen.Kernel36.Frame
public import proofs.«01_k».proof.Proof.Gen.Kernel36Ideal.Frame
public import proofs.«01_k».proof.Proof.Gen.Kernel37.Frame
public import proofs.«01_k».proof.Proof.Gen.Kernel37Ideal.Frame
public import proofs.«01_k».proof.Proof.Gen.Kernel38.Frame
public import proofs.«01_k».proof.Proof.Gen.Kernel38Ideal.Frame
public import proofs.«01_k».proof.Proof.Gen.Kernel39.Frame
public import proofs.«01_k».proof.Proof.Gen.Kernel39Ideal.Frame
public import proofs.«01_k».proof.Proof.Gen.Kernel40.Frame
public import proofs.«01_k».proof.Proof.Gen.Kernel40Ideal.Frame
public import proofs.«01_k».proof.Proof.Gen.Kernel41.Frame
public import proofs.«01_k».proof.Proof.Gen.Kernel41Ideal.Frame
public import proofs.«01_k».proof.Proof.Gen.Kernel42.Frame
public import proofs.«01_k».proof.Proof.Gen.Kernel42Ideal.Frame
public import proofs.«01_k».proof.Proof.Gen.Kernel43.Frame
public import proofs.«01_k».proof.Proof.Gen.Kernel43Ideal.Frame
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import proofs.«01_k».proof.Proof.Gen.Reference24Ideal.Run
public import proofs.«01_k».proof.Proof.Gen.Reference25Ideal.Run
public import proofs.«01_k».proof.Proof.Gen.Reference26Ideal.Run
public import proofs.«01_k».proof.Proof.Gen.Reference27Ideal.Run
public import proofs.«01_k».proof.Proof.Gen.Reference28Ideal.Run
public import proofs.«01_k».proof.Proof.Gen.Reference29Ideal.Run
public import proofs.«01_k».proof.Proof.Gen.Reference30Ideal.Run
public import proofs.«01_k».proof.Proof.Gen.Reference31Ideal.Run
public import proofs.«01_k».proof.Proof.Gen.Reference32Ideal.Run
public import proofs.«01_k».proof.Proof.Gen.Reference33Ideal.Run
public import proofs.«01_k».proof.Proof.Gen.Reference34Ideal.Run
public import proofs.«01_k».proof.Proof.Gen.Reference35Ideal.Run
public import proofs.«01_k».proof.Proof.Gen.Reference36Ideal.Run
public import proofs.«01_k».proof.Proof.Gen.Reference37Ideal.Run
public import proofs.«01_k».proof.Proof.Gen.Reference38Ideal.Run
public import proofs.«01_k».proof.Proof.Gen.Reference39Ideal.Run
public import proofs.«01_k».proof.Proof.Gen.Reference40Ideal.Run
public import proofs.«01_k».proof.Proof.Gen.Reference41Ideal.Run
public import proofs.«01_k».proof.Proof.Gen.Reference42Ideal.Run
public import proofs.«01_k».proof.Proof.Gen.Reference43Ideal.Run
public import proofs.«01_k».proof.Proof.Gen.On_short_conv_part
public import proofs.«01_k».proof.Proof.Gen.On_attention_part
public import proofs.«01_k».proof.Proof.Gen.On_gates_only
public import proofs.«01_k».proof.Proof.BranchConv
public import proofs.«01_k».proof.Proof.AttentionConv
public import proofs.«01_k».proof.Proof.MlpDownBwd
public import proofs.«01_k».proof.Proof.GwIn
public import proofs.«01_k».proof.Proof.ProjBwd
public import proofs.«01_k».proof.Proof.MergeBwd
public import proofs.«01_k».proof.Proof.MlpUp
public import proofs.«01_k».proof.Proof.GwDown
public import proofs.«01_k».proof.Proof.MlpUpBwd
public import proofs.«01_k».proof.Proof.GwUp
public import proofs.«01_k».proof.Proof.Proj
public import proofs.«01_k».proof.Proof.MlpDown
public import proofs.«01_k».proof.Proof.GwO
public import proofs.«01_k».proof.Proof.BranchOutBwd
public import proofs.«01_k».proof.Proof.GwBranchOut
public import proofs.«01_k».proof.Proof.MixOut
public import proofs.«01_k».proof.Proof.MergeFwd
public import proofs.«01_k».proof.Proof.AdamSmall
public import proofs.«01_k».proof.Proof.AdamConvA
public import proofs.«01_k».proof.Proof.AdamConvB
public import proofs.«01_k».proof.Proof.AdamWIn
public import proofs.«01_k».proof.Proof.AdamWKv
public import proofs.«01_k».proof.Proof.AdamWUp
public import proofs.«01_k».proof.Proof.AdamWDown
public import proofs.«01_k».proof.Proof.AdamWAOut
public import proofs.«01_k».proof.Proof.AdamWBOut
public import proofs.«01_k».proof.Proof.AdamWXOut
public import proofs.«01_k».proof.Proof.KvProduct
public import proofs.«01_k».proof.Proof.GwKv
public import proofs.«01_k».proof.Proof.KvBwd
public import proofs.«01_k».proof.Proof.RmsMixPre
public import proofs.«01_k».proof.Proof.RmsBwd
public import proofs.«01_k».proof.Proof.LossHead
public import proofs.«01_k».proof.Proof.RmsBwdPair
public import proofs.«01_k».proof.Proof.ResNorm
public import proofs.«01_k».proof.Proof.LastNorm
public import proofs.«01_k».proof.Proof.RmsBwdTop
public import proofs.«01_k».proof.Proof.RmsMem
public import proofs.«01_k».proof.Proof.RmsBwdMem

/-!
# Every claim of the certificate, put together

For each kernel: its frame, the frame of its idealization and of its reference, that idealizing rewrote no operation,
and that over the extended reals the kernel's arrays are the reference's. The last is proved in the kernel's own module.
-/

@[expose] public section

noncomputable section

open Idealize.ShloMosaic Idealize.SL.Sem

namespace Cert.Proof

theorem claim : Cert.Claim :=
  ⟨Cert.Kernel.Gen.facts,
    Cert.KernelIdeal.Gen.facts,
    Cert.Reference30Ideal.Gen.facts,
    Cert.Reference31Ideal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel32.Gen.facts,
    Cert.Kernel32Ideal.Gen.facts,
    Cert.Reference32Ideal.Gen.facts,
    Cert.Kernel33.Gen.facts,
    Cert.Kernel33Ideal.Gen.facts,
    Cert.Reference33Ideal.Gen.facts,
    Cert.Kernel34.Gen.facts,
    Cert.Kernel34Ideal.Gen.facts,
    Cert.Reference34Ideal.Gen.facts,
    Cert.Kernel35.Gen.facts,
    Cert.Kernel35Ideal.Gen.facts,
    Cert.Reference35Ideal.Gen.facts,
    Cert.Kernel36.Gen.facts,
    Cert.Kernel36Ideal.Gen.facts,
    Cert.Reference36Ideal.Gen.facts,
    Cert.Kernel37.Gen.facts,
    Cert.Kernel37Ideal.Gen.facts,
    Cert.Reference37Ideal.Gen.facts,
    Cert.Kernel38.Gen.facts,
    Cert.Kernel38Ideal.Gen.facts,
    Cert.Reference38Ideal.Gen.facts,
    Cert.Kernel39.Gen.facts,
    Cert.Kernel39Ideal.Gen.facts,
    Cert.Reference39Ideal.Gen.facts,
    Cert.Kernel40.Gen.facts,
    Cert.Kernel40Ideal.Gen.facts,
    Cert.Reference40Ideal.Gen.facts,
    Cert.Kernel41.Gen.facts,
    Cert.Kernel41Ideal.Gen.facts,
    Cert.Reference41Ideal.Gen.facts,
    Cert.Kernel42.Gen.facts,
    Cert.Kernel42Ideal.Gen.facts,
    Cert.Reference42Ideal.Gen.facts,
    Cert.Kernel43.Gen.facts,
    Cert.Kernel43Ideal.Gen.facts,
    Cert.Reference43Ideal.Gen.facts,
    Cert.Attention.facts,
    Cert.On_short_conv_part.Gen.facts,
    Cert.On_attention_part.Gen.facts,
    Cert.On_gates_only.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.Reference30Ideal.defs _ _).mono (fun r h => ⟨fun c => (h c).2.2.2.2, sem_eq_zero_of_no_sems (by decide) r.2⟩)
      (Cert.Reference30Ideal.Value.run (F := Ideal) m ρ),
    fun m ρ _ => (θ_run Cert.Reference31Ideal.defs _ _).mono (fun r h => ⟨fun c => (h c).2.2.2.2, sem_eq_zero_of_no_sems (by decide) r.2⟩)
      (Cert.Reference31Ideal.Value.run (F := Ideal) m ρ),
    fun m ρ _ => (θ_run Cert.Reference31Ideal.defs _ _).mono (fun r h => ⟨fun c => (h c).2.2.2.2, sem_eq_zero_of_no_sems (by decide) r.2⟩)
      (Cert.Reference31Ideal.Value.run (F := Ideal) m ρ),
    fun m ρ _ => Cert.Kernel2.Gen.frame m ρ,
    fun m ρ _ => Cert.Kernel2Ideal.Gen.frame m ρ,
    fun m ρ _ => (θ_run Cert.Reference2Ideal.defs _ _).mono (fun r h => ⟨fun c => (h c).2, sem_eq_zero_of_no_sems (by decide) r.2⟩)
      (Cert.Reference2Ideal.Value.run (F := Ideal) m ρ),
    fun m ρ _ => Cert.Kernel3.Gen.frame m ρ,
    fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ,
    fun m ρ _ => Cert.Kernel4Ideal.Gen.frame m ρ,
    fun m ρ _ => (θ_run Cert.Reference4Ideal.defs _ _).mono (fun r h => ⟨fun c => (h c).2, sem_eq_zero_of_no_sems (by decide) r.2⟩)
      (Cert.Reference4Ideal.Value.run (F := Ideal) m ρ),
    fun m ρ _ => Cert.Kernel5.Gen.frame m ρ,
    fun m ρ _ => Cert.Kernel5Ideal.Gen.frame m ρ,
    fun m ρ _ => (θ_run Cert.Reference5Ideal.defs _ _).mono (fun r h => ⟨fun c => (h c).2.2, sem_eq_zero_of_no_sems (by decide) r.2⟩)
      (Cert.Reference5Ideal.Value.run (F := Ideal) m ρ),
    fun m ρ _ => Cert.Kernel6.Gen.frame m ρ,
    fun m ρ _ => Cert.Kernel6Ideal.Gen.frame m ρ,
    fun m ρ _ => (θ_run Cert.Reference6Ideal.defs _ _).mono (fun r h => ⟨fun c => (h c).2.2, sem_eq_zero_of_no_sems (by decide) r.2⟩)
      (Cert.Reference6Ideal.Value.run (F := Ideal) m ρ),
    fun m ρ _ => Cert.Kernel7.Gen.frame m ρ,
    fun m ρ _ => Cert.Kernel7Ideal.Gen.frame m ρ,
    fun m ρ _ => (θ_run Cert.Reference7Ideal.defs _ _).mono (fun r h => ⟨fun c => (h c).2, sem_eq_zero_of_no_sems (by decide) r.2⟩)
      (Cert.Reference7Ideal.Value.run (F := Ideal) m ρ),
    fun m ρ _ => Cert.Kernel8.Gen.frame m ρ,
    fun m ρ _ => Cert.Kernel8Ideal.Gen.frame m ρ,
    fun m ρ _ => (θ_run Cert.Reference8Ideal.defs _ _).mono (fun r h => ⟨fun c => (h c).2, sem_eq_zero_of_no_sems (by decide) r.2⟩)
      (Cert.Reference8Ideal.Value.run (F := Ideal) m ρ),
    fun m ρ _ => Cert.Kernel9.Gen.frame m ρ,
    fun m ρ _ => Cert.Kernel9Ideal.Gen.frame m ρ,
    fun m ρ _ => (θ_run Cert.Reference9Ideal.defs _ _).mono (fun r h => ⟨fun c => (h c).2, sem_eq_zero_of_no_sems (by decide) r.2⟩)
      (Cert.Reference9Ideal.Value.run (F := Ideal) m ρ),
    fun m ρ _ => Cert.Kernel10.Gen.frame m ρ,
    fun m ρ _ => Cert.Kernel10Ideal.Gen.frame m ρ,
    fun m ρ _ => (θ_run Cert.Reference10Ideal.defs _ _).mono (fun r h => ⟨fun c => (h c).2, sem_eq_zero_of_no_sems (by decide) r.2⟩)
      (Cert.Reference10Ideal.Value.run (F := Ideal) m ρ),
    fun m ρ _ => Cert.Kernel11.Gen.frame m ρ,
    fun m ρ _ => Cert.Kernel11Ideal.Gen.frame m ρ,
    fun m ρ _ => (θ_run Cert.Reference11Ideal.defs _ _).mono (fun r h => ⟨fun c => (h c).2, sem_eq_zero_of_no_sems (by decide) r.2⟩)
      (Cert.Reference11Ideal.Value.run (F := Ideal) m ρ),
    fun m ρ _ => Cert.Kernel12.Gen.frame m ρ,
    fun m ρ _ => Cert.Kernel12Ideal.Gen.frame m ρ,
    fun m ρ _ => (θ_run Cert.Reference12Ideal.defs _ _).mono (fun r h => ⟨fun c => (h c).2, sem_eq_zero_of_no_sems (by decide) r.2⟩)
      (Cert.Reference12Ideal.Value.run (F := Ideal) m ρ),
    fun m ρ _ => Cert.Kernel13.Gen.frame m ρ,
    fun m ρ _ => Cert.Kernel13Ideal.Gen.frame m ρ,
    fun m ρ _ => (θ_run Cert.Reference13Ideal.defs _ _).mono (fun r h => ⟨fun c => (h c).2, sem_eq_zero_of_no_sems (by decide) r.2⟩)
      (Cert.Reference13Ideal.Value.run (F := Ideal) m ρ),
    fun m ρ _ => Cert.Kernel14.Gen.frame m ρ,
    fun m ρ _ => Cert.Kernel14Ideal.Gen.frame m ρ,
    fun m ρ _ => (θ_run Cert.Reference14Ideal.defs _ _).mono (fun r h => ⟨fun c => (h c).2, sem_eq_zero_of_no_sems (by decide) r.2⟩)
      (Cert.Reference14Ideal.Value.run (F := Ideal) m ρ),
    fun m ρ _ => Cert.Kernel15.Gen.frame m ρ,
    fun m ρ _ => Cert.Kernel15Ideal.Gen.frame m ρ,
    fun m ρ _ => (θ_run Cert.Reference15Ideal.defs _ _).mono (fun r h => ⟨fun c => (h c).2, sem_eq_zero_of_no_sems (by decide) r.2⟩)
      (Cert.Reference15Ideal.Value.run (F := Ideal) m ρ),
    fun m ρ _ => Cert.Kernel16.Gen.frame m ρ,
    fun m ρ _ => Cert.Kernel16Ideal.Gen.frame m ρ,
    fun m ρ _ => (θ_run Cert.Reference16Ideal.defs _ _).mono (fun r h => ⟨fun c => (h c).2.2, sem_eq_zero_of_no_sems (by decide) r.2⟩)
      (Cert.Reference16Ideal.Value.run (F := Ideal) m ρ),
    fun m ρ _ => Cert.Kernel20.Gen.frame m ρ,
    fun m ρ _ => Cert.Kernel20Ideal.Gen.frame m ρ,
    fun m ρ _ => (θ_run Cert.Reference20Ideal.defs _ _).mono (fun r h => ⟨fun c => (h c).2.2.2.2, sem_eq_zero_of_no_sems (by decide) r.2⟩)
      (Cert.Reference20Ideal.Value.run (F := Ideal) m ρ),
    fun m ρ _ => Cert.Kernel21.Gen.frame m ρ,
    fun m ρ _ => Cert.Kernel21Ideal.Gen.frame m ρ,
    fun m ρ _ => (θ_run Cert.Reference21Ideal.defs _ _).mono (fun r h => ⟨fun c => (h c).2.2.2.2, sem_eq_zero_of_no_sems (by decide) r.2⟩)
      (Cert.Reference21Ideal.Value.run (F := Ideal) m ρ),
    fun m ρ _ => Cert.Kernel22.Gen.frame m ρ,
    fun m ρ _ => Cert.Kernel22Ideal.Gen.frame m ρ,
    fun m ρ _ => (θ_run Cert.Reference22Ideal.defs _ _).mono (fun r h => ⟨fun c => (h c).2.2.2.2, sem_eq_zero_of_no_sems (by decide) r.2⟩)
      (Cert.Reference22Ideal.Value.run (F := Ideal) m ρ),
    fun m ρ _ => Cert.Kernel23.Gen.frame m ρ,
    fun m ρ _ => Cert.Kernel23Ideal.Gen.frame m ρ,
    fun m ρ _ => (θ_run Cert.Reference23Ideal.defs _ _).mono (fun r h => ⟨fun c => (h c).2.2.2.2, sem_eq_zero_of_no_sems (by decide) r.2⟩)
      (Cert.Reference23Ideal.Value.run (F := Ideal) m ρ),
    fun m ρ _ => Cert.Kernel24.Gen.frame m ρ,
    fun m ρ _ => Cert.Kernel24Ideal.Gen.frame m ρ,
    fun m ρ _ => (θ_run Cert.Reference24Ideal.defs _ _).mono (fun r h => ⟨fun c => (h c).2.2.2.2, sem_eq_zero_of_no_sems (by decide) r.2⟩)
      (Cert.Reference24Ideal.Value.run (F := Ideal) m ρ),
    fun m ρ _ => Cert.Kernel25.Gen.frame m ρ,
    fun m ρ _ => Cert.Kernel25Ideal.Gen.frame m ρ,
    fun m ρ _ => (θ_run Cert.Reference25Ideal.defs _ _).mono (fun r h => ⟨fun c => (h c).2.2.2.2, sem_eq_zero_of_no_sems (by decide) r.2⟩)
      (Cert.Reference25Ideal.Value.run (F := Ideal) m ρ),
    fun m ρ _ => Cert.Kernel26.Gen.frame m ρ,
    fun m ρ _ => Cert.Kernel26Ideal.Gen.frame m ρ,
    fun m ρ _ => (θ_run Cert.Reference26Ideal.defs _ _).mono (fun r h => ⟨fun c => (h c).2.2.2.2, sem_eq_zero_of_no_sems (by decide) r.2⟩)
      (Cert.Reference26Ideal.Value.run (F := Ideal) m ρ),
    fun m ρ _ => Cert.Kernel27.Gen.frame m ρ,
    fun m ρ _ => Cert.Kernel27Ideal.Gen.frame m ρ,
    fun m ρ _ => (θ_run Cert.Reference27Ideal.defs _ _).mono (fun r h => ⟨fun c => (h c).2.2.2.2, sem_eq_zero_of_no_sems (by decide) r.2⟩)
      (Cert.Reference27Ideal.Value.run (F := Ideal) m ρ),
    fun m ρ _ => Cert.Kernel28.Gen.frame m ρ,
    fun m ρ _ => Cert.Kernel28Ideal.Gen.frame m ρ,
    fun m ρ _ => (θ_run Cert.Reference28Ideal.defs _ _).mono (fun r h => ⟨fun c => (h c).2.2.2.2, sem_eq_zero_of_no_sems (by decide) r.2⟩)
      (Cert.Reference28Ideal.Value.run (F := Ideal) m ρ),
    fun m ρ _ => Cert.Kernel29.Gen.frame m ρ,
    fun m ρ _ => Cert.Kernel29Ideal.Gen.frame m ρ,
    fun m ρ _ => (θ_run Cert.Reference29Ideal.defs _ _).mono (fun r h => ⟨fun c => (h c).2.2.2.2, sem_eq_zero_of_no_sems (by decide) r.2⟩)
      (Cert.Reference29Ideal.Value.run (F := Ideal) m ρ),
    fun m ρ _ => Cert.Kernel32.Gen.frame m ρ,
    fun m ρ _ => Cert.Kernel32Ideal.Gen.frame m ρ,
    fun m ρ _ => (θ_run Cert.Reference32Ideal.defs _ _).mono (fun r h => ⟨fun c => (h c).2, sem_eq_zero_of_no_sems (by decide) r.2⟩)
      (Cert.Reference32Ideal.Value.run (F := Ideal) m ρ),
    fun m ρ _ => Cert.Kernel33.Gen.frame m ρ,
    fun m ρ _ => Cert.Kernel33Ideal.Gen.frame m ρ,
    fun m ρ _ => (θ_run Cert.Reference33Ideal.defs _ _).mono (fun r h => ⟨fun c => (h c).2, sem_eq_zero_of_no_sems (by decide) r.2⟩)
      (Cert.Reference33Ideal.Value.run (F := Ideal) m ρ),
    fun m ρ _ => Cert.Kernel34.Gen.frame m ρ,
    fun m ρ _ => Cert.Kernel34Ideal.Gen.frame m ρ,
    fun m ρ _ => (θ_run Cert.Reference34Ideal.defs _ _).mono (fun r h => ⟨fun c => (h c).2, sem_eq_zero_of_no_sems (by decide) r.2⟩)
      (Cert.Reference34Ideal.Value.run (F := Ideal) m ρ),
    fun m ρ _ => Cert.Kernel35.Gen.frame m ρ,
    fun m ρ _ => Cert.Kernel35Ideal.Gen.frame m ρ,
    fun m ρ _ => (θ_run Cert.Reference35Ideal.defs _ _).mono (fun r h => ⟨fun c => (h c).2, sem_eq_zero_of_no_sems (by decide) r.2⟩)
      (Cert.Reference35Ideal.Value.run (F := Ideal) m ρ),
    fun m ρ _ => Cert.Kernel36.Gen.frame m ρ,
    fun m ρ _ => Cert.Kernel36Ideal.Gen.frame m ρ,
    fun m ρ _ => (θ_run Cert.Reference36Ideal.defs _ _).mono (fun r h => ⟨fun c => (h c).2.2, sem_eq_zero_of_no_sems (by decide) r.2⟩)
      (Cert.Reference36Ideal.Value.run (F := Ideal) m ρ),
    fun m ρ _ => Cert.Kernel37.Gen.frame m ρ,
    fun m ρ _ => Cert.Kernel37Ideal.Gen.frame m ρ,
    fun m ρ _ => (θ_run Cert.Reference37Ideal.defs _ _).mono (fun r h => ⟨fun c => (h c).2.2, sem_eq_zero_of_no_sems (by decide) r.2⟩)
      (Cert.Reference37Ideal.Value.run (F := Ideal) m ρ),
    fun m ρ _ => Cert.Kernel38.Gen.frame m ρ,
    fun m ρ _ => Cert.Kernel38Ideal.Gen.frame m ρ,
    fun m ρ _ => (θ_run Cert.Reference38Ideal.defs _ _).mono (fun r h => ⟨fun c => (h c).2.2.2.2, sem_eq_zero_of_no_sems (by decide) r.2⟩)
      (Cert.Reference38Ideal.Value.run (F := Ideal) m ρ),
    fun m ρ _ => Cert.Kernel39.Gen.frame m ρ,
    fun m ρ _ => Cert.Kernel39Ideal.Gen.frame m ρ,
    fun m ρ _ => (θ_run Cert.Reference39Ideal.defs _ _).mono (fun r h => ⟨fun c => (h c).2.2, sem_eq_zero_of_no_sems (by decide) r.2⟩)
      (Cert.Reference39Ideal.Value.run (F := Ideal) m ρ),
    fun m ρ _ => Cert.Kernel40.Gen.frame m ρ,
    fun m ρ _ => Cert.Kernel40Ideal.Gen.frame m ρ,
    fun m ρ _ => (θ_run Cert.Reference40Ideal.defs _ _).mono (fun r h => ⟨fun c => (h c).2, sem_eq_zero_of_no_sems (by decide) r.2⟩)
      (Cert.Reference40Ideal.Value.run (F := Ideal) m ρ),
    fun m ρ _ => Cert.Kernel41.Gen.frame m ρ,
    fun m ρ _ => Cert.Kernel41Ideal.Gen.frame m ρ,
    fun m ρ _ => (θ_run Cert.Reference41Ideal.defs _ _).mono (fun r h => ⟨fun c => (h c).2.2, sem_eq_zero_of_no_sems (by decide) r.2⟩)
      (Cert.Reference41Ideal.Value.run (F := Ideal) m ρ),
    fun m ρ _ => Cert.Kernel42.Gen.frame m ρ,
    fun m ρ _ => Cert.Kernel42Ideal.Gen.frame m ρ,
    fun m ρ _ => (θ_run Cert.Reference42Ideal.defs _ _).mono (fun r h => ⟨fun c => (h c).2, sem_eq_zero_of_no_sems (by decide) r.2⟩)
      (Cert.Reference42Ideal.Value.run (F := Ideal) m ρ),
    fun m ρ _ => Cert.Kernel43.Gen.frame m ρ,
    fun m ρ _ => Cert.Kernel43Ideal.Gen.frame m ρ,
    fun m ρ _ => (θ_run Cert.Reference43Ideal.defs _ _).mono (fun r h => ⟨fun c => (h c).2.2, sem_eq_zero_of_no_sems (by decide) r.2⟩)
      (Cert.Reference43Ideal.Value.run (F := Ideal) m ρ),
    trivial,
    Cert.BranchBwd.algebraic,
    Cert.Attention.algebraic,
    trivial,
    Cert.MlpDownBwd.algebraic,
    trivial,
    Cert.GwIn.algebraic,
    trivial,
    Cert.ProjBwd.algebraic,
    trivial,
    Cert.MergeBwd.algebraic,
    trivial,
    Cert.MlpUp.algebraic,
    trivial,
    Cert.GwDown.algebraic,
    trivial,
    Cert.MlpUpBwd.algebraic,
    trivial,
    Cert.GwUp.algebraic,
    trivial,
    Cert.Proj.algebraic,
    trivial,
    Cert.MlpDown.algebraic,
    trivial,
    Cert.GwO.algebraic,
    trivial,
    Cert.BranchOutBwd.algebraic,
    trivial,
    Cert.GwBranchOut.algebraic,
    trivial,
    Cert.MixOut.algebraic,
    trivial,
    Cert.MergeFwd.algebraic,
    trivial,
    Cert.AdamSmall.algebraic,
    trivial,
    Cert.AdamConvA.algebraic,
    trivial,
    Cert.AdamConvB.algebraic,
    trivial,
    Cert.AdamWIn.algebraic,
    trivial,
    Cert.AdamWKv.algebraic,
    trivial,
    Cert.AdamWUp.algebraic,
    trivial,
    Cert.AdamWDown.algebraic,
    trivial,
    Cert.AdamWAOut.algebraic,
    trivial,
    Cert.AdamWBOut.algebraic,
    trivial,
    Cert.AdamWXOut.algebraic,
    trivial,
    Cert.KvProduct.algebraic,
    trivial,
    Cert.GwKv.algebraic,
    trivial,
    Cert.KvBwd.algebraic,
    trivial,
    Cert.RmsMixPre.algebraic,
    trivial,
    Cert.RmsBwd.algebraic,
    trivial,
    Cert.LossHead.algebraic,
    trivial,
    Cert.RmsBwdPair.algebraic,
    trivial,
    Cert.ResNorm.algebraic,
    trivial,
    Cert.LastNorm.algebraic,
    trivial,
    Cert.RmsBwdTop.algebraic,
    trivial,
    Cert.RmsMem.algebraic,
    trivial,
    Cert.RmsBwdMem.algebraic⟩

end Cert.Proof

end
